-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnReferenceIdeal (m : (ℓ : Loc Cert.MemAttnReferenceIdeal.nD Cert.MemAttnReferenceIdeal.τ Cert.MemAttnReferenceIdeal.sig) → Buf (Elt Ideal) ℓ) : Prop :=
  True

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjReferenceIdeal (m : (ℓ : Loc Cert.OddProjReferenceIdeal.nD Cert.OddProjReferenceIdeal.τ Cert.OddProjReferenceIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjReferenceIdeal (m : (ℓ : Loc Cert.EvenProjReferenceIdeal.nD Cert.EvenProjReferenceIdeal.τ Cert.EvenProjReferenceIdeal.sig) → Buf (Elt Ideal) ℓ) : Prop :=
  True

def Pre_SampleFfn (m : (ℓ : Loc Cert.SampleFfn.nD Cert.SampleFfn.τ Cert.SampleFfn.sig) → Buf (Elt Bits) ℓ) : Prop :=
  True

def Pre_SampleFfnIdeal (m : (ℓ : Loc Cert.SampleFfnIdeal.nD Cert.SampleFfnIdeal.τ Cert.SampleFfnIdeal.sig) → Buf (Elt Ideal) ℓ) : Prop :=
  True

def Pre_SampleFfnReferenceIdeal (m : (ℓ : Loc Cert.SampleFfnReferenceIdeal.nD Cert.SampleFfnReferenceIdeal.τ Cert.SampleFfnReferenceIdeal.sig) → Buf (Elt Ideal) ℓ) : Prop :=
  True

def Pre_SampleOdd (m : (ℓ : Loc Cert.SampleOdd.nD Cert.SampleOdd.τ Cert.SampleOdd.sig) → Buf (Elt Bits) ℓ) : Prop :=
  True

def Pre_SampleOddIdeal (m : (ℓ : Loc Cert.SampleOddIdeal.nD Cert.SampleOddIdeal.τ Cert.SampleOddIdeal.sig) → Buf (Elt Ideal) ℓ) : Prop :=
  True

def Pre_SampleOddReferenceIdeal (m : (ℓ : Loc Cert.SampleOddReferenceIdeal.nD Cert.SampleOddReferenceIdeal.τ Cert.SampleOddReferenceIdeal.sig) → Buf (Elt Ideal) ℓ) : Prop :=
  True

def Pre_GlaStep (m : (ℓ : Loc Cert.GlaStep.nD Cert.GlaStep.τ Cert.GlaStep.sig) → Buf (Elt Bits) ℓ) : Prop :=
  True

def Pre_GlaStepIdeal (m : (ℓ : Loc Cert.GlaStepIdeal.nD Cert.GlaStepIdeal.τ Cert.GlaStepIdeal.sig) → Buf (Elt Ideal) ℓ) : Prop :=
  True

def Pre_GlaStepIdeal_finite_gate [hPre_finite_gate : Cert.Pre_finite_gate.Facts] (m : (ℓ : Loc Cert.GlaStepIdeal.nD Cert.GlaStepIdeal.τ Cert.GlaStepIdeal.sig) → Buf (Elt Ideal) ℓ) : Prop :=
  ∀ c : Dev Cert.GlaStepIdeal.nD,
    (Cert.Pre_finite_gate.fn (F := Ideal) (m ((c.tc : Thread Cert.GlaStepIdeal.nD Cert.GlaStepIdeal.τ).loc Cert.GlaStepIdeal.main_arg0)) (m ((c.tc : Thread Cert.GlaStepIdeal.nD Cert.GlaStepIdeal.τ).loc Cert.GlaStepIdeal.main_arg1)) (m ((c.tc : Thread Cert.GlaStepIdeal.nD Cert.GlaStepIdeal.τ).loc Cert.GlaStepIdeal.main_arg2)) (m ((c.tc : Thread Cert.GlaStepIdeal.nD Cert.GlaStepIdeal.τ).loc Cert.GlaStepIdeal.main_arg3)) (m ((c.tc : Thread Cert.GlaStepIdeal.nD Cert.GlaStepIdeal.τ).loc Cert.GlaStepIdeal.main_arg4)) (m ((c.tc : Thread Cert.GlaStepIdeal.nD Cert.GlaStepIdeal.τ).loc Cert.GlaStepIdeal.main_arg5)) (m ((c.tc : Thread Cert.GlaStepIdeal.nD Cert.GlaStepIdeal.τ).loc Cert.GlaStepIdeal.main_arg6))) = (fun _ => 1#1)

def Pre_GlaStepReferenceIdeal (m : (ℓ : Loc Cert.GlaStepReferenceIdeal.nD Cert.GlaStepReferenceIdeal.τ Cert.GlaStepReferenceIdeal.sig) → Buf (Elt Ideal) ℓ) : Prop :=
  True

def Pre_GlaStepReferenceIdeal_finite_gate [hPre_finite_gate : Cert.Pre_finite_gate.Facts] (m : (ℓ : Loc Cert.GlaStepReferenceIdeal.nD Cert.GlaStepReferenceIdeal.τ Cert.GlaStepReferenceIdeal.sig) → Buf (Elt Ideal) ℓ) : Prop :=
  ∀ c : Dev Cert.GlaStepReferenceIdeal.nD,
    (Cert.Pre_finite_gate.fn (F := Ideal) (m ((c.tc : Thread Cert.GlaStepReferenceIdeal.nD Cert.GlaStepReferenceIdeal.τ).loc Cert.GlaStepReferenceIdeal.main_arg0)) (m ((c.tc : Thread Cert.GlaStepReferenceIdeal.nD Cert.GlaStepReferenceIdeal.τ).loc Cert.GlaStepReferenceIdeal.main_arg1)) (m ((c.tc : Thread Cert.GlaStepReferenceIdeal.nD Cert.GlaStepReferenceIdeal.τ).loc Cert.GlaStepReferenceIdeal.main_arg2)) (m ((c.tc : Thread Cert.GlaStepReferenceIdeal.nD Cert.GlaStepReferenceIdeal.τ).loc Cert.GlaStepReferenceIdeal.main_arg3)) (m ((c.tc : Thread Cert.GlaStepReferenceIdeal.nD Cert.GlaStepReferenceIdeal.τ).loc Cert.GlaStepReferenceIdeal.main_arg4)) (m ((c.tc : Thread Cert.GlaStepReferenceIdeal.nD Cert.GlaStepReferenceIdeal.τ).loc Cert.GlaStepReferenceIdeal.main_arg5)) (m ((c.tc : Thread Cert.GlaStepReferenceIdeal.nD Cert.GlaStepReferenceIdeal.τ).loc Cert.GlaStepReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3)
      ∧ r.2.mem ((c.tc : Thread Cert.MemKv.nD Cert.MemKv.τ).loc Cert.MemKv.main_arg4) = m ((c.tc : Thread Cert.MemKv.nD Cert.MemKv.τ).loc Cert.MemKv.main_arg4))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3)
      ∧ r.2.mem ((c.tc : Thread Cert.MemKvIdeal.nD Cert.MemKvIdeal.τ).loc Cert.MemKvIdeal.main_arg4) = m ((c.tc : Thread Cert.MemKvIdeal.nD Cert.MemKvIdeal.τ).loc Cert.MemKvIdeal.main_arg4))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2)
      ∧ r.2.mem ((c.tc : Thread Cert.MemKvReferenceIdeal.nD Cert.MemKvReferenceIdeal.τ).loc Cert.MemKvReferenceIdeal.main_arg3) = m ((c.tc : Thread Cert.MemKvReferenceIdeal.nD Cert.MemKvReferenceIdeal.τ).loc Cert.MemKvReferenceIdeal.main_arg3)
      ∧ r.2.mem ((c.tc : Thread Cert.MemKvReferenceIdeal.nD Cert.MemKvReferenceIdeal.τ).loc Cert.MemKvReferenceIdeal.main_arg4) = m ((c.tc : Thread Cert.MemKvReferenceIdeal.nD Cert.MemKvReferenceIdeal.τ).loc Cert.MemKvReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3)
      ∧ r.2.mem ((c.tc : Thread Cert.MemAttn.nD Cert.MemAttn.τ).loc Cert.MemAttn.main_arg4) = m ((c.tc : Thread Cert.MemAttn.nD Cert.MemAttn.τ).loc Cert.MemAttn.main_arg4)
      ∧ r.2.mem ((c.tc : Thread Cert.MemAttn.nD Cert.MemAttn.τ).loc Cert.MemAttn.main_arg5) = m ((c.tc : Thread Cert.MemAttn.nD Cert.MemAttn.τ).loc Cert.MemAttn.main_arg5)
      ∧ r.2.mem ((c.tc : Thread Cert.MemAttn.nD Cert.MemAttn.τ).loc Cert.MemAttn.main_arg6) = m ((c.tc : Thread Cert.MemAttn.nD Cert.MemAttn.τ).loc Cert.MemAttn.main_arg6))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
      ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
      ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6))
      ∧ r.2.sem = fun _ => 0)

def quiescent_MemAttnReferenceIdeal [hMemAttnReferenceIdeal : Cert.MemAttnReferenceIdeal.Facts] : Prop :=
  ∀ (m : (ℓ : Loc Cert.MemAttnReferenceIdeal.nD Cert.MemAttnReferenceIdeal.τ Cert.MemAttnReferenceIdeal.sig) → Buf (Elt Ideal) ℓ) (g : Dev Cert.MemAttnReferenceIdeal.nD → PrngReg), Pre_MemAttnReferenceIdeal m →
    θ_run (Cert.MemAttnReferenceIdeal.defs (F := Ideal)) (onTc (τ := Cert.MemAttnReferenceIdeal.τ) (Cert.MemAttnReferenceIdeal.main (F := Ideal))) ⟨m, fun _ => 0, g⟩ (fun r => (∀ c : Dev Cert.MemAttnReferenceIdeal.nD,
      r.2.mem ((c.tc : Thread Cert.MemAttnReferenceIdeal.nD Cert.MemAttnReferenceIdeal.τ).loc Cert.MemAttnReferenceIdeal.main_arg0) = m ((c.tc : Thread Cert.MemAttnReferenceIdeal.nD Cert.MemAttnReferenceIdeal.τ).loc Cert.MemAttnReferenceIdeal.main_arg0)
      ∧ r.2.mem ((c.tc : Thread Cert.MemAttnReferenceIdeal.nD Cert.MemAttnReferenceIdeal.τ).loc Cert.MemAttnReferenceIdeal.main_arg1) = m ((c.tc : Thread Cert.MemAttnReferenceIdeal.nD Cert.MemAttnReferenceIdeal.τ).loc Cert.MemAttnReferenceIdeal.main_arg1)
      ∧ r.2.mem ((c.tc : Thread Cert.MemAttnReferenceIdeal.nD Cert.MemAttnReferenceIdeal.τ).loc Cert.MemAttnReferenceIdeal.main_arg2) = m ((c.tc : Thread Cert.MemAttnReferenceIdeal.nD Cert.MemAttnReferenceIdeal.τ).loc Cert.MemAttnReferenceIdeal.main_arg2)
      ∧ r.2.mem ((c.tc : Thread Cert.MemAttnReferenceIdeal.nD Cert.MemAttnReferenceIdeal.τ).loc Cert.MemAttnReferenceIdeal.main_arg3) = m ((c.tc : Thread Cert.MemAttnReferenceIdeal.nD Cert.MemAttnReferenceIdeal.τ).loc Cert.MemAttnReferenceIdeal.main_arg3)
      ∧ r.2.mem ((c.tc : Thread Cert.MemAttnReferenceIdeal.nD Cert.MemAttnReferenceIdeal.τ).loc Cert.MemAttnReferenceIdeal.main_arg4) = m ((c.tc : Thread Cert.MemAttnReferenceIdeal.nD Cert.MemAttnReferenceIdeal.τ).loc Cert.MemAttnReferenceIdeal.main_arg4)
      ∧ r.2.mem ((c.tc : Thread Cert.MemAttnReferenceIdeal.nD Cert.MemAttnReferenceIdeal.τ).loc Cert.MemAttnReferenceIdeal.main_arg5) = m ((c.tc : Thread Cert.MemAttnReferenceIdeal.nD Cert.MemAttnReferenceIdeal.τ).loc Cert.MemAttnReferenceIdeal.main_arg5)
      ∧ r.2.mem ((c.tc : Thread Cert.MemAttnReferenceIdeal.nD Cert.MemAttnReferenceIdeal.τ).loc Cert.MemAttnReferenceIdeal.main_arg6) = m ((c.tc : Thread Cert.MemAttnReferenceIdeal.nD Cert.MemAttnReferenceIdeal.τ).loc Cert.MemAttnReferenceIdeal.main_arg6))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1)
      ∧ r.2.mem ((c.tc : Thread Cert.OddProj.nD Cert.OddProj.τ).loc Cert.OddProj.main_arg2) = m ((c.tc : Thread Cert.OddProj.nD Cert.OddProj.τ).loc Cert.OddProj.main_arg2)
      ∧ r.2.mem ((c.tc : Thread Cert.OddProj.nD Cert.OddProj.τ).loc Cert.OddProj.main_arg3) = m ((c.tc : Thread Cert.OddProj.nD Cert.OddProj.τ).loc Cert.OddProj.main_arg3)
      ∧ r.2.mem ((c.tc : Thread Cert.OddProj.nD Cert.OddProj.τ).loc Cert.OddProj.main_arg4) = m ((c.tc : Thread Cert.OddProj.nD Cert.OddProj.τ).loc Cert.OddProj.main_arg4))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
      ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2)
      ∧ r.2.mem ((c.tc : Thread Cert.OddProjIdeal.nD Cert.OddProjIdeal.τ).loc Cert.OddProjIdeal.main_arg3) = m ((c.tc : Thread Cert.OddProjIdeal.nD Cert.OddProjIdeal.τ).loc Cert.OddProjIdeal.main_arg3)
      ∧ r.2.mem ((c.tc : Thread Cert.OddProjIdeal.nD Cert.OddProjIdeal.τ).loc Cert.OddProjIdeal.main_arg4) = m ((c.tc : Thread Cert.OddProjIdeal.nD Cert.OddProjIdeal.τ).loc Cert.OddProjIdeal.main_arg4))
      ∧ r.2.sem = fun _ => 0)

def quiescent_OddProjReferenceIdeal [hOddProjReferenceIdeal : Cert.OddProjReferenceIdeal.Facts] : Prop :=
  ∀ (m : (ℓ : Loc Cert.OddProjReferenceIdeal.nD Cert.OddProjReferenceIdeal.τ Cert.OddProjReferenceIdeal.sig) → Buf (Elt Ideal) ℓ) (g : Dev Cert.OddProjReferenceIdeal.nD → PrngReg), Pre_OddProjReferenceIdeal m →
    θ_run (Cert.OddProjReferenceIdeal.defs (F := Ideal)) (onTc (τ := Cert.OddProjReferenceIdeal.τ) (Cert.OddProjReferenceIdeal.main (F := Ideal))) ⟨m, fun _ => 0, g⟩ (fun r => (∀ c : Dev Cert.OddProjReferenceIdeal.nD,
      r.2.mem ((c.tc : Thread Cert.OddProjReferenceIdeal.nD Cert.OddProjReferenceIdeal.τ).loc Cert.OddProjReferenceIdeal.main_arg0) = m ((c.tc : Thread Cert.OddProjReferenceIdeal.nD Cert.OddProjReferenceIdeal.τ).loc Cert.OddProjReferenceIdeal.main_arg0)
      ∧ r.2.mem ((c.tc : Thread Cert.OddProjReferenceIdeal.nD Cert.OddProjReferenceIdeal.τ).loc Cert.OddProjReferenceIdeal.main_arg1) = m ((c.tc : Thread Cert.OddProjReferenceIdeal.nD Cert.OddProjReferenceIdeal.τ).loc Cert.OddProjReferenceIdeal.main_arg1)
      ∧ r.2.mem ((c.tc : Thread Cert.OddProjReferenceIdeal.nD Cert.OddProjReferenceIdeal.τ).loc Cert.OddProjReferenceIdeal.main_arg2) = m ((c.tc : Thread Cert.OddProjReferenceIdeal.nD Cert.OddProjReferenceIdeal.τ).loc Cert.OddProjReferenceIdeal.main_arg2)
      ∧ r.2.mem ((c.tc : Thread Cert.OddProjReferenceIdeal.nD Cert.OddProjReferenceIdeal.τ).loc Cert.OddProjReferenceIdeal.main_arg3) = m ((c.tc : Thread Cert.OddProjReferenceIdeal.nD Cert.OddProjReferenceIdeal.τ).loc Cert.OddProjReferenceIdeal.main_arg3)
      ∧ r.2.mem ((c.tc : Thread Cert.OddProjReferenceIdeal.nD Cert.OddProjReferenceIdeal.τ).loc Cert.OddProjReferenceIdeal.main_arg4) = m ((c.tc : Thread Cert.OddProjReferenceIdeal.nD Cert.OddProjReferenceIdeal.τ).loc Cert.OddProjReferenceIdeal.main_arg4))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2)
      ∧ r.2.mem ((c.tc : Thread Cert.EvenProj.nD Cert.EvenProj.τ).loc Cert.EvenProj.main_arg3) = m ((c.tc : Thread Cert.EvenProj.nD Cert.EvenProj.τ).loc Cert.EvenProj.main_arg3)
      ∧ r.2.mem ((c.tc : Thread Cert.EvenProj.nD Cert.EvenProj.τ).loc Cert.EvenProj.main_arg4) = m ((c.tc : Thread Cert.EvenProj.nD Cert.EvenProj.τ).loc Cert.EvenProj.main_arg4)
      ∧ r.2.mem ((c.tc : Thread Cert.EvenProj.nD Cert.EvenProj.τ).loc Cert.EvenProj.main_arg5) = m ((c.tc : Thread Cert.EvenProj.nD Cert.EvenProj.τ).loc Cert.EvenProj.main_arg5)
      ∧ r.2.mem ((c.tc : Thread Cert.EvenProj.nD Cert.EvenProj.τ).loc Cert.EvenProj.main_arg6) = m ((c.tc : Thread Cert.EvenProj.nD Cert.EvenProj.τ).loc Cert.EvenProj.main_arg6)
      ∧ r.2.mem ((c.tc : Thread Cert.EvenProj.nD Cert.EvenProj.τ).loc Cert.EvenProj.main_arg7) = m ((c.tc : Thread Cert.EvenProj.nD Cert.EvenProj.τ).loc Cert.EvenProj.main_arg7)
      ∧ r.2.mem ((c.tc : Thread Cert.EvenProj.nD Cert.EvenProj.τ).loc Cert.EvenProj.main_arg8) = m ((c.tc : Thread Cert.EvenProj.nD Cert.EvenProj.τ).loc Cert.EvenProj.main_arg8)
      ∧ r.2.mem ((c.tc : Thread Cert.EvenProj.nD Cert.EvenProj.τ).loc Cert.EvenProj.main_arg9) = m ((c.tc : Thread Cert.EvenProj.nD Cert.EvenProj.τ).loc Cert.EvenProj.main_arg9)
      ∧ r.2.mem ((c.tc : Thread Cert.EvenProj.nD Cert.EvenProj.τ).loc Cert.EvenProj.main_arg10) = m ((c.tc : Thread Cert.EvenProj.nD Cert.EvenProj.τ).loc Cert.EvenProj.main_arg10)
      ∧ r.2.mem ((c.tc : Thread Cert.EvenProj.nD Cert.EvenProj.τ).loc Cert.EvenProj.main_arg11) = m ((c.tc : Thread Cert.EvenProj.nD Cert.EvenProj.τ).loc Cert.EvenProj.main_arg11)
      ∧ r.2.mem ((c.tc : Thread Cert.EvenProj.nD Cert.EvenProj.τ).loc Cert.EvenProj.main_arg12) = m ((c.tc : Thread Cert.EvenProj.nD Cert.EvenProj.τ).loc Cert.EvenProj.main_arg12)
      ∧ r.2.mem ((c.tc : Thread Cert.EvenProj.nD Cert.EvenProj.τ).loc Cert.EvenProj.main_arg13) = m ((c.tc : Thread Cert.EvenProj.nD Cert.EvenProj.τ).loc Cert.EvenProj.main_arg13)
      ∧ r.2.mem ((c.tc : Thread Cert.EvenProj.nD Cert.EvenProj.τ).loc Cert.EvenProj.main_arg14) = m ((c.tc : Thread Cert.EvenProj.nD Cert.EvenProj.τ).loc Cert.EvenProj.main_arg14)
      ∧ r.2.mem ((c.tc : Thread Cert.EvenProj.nD Cert.EvenProj.τ).loc Cert.EvenProj.main_arg15) = m ((c.tc : Thread Cert.EvenProj.nD Cert.EvenProj.τ).loc Cert.EvenProj.main_arg15))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
      ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
      ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4)
      ∧ r.2.mem ((c.tc : Thread Cert.EvenProjIdeal.nD Cert.EvenProjIdeal.τ).loc Cert.EvenProjIdeal.main_arg5) = m ((c.tc : Thread Cert.EvenProjIdeal.nD Cert.EvenProjIdeal.τ).loc Cert.EvenProjIdeal.main_arg5)
      ∧ r.2.mem ((c.tc : Thread Cert.EvenProjIdeal.nD Cert.EvenProjIdeal.τ).loc Cert.EvenProjIdeal.main_arg6) = m ((c.tc : Thread Cert.EvenProjIdeal.nD Cert.EvenProjIdeal.τ).loc Cert.EvenProjIdeal.main_arg6)
      ∧ r.2.mem ((c.tc : Thread Cert.EvenProjIdeal.nD Cert.EvenProjIdeal.τ).loc Cert.EvenProjIdeal.main_arg7) = m ((c.tc : Thread Cert.EvenProjIdeal.nD Cert.EvenProjIdeal.τ).loc Cert.EvenProjIdeal.main_arg7)
      ∧ r.2.mem ((c.tc : Thread Cert.EvenProjIdeal.nD Cert.EvenProjIdeal.τ).loc Cert.EvenProjIdeal.main_arg8) = m ((c.tc : Thread Cert.EvenProjIdeal.nD Cert.EvenProjIdeal.τ).loc Cert.EvenProjIdeal.main_arg8)
      ∧ r.2.mem ((c.tc : Thread Cert.EvenProjIdeal.nD Cert.EvenProjIdeal.τ).loc Cert.EvenProjIdeal.main_arg9) = m ((c.tc : Thread Cert.EvenProjIdeal.nD Cert.EvenProjIdeal.τ).loc Cert.EvenProjIdeal.main_arg9)
      ∧ r.2.mem ((c.tc : Thread Cert.EvenProjIdeal.nD Cert.EvenProjIdeal.τ).loc Cert.EvenProjIdeal.main_arg10) = m ((c.tc : Thread Cert.EvenProjIdeal.nD Cert.EvenProjIdeal.τ).loc Cert.EvenProjIdeal.main_arg10)
      ∧ r.2.mem ((c.tc : Thread Cert.EvenProjIdeal.nD Cert.EvenProjIdeal.τ).loc Cert.EvenProjIdeal.main_arg11) = m ((c.tc : Thread Cert.EvenProjIdeal.nD Cert.EvenProjIdeal.τ).loc Cert.EvenProjIdeal.main_arg11)
      ∧ r.2.mem ((c.tc : Thread Cert.EvenProjIdeal.nD Cert.EvenProjIdeal.τ).loc Cert.EvenProjIdeal.main_arg12) = m ((c.tc : Thread Cert.EvenProjIdeal.nD Cert.EvenProjIdeal.τ).loc Cert.EvenProjIdeal.main_arg12)
      ∧ r.2.mem ((c.tc : Thread Cert.EvenProjIdeal.nD Cert.EvenProjIdeal.τ).loc Cert.EvenProjIdeal.main_arg13) = m ((c.tc : Thread Cert.EvenProjIdeal.nD Cert.EvenProjIdeal.τ).loc Cert.EvenProjIdeal.main_arg13)
      ∧ r.2.mem ((c.tc : Thread Cert.EvenProjIdeal.nD Cert.EvenProjIdeal.τ).loc Cert.EvenProjIdeal.main_arg14) = m ((c.tc : Thread Cert.EvenProjIdeal.nD Cert.EvenProjIdeal.τ).loc Cert.EvenProjIdeal.main_arg14)
      ∧ r.2.mem ((c.tc : Thread Cert.EvenProjIdeal.nD Cert.EvenProjIdeal.τ).loc Cert.EvenProjIdeal.main_arg15) = m ((c.tc : Thread Cert.EvenProjIdeal.nD Cert.EvenProjIdeal.τ).loc Cert.EvenProjIdeal.main_arg15))
      ∧ r.2.sem = fun _ => 0)

def quiescent_EvenProjReferenceIdeal [hEvenProjReferenceIdeal : Cert.EvenProjReferenceIdeal.Facts] : Prop :=
  ∀ (m : (ℓ : Loc Cert.EvenProjReferenceIdeal.nD Cert.EvenProjReferenceIdeal.τ Cert.EvenProjReferenceIdeal.sig) → Buf (Elt Ideal) ℓ) (g : Dev Cert.EvenProjReferenceIdeal.nD → PrngReg), Pre_EvenProjReferenceIdeal m →
    θ_run (Cert.EvenProjReferenceIdeal.defs (F := Ideal)) (onTc (τ := Cert.EvenProjReferenceIdeal.τ) (Cert.EvenProjReferenceIdeal.main (F := Ideal))) ⟨m, fun _ => 0, g⟩ (fun r => (∀ c : Dev Cert.EvenProjReferenceIdeal.nD,
      r.2.mem ((c.tc : Thread Cert.EvenProjReferenceIdeal.nD Cert.EvenProjReferenceIdeal.τ).loc Cert.EvenProjReferenceIdeal.main_arg0) = m ((c.tc : Thread Cert.EvenProjReferenceIdeal.nD Cert.EvenProjReferenceIdeal.τ).loc Cert.EvenProjReferenceIdeal.main_arg0)
      ∧ r.2.mem ((c.tc : Thread Cert.EvenProjReferenceIdeal.nD Cert.EvenProjReferenceIdeal.τ).loc Cert.EvenProjReferenceIdeal.main_arg1) = m ((c.tc : Thread Cert.EvenProjReferenceIdeal.nD Cert.EvenProjReferenceIdeal.τ).loc Cert.EvenProjReferenceIdeal.main_arg1)
      ∧ r.2.mem ((c.tc : Thread Cert.EvenProjReferenceIdeal.nD Cert.EvenProjReferenceIdeal.τ).loc Cert.EvenProjReferenceIdeal.main_arg2) = m ((c.tc : Thread Cert.EvenProjReferenceIdeal.nD Cert.EvenProjReferenceIdeal.τ).loc Cert.EvenProjReferenceIdeal.main_arg2)
      ∧ r.2.mem ((c.tc : Thread Cert.EvenProjReferenceIdeal.nD Cert.EvenProjReferenceIdeal.τ).loc Cert.EvenProjReferenceIdeal.main_arg3) = m ((c.tc : Thread Cert.EvenProjReferenceIdeal.nD Cert.EvenProjReferenceIdeal.τ).loc Cert.EvenProjReferenceIdeal.main_arg3)
      ∧ r.2.mem ((c.tc : Thread Cert.EvenProjReferenceIdeal.nD Cert.EvenProjReferenceIdeal.τ).loc Cert.EvenProjReferenceIdeal.main_arg4) = m ((c.tc : Thread Cert.EvenProjReferenceIdeal.nD Cert.EvenProjReferenceIdeal.τ).loc Cert.EvenProjReferenceIdeal.main_arg4)
      ∧ r.2.mem ((c.tc : Thread Cert.EvenProjReferenceIdeal.nD Cert.EvenProjReferenceIdeal.τ).loc Cert.EvenProjReferenceIdeal.main_arg5) = m ((c.tc : Thread Cert.EvenProjReferenceIdeal.nD Cert.EvenProjReferenceIdeal.τ).loc Cert.EvenProjReferenceIdeal.main_arg5)
      ∧ r.2.mem ((c.tc : Thread Cert.EvenProjReferenceIdeal.nD Cert.EvenProjReferenceIdeal.τ).loc Cert.EvenProjReferenceIdeal.main_arg6) = m ((c.tc : Thread Cert.EvenProjReferenceIdeal.nD Cert.EvenProjReferenceIdeal.τ).loc Cert.EvenProjReferenceIdeal.main_arg6)
      ∧ r.2.mem ((c.tc : Thread Cert.EvenProjReferenceIdeal.nD Cert.EvenProjReferenceIdeal.τ).loc Cert.EvenProjReferenceIdeal.main_arg7) = m ((c.tc : Thread Cert.EvenProjReferenceIdeal.nD Cert.EvenProjReferenceIdeal.τ).loc Cert.EvenProjReferenceIdeal.main_arg7)
      ∧ r.2.mem ((c.tc : Thread Cert.EvenProjReferenceIdeal.nD Cert.EvenProjReferenceIdeal.τ).loc Cert.EvenProjReferenceIdeal.main_arg8) = m ((c.tc : Thread Cert.EvenProjReferenceIdeal.nD Cert.EvenProjReferenceIdeal.τ).loc Cert.EvenProjReferenceIdeal.main_arg8)
      ∧ r.2.mem ((c.tc : Thread Cert.EvenProjReferenceIdeal.nD Cert.EvenProjReferenceIdeal.τ).loc Cert.EvenProjReferenceIdeal.main_arg9) = m ((c.tc : Thread Cert.EvenProjReferenceIdeal.nD Cert.EvenProjReferenceIdeal.τ).loc Cert.EvenProjReferenceIdeal.main_arg9)
      ∧ r.2.mem ((c.tc : Thread Cert.EvenProjReferenceIdeal.nD Cert.EvenProjReferenceIdeal.τ).loc Cert.EvenProjReferenceIdeal.main_arg10) = m ((c.tc : Thread Cert.EvenProjReferenceIdeal.nD Cert.EvenProjReferenceIdeal.τ).loc Cert.EvenProjReferenceIdeal.main_arg10)
      ∧ r.2.mem ((c.tc : Thread Cert.EvenProjReferenceIdeal.nD Cert.EvenProjReferenceIdeal.τ).loc Cert.EvenProjReferenceIdeal.main_arg11) = m ((c.tc : Thread Cert.EvenProjReferenceIdeal.nD Cert.EvenProjReferenceIdeal.τ).loc Cert.EvenProjReferenceIdeal.main_arg11)
      ∧ r.2.mem ((c.tc : Thread Cert.EvenProjReferenceIdeal.nD Cert.EvenProjReferenceIdeal.τ).loc Cert.EvenProjReferenceIdeal.main_arg12) = m ((c.tc : Thread Cert.EvenProjReferenceIdeal.nD Cert.EvenProjReferenceIdeal.τ).loc Cert.EvenProjReferenceIdeal.main_arg12)
      ∧ r.2.mem ((c.tc : Thread Cert.EvenProjReferenceIdeal.nD Cert.EvenProjReferenceIdeal.τ).loc Cert.EvenProjReferenceIdeal.main_arg13) = m ((c.tc : Thread Cert.EvenProjReferenceIdeal.nD Cert.EvenProjReferenceIdeal.τ).loc Cert.EvenProjReferenceIdeal.main_arg13)
      ∧ r.2.mem ((c.tc : Thread Cert.EvenProjReferenceIdeal.nD Cert.EvenProjReferenceIdeal.τ).loc Cert.EvenProjReferenceIdeal.main_arg14) = m ((c.tc : Thread Cert.EvenProjReferenceIdeal.nD Cert.EvenProjReferenceIdeal.τ).loc Cert.EvenProjReferenceIdeal.main_arg14)
      ∧ r.2.mem ((c.tc : Thread Cert.EvenProjReferenceIdeal.nD Cert.EvenProjReferenceIdeal.τ).loc Cert.EvenProjReferenceIdeal.main_arg15) = m ((c.tc : Thread Cert.EvenProjReferenceIdeal.nD Cert.EvenProjReferenceIdeal.τ).loc Cert.EvenProjReferenceIdeal.main_arg15))
      ∧ r.2.sem = fun _ => 0)

def quiescent_SampleFfn [hSampleFfn : Cert.SampleFfn.Facts] : Prop :=
  ∀ (m : (ℓ : Loc Cert.SampleFfn.nD Cert.SampleFfn.τ Cert.SampleFfn.sig) → Buf (Elt Bits) ℓ) (g : Dev Cert.SampleFfn.nD → PrngReg), Pre_SampleFfn m →
    θ_run (Cert.SampleFfn.defs (F := Bits)) (onTc (τ := Cert.SampleFfn.τ) (Cert.SampleFfn.main (F := Bits))) ⟨m, fun _ => 0, g⟩ (fun r => (∀ c : Dev Cert.SampleFfn.nD,
      r.2.mem ((c.tc : Thread Cert.SampleFfn.nD Cert.SampleFfn.τ).loc Cert.SampleFfn.main_arg0) = m ((c.tc : Thread Cert.SampleFfn.nD Cert.SampleFfn.τ).loc Cert.SampleFfn.main_arg0)
      ∧ r.2.mem ((c.tc : Thread Cert.SampleFfn.nD Cert.SampleFfn.τ).loc Cert.SampleFfn.main_arg1) = m ((c.tc : Thread Cert.SampleFfn.nD Cert.SampleFfn.τ).loc Cert.SampleFfn.main_arg1)
      ∧ r.2.mem ((c.tc : Thread Cert.SampleFfn.nD Cert.SampleFfn.τ).loc Cert.SampleFfn.main_arg2) = m ((c.tc : Thread Cert.SampleFfn.nD Cert.SampleFfn.τ).loc Cert.SampleFfn.main_arg2)
      ∧ r.2.mem ((c.tc : Thread Cert.SampleFfn.nD Cert.SampleFfn.τ).loc Cert.SampleFfn.main_arg3) = m ((c.tc : Thread Cert.SampleFfn.nD Cert.SampleFfn.τ).loc Cert.SampleFfn.main_arg3))
      ∧ r.2.sem = fun _ => 0)

def quiescent_SampleFfnIdeal [hSampleFfnIdeal : Cert.SampleFfnIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg), Pre_SampleFfnIdeal m →
    θ_run (Cert.SampleFfnIdeal.defs (F := Ideal)) (onTc (τ := Cert.SampleFfnIdeal.τ) (Cert.SampleFfnIdeal.main (F := Ideal))) ⟨m, fun _ => 0, g⟩ (fun r => (∀ c : Dev Cert.SampleFfnIdeal.nD,
      r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
      ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
      ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
      ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3))
      ∧ r.2.sem = fun _ => 0)

def quiescent_SampleFfnReferenceIdeal [hSampleFfnReferenceIdeal : Cert.SampleFfnReferenceIdeal.Facts] : Prop :=
  ∀ (m : (ℓ : Loc Cert.SampleFfnReferenceIdeal.nD Cert.SampleFfnReferenceIdeal.τ Cert.SampleFfnReferenceIdeal.sig) → Buf (Elt Ideal) ℓ) (g : Dev Cert.SampleFfnReferenceIdeal.nD → PrngReg), Pre_SampleFfnReferenceIdeal m →
    θ_run (Cert.SampleFfnReferenceIdeal.defs (F := Ideal)) (onTc (τ := Cert.SampleFfnReferenceIdeal.τ) (Cert.SampleFfnReferenceIdeal.main (F := Ideal))) ⟨m, fun _ => 0, g⟩ (fun r => (∀ c : Dev Cert.SampleFfnReferenceIdeal.nD,
      r.2.mem ((c.tc : Thread Cert.SampleFfnReferenceIdeal.nD Cert.SampleFfnReferenceIdeal.τ).loc Cert.SampleFfnReferenceIdeal.main_arg0) = m ((c.tc : Thread Cert.SampleFfnReferenceIdeal.nD Cert.SampleFfnReferenceIdeal.τ).loc Cert.SampleFfnReferenceIdeal.main_arg0)
      ∧ r.2.mem ((c.tc : Thread Cert.SampleFfnReferenceIdeal.nD Cert.SampleFfnReferenceIdeal.τ).loc Cert.SampleFfnReferenceIdeal.main_arg1) = m ((c.tc : Thread Cert.SampleFfnReferenceIdeal.nD Cert.SampleFfnReferenceIdeal.τ).loc Cert.SampleFfnReferenceIdeal.main_arg1)
      ∧ r.2.mem ((c.tc : Thread Cert.SampleFfnReferenceIdeal.nD Cert.SampleFfnReferenceIdeal.τ).loc Cert.SampleFfnReferenceIdeal.main_arg2) = m ((c.tc : Thread Cert.SampleFfnReferenceIdeal.nD Cert.SampleFfnReferenceIdeal.τ).loc Cert.SampleFfnReferenceIdeal.main_arg2)
      ∧ r.2.mem ((c.tc : Thread Cert.SampleFfnReferenceIdeal.nD Cert.SampleFfnReferenceIdeal.τ).loc Cert.SampleFfnReferenceIdeal.main_arg3) = m ((c.tc : Thread Cert.SampleFfnReferenceIdeal.nD Cert.SampleFfnReferenceIdeal.τ).loc Cert.SampleFfnReferenceIdeal.main_arg3))
      ∧ r.2.sem = fun _ => 0)

def quiescent_SampleOdd [hSampleOdd : Cert.SampleOdd.Facts] : Prop :=
  ∀ (m : (ℓ : Loc Cert.SampleOdd.nD Cert.SampleOdd.τ Cert.SampleOdd.sig) → Buf (Elt Bits) ℓ) (g : Dev Cert.SampleOdd.nD → PrngReg), Pre_SampleOdd m →
    θ_run (Cert.SampleOdd.defs (F := Bits)) (onTc (τ := Cert.SampleOdd.τ) (Cert.SampleOdd.main (F := Bits))) ⟨m, fun _ => 0, g⟩ (fun r => (∀ c : Dev Cert.SampleOdd.nD,
      r.2.mem ((c.tc : Thread Cert.SampleOdd.nD Cert.SampleOdd.τ).loc Cert.SampleOdd.main_arg0) = m ((c.tc : Thread Cert.SampleOdd.nD Cert.SampleOdd.τ).loc Cert.SampleOdd.main_arg0)
      ∧ r.2.mem ((c.tc : Thread Cert.SampleOdd.nD Cert.SampleOdd.τ).loc Cert.SampleOdd.main_arg1) = m ((c.tc : Thread Cert.SampleOdd.nD Cert.SampleOdd.τ).loc Cert.SampleOdd.main_arg1)
      ∧ r.2.mem ((c.tc : Thread Cert.SampleOdd.nD Cert.SampleOdd.τ).loc Cert.SampleOdd.main_arg2) = m ((c.tc : Thread Cert.SampleOdd.nD Cert.SampleOdd.τ).loc Cert.SampleOdd.main_arg2)
      ∧ r.2.mem ((c.tc : Thread Cert.SampleOdd.nD Cert.SampleOdd.τ).loc Cert.SampleOdd.main_arg3) = m ((c.tc : Thread Cert.SampleOdd.nD Cert.SampleOdd.τ).loc Cert.SampleOdd.main_arg3)
      ∧ r.2.mem ((c.tc : Thread Cert.SampleOdd.nD Cert.SampleOdd.τ).loc Cert.SampleOdd.main_arg4) = m ((c.tc : Thread Cert.SampleOdd.nD Cert.SampleOdd.τ).loc Cert.SampleOdd.main_arg4))
      ∧ r.2.sem = fun _ => 0)

def quiescent_SampleOddIdeal [hSampleOddIdeal : Cert.SampleOddIdeal.Facts] : Prop :=
  ∀ (m : (ℓ : Loc Cert.SampleOddIdeal.nD Cert.SampleOddIdeal.τ Cert.SampleOddIdeal.sig) → Buf (Elt Ideal) ℓ) (g : Dev Cert.SampleOddIdeal.nD → PrngReg), Pre_SampleOddIdeal m →
    θ_run (Cert.SampleOddIdeal.defs (F := Ideal)) (onTc (τ := Cert.SampleOddIdeal.τ) (Cert.SampleOddIdeal.main (F := Ideal))) ⟨m, fun _ => 0, g⟩ (fun r => (∀ c : Dev Cert.SampleOddIdeal.nD,
      r.2.mem ((c.tc : Thread Cert.SampleOddIdeal.nD Cert.SampleOddIdeal.τ).loc Cert.SampleOddIdeal.main_arg0) = m ((c.tc : Thread Cert.SampleOddIdeal.nD Cert.SampleOddIdeal.τ).loc Cert.SampleOddIdeal.main_arg0)
      ∧ r.2.mem ((c.tc : Thread Cert.SampleOddIdeal.nD Cert.SampleOddIdeal.τ).loc Cert.SampleOddIdeal.main_arg1) = m ((c.tc : Thread Cert.SampleOddIdeal.nD Cert.SampleOddIdeal.τ).loc Cert.SampleOddIdeal.main_arg1)
      ∧ r.2.mem ((c.tc : Thread Cert.SampleOddIdeal.nD Cert.SampleOddIdeal.τ).loc Cert.SampleOddIdeal.main_arg2) = m ((c.tc : Thread Cert.SampleOddIdeal.nD Cert.SampleOddIdeal.τ).loc Cert.SampleOddIdeal.main_arg2)
      ∧ r.2.mem ((c.tc : Thread Cert.SampleOddIdeal.nD Cert.SampleOddIdeal.τ).loc Cert.SampleOddIdeal.main_arg3) = m ((c.tc : Thread Cert.SampleOddIdeal.nD Cert.SampleOddIdeal.τ).loc Cert.SampleOddIdeal.main_arg3)
      ∧ r.2.mem ((c.tc : Thread Cert.SampleOddIdeal.nD Cert.SampleOddIdeal.τ).loc Cert.SampleOddIdeal.main_arg4) = m ((c.tc : Thread Cert.SampleOddIdeal.nD Cert.SampleOddIdeal.τ).loc Cert.SampleOddIdeal.main_arg4))
      ∧ r.2.sem = fun _ => 0)

def quiescent_SampleOddReferenceIdeal [hSampleOddReferenceIdeal : Cert.SampleOddReferenceIdeal.Facts] : Prop :=
  ∀ (m : (ℓ : Loc Cert.SampleOddReferenceIdeal.nD Cert.SampleOddReferenceIdeal.τ Cert.SampleOddReferenceIdeal.sig) → Buf (Elt Ideal) ℓ) (g : Dev Cert.SampleOddReferenceIdeal.nD → PrngReg), Pre_SampleOddReferenceIdeal m →
    θ_run (Cert.SampleOddReferenceIdeal.defs (F := Ideal)) (onTc (τ := Cert.SampleOddReferenceIdeal.τ) (Cert.SampleOddReferenceIdeal.main (F := Ideal))) ⟨m, fun _ => 0, g⟩ (fun r => (∀ c : Dev Cert.SampleOddReferenceIdeal.nD,
      r.2.mem ((c.tc : Thread Cert.SampleOddReferenceIdeal.nD Cert.SampleOddReferenceIdeal.τ).loc Cert.SampleOddReferenceIdeal.main_arg0) = m ((c.tc : Thread Cert.SampleOddReferenceIdeal.nD Cert.SampleOddReferenceIdeal.τ).loc Cert.SampleOddReferenceIdeal.main_arg0)
      ∧ r.2.mem ((c.tc : Thread Cert.SampleOddReferenceIdeal.nD Cert.SampleOddReferenceIdeal.τ).loc Cert.SampleOddReferenceIdeal.main_arg1) = m ((c.tc : Thread Cert.SampleOddReferenceIdeal.nD Cert.SampleOddReferenceIdeal.τ).loc Cert.SampleOddReferenceIdeal.main_arg1)
      ∧ r.2.mem ((c.tc : Thread Cert.SampleOddReferenceIdeal.nD Cert.SampleOddReferenceIdeal.τ).loc Cert.SampleOddReferenceIdeal.main_arg2) = m ((c.tc : Thread Cert.SampleOddReferenceIdeal.nD Cert.SampleOddReferenceIdeal.τ).loc Cert.SampleOddReferenceIdeal.main_arg2)
      ∧ r.2.mem ((c.tc : Thread Cert.SampleOddReferenceIdeal.nD Cert.SampleOddReferenceIdeal.τ).loc Cert.SampleOddReferenceIdeal.main_arg3) = m ((c.tc : Thread Cert.SampleOddReferenceIdeal.nD Cert.SampleOddReferenceIdeal.τ).loc Cert.SampleOddReferenceIdeal.main_arg3)
      ∧ r.2.mem ((c.tc : Thread Cert.SampleOddReferenceIdeal.nD Cert.SampleOddReferenceIdeal.τ).loc Cert.SampleOddReferenceIdeal.main_arg4) = m ((c.tc : Thread Cert.SampleOddReferenceIdeal.nD Cert.SampleOddReferenceIdeal.τ).loc Cert.SampleOddReferenceIdeal.main_arg4))
      ∧ r.2.sem = fun _ => 0)

def quiescent_GlaStep [hGlaStep : Cert.GlaStep.Facts] : Prop :=
  ∀ (m : (ℓ : Loc Cert.GlaStep.nD Cert.GlaStep.τ Cert.GlaStep.sig) → Buf (Elt Bits) ℓ) (g : Dev Cert.GlaStep.nD → PrngReg), Pre_GlaStep m →
    θ_run (Cert.GlaStep.defs (F := Bits)) (onTc (τ := Cert.GlaStep.τ) (Cert.GlaStep.main (F := Bits))) ⟨m, fun _ => 0, g⟩ (fun r => (∀ c : Dev Cert.GlaStep.nD,
      r.2.mem ((c.tc : Thread Cert.GlaStep.nD Cert.GlaStep.τ).loc Cert.GlaStep.main_arg0) = m ((c.tc : Thread Cert.GlaStep.nD Cert.GlaStep.τ).loc Cert.GlaStep.main_arg0)
      ∧ r.2.mem ((c.tc : Thread Cert.GlaStep.nD Cert.GlaStep.τ).loc Cert.GlaStep.main_arg1) = m ((c.tc : Thread Cert.GlaStep.nD Cert.GlaStep.τ).loc Cert.GlaStep.main_arg1)
      ∧ r.2.mem ((c.tc : Thread Cert.GlaStep.nD Cert.GlaStep.τ).loc Cert.GlaStep.main_arg2) = m ((c.tc : Thread Cert.GlaStep.nD Cert.GlaStep.τ).loc Cert.GlaStep.main_arg2)
      ∧ r.2.mem ((c.tc : Thread Cert.GlaStep.nD Cert.GlaStep.τ).loc Cert.GlaStep.main_arg3) = m ((c.tc : Thread Cert.GlaStep.nD Cert.GlaStep.τ).loc Cert.GlaStep.main_arg3)
      ∧ r.2.mem ((c.tc : Thread Cert.GlaStep.nD Cert.GlaStep.τ).loc Cert.GlaStep.main_arg4) = m ((c.tc : Thread Cert.GlaStep.nD Cert.GlaStep.τ).loc Cert.GlaStep.main_arg4)
      ∧ r.2.mem ((c.tc : Thread Cert.GlaStep.nD Cert.GlaStep.τ).loc Cert.GlaStep.main_arg5) = m ((c.tc : Thread Cert.GlaStep.nD Cert.GlaStep.τ).loc Cert.GlaStep.main_arg5)
      ∧ r.2.mem ((c.tc : Thread Cert.GlaStep.nD Cert.GlaStep.τ).loc Cert.GlaStep.main_arg6) = m ((c.tc : Thread Cert.GlaStep.nD Cert.GlaStep.τ).loc Cert.GlaStep.main_arg6))
      ∧ r.2.sem = fun _ => 0)

def quiescent_GlaStepIdeal [hGlaStepIdeal : Cert.GlaStepIdeal.Facts] : Prop :=
  ∀ (m : (ℓ : Loc Cert.GlaStepIdeal.nD Cert.GlaStepIdeal.τ Cert.GlaStepIdeal.sig) → Buf (Elt Ideal) ℓ) (g : Dev Cert.GlaStepIdeal.nD → PrngReg), Pre_GlaStepIdeal m →
    θ_run (Cert.GlaStepIdeal.defs (F := Ideal)) (onTc (τ := Cert.GlaStepIdeal.τ) (Cert.GlaStepIdeal.main (F := Ideal))) ⟨m, fun _ => 0, g⟩ (fun r => (∀ c : Dev Cert.GlaStepIdeal.nD,
      r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
      ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
      ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
      ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
      ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4)
      ∧ r.2.mem ((c.tc : Thread Cert.GlaStepIdeal.nD Cert.GlaStepIdeal.τ).loc Cert.GlaStepIdeal.main_arg5) = m ((c.tc : Thread Cert.GlaStepIdeal.nD Cert.GlaStepIdeal.τ).loc Cert.GlaStepIdeal.main_arg5)
      ∧ r.2.mem ((c.tc : Thread Cert.GlaStepIdeal.nD Cert.GlaStepIdeal.τ).loc Cert.GlaStepIdeal.main_arg6) = m ((c.tc : Thread Cert.GlaStepIdeal.nD Cert.GlaStepIdeal.τ).loc Cert.GlaStepIdeal.main_arg6))
      ∧ r.2.sem = fun _ => 0)

def quiescent_GlaStepIdeal_pre_finite_gate [hGlaStepIdeal : Cert.GlaStepIdeal.Facts] [hPre_finite_gate : Cert.Pre_finite_gate.Facts] : Prop :=
  ∀ (m : (ℓ : Loc Cert.GlaStepIdeal.nD Cert.GlaStepIdeal.τ Cert.GlaStepIdeal.sig) → Buf (Elt Ideal) ℓ) (g : Dev Cert.GlaStepIdeal.nD → PrngReg), Pre_GlaStepIdeal_finite_gate m →
    θ_run (Cert.GlaStepIdeal.defs (F := Ideal)) (onTc (τ := Cert.GlaStepIdeal.τ) (Cert.GlaStepIdeal.main (F := Ideal))) ⟨m, fun _ => 0, g⟩ (fun r => (∀ c : Dev Cert.GlaStepIdeal.nD,
      r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
      ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
      ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
      ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
      ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4)
      ∧ r.2.mem ((c.tc : Thread Cert.GlaStepIdeal.nD Cert.GlaStepIdeal.τ).loc Cert.GlaStepIdeal.main_arg5) = m ((c.tc : Thread Cert.GlaStepIdeal.nD Cert.GlaStepIdeal.τ).loc Cert.GlaStepIdeal.main_arg5)
      ∧ r.2.mem ((c.tc : Thread Cert.GlaStepIdeal.nD Cert.GlaStepIdeal.τ).loc Cert.GlaStepIdeal.main_arg6) = m ((c.tc : Thread Cert.GlaStepIdeal.nD Cert.GlaStepIdeal.τ).loc Cert.GlaStepIdeal.main_arg6))
      ∧ r.2.sem = fun _ => 0)

def quiescent_GlaStepReferenceIdeal [hGlaStepReferenceIdeal : Cert.GlaStepReferenceIdeal.Facts] : Prop :=
  ∀ (m : (ℓ : Loc Cert.GlaStepReferenceIdeal.nD Cert.GlaStepReferenceIdeal.τ Cert.GlaStepReferenceIdeal.sig) → Buf (Elt Ideal) ℓ) (g : Dev Cert.GlaStepReferenceIdeal.nD → PrngReg), Pre_GlaStepReferenceIdeal m →
    θ_run (Cert.GlaStepReferenceIdeal.defs (F := Ideal)) (onTc (τ := Cert.GlaStepReferenceIdeal.τ) (Cert.GlaStepReferenceIdeal.main (F := Ideal))) ⟨m, fun _ => 0, g⟩ (fun r => (∀ c : Dev Cert.GlaStepReferenceIdeal.nD,
      r.2.mem ((c.tc : Thread Cert.GlaStepReferenceIdeal.nD Cert.GlaStepReferenceIdeal.τ).loc Cert.GlaStepReferenceIdeal.main_arg0) = m ((c.tc : Thread Cert.GlaStepReferenceIdeal.nD Cert.GlaStepReferenceIdeal.τ).loc Cert.GlaStepReferenceIdeal.main_arg0)
      ∧ r.2.mem ((c.tc : Thread Cert.GlaStepReferenceIdeal.nD Cert.GlaStepReferenceIdeal.τ).loc Cert.GlaStepReferenceIdeal.main_arg1) = m ((c.tc : Thread Cert.GlaStepReferenceIdeal.nD Cert.GlaStepReferenceIdeal.τ).loc Cert.GlaStepReferenceIdeal.main_arg1)
      ∧ r.2.mem ((c.tc : Thread Cert.GlaStepReferenceIdeal.nD Cert.GlaStepReferenceIdeal.τ).loc Cert.GlaStepReferenceIdeal.main_arg2) = m ((c.tc : Thread Cert.GlaStepReferenceIdeal.nD Cert.GlaStepReferenceIdeal.τ).loc Cert.GlaStepReferenceIdeal.main_arg2)
      ∧ r.2.mem ((c.tc : Thread Cert.GlaStepReferenceIdeal.nD Cert.GlaStepReferenceIdeal.τ).loc Cert.GlaStepReferenceIdeal.main_arg3) = m ((c.tc : Thread Cert.GlaStepReferenceIdeal.nD Cert.GlaStepReferenceIdeal.τ).loc Cert.GlaStepReferenceIdeal.main_arg3)
      ∧ r.2.mem ((c.tc : Thread Cert.GlaStepReferenceIdeal.nD Cert.GlaStepReferenceIdeal.τ).loc Cert.GlaStepReferenceIdeal.main_arg4) = m ((c.tc : Thread Cert.GlaStepReferenceIdeal.nD Cert.GlaStepReferenceIdeal.τ).loc Cert.GlaStepReferenceIdeal.main_arg4)
      ∧ r.2.mem ((c.tc : Thread Cert.GlaStepReferenceIdeal.nD Cert.GlaStepReferenceIdeal.τ).loc Cert.GlaStepReferenceIdeal.main_arg5) = m ((c.tc : Thread Cert.GlaStepReferenceIdeal.nD Cert.GlaStepReferenceIdeal.τ).loc Cert.GlaStepReferenceIdeal.main_arg5)
      ∧ r.2.mem ((c.tc : Thread Cert.GlaStepReferenceIdeal.nD Cert.GlaStepReferenceIdeal.τ).loc Cert.GlaStepReferenceIdeal.main_arg6) = m ((c.tc : Thread Cert.GlaStepReferenceIdeal.nD Cert.GlaStepReferenceIdeal.τ).loc Cert.GlaStepReferenceIdeal.main_arg6))
      ∧ r.2.sem = fun _ => 0)

def quiescent_GlaStepReferenceIdeal_pre_finite_gate [hGlaStepReferenceIdeal : Cert.GlaStepReferenceIdeal.Facts] [hPre_finite_gate : Cert.Pre_finite_gate.Facts] : Prop :=
  ∀ (m : (ℓ : Loc Cert.GlaStepReferenceIdeal.nD Cert.GlaStepReferenceIdeal.τ Cert.GlaStepReferenceIdeal.sig) → Buf (Elt Ideal) ℓ) (g : Dev Cert.GlaStepReferenceIdeal.nD → PrngReg), Pre_GlaStepReferenceIdeal_finite_gate m →
    θ_run (Cert.GlaStepReferenceIdeal.defs (F := Ideal)) (onTc (τ := Cert.GlaStepReferenceIdeal.τ) (Cert.GlaStepReferenceIdeal.main (F := Ideal))) ⟨m, fun _ => 0, g⟩ (fun r => (∀ c : Dev Cert.GlaStepReferenceIdeal.nD,
      r.2.mem ((c.tc : Thread Cert.GlaStepReferenceIdeal.nD Cert.GlaStepReferenceIdeal.τ).loc Cert.GlaStepReferenceIdeal.main_arg0) = m ((c.tc : Thread Cert.GlaStepReferenceIdeal.nD Cert.GlaStepReferenceIdeal.τ).loc Cert.GlaStepReferenceIdeal.main_arg0)
      ∧ r.2.mem ((c.tc : Thread Cert.GlaStepReferenceIdeal.nD Cert.GlaStepReferenceIdeal.τ).loc Cert.GlaStepReferenceIdeal.main_arg1) = m ((c.tc : Thread Cert.GlaStepReferenceIdeal.nD Cert.GlaStepReferenceIdeal.τ).loc Cert.GlaStepReferenceIdeal.main_arg1)
      ∧ r.2.mem ((c.tc : Thread Cert.GlaStepReferenceIdeal.nD Cert.GlaStepReferenceIdeal.τ).loc Cert.GlaStepReferenceIdeal.main_arg2) = m ((c.tc : Thread Cert.GlaStepReferenceIdeal.nD Cert.GlaStepReferenceIdeal.τ).loc Cert.GlaStepReferenceIdeal.main_arg2)
      ∧ r.2.mem ((c.tc : Thread Cert.GlaStepReferenceIdeal.nD Cert.GlaStepReferenceIdeal.τ).loc Cert.GlaStepReferenceIdeal.main_arg3) = m ((c.tc : Thread Cert.GlaStepReferenceIdeal.nD Cert.GlaStepReferenceIdeal.τ).loc Cert.GlaStepReferenceIdeal.main_arg3)
      ∧ r.2.mem ((c.tc : Thread Cert.GlaStepReferenceIdeal.nD Cert.GlaStepReferenceIdeal.τ).loc Cert.GlaStepReferenceIdeal.main_arg4) = m ((c.tc : Thread Cert.GlaStepReferenceIdeal.nD Cert.GlaStepReferenceIdeal.τ).loc Cert.GlaStepReferenceIdeal.main_arg4)
      ∧ r.2.mem ((c.tc : Thread Cert.GlaStepReferenceIdeal.nD Cert.GlaStepReferenceIdeal.τ).loc Cert.GlaStepReferenceIdeal.main_arg5) = m ((c.tc : Thread Cert.GlaStepReferenceIdeal.nD Cert.GlaStepReferenceIdeal.τ).loc Cert.GlaStepReferenceIdeal.main_arg5)
      ∧ r.2.mem ((c.tc : Thread Cert.GlaStepReferenceIdeal.nD Cert.GlaStepReferenceIdeal.τ).loc Cert.GlaStepReferenceIdeal.main_arg6) = m ((c.tc : Thread Cert.GlaStepReferenceIdeal.nD Cert.GlaStepReferenceIdeal.τ).loc Cert.GlaStepReferenceIdeal.main_arg6))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v18) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)
      ∧ m' ((c.tc : Thread Cert.MemKvReferenceIdeal.nD Cert.MemKvReferenceIdeal.τ).loc Cert.MemKvReferenceIdeal.main_arg3) = m ((c.tc : Thread Cert.MemKvIdeal.nD Cert.MemKvIdeal.τ).loc Cert.MemKvIdeal.main_arg3)
      ∧ m' ((c.tc : Thread Cert.MemKvReferenceIdeal.nD Cert.MemKvReferenceIdeal.τ).loc Cert.MemKvReferenceIdeal.main_arg4) = m ((c.tc : Thread Cert.MemKvIdeal.nD Cert.MemKvIdeal.τ).loc Cert.MemKvIdeal.main_arg4)) →
    ∃ (v0 : (c : Dev Cert.MemKvIdeal.nD) → Buf (Elt Ideal) ((c.tc : Thread Cert.MemKvIdeal.nD Cert.MemKvIdeal.τ).loc Cert.MemKvIdeal.main_v6_0)) (v1 : (c : Dev Cert.MemKvIdeal.nD) → Buf (Elt Ideal) ((c.tc : Thread Cert.MemKvIdeal.nD Cert.MemKvIdeal.τ).loc Cert.MemKvIdeal.main_v6_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v6_0) = v0 c
          ∧ r.2.mem ((c.tc : Thread Cert.MemKvIdeal.nD Cert.MemKvIdeal.τ).loc Cert.MemKvIdeal.main_v6_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3)
          ∧ r.2.mem ((c.tc : Thread Cert.MemKvIdeal.nD Cert.MemKvIdeal.τ).loc Cert.MemKvIdeal.main_arg4) = m ((c.tc : Thread Cert.MemKvIdeal.nD Cert.MemKvIdeal.τ).loc Cert.MemKvIdeal.main_arg4))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v28) = v0 c
          ∧ r.2.mem ((c.tc : Thread Cert.MemKvReferenceIdeal.nD Cert.MemKvReferenceIdeal.τ).loc Cert.MemKvReferenceIdeal.main_v29) = v1 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2)
          ∧ r.2.mem ((c.tc : Thread Cert.MemKvReferenceIdeal.nD Cert.MemKvReferenceIdeal.τ).loc Cert.MemKvReferenceIdeal.main_arg3) = m' ((c.tc : Thread Cert.MemKvReferenceIdeal.nD Cert.MemKvReferenceIdeal.τ).loc Cert.MemKvReferenceIdeal.main_arg3)
          ∧ r.2.mem ((c.tc : Thread Cert.MemKvReferenceIdeal.nD Cert.MemKvReferenceIdeal.τ).loc Cert.MemKvReferenceIdeal.main_arg4) = m' ((c.tc : Thread Cert.MemKvReferenceIdeal.nD Cert.MemKvReferenceIdeal.τ).loc Cert.MemKvReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v2) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3))

def preserves_MemAttn_MemAttnIdeal : Prop :=
  IdealRules.named_const.Statement Cert.MemAttnIdeal.κ "root128" .f32 0x3DB504F3#32 (((Real.sqrt 128)⁻¹ : ℝ) : EReal)

def algebraic_MemAttnIdeal_MemAttnReferenceIdeal [hMemAttnIdeal : Cert.MemAttnIdeal.Facts] [hMemAttnReferenceIdeal : Cert.MemAttnReferenceIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnReferenceIdeal.nD Cert.MemAttnReferenceIdeal.τ Cert.MemAttnReferenceIdeal.sig) → Buf (Elt Ideal) ℓ) (g' : Dev Cert.MemAttnReferenceIdeal.nD → PrngReg), Pre_MemAttnIdeal m →
    (∀ c : Dev Cert.MemAttnIdeal.nD,
      m' ((c.tc : Thread Cert.MemAttnReferenceIdeal.nD Cert.MemAttnReferenceIdeal.τ).loc Cert.MemAttnReferenceIdeal.main_arg0) = m ((c.tc : Thread Cert.MemAttnIdeal.nD Cert.MemAttnIdeal.τ).loc Cert.MemAttnIdeal.main_arg0)
      ∧ m' ((c.tc : Thread Cert.MemAttnReferenceIdeal.nD Cert.MemAttnReferenceIdeal.τ).loc Cert.MemAttnReferenceIdeal.main_arg1) = m ((c.tc : Thread Cert.MemAttnIdeal.nD Cert.MemAttnIdeal.τ).loc Cert.MemAttnIdeal.main_arg1)
      ∧ m' ((c.tc : Thread Cert.MemAttnReferenceIdeal.nD Cert.MemAttnReferenceIdeal.τ).loc Cert.MemAttnReferenceIdeal.main_arg2) = m ((c.tc : Thread Cert.MemAttnIdeal.nD Cert.MemAttnIdeal.τ).loc Cert.MemAttnIdeal.main_arg2)
      ∧ m' ((c.tc : Thread Cert.MemAttnReferenceIdeal.nD Cert.MemAttnReferenceIdeal.τ).loc Cert.MemAttnReferenceIdeal.main_arg3) = m ((c.tc : Thread Cert.MemAttnIdeal.nD Cert.MemAttnIdeal.τ).loc Cert.MemAttnIdeal.main_arg3)
      ∧ m' ((c.tc : Thread Cert.MemAttnReferenceIdeal.nD Cert.MemAttnReferenceIdeal.τ).loc Cert.MemAttnReferenceIdeal.main_arg4) = m ((c.tc : Thread Cert.MemAttnIdeal.nD Cert.MemAttnIdeal.τ).loc Cert.MemAttnIdeal.main_arg4)
      ∧ m' ((c.tc : Thread Cert.MemAttnReferenceIdeal.nD Cert.MemAttnReferenceIdeal.τ).loc Cert.MemAttnReferenceIdeal.main_arg5) = m ((c.tc : Thread Cert.MemAttnIdeal.nD Cert.MemAttnIdeal.τ).loc Cert.MemAttnIdeal.main_arg5)
      ∧ m' ((c.tc : Thread Cert.MemAttnReferenceIdeal.nD Cert.MemAttnReferenceIdeal.τ).loc Cert.MemAttnReferenceIdeal.main_arg6) = m ((c.tc : Thread Cert.MemAttnIdeal.nD Cert.MemAttnIdeal.τ).loc Cert.MemAttnIdeal.main_arg6)) →
    ∃ (v0 : (c : Dev Cert.MemAttnIdeal.nD) → Buf (Elt Ideal) ((c.tc : Thread Cert.MemAttnIdeal.nD Cert.MemAttnIdeal.τ).loc Cert.MemAttnIdeal.main_v6)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v6) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
          ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
          ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
          ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6))
      ∧ θ_run (Cert.MemAttnReferenceIdeal.defs (F := Ideal)) (onTc (τ := Cert.MemAttnReferenceIdeal.τ) (Cert.MemAttnReferenceIdeal.main (F := Ideal))) ⟨m', fun _ => 0, g'⟩ (fun r => ∀ c : Dev Cert.MemAttnReferenceIdeal.nD,
          r.2.mem ((c.tc : Thread Cert.MemAttnReferenceIdeal.nD Cert.MemAttnReferenceIdeal.τ).loc Cert.MemAttnReferenceIdeal.main_v47) = v0 c
          ∧ r.2.mem ((c.tc : Thread Cert.MemAttnReferenceIdeal.nD Cert.MemAttnReferenceIdeal.τ).loc Cert.MemAttnReferenceIdeal.main_arg0) = m' ((c.tc : Thread Cert.MemAttnReferenceIdeal.nD Cert.MemAttnReferenceIdeal.τ).loc Cert.MemAttnReferenceIdeal.main_arg0)
          ∧ r.2.mem ((c.tc : Thread Cert.MemAttnReferenceIdeal.nD Cert.MemAttnReferenceIdeal.τ).loc Cert.MemAttnReferenceIdeal.main_arg1) = m' ((c.tc : Thread Cert.MemAttnReferenceIdeal.nD Cert.MemAttnReferenceIdeal.τ).loc Cert.MemAttnReferenceIdeal.main_arg1)
          ∧ r.2.mem ((c.tc : Thread Cert.MemAttnReferenceIdeal.nD Cert.MemAttnReferenceIdeal.τ).loc Cert.MemAttnReferenceIdeal.main_arg2) = m' ((c.tc : Thread Cert.MemAttnReferenceIdeal.nD Cert.MemAttnReferenceIdeal.τ).loc Cert.MemAttnReferenceIdeal.main_arg2)
          ∧ r.2.mem ((c.tc : Thread Cert.MemAttnReferenceIdeal.nD Cert.MemAttnReferenceIdeal.τ).loc Cert.MemAttnReferenceIdeal.main_arg3) = m' ((c.tc : Thread Cert.MemAttnReferenceIdeal.nD Cert.MemAttnReferenceIdeal.τ).loc Cert.MemAttnReferenceIdeal.main_arg3)
          ∧ r.2.mem ((c.tc : Thread Cert.MemAttnReferenceIdeal.nD Cert.MemAttnReferenceIdeal.τ).loc Cert.MemAttnReferenceIdeal.main_arg4) = m' ((c.tc : Thread Cert.MemAttnReferenceIdeal.nD Cert.MemAttnReferenceIdeal.τ).loc Cert.MemAttnReferenceIdeal.main_arg4)
          ∧ r.2.mem ((c.tc : Thread Cert.MemAttnReferenceIdeal.nD Cert.MemAttnReferenceIdeal.τ).loc Cert.MemAttnReferenceIdeal.main_arg5) = m' ((c.tc : Thread Cert.MemAttnReferenceIdeal.nD Cert.MemAttnReferenceIdeal.τ).loc Cert.MemAttnReferenceIdeal.main_arg5)
          ∧ r.2.mem ((c.tc : Thread Cert.MemAttnReferenceIdeal.nD Cert.MemAttnReferenceIdeal.τ).loc Cert.MemAttnReferenceIdeal.main_arg6) = m' ((c.tc : Thread Cert.MemAttnReferenceIdeal.nD Cert.MemAttnReferenceIdeal.τ).loc Cert.MemAttnReferenceIdeal.main_arg6))

def preserves_OddProj_OddProjIdeal : Prop :=
  IdealRules.named_const.Statement Cert.OddProjIdeal.κ "root128" .f32 0x3DB504F3#32 (((Real.sqrt 128)⁻¹ : ℝ) : EReal)

def algebraic_OddProjIdeal_OddProjReferenceIdeal [hOddProjIdeal : Cert.OddProjIdeal.Facts] [hOddProjReferenceIdeal : Cert.OddProjReferenceIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjReferenceIdeal.nD Cert.OddProjReferenceIdeal.τ Cert.OddProjReferenceIdeal.sig) → Buf (Elt Ideal) ℓ) (g' : Dev Cert.OddProjReferenceIdeal.nD → PrngReg), Pre_OddProjIdeal m →
    (∀ c : Dev Cert.OddProjIdeal.nD,
      m' ((c.tc : Thread Cert.OddProjReferenceIdeal.nD Cert.OddProjReferenceIdeal.τ).loc Cert.OddProjReferenceIdeal.main_arg0) = m ((c.tc : Thread Cert.OddProjIdeal.nD Cert.OddProjIdeal.τ).loc Cert.OddProjIdeal.main_arg0)
      ∧ m' ((c.tc : Thread Cert.OddProjReferenceIdeal.nD Cert.OddProjReferenceIdeal.τ).loc Cert.OddProjReferenceIdeal.main_arg1) = m ((c.tc : Thread Cert.OddProjIdeal.nD Cert.OddProjIdeal.τ).loc Cert.OddProjIdeal.main_arg1)
      ∧ m' ((c.tc : Thread Cert.OddProjReferenceIdeal.nD Cert.OddProjReferenceIdeal.τ).loc Cert.OddProjReferenceIdeal.main_arg2) = m ((c.tc : Thread Cert.OddProjIdeal.nD Cert.OddProjIdeal.τ).loc Cert.OddProjIdeal.main_arg2)
      ∧ m' ((c.tc : Thread Cert.OddProjReferenceIdeal.nD Cert.OddProjReferenceIdeal.τ).loc Cert.OddProjReferenceIdeal.main_arg3) = m ((c.tc : Thread Cert.OddProjIdeal.nD Cert.OddProjIdeal.τ).loc Cert.OddProjIdeal.main_arg3)
      ∧ m' ((c.tc : Thread Cert.OddProjReferenceIdeal.nD Cert.OddProjReferenceIdeal.τ).loc Cert.OddProjReferenceIdeal.main_arg4) = m ((c.tc : Thread Cert.OddProjIdeal.nD Cert.OddProjIdeal.τ).loc Cert.OddProjIdeal.main_arg4)) →
    ∃ (v0 : (c : Dev Cert.OddProjIdeal.nD) → Buf (Elt Ideal) ((c.tc : Thread Cert.OddProjIdeal.nD Cert.OddProjIdeal.τ).loc Cert.OddProjIdeal.main_v19_0)) (v1 : (c : Dev Cert.OddProjIdeal.nD) → Buf (Elt Ideal) ((c.tc : Thread Cert.OddProjIdeal.nD Cert.OddProjIdeal.τ).loc Cert.OddProjIdeal.main_v19_1)) (v2 : (c : Dev Cert.OddProjIdeal.nD) → Buf (Elt Ideal) ((c.tc : Thread Cert.OddProjIdeal.nD Cert.OddProjIdeal.τ).loc Cert.OddProjIdeal.main_v19_2)) (v3 : (c : Dev Cert.OddProjIdeal.nD) → Buf (Elt Ideal) ((c.tc : Thread Cert.OddProjIdeal.nD Cert.OddProjIdeal.τ).loc Cert.OddProjIdeal.main_v19_3)) (v4 : (c : Dev Cert.OddProjIdeal.nD) → Buf (Elt Ideal) ((c.tc : Thread Cert.OddProjIdeal.nD Cert.OddProjIdeal.τ).loc Cert.OddProjIdeal.main_v19_4)) (v5 : (c : Dev Cert.OddProjIdeal.nD) → Buf (Elt Ideal) ((c.tc : Thread Cert.OddProjIdeal.nD Cert.OddProjIdeal.τ).loc Cert.OddProjIdeal.main_v19_5)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v19_0) = v0 c
          ∧ r.2.mem ((c.tc : Thread Cert.OddProjIdeal.nD Cert.OddProjIdeal.τ).loc Cert.OddProjIdeal.main_v19_1) = v1 c
          ∧ r.2.mem ((c.tc : Thread Cert.OddProjIdeal.nD Cert.OddProjIdeal.τ).loc Cert.OddProjIdeal.main_v19_2) = v2 c
          ∧ r.2.mem ((c.tc : Thread Cert.OddProjIdeal.nD Cert.OddProjIdeal.τ).loc Cert.OddProjIdeal.main_v19_3) = v3 c
          ∧ r.2.mem ((c.tc : Thread Cert.OddProjIdeal.nD Cert.OddProjIdeal.τ).loc Cert.OddProjIdeal.main_v19_4) = v4 c
          ∧ r.2.mem ((c.tc : Thread Cert.OddProjIdeal.nD Cert.OddProjIdeal.τ).loc Cert.OddProjIdeal.main_v19_5) = v5 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
          ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2)
          ∧ r.2.mem ((c.tc : Thread Cert.OddProjIdeal.nD Cert.OddProjIdeal.τ).loc Cert.OddProjIdeal.main_arg3) = m ((c.tc : Thread Cert.OddProjIdeal.nD Cert.OddProjIdeal.τ).loc Cert.OddProjIdeal.main_arg3)
          ∧ r.2.mem ((c.tc : Thread Cert.OddProjIdeal.nD Cert.OddProjIdeal.τ).loc Cert.OddProjIdeal.main_arg4) = m ((c.tc : Thread Cert.OddProjIdeal.nD Cert.OddProjIdeal.τ).loc Cert.OddProjIdeal.main_arg4))
      ∧ θ_run (Cert.OddProjReferenceIdeal.defs (F := Ideal)) (onTc (τ := Cert.OddProjReferenceIdeal.τ) (Cert.OddProjReferenceIdeal.main (F := Ideal))) ⟨m', fun _ => 0, g'⟩ (fun r => ∀ c : Dev Cert.OddProjReferenceIdeal.nD,
          r.2.mem ((c.tc : Thread Cert.OddProjReferenceIdeal.nD Cert.OddProjReferenceIdeal.τ).loc Cert.OddProjReferenceIdeal.main_v30) = v0 c
          ∧ r.2.mem ((c.tc : Thread Cert.OddProjReferenceIdeal.nD Cert.OddProjReferenceIdeal.τ).loc Cert.OddProjReferenceIdeal.main_v31) = v1 c
          ∧ r.2.mem ((c.tc : Thread Cert.OddProjReferenceIdeal.nD Cert.OddProjReferenceIdeal.τ).loc Cert.OddProjReferenceIdeal.main_v34) = v2 c
          ∧ r.2.mem ((c.tc : Thread Cert.OddProjReferenceIdeal.nD Cert.OddProjReferenceIdeal.τ).loc Cert.OddProjReferenceIdeal.main_v37) = v3 c
          ∧ r.2.mem ((c.tc : Thread Cert.OddProjReferenceIdeal.nD Cert.OddProjReferenceIdeal.τ).loc Cert.OddProjReferenceIdeal.main_v38) = v4 c
          ∧ r.2.mem ((c.tc : Thread Cert.OddProjReferenceIdeal.nD Cert.OddProjReferenceIdeal.τ).loc Cert.OddProjReferenceIdeal.main_v39) = v5 c
          ∧ r.2.mem ((c.tc : Thread Cert.OddProjReferenceIdeal.nD Cert.OddProjReferenceIdeal.τ).loc Cert.OddProjReferenceIdeal.main_arg0) = m' ((c.tc : Thread Cert.OddProjReferenceIdeal.nD Cert.OddProjReferenceIdeal.τ).loc Cert.OddProjReferenceIdeal.main_arg0)
          ∧ r.2.mem ((c.tc : Thread Cert.OddProjReferenceIdeal.nD Cert.OddProjReferenceIdeal.τ).loc Cert.OddProjReferenceIdeal.main_arg1) = m' ((c.tc : Thread Cert.OddProjReferenceIdeal.nD Cert.OddProjReferenceIdeal.τ).loc Cert.OddProjReferenceIdeal.main_arg1)
          ∧ r.2.mem ((c.tc : Thread Cert.OddProjReferenceIdeal.nD Cert.OddProjReferenceIdeal.τ).loc Cert.OddProjReferenceIdeal.main_arg2) = m' ((c.tc : Thread Cert.OddProjReferenceIdeal.nD Cert.OddProjReferenceIdeal.τ).loc Cert.OddProjReferenceIdeal.main_arg2)
          ∧ r.2.mem ((c.tc : Thread Cert.OddProjReferenceIdeal.nD Cert.OddProjReferenceIdeal.τ).loc Cert.OddProjReferenceIdeal.main_arg3) = m' ((c.tc : Thread Cert.OddProjReferenceIdeal.nD Cert.OddProjReferenceIdeal.τ).loc Cert.OddProjReferenceIdeal.main_arg3)
          ∧ r.2.mem ((c.tc : Thread Cert.OddProjReferenceIdeal.nD Cert.OddProjReferenceIdeal.τ).loc Cert.OddProjReferenceIdeal.main_arg4) = m' ((c.tc : Thread Cert.OddProjReferenceIdeal.nD Cert.OddProjReferenceIdeal.τ).loc Cert.OddProjReferenceIdeal.main_arg4))

def preserves_EvenProj_EvenProjIdeal : Prop :=
  True

def algebraic_EvenProjIdeal_EvenProjReferenceIdeal [hEvenProjIdeal : Cert.EvenProjIdeal.Facts] [hEvenProjReferenceIdeal : Cert.EvenProjReferenceIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjReferenceIdeal.nD Cert.EvenProjReferenceIdeal.τ Cert.EvenProjReferenceIdeal.sig) → Buf (Elt Ideal) ℓ) (g' : Dev Cert.EvenProjReferenceIdeal.nD → PrngReg), Pre_EvenProjIdeal m →
    (∀ c : Dev Cert.EvenProjIdeal.nD,
      m' ((c.tc : Thread Cert.EvenProjReferenceIdeal.nD Cert.EvenProjReferenceIdeal.τ).loc Cert.EvenProjReferenceIdeal.main_arg0) = m ((c.tc : Thread Cert.EvenProjIdeal.nD Cert.EvenProjIdeal.τ).loc Cert.EvenProjIdeal.main_arg0)
      ∧ m' ((c.tc : Thread Cert.EvenProjReferenceIdeal.nD Cert.EvenProjReferenceIdeal.τ).loc Cert.EvenProjReferenceIdeal.main_arg1) = m ((c.tc : Thread Cert.EvenProjIdeal.nD Cert.EvenProjIdeal.τ).loc Cert.EvenProjIdeal.main_arg1)
      ∧ m' ((c.tc : Thread Cert.EvenProjReferenceIdeal.nD Cert.EvenProjReferenceIdeal.τ).loc Cert.EvenProjReferenceIdeal.main_arg2) = m ((c.tc : Thread Cert.EvenProjIdeal.nD Cert.EvenProjIdeal.τ).loc Cert.EvenProjIdeal.main_arg2)
      ∧ m' ((c.tc : Thread Cert.EvenProjReferenceIdeal.nD Cert.EvenProjReferenceIdeal.τ).loc Cert.EvenProjReferenceIdeal.main_arg3) = m ((c.tc : Thread Cert.EvenProjIdeal.nD Cert.EvenProjIdeal.τ).loc Cert.EvenProjIdeal.main_arg3)
      ∧ m' ((c.tc : Thread Cert.EvenProjReferenceIdeal.nD Cert.EvenProjReferenceIdeal.τ).loc Cert.EvenProjReferenceIdeal.main_arg4) = m ((c.tc : Thread Cert.EvenProjIdeal.nD Cert.EvenProjIdeal.τ).loc Cert.EvenProjIdeal.main_arg4)
      ∧ m' ((c.tc : Thread Cert.EvenProjReferenceIdeal.nD Cert.EvenProjReferenceIdeal.τ).loc Cert.EvenProjReferenceIdeal.main_arg5) = m ((c.tc : Thread Cert.EvenProjIdeal.nD Cert.EvenProjIdeal.τ).loc Cert.EvenProjIdeal.main_arg5)
      ∧ m' ((c.tc : Thread Cert.EvenProjReferenceIdeal.nD Cert.EvenProjReferenceIdeal.τ).loc Cert.EvenProjReferenceIdeal.main_arg6) = m ((c.tc : Thread Cert.EvenProjIdeal.nD Cert.EvenProjIdeal.τ).loc Cert.EvenProjIdeal.main_arg6)
      ∧ m' ((c.tc : Thread Cert.EvenProjReferenceIdeal.nD Cert.EvenProjReferenceIdeal.τ).loc Cert.EvenProjReferenceIdeal.main_arg7) = m ((c.tc : Thread Cert.EvenProjIdeal.nD Cert.EvenProjIdeal.τ).loc Cert.EvenProjIdeal.main_arg7)
      ∧ m' ((c.tc : Thread Cert.EvenProjReferenceIdeal.nD Cert.EvenProjReferenceIdeal.τ).loc Cert.EvenProjReferenceIdeal.main_arg8) = m ((c.tc : Thread Cert.EvenProjIdeal.nD Cert.EvenProjIdeal.τ).loc Cert.EvenProjIdeal.main_arg8)
      ∧ m' ((c.tc : Thread Cert.EvenProjReferenceIdeal.nD Cert.EvenProjReferenceIdeal.τ).loc Cert.EvenProjReferenceIdeal.main_arg9) = m ((c.tc : Thread Cert.EvenProjIdeal.nD Cert.EvenProjIdeal.τ).loc Cert.EvenProjIdeal.main_arg9)
      ∧ m' ((c.tc : Thread Cert.EvenProjReferenceIdeal.nD Cert.EvenProjReferenceIdeal.τ).loc Cert.EvenProjReferenceIdeal.main_arg10) = m ((c.tc : Thread Cert.EvenProjIdeal.nD Cert.EvenProjIdeal.τ).loc Cert.EvenProjIdeal.main_arg10)
      ∧ m' ((c.tc : Thread Cert.EvenProjReferenceIdeal.nD Cert.EvenProjReferenceIdeal.τ).loc Cert.EvenProjReferenceIdeal.main_arg11) = m ((c.tc : Thread Cert.EvenProjIdeal.nD Cert.EvenProjIdeal.τ).loc Cert.EvenProjIdeal.main_arg11)
      ∧ m' ((c.tc : Thread Cert.EvenProjReferenceIdeal.nD Cert.EvenProjReferenceIdeal.τ).loc Cert.EvenProjReferenceIdeal.main_arg12) = m ((c.tc : Thread Cert.EvenProjIdeal.nD Cert.EvenProjIdeal.τ).loc Cert.EvenProjIdeal.main_arg12)
      ∧ m' ((c.tc : Thread Cert.EvenProjReferenceIdeal.nD Cert.EvenProjReferenceIdeal.τ).loc Cert.EvenProjReferenceIdeal.main_arg13) = m ((c.tc : Thread Cert.EvenProjIdeal.nD Cert.EvenProjIdeal.τ).loc Cert.EvenProjIdeal.main_arg13)
      ∧ m' ((c.tc : Thread Cert.EvenProjReferenceIdeal.nD Cert.EvenProjReferenceIdeal.τ).loc Cert.EvenProjReferenceIdeal.main_arg14) = m ((c.tc : Thread Cert.EvenProjIdeal.nD Cert.EvenProjIdeal.τ).loc Cert.EvenProjIdeal.main_arg14)
      ∧ m' ((c.tc : Thread Cert.EvenProjReferenceIdeal.nD Cert.EvenProjReferenceIdeal.τ).loc Cert.EvenProjReferenceIdeal.main_arg15) = m ((c.tc : Thread Cert.EvenProjIdeal.nD Cert.EvenProjIdeal.τ).loc Cert.EvenProjIdeal.main_arg15)) →
    ∃ (v0 : (c : Dev Cert.EvenProjIdeal.nD) → Buf (Elt Ideal) ((c.tc : Thread Cert.EvenProjIdeal.nD Cert.EvenProjIdeal.τ).loc Cert.EvenProjIdeal.main_v61_0)) (v1 : (c : Dev Cert.EvenProjIdeal.nD) → Buf (Elt Ideal) ((c.tc : Thread Cert.EvenProjIdeal.nD Cert.EvenProjIdeal.τ).loc Cert.EvenProjIdeal.main_v61_1)) (v2 : (c : Dev Cert.EvenProjIdeal.nD) → Buf (Elt Ideal) ((c.tc : Thread Cert.EvenProjIdeal.nD Cert.EvenProjIdeal.τ).loc Cert.EvenProjIdeal.main_v61_4)) (v3 : (c : Dev Cert.EvenProjIdeal.nD) → Buf (Elt Ideal) ((c.tc : Thread Cert.EvenProjIdeal.nD Cert.EvenProjIdeal.τ).loc Cert.EvenProjIdeal.main_v61_7)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v61_0) = v0 c
          ∧ r.2.mem ((c.tc : Thread Cert.EvenProjIdeal.nD Cert.EvenProjIdeal.τ).loc Cert.EvenProjIdeal.main_v61_1) = v1 c
          ∧ r.2.mem ((c.tc : Thread Cert.EvenProjIdeal.nD Cert.EvenProjIdeal.τ).loc Cert.EvenProjIdeal.main_v61_4) = v2 c
          ∧ r.2.mem ((c.tc : Thread Cert.EvenProjIdeal.nD Cert.EvenProjIdeal.τ).loc Cert.EvenProjIdeal.main_v61_7) = v3 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
          ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
          ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4)
          ∧ r.2.mem ((c.tc : Thread Cert.EvenProjIdeal.nD Cert.EvenProjIdeal.τ).loc Cert.EvenProjIdeal.main_arg5) = m ((c.tc : Thread Cert.EvenProjIdeal.nD Cert.EvenProjIdeal.τ).loc Cert.EvenProjIdeal.main_arg5)
          ∧ r.2.mem ((c.tc : Thread Cert.EvenProjIdeal.nD Cert.EvenProjIdeal.τ).loc Cert.EvenProjIdeal.main_arg6) = m ((c.tc : Thread Cert.EvenProjIdeal.nD Cert.EvenProjIdeal.τ).loc Cert.EvenProjIdeal.main_arg6)
          ∧ r.2.mem ((c.tc : Thread Cert.EvenProjIdeal.nD Cert.EvenProjIdeal.τ).loc Cert.EvenProjIdeal.main_arg7) = m ((c.tc : Thread Cert.EvenProjIdeal.nD Cert.EvenProjIdeal.τ).loc Cert.EvenProjIdeal.main_arg7)
          ∧ r.2.mem ((c.tc : Thread Cert.EvenProjIdeal.nD Cert.EvenProjIdeal.τ).loc Cert.EvenProjIdeal.main_arg8) = m ((c.tc : Thread Cert.EvenProjIdeal.nD Cert.EvenProjIdeal.τ).loc Cert.EvenProjIdeal.main_arg8)
          ∧ r.2.mem ((c.tc : Thread Cert.EvenProjIdeal.nD Cert.EvenProjIdeal.τ).loc Cert.EvenProjIdeal.main_arg9) = m ((c.tc : Thread Cert.EvenProjIdeal.nD Cert.EvenProjIdeal.τ).loc Cert.EvenProjIdeal.main_arg9)
          ∧ r.2.mem ((c.tc : Thread Cert.EvenProjIdeal.nD Cert.EvenProjIdeal.τ).loc Cert.EvenProjIdeal.main_arg10) = m ((c.tc : Thread Cert.EvenProjIdeal.nD Cert.EvenProjIdeal.τ).loc Cert.EvenProjIdeal.main_arg10)
          ∧ r.2.mem ((c.tc : Thread Cert.EvenProjIdeal.nD Cert.EvenProjIdeal.τ).loc Cert.EvenProjIdeal.main_arg11) = m ((c.tc : Thread Cert.EvenProjIdeal.nD Cert.EvenProjIdeal.τ).loc Cert.EvenProjIdeal.main_arg11)
          ∧ r.2.mem ((c.tc : Thread Cert.EvenProjIdeal.nD Cert.EvenProjIdeal.τ).loc Cert.EvenProjIdeal.main_arg12) = m ((c.tc : Thread Cert.EvenProjIdeal.nD Cert.EvenProjIdeal.τ).loc Cert.EvenProjIdeal.main_arg12)
          ∧ r.2.mem ((c.tc : Thread Cert.EvenProjIdeal.nD Cert.EvenProjIdeal.τ).loc Cert.EvenProjIdeal.main_arg13) = m ((c.tc : Thread Cert.EvenProjIdeal.nD Cert.EvenProjIdeal.τ).loc Cert.EvenProjIdeal.main_arg13)
          ∧ r.2.mem ((c.tc : Thread Cert.EvenProjIdeal.nD Cert.EvenProjIdeal.τ).loc Cert.EvenProjIdeal.main_arg14) = m ((c.tc : Thread Cert.EvenProjIdeal.nD Cert.EvenProjIdeal.τ).loc Cert.EvenProjIdeal.main_arg14)
          ∧ r.2.mem ((c.tc : Thread Cert.EvenProjIdeal.nD Cert.EvenProjIdeal.τ).loc Cert.EvenProjIdeal.main_arg15) = m ((c.tc : Thread Cert.EvenProjIdeal.nD Cert.EvenProjIdeal.τ).loc Cert.EvenProjIdeal.main_arg15))
      ∧ θ_run (Cert.EvenProjReferenceIdeal.defs (F := Ideal)) (onTc (τ := Cert.EvenProjReferenceIdeal.τ) (Cert.EvenProjReferenceIdeal.main (F := Ideal))) ⟨m', fun _ => 0, g'⟩ (fun r => ∀ c : Dev Cert.EvenProjReferenceIdeal.nD,
          r.2.mem ((c.tc : Thread Cert.EvenProjReferenceIdeal.nD Cert.EvenProjReferenceIdeal.τ).loc Cert.EvenProjReferenceIdeal.main_v32) = v0 c
          ∧ r.2.mem ((c.tc : Thread Cert.EvenProjReferenceIdeal.nD Cert.EvenProjReferenceIdeal.τ).loc Cert.EvenProjReferenceIdeal.main_v33) = v1 c
          ∧ r.2.mem ((c.tc : Thread Cert.EvenProjReferenceIdeal.nD Cert.EvenProjReferenceIdeal.τ).loc Cert.EvenProjReferenceIdeal.main_v34) = v2 c
          ∧ r.2.mem ((c.tc : Thread Cert.EvenProjReferenceIdeal.nD Cert.EvenProjReferenceIdeal.τ).loc Cert.EvenProjReferenceIdeal.main_v35) = v3 c
          ∧ r.2.mem ((c.tc : Thread Cert.EvenProjReferenceIdeal.nD Cert.EvenProjReferenceIdeal.τ).loc Cert.EvenProjReferenceIdeal.main_arg0) = m' ((c.tc : Thread Cert.EvenProjReferenceIdeal.nD Cert.EvenProjReferenceIdeal.τ).loc Cert.EvenProjReferenceIdeal.main_arg0)
          ∧ r.2.mem ((c.tc : Thread Cert.EvenProjReferenceIdeal.nD Cert.EvenProjReferenceIdeal.τ).loc Cert.EvenProjReferenceIdeal.main_arg1) = m' ((c.tc : Thread Cert.EvenProjReferenceIdeal.nD Cert.EvenProjReferenceIdeal.τ).loc Cert.EvenProjReferenceIdeal.main_arg1)
          ∧ r.2.mem ((c.tc : Thread Cert.EvenProjReferenceIdeal.nD Cert.EvenProjReferenceIdeal.τ).loc Cert.EvenProjReferenceIdeal.main_arg2) = m' ((c.tc : Thread Cert.EvenProjReferenceIdeal.nD Cert.EvenProjReferenceIdeal.τ).loc Cert.EvenProjReferenceIdeal.main_arg2)
          ∧ r.2.mem ((c.tc : Thread Cert.EvenProjReferenceIdeal.nD Cert.EvenProjReferenceIdeal.τ).loc Cert.EvenProjReferenceIdeal.main_arg3) = m' ((c.tc : Thread Cert.EvenProjReferenceIdeal.nD Cert.EvenProjReferenceIdeal.τ).loc Cert.EvenProjReferenceIdeal.main_arg3)
          ∧ r.2.mem ((c.tc : Thread Cert.EvenProjReferenceIdeal.nD Cert.EvenProjReferenceIdeal.τ).loc Cert.EvenProjReferenceIdeal.main_arg4) = m' ((c.tc : Thread Cert.EvenProjReferenceIdeal.nD Cert.EvenProjReferenceIdeal.τ).loc Cert.EvenProjReferenceIdeal.main_arg4)
          ∧ r.2.mem ((c.tc : Thread Cert.EvenProjReferenceIdeal.nD Cert.EvenProjReferenceIdeal.τ).loc Cert.EvenProjReferenceIdeal.main_arg5) = m' ((c.tc : Thread Cert.EvenProjReferenceIdeal.nD Cert.EvenProjReferenceIdeal.τ).loc Cert.EvenProjReferenceIdeal.main_arg5)
          ∧ r.2.mem ((c.tc : Thread Cert.EvenProjReferenceIdeal.nD Cert.EvenProjReferenceIdeal.τ).loc Cert.EvenProjReferenceIdeal.main_arg6) = m' ((c.tc : Thread Cert.EvenProjReferenceIdeal.nD Cert.EvenProjReferenceIdeal.τ).loc Cert.EvenProjReferenceIdeal.main_arg6)
          ∧ r.2.mem ((c.tc : Thread Cert.EvenProjReferenceIdeal.nD Cert.EvenProjReferenceIdeal.τ).loc Cert.EvenProjReferenceIdeal.main_arg7) = m' ((c.tc : Thread Cert.EvenProjReferenceIdeal.nD Cert.EvenProjReferenceIdeal.τ).loc Cert.EvenProjReferenceIdeal.main_arg7)
          ∧ r.2.mem ((c.tc : Thread Cert.EvenProjReferenceIdeal.nD Cert.EvenProjReferenceIdeal.τ).loc Cert.EvenProjReferenceIdeal.main_arg8) = m' ((c.tc : Thread Cert.EvenProjReferenceIdeal.nD Cert.EvenProjReferenceIdeal.τ).loc Cert.EvenProjReferenceIdeal.main_arg8)
          ∧ r.2.mem ((c.tc : Thread Cert.EvenProjReferenceIdeal.nD Cert.EvenProjReferenceIdeal.τ).loc Cert.EvenProjReferenceIdeal.main_arg9) = m' ((c.tc : Thread Cert.EvenProjReferenceIdeal.nD Cert.EvenProjReferenceIdeal.τ).loc Cert.EvenProjReferenceIdeal.main_arg9)
          ∧ r.2.mem ((c.tc : Thread Cert.EvenProjReferenceIdeal.nD Cert.EvenProjReferenceIdeal.τ).loc Cert.EvenProjReferenceIdeal.main_arg10) = m' ((c.tc : Thread Cert.EvenProjReferenceIdeal.nD Cert.EvenProjReferenceIdeal.τ).loc Cert.EvenProjReferenceIdeal.main_arg10)
          ∧ r.2.mem ((c.tc : Thread Cert.EvenProjReferenceIdeal.nD Cert.EvenProjReferenceIdeal.τ).loc Cert.EvenProjReferenceIdeal.main_arg11) = m' ((c.tc : Thread Cert.EvenProjReferenceIdeal.nD Cert.EvenProjReferenceIdeal.τ).loc Cert.EvenProjReferenceIdeal.main_arg11)
          ∧ r.2.mem ((c.tc : Thread Cert.EvenProjReferenceIdeal.nD Cert.EvenProjReferenceIdeal.τ).loc Cert.EvenProjReferenceIdeal.main_arg12) = m' ((c.tc : Thread Cert.EvenProjReferenceIdeal.nD Cert.EvenProjReferenceIdeal.τ).loc Cert.EvenProjReferenceIdeal.main_arg12)
          ∧ r.2.mem ((c.tc : Thread Cert.EvenProjReferenceIdeal.nD Cert.EvenProjReferenceIdeal.τ).loc Cert.EvenProjReferenceIdeal.main_arg13) = m' ((c.tc : Thread Cert.EvenProjReferenceIdeal.nD Cert.EvenProjReferenceIdeal.τ).loc Cert.EvenProjReferenceIdeal.main_arg13)
          ∧ r.2.mem ((c.tc : Thread Cert.EvenProjReferenceIdeal.nD Cert.EvenProjReferenceIdeal.τ).loc Cert.EvenProjReferenceIdeal.main_arg14) = m' ((c.tc : Thread Cert.EvenProjReferenceIdeal.nD Cert.EvenProjReferenceIdeal.τ).loc Cert.EvenProjReferenceIdeal.main_arg14)
          ∧ r.2.mem ((c.tc : Thread Cert.EvenProjReferenceIdeal.nD Cert.EvenProjReferenceIdeal.τ).loc Cert.EvenProjReferenceIdeal.main_arg15) = m' ((c.tc : Thread Cert.EvenProjReferenceIdeal.nD Cert.EvenProjReferenceIdeal.τ).loc Cert.EvenProjReferenceIdeal.main_arg15))

def preserves_SampleFfn_SampleFfnIdeal : Prop :=
  True

def algebraic_SampleFfnIdeal_SampleFfnReferenceIdeal [hSampleFfnIdeal : Cert.SampleFfnIdeal.Facts] [hSampleFfnReferenceIdeal : Cert.SampleFfnReferenceIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg)
    (m' : (ℓ : Loc Cert.SampleFfnReferenceIdeal.nD Cert.SampleFfnReferenceIdeal.τ Cert.SampleFfnReferenceIdeal.sig) → Buf (Elt Ideal) ℓ) (g' : Dev Cert.SampleFfnReferenceIdeal.nD → PrngReg), Pre_SampleFfnIdeal m →
    (∀ c : Dev Cert.SampleFfnIdeal.nD,
      m' ((c.tc : Thread Cert.SampleFfnReferenceIdeal.nD Cert.SampleFfnReferenceIdeal.τ).loc Cert.SampleFfnReferenceIdeal.main_arg0) = m ((c.tc : Thread Cert.SampleFfnIdeal.nD Cert.SampleFfnIdeal.τ).loc Cert.SampleFfnIdeal.main_arg0)
      ∧ m' ((c.tc : Thread Cert.SampleFfnReferenceIdeal.nD Cert.SampleFfnReferenceIdeal.τ).loc Cert.SampleFfnReferenceIdeal.main_arg1) = m ((c.tc : Thread Cert.SampleFfnIdeal.nD Cert.SampleFfnIdeal.τ).loc Cert.SampleFfnIdeal.main_arg1)
      ∧ m' ((c.tc : Thread Cert.SampleFfnReferenceIdeal.nD Cert.SampleFfnReferenceIdeal.τ).loc Cert.SampleFfnReferenceIdeal.main_arg2) = m ((c.tc : Thread Cert.SampleFfnIdeal.nD Cert.SampleFfnIdeal.τ).loc Cert.SampleFfnIdeal.main_arg2)
      ∧ m' ((c.tc : Thread Cert.SampleFfnReferenceIdeal.nD Cert.SampleFfnReferenceIdeal.τ).loc Cert.SampleFfnReferenceIdeal.main_arg3) = m ((c.tc : Thread Cert.SampleFfnIdeal.nD Cert.SampleFfnIdeal.τ).loc Cert.SampleFfnIdeal.main_arg3)) →
    ∃ (v0 : (c : Dev Cert.SampleFfnIdeal.nD) → Buf (Elt Ideal) ((c.tc : Thread Cert.SampleFfnIdeal.nD Cert.SampleFfnIdeal.τ).loc Cert.SampleFfnIdeal.main_v4)),
      θ_run (Cert.SampleFfnIdeal.defs (F := Ideal)) (onTc (τ := Cert.SampleFfnIdeal.τ) (Cert.SampleFfnIdeal.main (F := Ideal))) ⟨m, fun _ => 0, g⟩ (fun r => ∀ c : Dev Cert.SampleFfnIdeal.nD,
          r.2.mem ((c.tc : Thread Cert.SampleFfnIdeal.nD Cert.SampleFfnIdeal.τ).loc Cert.SampleFfnIdeal.main_v4) = v0 c
          ∧ r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
          ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
          ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
          ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3))
      ∧ θ_run (Cert.SampleFfnReferenceIdeal.defs (F := Ideal)) (onTc (τ := Cert.SampleFfnReferenceIdeal.τ) (Cert.SampleFfnReferenceIdeal.main (F := Ideal))) ⟨m', fun _ => 0, g'⟩ (fun r => ∀ c : Dev Cert.SampleFfnReferenceIdeal.nD,
          r.2.mem ((c.tc : Thread Cert.SampleFfnReferenceIdeal.nD Cert.SampleFfnReferenceIdeal.τ).loc Cert.SampleFfnReferenceIdeal.main_v18) = v0 c
          ∧ r.2.mem ((c.tc : Thread Cert.SampleFfnReferenceIdeal.nD Cert.SampleFfnReferenceIdeal.τ).loc Cert.SampleFfnReferenceIdeal.main_arg0) = m' ((c.tc : Thread Cert.SampleFfnReferenceIdeal.nD Cert.SampleFfnReferenceIdeal.τ).loc Cert.SampleFfnReferenceIdeal.main_arg0)
          ∧ r.2.mem ((c.tc : Thread Cert.SampleFfnReferenceIdeal.nD Cert.SampleFfnReferenceIdeal.τ).loc Cert.SampleFfnReferenceIdeal.main_arg1) = m' ((c.tc : Thread Cert.SampleFfnReferenceIdeal.nD Cert.SampleFfnReferenceIdeal.τ).loc Cert.SampleFfnReferenceIdeal.main_arg1)
          ∧ r.2.mem ((c.tc : Thread Cert.SampleFfnReferenceIdeal.nD Cert.SampleFfnReferenceIdeal.τ).loc Cert.SampleFfnReferenceIdeal.main_arg2) = m' ((c.tc : Thread Cert.SampleFfnReferenceIdeal.nD Cert.SampleFfnReferenceIdeal.τ).loc Cert.SampleFfnReferenceIdeal.main_arg2)
          ∧ r.2.mem ((c.tc : Thread Cert.SampleFfnReferenceIdeal.nD Cert.SampleFfnReferenceIdeal.τ).loc Cert.SampleFfnReferenceIdeal.main_arg3) = m' ((c.tc : Thread Cert.SampleFfnReferenceIdeal.nD Cert.SampleFfnReferenceIdeal.τ).loc Cert.SampleFfnReferenceIdeal.main_arg3))

def preserves_SampleOdd_SampleOddIdeal : Prop :=
  IdealRules.named_const.Statement Cert.SampleOddIdeal.κ "root128" .f32 0x3DB504F3#32 (((Real.sqrt 128)⁻¹ : ℝ) : EReal)

def algebraic_SampleOddIdeal_SampleOddReferenceIdeal [hSampleOddIdeal : Cert.SampleOddIdeal.Facts] [hSampleOddReferenceIdeal : Cert.SampleOddReferenceIdeal.Facts] : Prop :=
  ∀ (m : (ℓ : Loc Cert.SampleOddIdeal.nD Cert.SampleOddIdeal.τ Cert.SampleOddIdeal.sig) → Buf (Elt Ideal) ℓ) (g : Dev Cert.SampleOddIdeal.nD → PrngReg)
    (m' : (ℓ : Loc Cert.SampleOddReferenceIdeal.nD Cert.SampleOddReferenceIdeal.τ Cert.SampleOddReferenceIdeal.sig) → Buf (Elt Ideal) ℓ) (g' : Dev Cert.SampleOddReferenceIdeal.nD → PrngReg), Pre_SampleOddIdeal m →
    (∀ c : Dev Cert.SampleOddIdeal.nD,
      m' ((c.tc : Thread Cert.SampleOddReferenceIdeal.nD Cert.SampleOddReferenceIdeal.τ).loc Cert.SampleOddReferenceIdeal.main_arg0) = m ((c.tc : Thread Cert.SampleOddIdeal.nD Cert.SampleOddIdeal.τ).loc Cert.SampleOddIdeal.main_arg0)
      ∧ m' ((c.tc : Thread Cert.SampleOddReferenceIdeal.nD Cert.SampleOddReferenceIdeal.τ).loc Cert.SampleOddReferenceIdeal.main_arg1) = m ((c.tc : Thread Cert.SampleOddIdeal.nD Cert.SampleOddIdeal.τ).loc Cert.SampleOddIdeal.main_arg1)
      ∧ m' ((c.tc : Thread Cert.SampleOddReferenceIdeal.nD Cert.SampleOddReferenceIdeal.τ).loc Cert.SampleOddReferenceIdeal.main_arg2) = m ((c.tc : Thread Cert.SampleOddIdeal.nD Cert.SampleOddIdeal.τ).loc Cert.SampleOddIdeal.main_arg2)
      ∧ m' ((c.tc : Thread Cert.SampleOddReferenceIdeal.nD Cert.SampleOddReferenceIdeal.τ).loc Cert.SampleOddReferenceIdeal.main_arg3) = m ((c.tc : Thread Cert.SampleOddIdeal.nD Cert.SampleOddIdeal.τ).loc Cert.SampleOddIdeal.main_arg3)
      ∧ m' ((c.tc : Thread Cert.SampleOddReferenceIdeal.nD Cert.SampleOddReferenceIdeal.τ).loc Cert.SampleOddReferenceIdeal.main_arg4) = m ((c.tc : Thread Cert.SampleOddIdeal.nD Cert.SampleOddIdeal.τ).loc Cert.SampleOddIdeal.main_arg4)) →
    ∃ (v0 : (c : Dev Cert.SampleOddIdeal.nD) → Buf (Elt Ideal) ((c.tc : Thread Cert.SampleOddIdeal.nD Cert.SampleOddIdeal.τ).loc Cert.SampleOddIdeal.main_v19_0)) (v1 : (c : Dev Cert.SampleOddIdeal.nD) → Buf (Elt Ideal) ((c.tc : Thread Cert.SampleOddIdeal.nD Cert.SampleOddIdeal.τ).loc Cert.SampleOddIdeal.main_v19_1)) (v2 : (c : Dev Cert.SampleOddIdeal.nD) → Buf (Elt Ideal) ((c.tc : Thread Cert.SampleOddIdeal.nD Cert.SampleOddIdeal.τ).loc Cert.SampleOddIdeal.main_v19_2)) (v3 : (c : Dev Cert.SampleOddIdeal.nD) → Buf (Elt Ideal) ((c.tc : Thread Cert.SampleOddIdeal.nD Cert.SampleOddIdeal.τ).loc Cert.SampleOddIdeal.main_v19_3)) (v4 : (c : Dev Cert.SampleOddIdeal.nD) → Buf (Elt Ideal) ((c.tc : Thread Cert.SampleOddIdeal.nD Cert.SampleOddIdeal.τ).loc Cert.SampleOddIdeal.main_v19_4)) (v5 : (c : Dev Cert.SampleOddIdeal.nD) → Buf (Elt Ideal) ((c.tc : Thread Cert.SampleOddIdeal.nD Cert.SampleOddIdeal.τ).loc Cert.SampleOddIdeal.main_v19_5)),
      θ_run (Cert.SampleOddIdeal.defs (F := Ideal)) (onTc (τ := Cert.SampleOddIdeal.τ) (Cert.SampleOddIdeal.main (F := Ideal))) ⟨m, fun _ => 0, g⟩ (fun r => ∀ c : Dev Cert.SampleOddIdeal.nD,
          r.2.mem ((c.tc : Thread Cert.SampleOddIdeal.nD Cert.SampleOddIdeal.τ).loc Cert.SampleOddIdeal.main_v19_0) = v0 c
          ∧ r.2.mem ((c.tc : Thread Cert.SampleOddIdeal.nD Cert.SampleOddIdeal.τ).loc Cert.SampleOddIdeal.main_v19_1) = v1 c
          ∧ r.2.mem ((c.tc : Thread Cert.SampleOddIdeal.nD Cert.SampleOddIdeal.τ).loc Cert.SampleOddIdeal.main_v19_2) = v2 c
          ∧ r.2.mem ((c.tc : Thread Cert.SampleOddIdeal.nD Cert.SampleOddIdeal.τ).loc Cert.SampleOddIdeal.main_v19_3) = v3 c
          ∧ r.2.mem ((c.tc : Thread Cert.SampleOddIdeal.nD Cert.SampleOddIdeal.τ).loc Cert.SampleOddIdeal.main_v19_4) = v4 c
          ∧ r.2.mem ((c.tc : Thread Cert.SampleOddIdeal.nD Cert.SampleOddIdeal.τ).loc Cert.SampleOddIdeal.main_v19_5) = v5 c
          ∧ r.2.mem ((c.tc : Thread Cert.SampleOddIdeal.nD Cert.SampleOddIdeal.τ).loc Cert.SampleOddIdeal.main_arg0) = m ((c.tc : Thread Cert.SampleOddIdeal.nD Cert.SampleOddIdeal.τ).loc Cert.SampleOddIdeal.main_arg0)
          ∧ r.2.mem ((c.tc : Thread Cert.SampleOddIdeal.nD Cert.SampleOddIdeal.τ).loc Cert.SampleOddIdeal.main_arg1) = m ((c.tc : Thread Cert.SampleOddIdeal.nD Cert.SampleOddIdeal.τ).loc Cert.SampleOddIdeal.main_arg1)
          ∧ r.2.mem ((c.tc : Thread Cert.SampleOddIdeal.nD Cert.SampleOddIdeal.τ).loc Cert.SampleOddIdeal.main_arg2) = m ((c.tc : Thread Cert.SampleOddIdeal.nD Cert.SampleOddIdeal.τ).loc Cert.SampleOddIdeal.main_arg2)
          ∧ r.2.mem ((c.tc : Thread Cert.SampleOddIdeal.nD Cert.SampleOddIdeal.τ).loc Cert.SampleOddIdeal.main_arg3) = m ((c.tc : Thread Cert.SampleOddIdeal.nD Cert.SampleOddIdeal.τ).loc Cert.SampleOddIdeal.main_arg3)
          ∧ r.2.mem ((c.tc : Thread Cert.SampleOddIdeal.nD Cert.SampleOddIdeal.τ).loc Cert.SampleOddIdeal.main_arg4) = m ((c.tc : Thread Cert.SampleOddIdeal.nD Cert.SampleOddIdeal.τ).loc Cert.SampleOddIdeal.main_arg4))
      ∧ θ_run (Cert.SampleOddReferenceIdeal.defs (F := Ideal)) (onTc (τ := Cert.SampleOddReferenceIdeal.τ) (Cert.SampleOddReferenceIdeal.main (F := Ideal))) ⟨m', fun _ => 0, g'⟩ (fun r => ∀ c : Dev Cert.SampleOddReferenceIdeal.nD,
          r.2.mem ((c.tc : Thread Cert.SampleOddReferenceIdeal.nD Cert.SampleOddReferenceIdeal.τ).loc Cert.SampleOddReferenceIdeal.main_v30) = v0 c
          ∧ r.2.mem ((c.tc : Thread Cert.SampleOddReferenceIdeal.nD Cert.SampleOddReferenceIdeal.τ).loc Cert.SampleOddReferenceIdeal.main_v31) = v1 c
          ∧ r.2.mem ((c.tc : Thread Cert.SampleOddReferenceIdeal.nD Cert.SampleOddReferenceIdeal.τ).loc Cert.SampleOddReferenceIdeal.main_v34) = v2 c
          ∧ r.2.mem ((c.tc : Thread Cert.SampleOddReferenceIdeal.nD Cert.SampleOddReferenceIdeal.τ).loc Cert.SampleOddReferenceIdeal.main_v37) = v3 c
          ∧ r.2.mem ((c.tc : Thread Cert.SampleOddReferenceIdeal.nD Cert.SampleOddReferenceIdeal.τ).loc Cert.SampleOddReferenceIdeal.main_v38) = v4 c
          ∧ r.2.mem ((c.tc : Thread Cert.SampleOddReferenceIdeal.nD Cert.SampleOddReferenceIdeal.τ).loc Cert.SampleOddReferenceIdeal.main_v39) = v5 c
          ∧ r.2.mem ((c.tc : Thread Cert.SampleOddReferenceIdeal.nD Cert.SampleOddReferenceIdeal.τ).loc Cert.SampleOddReferenceIdeal.main_arg0) = m' ((c.tc : Thread Cert.SampleOddReferenceIdeal.nD Cert.SampleOddReferenceIdeal.τ).loc Cert.SampleOddReferenceIdeal.main_arg0)
          ∧ r.2.mem ((c.tc : Thread Cert.SampleOddReferenceIdeal.nD Cert.SampleOddReferenceIdeal.τ).loc Cert.SampleOddReferenceIdeal.main_arg1) = m' ((c.tc : Thread Cert.SampleOddReferenceIdeal.nD Cert.SampleOddReferenceIdeal.τ).loc Cert.SampleOddReferenceIdeal.main_arg1)
          ∧ r.2.mem ((c.tc : Thread Cert.SampleOddReferenceIdeal.nD Cert.SampleOddReferenceIdeal.τ).loc Cert.SampleOddReferenceIdeal.main_arg2) = m' ((c.tc : Thread Cert.SampleOddReferenceIdeal.nD Cert.SampleOddReferenceIdeal.τ).loc Cert.SampleOddReferenceIdeal.main_arg2)
          ∧ r.2.mem ((c.tc : Thread Cert.SampleOddReferenceIdeal.nD Cert.SampleOddReferenceIdeal.τ).loc Cert.SampleOddReferenceIdeal.main_arg3) = m' ((c.tc : Thread Cert.SampleOddReferenceIdeal.nD Cert.SampleOddReferenceIdeal.τ).loc Cert.SampleOddReferenceIdeal.main_arg3)
          ∧ r.2.mem ((c.tc : Thread Cert.SampleOddReferenceIdeal.nD Cert.SampleOddReferenceIdeal.τ).loc Cert.SampleOddReferenceIdeal.main_arg4) = m' ((c.tc : Thread Cert.SampleOddReferenceIdeal.nD Cert.SampleOddReferenceIdeal.τ).loc Cert.SampleOddReferenceIdeal.main_arg4))

def preserves_GlaStep_GlaStepIdeal : Prop :=
  True

def algebraic_GlaStepIdeal_GlaStepReferenceIdeal_pre_finite_gate [hGlaStepIdeal : Cert.GlaStepIdeal.Facts] [hGlaStepReferenceIdeal : Cert.GlaStepReferenceIdeal.Facts] [hPre_finite_gate : Cert.Pre_finite_gate.Facts] : Prop :=
  ∀ (m : (ℓ : Loc Cert.GlaStepIdeal.nD Cert.GlaStepIdeal.τ Cert.GlaStepIdeal.sig) → Buf (Elt Ideal) ℓ) (g : Dev Cert.GlaStepIdeal.nD → PrngReg)
    (m' : (ℓ : Loc Cert.GlaStepReferenceIdeal.nD Cert.GlaStepReferenceIdeal.τ Cert.GlaStepReferenceIdeal.sig) → Buf (Elt Ideal) ℓ) (g' : Dev Cert.GlaStepReferenceIdeal.nD → PrngReg), Pre_GlaStepIdeal_finite_gate m →
    (∀ c : Dev Cert.GlaStepIdeal.nD,
      m' ((c.tc : Thread Cert.GlaStepReferenceIdeal.nD Cert.GlaStepReferenceIdeal.τ).loc Cert.GlaStepReferenceIdeal.main_arg0) = m ((c.tc : Thread Cert.GlaStepIdeal.nD Cert.GlaStepIdeal.τ).loc Cert.GlaStepIdeal.main_arg0)
      ∧ m' ((c.tc : Thread Cert.GlaStepReferenceIdeal.nD Cert.GlaStepReferenceIdeal.τ).loc Cert.GlaStepReferenceIdeal.main_arg1) = m ((c.tc : Thread Cert.GlaStepIdeal.nD Cert.GlaStepIdeal.τ).loc Cert.GlaStepIdeal.main_arg1)
      ∧ m' ((c.tc : Thread Cert.GlaStepReferenceIdeal.nD Cert.GlaStepReferenceIdeal.τ).loc Cert.GlaStepReferenceIdeal.main_arg2) = m ((c.tc : Thread Cert.GlaStepIdeal.nD Cert.GlaStepIdeal.τ).loc Cert.GlaStepIdeal.main_arg2)
      ∧ m' ((c.tc : Thread Cert.GlaStepReferenceIdeal.nD Cert.GlaStepReferenceIdeal.τ).loc Cert.GlaStepReferenceIdeal.main_arg3) = m ((c.tc : Thread Cert.GlaStepIdeal.nD Cert.GlaStepIdeal.τ).loc Cert.GlaStepIdeal.main_arg3)
      ∧ m' ((c.tc : Thread Cert.GlaStepReferenceIdeal.nD Cert.GlaStepReferenceIdeal.τ).loc Cert.GlaStepReferenceIdeal.main_arg4) = m ((c.tc : Thread Cert.GlaStepIdeal.nD Cert.GlaStepIdeal.τ).loc Cert.GlaStepIdeal.main_arg4)
      ∧ m' ((c.tc : Thread Cert.GlaStepReferenceIdeal.nD Cert.GlaStepReferenceIdeal.τ).loc Cert.GlaStepReferenceIdeal.main_arg5) = m ((c.tc : Thread Cert.GlaStepIdeal.nD Cert.GlaStepIdeal.τ).loc Cert.GlaStepIdeal.main_arg5)
      ∧ m' ((c.tc : Thread Cert.GlaStepReferenceIdeal.nD Cert.GlaStepReferenceIdeal.τ).loc Cert.GlaStepReferenceIdeal.main_arg6) = m ((c.tc : Thread Cert.GlaStepIdeal.nD Cert.GlaStepIdeal.τ).loc Cert.GlaStepIdeal.main_arg6)) →
    ∃ (v0 : (c : Dev Cert.GlaStepIdeal.nD) → Buf (Elt Ideal) ((c.tc : Thread Cert.GlaStepIdeal.nD Cert.GlaStepIdeal.τ).loc Cert.GlaStepIdeal.main_v0_1)),
      θ_run (Cert.GlaStepIdeal.defs (F := Ideal)) (onTc (τ := Cert.GlaStepIdeal.τ) (Cert.GlaStepIdeal.main (F := Ideal))) ⟨m, fun _ => 0, g⟩ (fun r => ∀ c : Dev Cert.GlaStepIdeal.nD,
          r.2.mem ((c.tc : Thread Cert.GlaStepIdeal.nD Cert.GlaStepIdeal.τ).loc Cert.GlaStepIdeal.main_v0_1) = v0 c
          ∧ r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
          ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
          ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
          ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
          ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4)
          ∧ r.2.mem ((c.tc : Thread Cert.GlaStepIdeal.nD Cert.GlaStepIdeal.τ).loc Cert.GlaStepIdeal.main_arg5) = m ((c.tc : Thread Cert.GlaStepIdeal.nD Cert.GlaStepIdeal.τ).loc Cert.GlaStepIdeal.main_arg5)
          ∧ r.2.mem ((c.tc : Thread Cert.GlaStepIdeal.nD Cert.GlaStepIdeal.τ).loc Cert.GlaStepIdeal.main_arg6) = m ((c.tc : Thread Cert.GlaStepIdeal.nD Cert.GlaStepIdeal.τ).loc Cert.GlaStepIdeal.main_arg6))
      ∧ θ_run (Cert.GlaStepReferenceIdeal.defs (F := Ideal)) (onTc (τ := Cert.GlaStepReferenceIdeal.τ) (Cert.GlaStepReferenceIdeal.main (F := Ideal))) ⟨m', fun _ => 0, g'⟩ (fun r => ∀ c : Dev Cert.GlaStepReferenceIdeal.nD,
          r.2.mem ((c.tc : Thread Cert.GlaStepReferenceIdeal.nD Cert.GlaStepReferenceIdeal.τ).loc Cert.GlaStepReferenceIdeal.main_v15) = v0 c
          ∧ r.2.mem ((c.tc : Thread Cert.GlaStepReferenceIdeal.nD Cert.GlaStepReferenceIdeal.τ).loc Cert.GlaStepReferenceIdeal.main_arg0) = m' ((c.tc : Thread Cert.GlaStepReferenceIdeal.nD Cert.GlaStepReferenceIdeal.τ).loc Cert.GlaStepReferenceIdeal.main_arg0)
          ∧ r.2.mem ((c.tc : Thread Cert.GlaStepReferenceIdeal.nD Cert.GlaStepReferenceIdeal.τ).loc Cert.GlaStepReferenceIdeal.main_arg1) = m' ((c.tc : Thread Cert.GlaStepReferenceIdeal.nD Cert.GlaStepReferenceIdeal.τ).loc Cert.GlaStepReferenceIdeal.main_arg1)
          ∧ r.2.mem ((c.tc : Thread Cert.GlaStepReferenceIdeal.nD Cert.GlaStepReferenceIdeal.τ).loc Cert.GlaStepReferenceIdeal.main_arg2) = m' ((c.tc : Thread Cert.GlaStepReferenceIdeal.nD Cert.GlaStepReferenceIdeal.τ).loc Cert.GlaStepReferenceIdeal.main_arg2)
          ∧ r.2.mem ((c.tc : Thread Cert.GlaStepReferenceIdeal.nD Cert.GlaStepReferenceIdeal.τ).loc Cert.GlaStepReferenceIdeal.main_arg3) = m' ((c.tc : Thread Cert.GlaStepReferenceIdeal.nD Cert.GlaStepReferenceIdeal.τ).loc Cert.GlaStepReferenceIdeal.main_arg3)
          ∧ r.2.mem ((c.tc : Thread Cert.GlaStepReferenceIdeal.nD Cert.GlaStepReferenceIdeal.τ).loc Cert.GlaStepReferenceIdeal.main_arg4) = m' ((c.tc : Thread Cert.GlaStepReferenceIdeal.nD Cert.GlaStepReferenceIdeal.τ).loc Cert.GlaStepReferenceIdeal.main_arg4)
          ∧ r.2.mem ((c.tc : Thread Cert.GlaStepReferenceIdeal.nD Cert.GlaStepReferenceIdeal.τ).loc Cert.GlaStepReferenceIdeal.main_arg5) = m' ((c.tc : Thread Cert.GlaStepReferenceIdeal.nD Cert.GlaStepReferenceIdeal.τ).loc Cert.GlaStepReferenceIdeal.main_arg5)
          ∧ r.2.mem ((c.tc : Thread Cert.GlaStepReferenceIdeal.nD Cert.GlaStepReferenceIdeal.τ).loc Cert.GlaStepReferenceIdeal.main_arg6) = m' ((c.tc : Thread Cert.GlaStepReferenceIdeal.nD Cert.GlaStepReferenceIdeal.τ).loc Cert.GlaStepReferenceIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMemKv : Cert.MemKv.Facts) (hMemKvIdeal : Cert.MemKvIdeal.Facts) (hMemKvReferenceIdeal : Cert.MemKvReferenceIdeal.Facts) (hMix : Cert.Mix.Facts) (hMixIdeal : Cert.MixIdeal.Facts) (hMixReferenceIdeal : Cert.MixReferenceIdeal.Facts) (hMemAttn : Cert.MemAttn.Facts) (hMemAttnIdeal : Cert.MemAttnIdeal.Facts) (hMemAttnReferenceIdeal : Cert.MemAttnReferenceIdeal.Facts) (hOddProj : Cert.OddProj.Facts) (hOddProjIdeal : Cert.OddProjIdeal.Facts) (hOddProjReferenceIdeal : Cert.OddProjReferenceIdeal.Facts) (hEvenProj : Cert.EvenProj.Facts) (hEvenProjIdeal : Cert.EvenProjIdeal.Facts) (hEvenProjReferenceIdeal : Cert.EvenProjReferenceIdeal.Facts) (hSampleFfn : Cert.SampleFfn.Facts) (hSampleFfnIdeal : Cert.SampleFfnIdeal.Facts) (hSampleFfnReferenceIdeal : Cert.SampleFfnReferenceIdeal.Facts) (hSampleOdd : Cert.SampleOdd.Facts) (hSampleOddIdeal : Cert.SampleOddIdeal.Facts) (hSampleOddReferenceIdeal : Cert.SampleOddReferenceIdeal.Facts) (hGlaStep : Cert.GlaStep.Facts) (hGlaStepIdeal : Cert.GlaStepIdeal.Facts) (hGlaStepReferenceIdeal : Cert.GlaStepReferenceIdeal.Facts) (hPre_finite_qk : Cert.Pre_finite_qk.Facts) (hPre_finite_gate : Cert.Pre_finite_gate.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffn (hFfn := hFfn)
    ∧ quiescent_FfnIdeal (hFfnIdeal := hFfnIdeal)
    ∧ quiescent_FfnReferenceIdeal (hFfnReferenceIdeal := hFfnReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_Mix (hMix := hMix)
    ∧ quiescent_MixIdeal (hMixIdeal := hMixIdeal)
    ∧ quiescent_MixReferenceIdeal (hMixReferenceIdeal := hMixReferenceIdeal)
    ∧ quiescent_MemAttn (hMemAttn := hMemAttn)
    ∧ quiescent_MemAttnIdeal (hMemAttnIdeal := hMemAttnIdeal)
    ∧ quiescent_MemAttnReferenceIdeal (hMemAttnReferenceIdeal := hMemAttnReferenceIdeal)
    ∧ quiescent_OddProj (hOddProj := hOddProj)
    ∧ quiescent_OddProjIdeal (hOddProjIdeal := hOddProjIdeal)
    ∧ quiescent_OddProjReferenceIdeal (hOddProjReferenceIdeal := hOddProjReferenceIdeal)
    ∧ quiescent_EvenProj (hEvenProj := hEvenProj)
    ∧ quiescent_EvenProjIdeal (hEvenProjIdeal := hEvenProjIdeal)
    ∧ quiescent_EvenProjReferenceIdeal (hEvenProjReferenceIdeal := hEvenProjReferenceIdeal)
    ∧ quiescent_SampleFfn (hSampleFfn := hSampleFfn)
    ∧ quiescent_SampleFfnIdeal (hSampleFfnIdeal := hSampleFfnIdeal)
    ∧ quiescent_SampleFfnReferenceIdeal (hSampleFfnReferenceIdeal := hSampleFfnReferenceIdeal)
    ∧ quiescent_SampleOdd (hSampleOdd := hSampleOdd)
    ∧ quiescent_SampleOddIdeal (hSampleOddIdeal := hSampleOddIdeal)
    ∧ quiescent_SampleOddReferenceIdeal (hSampleOddReferenceIdeal := hSampleOddReferenceIdeal)
    ∧ quiescent_GlaStep (hGlaStep := hGlaStep)
    ∧ quiescent_GlaStepIdeal (hGlaStepIdeal := hGlaStepIdeal)
    ∧ quiescent_GlaStepIdeal_pre_finite_gate (hGlaStepIdeal := hGlaStepIdeal) (hPre_finite_gate := hPre_finite_gate)
    ∧ quiescent_GlaStepReferenceIdeal (hGlaStepReferenceIdeal := hGlaStepReferenceIdeal)
    ∧ quiescent_GlaStepReferenceIdeal_pre_finite_gate (hGlaStepReferenceIdeal := hGlaStepReferenceIdeal) (hPre_finite_gate := hPre_finite_gate)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffn_FfnIdeal
    ∧ algebraic_FfnIdeal_FfnReferenceIdeal (hFfnIdeal := hFfnIdeal) (hFfnReferenceIdeal := hFfnReferenceIdeal)
    ∧ preserves_MemKv_MemKvIdeal
    ∧ algebraic_MemKvIdeal_MemKvReferenceIdeal (hMemKvIdeal := hMemKvIdeal) (hMemKvReferenceIdeal := hMemKvReferenceIdeal)
    ∧ preserves_Mix_MixIdeal
    ∧ algebraic_MixIdeal_MixReferenceIdeal (hMixIdeal := hMixIdeal) (hMixReferenceIdeal := hMixReferenceIdeal)
    ∧ preserves_MemAttn_MemAttnIdeal
    ∧ algebraic_MemAttnIdeal_MemAttnReferenceIdeal (hMemAttnIdeal := hMemAttnIdeal) (hMemAttnReferenceIdeal := hMemAttnReferenceIdeal)
    ∧ preserves_OddProj_OddProjIdeal
    ∧ algebraic_OddProjIdeal_OddProjReferenceIdeal (hOddProjIdeal := hOddProjIdeal) (hOddProjReferenceIdeal := hOddProjReferenceIdeal)
    ∧ preserves_EvenProj_EvenProjIdeal
    ∧ algebraic_EvenProjIdeal_EvenProjReferenceIdeal (hEvenProjIdeal := hEvenProjIdeal) (hEvenProjReferenceIdeal := hEvenProjReferenceIdeal)
    ∧ preserves_SampleFfn_SampleFfnIdeal
    ∧ algebraic_SampleFfnIdeal_SampleFfnReferenceIdeal (hSampleFfnIdeal := hSampleFfnIdeal) (hSampleFfnReferenceIdeal := hSampleFfnReferenceIdeal)
    ∧ preserves_SampleOdd_SampleOddIdeal
    ∧ algebraic_SampleOddIdeal_SampleOddReferenceIdeal (hSampleOddIdeal := hSampleOddIdeal) (hSampleOddReferenceIdeal := hSampleOddReferenceIdeal)
    ∧ preserves_GlaStep_GlaStepIdeal
    ∧ algebraic_GlaStepIdeal_GlaStepReferenceIdeal_pre_finite_gate (hGlaStepIdeal := hGlaStepIdeal) (hGlaStepReferenceIdeal := hGlaStepReferenceIdeal) (hPre_finite_gate := hPre_finite_gate)
-- ==== Pre_finite_gate.lean ====
abbrev S128x512 : Shape := ⟨2, ![128, 512]⟩
abbrev S128x1024 : Shape := ⟨2, ![128, 1024]⟩
abbrev S1x1024 : Shape := ⟨2, ![1, 1024]⟩
abbrev S128x4x128x192 : Shape := ⟨4, ![128, 4, 128, 192]⟩
abbrev S_ : Shape := ⟨0, ![]⟩

class Facts : Prop where
  bcast_S_S128x512 : S_.BroadcastsInDim S128x512 (![] : Fin 0 → Fin S128x512.rank)

variable [Facts]

def fn {F : FTy → Type} [FloatOps F] (main_arg0 : FVec F S128x512 .f32) (main_arg1 : FVec F S128x512 .f32) (main_arg2 : FVec F S128x1024 .f32) (main_arg3 : FVec F S128x512 .f32) (main_arg4 : FVec F S128x1024 .f32) (main_arg5 : FVec F S1x1024 .f32) (main_arg6 : FVec F S128x4x128x192 .f32) : IVec S128x512 1 :=
  let main_v0 : FVec F S128x512 .f32 := Host.absf main_arg3
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  main_v2
-- ==== Pre_finite_qk.lean ====
abbrev S4x4096x1024 : Shape := ⟨3, ![4, 4096, 1024]⟩
abbrev S4x4096x512 : Shape := ⟨3, ![4, 4096, 512]⟩
abbrev S_ : Shape := ⟨0, ![]⟩

class Facts : Prop where
  bitsLt_bf16_f32 : FTy.bits .bf16 < FTy.bits .f32
  bcast_S_S4x4096x1024 : S_.BroadcastsInDim S4x4096x1024 (![] : Fin 0 → Fin S4x4096x1024.rank)

variable [Facts]

def fn {F : FTy → Type} [FloatOps F] (main_arg0 : FVec F S4x4096x1024 .bf16) (main_arg1 : FVec F S4x4096x1024 .bf16) (main_arg2 : FVec F S4x4096x512 .bf16) : IVec S4x4096x1024 1 :=
  let main_v0 : FVec F S4x4096x1024 .f32 := (extf .f32 · bitsLt_bf16_f32) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  let main_v4 : FVec F S4x4096x1024 .f32 := (extf .f32 · bitsLt_bf16_f32) main_arg1
  let main_v5 : FVec F S4x4096x1024 .f32 := Host.absf main_v4
  let main_cst_0 : FVec F S_ .f32 := constant S_ .f32 0x7F800000#32
  let main_v6 : FVec F S4x4096x1024 .f32 := broadcastInDim S4x4096x1024 ![] bcast_S_S4x4096x1024 main_cst_0
  let main_v7 : IVec S4x4096x1024 1 := cmpf .olt main_v5 main_v6
  let main_v8 : IVec S4x4096x1024 1 := andi main_v3 main_v7
  main_v8
-- ==== Kernel.lean ====
abbrev S4x4096x1024 : Shape := ⟨3, ![4, 4096, 1024]⟩
abbrev S4x4096x512 : Shape := ⟨3, ![4, 4096, 512]⟩
abbrev S1x512x256 : Shape := ⟨3, ![1, 512, 256]⟩
abbrev S1x4096x256 : Shape := ⟨3, ![1, 4096, 256]⟩
abbrev S1x4096x128 : Shape := ⟨3, ![1, 4096, 128]⟩
abbrev S1x512x128 : Shape := ⟨3, ![1, 512, 128]⟩
abbrev S2x8x512x512 : Shape := ⟨4, ![2, 8, 512, 512]⟩
abbrev S2x512x512 : Shape := ⟨3, ![2, 512, 512]⟩
abbrev S2x512x128 : Shape := ⟨3, ![2, 512, 128]⟩
abbrev S512x256 : Shape := ⟨2, ![512, 256]⟩
abbrev S1x256 : Shape := ⟨2, ![1, 256]⟩
abbrev S512x512 : Shape := ⟨2, ![512, 512]⟩
abbrev S1x1x512x512 : Shape := ⟨4, ![1, 1, 512, 512]⟩
abbrev S1x512x512 : Shape := ⟨3, ![1, 512, 512]⟩
abbrev S512 : Shape := ⟨1, ![512]⟩
abbrev S512x1 : Shape := ⟨2, ![512, 1]⟩
abbrev S512x128 : Shape := ⟨2, ![512, 128]⟩
abbrev S1x128 : Shape := ⟨2, ![1, 128]⟩

abbrev nBuf : Space → Nat
  | .hbm => 4
  | .vmem => 12
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x512, .bf16⟩
  | .hbm, ⟨3, _⟩ => ⟨S4x4096x512, .f32⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .f32⟩
  | .local _ .vmem, ⟨7, _⟩ => ⟨S1x512x128, .f32⟩
  | .local _ .vmem, ⟨8, _⟩ => ⟨S2x8x512x512, .f32⟩
  | .local _ .vmem, ⟨9, _⟩ => ⟨S2x512x512, .f32⟩
  | .local _ .vmem, ⟨10, _⟩ => ⟨S2x512x512, .f32⟩
  | .local _ .vmem, ⟨11, _⟩ => ⟨S2x512x128, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_11 : BitVec 32 := 0#32
  let arg2 : BitVec 32 := BitVec.ofNat 32 (i 2).val
  let v41 : BitVec 32 := Scalar.subi arg2 c0_i32_11
  let c1_i32 : BitVec 32 := 1#32
  let v43 : BitVec 32 := Scalar.divsi v41 c1_i32
  let v44 : BitVec 32 := Scalar.muli v43 c1_i32
  let v45 : BitVec 32 := Scalar.addi c0_i32_11 v44
  let c1_i32_12 : BitVec 32 := 1#32
  ⟨c0_i32_11, v45, c1_i32_12⟩
def k0_mult1 (i : grid0.Coords) (k0_t1 : Fin (k0_t1_loop i).trips) : BitVec 32 :=
  let c0_i32_11 : BitVec 32 := 0#32
  let c1_i32_12 : BitVec 32 := 1#32
  let arg11 : BitVec 32 := Scf.iv c0_i32_11 c1_i32_12 k0_t1
  let c512_i32_83 : BitVec 32 := 512#32
  let v134 : BitVec 32 := Scalar.muli arg11 c512_i32_83
  v134
def k0_off1 (i : grid0.Coords) (k0_t1 : Fin (k0_t1_loop i).trips) : Fin 3 → Nat :=
  let c0_84 : Index := 0#32
  let c0_i32_11 : BitVec 32 := 0#32
  let c1_i32_12 : BitVec 32 := 1#32
  let arg11 : BitVec 32 := Scf.iv c0_i32_11 c1_i32_12 k0_t1
  let c512_i32_83 : BitVec 32 := 512#32
  let v134 : BitVec 32 := Scalar.muli arg11 c512_i32_83
  let v135 : BitVec 32 := v134
  let v136 : Index := Scalar.indexCast v135
  let c0_85 : Index := 0#32
  ![0, v136.toNat, 0]
def k0_off2 (i : grid0.Coords) (k0_t1 : Fin (k0_t1_loop i).trips) : Fin 4 → Nat :=
  let c0_87 : Index := 0#32
  let c0_i32_11 : BitVec 32 := 0#32
  let c1_i32_12 : BitVec 32 := 1#32
  let arg11 : BitVec 32 := Scf.iv c0_i32_11 c1_i32_12 k0_t1
  let v140 : Index := Scalar.indexCast arg11
  let c0_88 : Index := 0#32
  let c0_89 : Index := 0#32
  ![0, v140.toNat, 0, 0]
def k0_off3 (i : grid0.Coords) (k0_t1 : Fin (k0_t1_loop i).trips) : Fin 4 → Nat :=
  let c1_97 : Index := 1#32
  let c0_i32_11 : BitVec 32 := 0#32
  let c1_i32_12 : BitVec 32 := 1#32
  let arg11 : BitVec 32 := Scf.iv c0_i32_11 c1_i32_12 k0_t1
  let v151 : Index := Scalar.indexCast arg11
  let c0_98 : Index := 0#32
  let c0_99 : Index := 0#32
  ![1, v151.toNat, 0, 0]
@[reducible] def k0_t2_loop (i : grid0.Coords) : Scf.Loop 32 :=
  let c0_i32_11 : BitVec 32 := 0#32
  let arg2 : BitVec 32 := BitVec.ofNat 32 (i 2).val
  let v41 : BitVec 32 := Scalar.subi arg2 c0_i32_11
  let c1_i32 : BitVec 32 := 1#32
  let v43 : BitVec 32 := Scalar.divsi v41 c1_i32
  let v44 : BitVec 32 := Scalar.muli v43 c1_i32
  let v45 : BitVec 32 := Scalar.addi c0_i32_11 v44
  let v42 : BitVec 32 := Scalar.addi c0_i32_11 v41
  let c1_i32_13 : BitVec 32 := 1#32
  ⟨v45, v42, c1_i32_13⟩
def k0_mult2 (i : grid0.Coords) (k0_t2 : Fin (k0_t2_loop i).trips) : BitVec 32 :=
  let c0_i32_11 : BitVec 32 := 0#32
  let arg2 : BitVec 32 := BitVec.ofNat 32 (i 2).val
  let v41 : BitVec 32 := Scalar.subi arg2 c0_i32_11
  let c1_i32 : BitVec 32 := 1#32
  let v43 : BitVec 32 := Scalar.divsi v41 c1_i32
  let v44 : BitVec 32 := Scalar.muli v43 c1_i32
  let v45 : BitVec 32 := Scalar.addi c0_i32_11 v44
  let c1_i32_13 : BitVec 32 := 1#32
  let arg11 : BitVec 32 := Scf.iv v45 c1_i32_13 k0_t2
  let c512_i32_83 : BitVec 32 := 512#32
  let v134 : BitVec 32 := Scalar.muli arg11 c512_i32_83
  v134
def k0_off4 (i : grid0.Coords) (k0_t2 : Fin (k0_t2_loop i).trips) : Fin 3 → Nat :=
  let c0_84 : Index := 0#32
  let c0_i32_11 : BitVec 32 := 0#32
  let arg2 : BitVec 32 := BitVec.ofNat 32 (i 2).val
  let v41 : BitVec 32 := Scalar.subi arg2 c0_i32_11
  let c1_i32 : BitVec 32 := 1#32
  let v43 : BitVec 32 := Scalar.divsi v41 c1_i32
  let v44 : BitVec 32 := Scalar.muli v43 c1_i32
  let v45 : BitVec 32 := Scalar.addi c0_i32_11 v44
  let c1_i32_13 : BitVec 32 := 1#32
  let arg11 : BitVec 32 := Scf.iv v45 c1_i32_13 k0_t2
  let c512_i32_83 : BitVec 32 := 512#32
  let v134 : BitVec 32 := Scalar.muli arg11 c512_i32_83
  let v135 : BitVec 32 := v134
  let v136 : Index := Scalar.indexCast v135
  let c0_85 : Index := 0#32
  ![0, v136.toNat, 0]
def k0_off5 (i : grid0.Coords) (k0_t2 : Fin (k0_t2_loop i).trips) : Fin 4 → Nat :=
  let c0_87 : Index := 0#32
  let c0_i32_11 : BitVec 32 := 0#32
  let arg2 : BitVec 32 := BitVec.ofNat 32 (i 2).val
  let v41 : BitVec 32 := Scalar.subi arg2 c0_i32_11
  let c1_i32 : BitVec 32 := 1#32
  let v43 : BitVec 32 := Scalar.divsi v41 c1_i32
  let v44 : BitVec 32 := Scalar.muli v43 c1_i32
  let v45 : BitVec 32 := Scalar.addi c0_i32_11 v44
  let c1_i32_13 : BitVec 32 := 1#32
  let arg11 : BitVec 32 := Scf.iv v45 c1_i32_13 k0_t2
  let v140 : Index := Scalar.indexCast arg11
  let c0_88 : Index := 0#32
  let c0_89 : Index := 0#32
  ![0, v140.toNat, 0, 0]
def k0_off6 (i : grid0.Coords) (k0_t2 : Fin (k0_t2_loop i).trips) : Fin 4 → Nat :=
  let c1_97 : Index := 1#32
  let c0_i32_11 : BitVec 32 := 0#32
  let arg2 : BitVec 32 := BitVec.ofNat 32 (i 2).val
  let v41 : BitVec 32 := Scalar.subi arg2 c0_i32_11
  let c1_i32 : BitVec 32 := 1#32
  let v43 : BitVec 32 := Scalar.divsi v41 c1_i32
  let v44 : BitVec 32 := Scalar.muli v43 c1_i32
  let v45 : BitVec 32 := Scalar.addi c0_i32_11 v44
  let c1_i32_13 : BitVec 32 := 1#32
  let arg11 : BitVec 32 := Scf.iv v45 c1_i32_13 k0_t2
  let v151 : Index := Scalar.indexCast arg11
  let c0_98 : Index := 0#32
  let c0_99 : Index := 0#32
  ![1, v151.toNat, 0, 0]
def k0_mult3 (i : grid0.Coords) : BitVec 32 :=
  let arg2 : BitVec 32 := BitVec.ofNat 32 (i 2).val
  let c512_i32 : BitVec 32 := 512#32
  let v46 : BitVec 32 := Scalar.muli arg2 c512_i32
  v46
def k0_off7 (i : grid0.Coords) : Fin 3 → Nat :=
  let c0_14 : Index := 0#32
  let arg2 : BitVec 32 := BitVec.ofNat 32 (i 2).val
  let c512_i32 : BitVec 32 := 512#32
  let v46 : BitVec 32 := Scalar.muli arg2 c512_i32
  let v47 : BitVec 32 := v46
  let v48 : Index := Scalar.indexCast v47
  let c0_15 : Index := 0#32
  ![0, v48.toNat, 0]
def k0_off8 (i : grid0.Coords) : Fin 4 → Nat :=
  let c0_18 : Index := 0#32
  let arg2 : BitVec 32 := BitVec.ofNat 32 (i 2).val
  let v54 : Index := Scalar.indexCast arg2
  let c0_19 : Index := 0#32
  let c0_20 : Index := 0#32
  ![0, v54.toNat, 0, 0]
def k0_off9 (i : grid0.Coords) : Fin 4 → Nat :=
  let c1 : Index := 1#32
  let arg2 : BitVec 32 := BitVec.ofNat 32 (i 2).val
  let v67 : Index := Scalar.indexCast arg2
  let c0_29 : Index := 0#32
  let c0_30 : Index := 0#32
  ![1, v67.toNat, 0, 0]
@[reducible] def k0_t3_loop (i : grid0.Coords) : Scf.Loop 32 :=
  let c0_i32_61 : BitVec 32 := 0#32
  let arg2 : BitVec 32 := BitVec.ofNat 32 (i 2).val
  let c1_i32_59 : BitVec 32 := 1#32
  let v103 : BitVec 32 := Scalar.addi arg2 c1_i32_59
  let v104 : BitVec 32 := Scalar.subi v103 c0_i32_61
  let c1_i32_62 : BitVec 32 := 1#32
  let v106 : BitVec 32 := Scalar.divsi v104 c1_i32_62
  let v107 : BitVec 32 := Scalar.muli v106 c1_i32_62
  let v108 : BitVec 32 := Scalar.addi c0_i32_61 v107
  let c1_i32_63 : BitVec 32 := 1#32
  ⟨c0_i32_61, v108, c1_i32_63⟩
def k0_mult4 (i : grid0.Coords) (k0_t3 : Fin (k0_t3_loop i).trips) : BitVec 32 :=
  let c0_i32_61 : BitVec 32 := 0#32
  let c1_i32_63 : BitVec 32 := 1#32
  let arg11 : BitVec 32 := Scf.iv c0_i32_61 c1_i32_63 k0_t3
  let c512_i32_83 : BitVec 32 := 512#32
  let v134 : BitVec 32 := Scalar.muli arg11 c512_i32_83
  v134
def k0_off10 (i : grid0.Coords) (k0_t3 : Fin (k0_t3_loop i).trips) : Fin 3 → Nat :=
  let c0_84 : Index := 0#32
  let c0_i32_61 : BitVec 32 := 0#32
  let c1_i32_63 : BitVec 32 := 1#32
  let arg11 : BitVec 32 := Scf.iv c0_i32_61 c1_i32_63 k0_t3
  let c512_i32_83 : BitVec 32 := 512#32
  let v134 : BitVec 32 := Scalar.muli arg11 c512_i32_83
  let v135 : BitVec 32 := v134
  let v136 : Index := Scalar.indexCast v135
  let c0_85 : Index := 0#32
  ![0, v136.toNat, 0]
def k0_off11 (i : grid0.Coords) (k0_t3 : Fin (k0_t3_loop i).trips) : Fin 4 → Nat :=
  let c0_86 : Index := 0#32
  let c0_i32_61 : BitVec 32 := 0#32
  let c1_i32_63 : BitVec 32 := 1#32
  let arg11 : BitVec 32 := Scf.iv c0_i32_61 c1_i32_63 k0_t3
  let v139 : Index := Scalar.indexCast arg11
  let c0_87 : Index := 0#32
  let c0_88 : Index := 0#32
  ![0, v139.toNat, 0, 0]
def k0_off12 (i : grid0.Coords) (k0_t3 : Fin (k0_t3_loop i).trips) : Fin 4 → Nat :=
  let c1_105 : Index := 1#32
  let c0_i32_61 : BitVec 32 := 0#32
  let c1_i32_63 : BitVec 32 := 1#32
  let arg11 : BitVec 32 := Scf.iv c0_i32_61 c1_i32_63 k0_t3
  let v160 : Index := Scalar.indexCast arg11
  let c0_106 : Index := 0#32
  let c0_107 : Index := 0#32
  ![1, v160.toNat, 0, 0]
@[reducible] def k0_t4_loop (i : grid0.Coords) : Scf.Loop 32 :=
  let c0_i32_61 : BitVec 32 := 0#32
  let arg2 : BitVec 32 := BitVec.ofNat 32 (i 2).val
  let c1_i32_59 : BitVec 32 := 1#32
  let v103 : BitVec 32 := Scalar.addi arg2 c1_i32_59
  let v104 : BitVec 32 := Scalar.subi v103 c0_i32_61
  let c1_i32_62 : BitVec 32 := 1#32
  let v106 : BitVec 32 := Scalar.divsi v104 c1_i32_62
  let v107 : BitVec 32 := Scalar.muli v106 c1_i32_62
  let v108 : BitVec 32 := Scalar.addi c0_i32_61 v107
  let v105 : BitVec 32 := Scalar.addi c0_i32_61 v104
  let c1_i32_64 : BitVec 32 := 1#32
  ⟨v108, v105, c1_i32_64⟩
def k0_mult5 (i : grid0.Coords) (k0_t4 : Fin (k0_t4_loop i).trips) : BitVec 32 :=
  let c0_i32_61 : BitVec 32 := 0#32
  let arg2 : BitVec 32 := BitVec.ofNat 32 (i 2).val
  let c1_i32_59 : BitVec 32 := 1#32
  let v103 : BitVec 32 := Scalar.addi arg2 c1_i32_59
  let v104 : BitVec 32 := Scalar.subi v103 c0_i32_61
  let c1_i32_62 : BitVec 32 := 1#32
  let v106 : BitVec 32 := Scalar.divsi v104 c1_i32_62
  let v107 : BitVec 32 := Scalar.muli v106 c1_i32_62
  let v108 : BitVec 32 := Scalar.addi c0_i32_61 v107
  let c1_i32_64 : BitVec 32 := 1#32
  let arg11 : BitVec 32 := Scf.iv v108 c1_i32_64 k0_t4
  let c512_i32_83 : BitVec 32 := 512#32
  let v134 : BitVec 32 := Scalar.muli arg11 c512_i32_83
  v134
def k0_off13 (i : grid0.Coords) (k0_t4 : Fin (k0_t4_loop i).trips) : Fin 3 → Nat :=
  let c0_84 : Index := 0#32
  let c0_i32_61 : BitVec 32 := 0#32
  let arg2 : BitVec 32 := BitVec.ofNat 32 (i 2).val
  let c1_i32_59 : BitVec 32 := 1#32
  let v103 : BitVec 32 := Scalar.addi arg2 c1_i32_59
  let v104 : BitVec 32 := Scalar.subi v103 c0_i32_61
  let c1_i32_62 : BitVec 32 := 1#32
  let v106 : BitVec 32 := Scalar.divsi v104 c1_i32_62
  let v107 : BitVec 32 := Scalar.muli v106 c1_i32_62
  let v108 : BitVec 32 := Scalar.addi c0_i32_61 v107
  let c1_i32_64 : BitVec 32 := 1#32
  let arg11 : BitVec 32 := Scf.iv v108 c1_i32_64 k0_t4
  let c512_i32_83 : BitVec 32 := 512#32
  let v134 : BitVec 32 := Scalar.muli arg11 c512_i32_83
  let v135 : BitVec 32 := v134
  let v136 : Index := Scalar.indexCast v135
  let c0_85 : Index := 0#32
  ![0, v136.toNat, 0]
def k0_off14 (i : grid0.Coords) (k0_t4 : Fin (k0_t4_loop i).trips) : Fin 4 → Nat :=
  let c0_86 : Index := 0#32
  let c0_i32_61 : BitVec 32 := 0#32
  let arg2 : BitVec 32 := BitVec.ofNat 32 (i 2).val
  let c1_i32_59 : BitVec 32 := 1#32
  let v103 : BitVec 32 := Scalar.addi arg2 c1_i32_59
  let v104 : BitVec 32 := Scalar.subi v103 c0_i32_61
  let c1_i32_62 : BitVec 32 := 1#32
  let v106 : BitVec 32 := Scalar.divsi v104 c1_i32_62
  let v107 : BitVec 32 := Scalar.muli v106 c1_i32_62
  let v108 : BitVec 32 := Scalar.addi c0_i32_61 v107
  let c1_i32_64 : BitVec 32 := 1#32
  let arg11 : BitVec 32 := Scf.iv v108 c1_i32_64 k0_t4
  let v139 : Index := Scalar.indexCast arg11
  let c0_87 : Index := 0#32
  let c0_88 : Index := 0#32
  ![0, v139.toNat, 0, 0]
def k0_off15 (i : grid0.Coords) (k0_t4 : Fin (k0_t4_loop i).trips) : Fin 4 → Nat :=
  let c1_105 : Index := 1#32
  let c0_i32_61 : BitVec 32 := 0#32
  let arg2 : BitVec 32 := BitVec.ofNat 32 (i 2).val
  let c1_i32_59 : BitVec 32 := 1#32
  let v103 : BitVec 32 := Scalar.addi arg2 c1_i32_59
  let v104 : BitVec 32 := Scalar.subi v103 c0_i32_61
  let c1_i32_62 : BitVec 32 := 1#32
  let v106 : BitVec 32 := Scalar.divsi v104 c1_i32_62
  let v107 : BitVec 32 := Scalar.muli v106 c1_i32_62
  let v108 : BitVec 32 := Scalar.addi c0_i32_61 v107
  let c1_i32_64 : BitVec 32 := 1#32
  let arg11 : BitVec 32 := Scf.iv v108 c1_i32_64 k0_t4
  let v160 : Index := Scalar.indexCast arg11
  let c0_106 : Index := 0#32
  let c0_107 : Index := 0#32
  ![1, v160.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x1024 : Shape := ⟨3, ![4, 4096, 1024]⟩
abbrev S4x4096x512 : Shape := ⟨3, ![4, 4096, 512]⟩
abbrev S4x4096x4x256 : Shape := ⟨4, ![4, 4096, 4, 256]⟩
abbrev S4x4096x4x128 : Shape := ⟨4, ![4, 4096, 4, 128]⟩
abbrev S4x4096x8x64 : Shape := ⟨4, ![4, 4096, 8, 64]⟩
abbrev S4x4096x4x64 : Shape := ⟨4, ![4, 4096, 4, 64]⟩
abbrev S4x4096x8x32 : Shape := ⟨4, ![4, 4096, 8, 32]⟩
abbrev S4x4096x8x96 : Shape := ⟨4, ![4, 4096, 8, 96]⟩
abbrev S4096 : Shape := ⟨1, ![4096]⟩
abbrev S4x8x4096x4096 : Shape := ⟨4, ![4, 8, 4096, 4096]⟩
abbrev S1x1x1x4096 : Shape := ⟨4, ![1, 1, 1, 4096]⟩
abbrev S1x1x4096x1 : Shape := ⟨4, ![1, 1, 4096, 1]⟩
abbrev S1x1x4096x4096 : Shape := ⟨4, ![1, 1, 4096, 4096]⟩
abbrev S_ : Shape := ⟨0, ![]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x512, .bf16⟩
  | .hbm, ⟨3, _⟩ => ⟨S4x4096x1024, .f32⟩
  | .hbm, ⟨4, _⟩ => ⟨S4x4096x4x256, .f32⟩
  | .hbm, ⟨5, _⟩ => ⟨S4x4096x4x128, .f32⟩
  | .hbm, ⟨6, _⟩ => ⟨S4x4096x8x64, .f32⟩
  | .hbm, ⟨7, _⟩ => ⟨S4x4096x4x64, .f32⟩
  | .hbm, ⟨8, _⟩ => ⟨S4x4096x8x32, .f32⟩
  | .hbm, ⟨9, _⟩ => ⟨S4x4096x8x96, .f32⟩
  | .hbm, ⟨10, _⟩ => ⟨S4x4096x1024, .f32⟩
  | .hbm, ⟨11, _⟩ => ⟨S4x4096x4x256, .f32⟩
  | .hbm, ⟨12, _⟩ => ⟨S4x4096x4x128, .f32⟩
  | .hbm, ⟨13, _⟩ => ⟨S4x4096x8x64, .f32⟩
  | .hbm, ⟨14, _⟩ => ⟨S4x4096x4x64, .f32⟩
  | .hbm, ⟨15, _⟩ => ⟨S4x4096x8x32, .f32⟩
  | .hbm, ⟨16, _⟩ => ⟨S4x4096x8x96, .f32⟩
  | .hbm, ⟨17, _⟩ => ⟨S4x4096x512, .f32⟩
  | .hbm, ⟨18, _⟩ => ⟨S4x4096x8x64, .f32⟩
  | .hbm, ⟨19, _⟩ => ⟨S4096, .i32⟩
  | .hbm, ⟨20, _⟩ => ⟨S4x8x4096x4096, .f32⟩
  | .hbm, ⟨21, _⟩ => ⟨S1x1x1x4096, .i32⟩
  | .hbm, ⟨22, _⟩ => ⟨S1x1x4096x1, .i32⟩
  | .hbm, ⟨23, _⟩ => ⟨S1x1x4096x4096, .i32⟩
  | .hbm, ⟨24, _⟩ => ⟨S1x1x4096x4096, .i32⟩
  | .hbm, ⟨25, _⟩ => ⟨S1x1x4096x4096, .i1⟩
  | .hbm, ⟨26, _⟩ => ⟨S_, .f32⟩
  | .hbm, ⟨27, _⟩ => ⟨S_, .f32⟩
  | .hbm, ⟨28, _⟩ => ⟨S4x8x4096x4096, .i1⟩
  | .hbm, ⟨29, _⟩ => ⟨S4x8x4096x4096, .f32⟩
  | .hbm, ⟨30, _⟩ => ⟨S4x8x4096x4096, .f32⟩
  | .hbm, ⟨31, _⟩ => ⟨S_, .f32⟩
  | .hbm, ⟨32, _⟩ => ⟨S4x8x4096, .f32⟩
  | .hbm, ⟨33, _⟩ => ⟨S_, .f32⟩
  | .hbm, ⟨34, _⟩ => ⟨S4x8x4096, .f32⟩
  | .hbm, ⟨35, _⟩ => ⟨S4x8x4096, .f32⟩
  | .hbm, ⟨36, _⟩ => ⟨S4x8x4096x1, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S_, .f32⟩
  | .hbm, ⟨41, _⟩ => ⟨S4x8x4096, .f32⟩
  | .hbm, ⟨42, _⟩ => ⟨S4x8x4096x1, .f32⟩
  | .hbm, ⟨43, _⟩ => ⟨S4x8x4096x4096, .f32⟩
  | .hbm, ⟨44, _⟩ => ⟨S4x8x4096x4096, .f32⟩
  | .hbm, ⟨45, _⟩ => ⟨S4x8x64x4096, .f32⟩
  | .hbm, ⟨46, _⟩ => ⟨S4x4096x8x64, .f32⟩
  | .hbm, ⟨47, _⟩ => ⟨S4x4096x512, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Ffn.lean ====
abbrev S4x4096x1024 : Shape := ⟨3, ![4, 4096, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnReferenceIdeal.lean ====
abbrev S4x4096x1024 : Shape := ⟨3, ![4, 4096, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384x1024 : Shape := ⟨2, ![16384, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x4096x4096, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x1024, .f32⟩
  | .hbm, ⟨26, _⟩ => ⟨S4x4096x1024, .f32⟩
  | .hbm, ⟨27, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== MemKv.lean ====
abbrev S4x256x1024 : Shape := ⟨3, ![4, 256, 1024]⟩
abbrev S1024 : Shape := ⟨1, ![1024]⟩
abbrev S1024x4x128 : Shape := ⟨3, ![1024, 4, 128]⟩
abbrev S128 : Shape := ⟨1, ![128]⟩
abbrev S1x1024 : Shape := ⟨2, ![1, 1024]⟩
abbrev S1024x512 : Shape := ⟨2, ![1024, 512]⟩
abbrev S1x128 : Shape := ⟨2, ![1, 128]⟩
abbrev S4x256x512 : Shape := ⟨3, ![4, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 13
  | .vmem => 10
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x4x128, .f32⟩
  | .hbm, ⟨3, _⟩ => ⟨S1024x4x128, .f32⟩
  | .hbm, ⟨4, _⟩ => ⟨S128, .f32⟩
  | .hbm, ⟨5, _⟩ => ⟨S1x1024, .f32⟩
  | .hbm, ⟨6, _⟩ => ⟨S1024x512, .f32⟩
  | .hbm, ⟨7, _⟩ => ⟨S1024x512, .bf16⟩
  | .hbm, ⟨8, _⟩ => ⟨S1024x512, .f32⟩
  | .hbm, ⟨9, _⟩ => ⟨S1024x512, .bf16⟩
  | .hbm, ⟨10, _⟩ => ⟨S1x128, .f32⟩
  | .hbm, ⟨11, _⟩ => ⟨S4x256x512, .f32⟩
  | .hbm, ⟨12, _⟩ => ⟨S4x256x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x128, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemKvReferenceIdeal.lean ====
abbrev S4x256x1024 : Shape := ⟨3, ![4, 256, 1024]⟩
abbrev S1024 : Shape := ⟨1, ![1024]⟩
abbrev S1024x4x128 : Shape := ⟨3, ![1024, 4, 128]⟩
abbrev S128 : Shape := ⟨1, ![128]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S1x1x1x128 : Shape := ⟨4, ![1, 1, 1, 128]⟩
abbrev S4x256x512 : Shape := ⟨3, ![4, 256, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x4x128, .f32⟩
  | .hbm, ⟨3, _⟩ => ⟨S1024x4x128, .f32⟩
  | .hbm, ⟨4, _⟩ => ⟨S128, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S4x256x4x128, .f32⟩
  | .hbm, ⟨22, _⟩ => ⟨S4x256x4x128, .f32⟩
  | .hbm, ⟨23, _⟩ => ⟨S_, .f32⟩
  | .hbm, ⟨24, _⟩ => ⟨S4x256x4, .f32⟩
  | .hbm, ⟨25, _⟩ => ⟨S4x256x4x1, .f32⟩
  | .hbm, ⟨26, _⟩ => ⟨S_, .f32⟩
  | .hbm, ⟨27, _⟩ => ⟨S4x256x4x1, .f32⟩
  | .hbm, ⟨28, _⟩ => ⟨S4x256x4x1, .f32⟩
  | .hbm, ⟨29, _⟩ => ⟨S_, .f32⟩
  | .hbm, ⟨30, _⟩ => ⟨S4x256x4x1, .f32⟩
  | .hbm, ⟨31, _⟩ => ⟨S4x256x4x1, .f32⟩
  | .hbm, ⟨32, _⟩ => ⟨S4x256x4x1, .f32⟩
  | .hbm, ⟨33, _⟩ => ⟨S4x256x4x128, .f32⟩
  | .hbm, ⟨34, _⟩ => ⟨S4x256x4x128, .f32⟩
  | .hbm, ⟨35, _⟩ => ⟨S1x1x1x128, .f32⟩
  | .hbm, ⟨36, _⟩ => ⟨S4x256x4x128, .f32⟩
  | .hbm, ⟨37, _⟩ => ⟨S4x256x4x128, .f32⟩
  | .hbm, ⟨38, _⟩ => ⟨S4x256x4x128, .f32⟩
  | .hbm, ⟨39, _⟩ => ⟨S4x256x512, .f32⟩
  | .hbm, ⟨40, _⟩ => ⟨S4x256x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Mix.lean ====
abbrev S16384x512 : Shape := ⟨2, ![16384, 512]⟩
abbrev S1024x1024 : Shape := ⟨2, ![1024, 1024]⟩
abbrev S16384x1024 : Shape := ⟨2, ![16384, 1024]⟩
abbrev S512x1024 : Shape := ⟨2, ![512, 1024]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S512x1024, .f32⟩
  | .hbm, ⟨5, _⟩ => ⟨S512x1024, .bf16⟩
  | .hbm, ⟨6, _⟩ => ⟨S512x1024, .f32⟩
  | .hbm, ⟨7, _⟩ => ⟨S512x1024, .bf16⟩
  | .hbm, ⟨8, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixReferenceIdeal.lean ====
abbrev S16384x512 : Shape := ⟨2, ![16384, 512]⟩
abbrev S1024x1024 : Shape := ⟨2, ![1024, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== MemAttn.lean ====
abbrev S4x4096x1024 : Shape := ⟨3, ![4, 4096, 1024]⟩
abbrev S1024 : Shape := ⟨1, ![1024]⟩
abbrev S1024x4x128 : Shape := ⟨3, ![1024, 4, 128]⟩
abbrev S128 : Shape := ⟨1, ![128]⟩
abbrev S4x256x512 : Shape := ⟨3, ![4, 256, 512]⟩
abbrev S4x128x1024 : Shape := ⟨3, ![4, 128, 1024]⟩
abbrev S1x1024 : Shape := ⟨2, ![1, 1024]⟩
abbrev S1024x512 : Shape := ⟨2, ![1024, 512]⟩
abbrev S1x128 : Shape := ⟨2, ![1, 128]⟩
abbrev S512x1024 : Shape := ⟨2, ![512, 1024]⟩
abbrev S1x512x1024 : Shape := ⟨3, ![1, 512, 1024]⟩
abbrev S1x256x512 : Shape := ⟨3, ![1, 256, 512]⟩
abbrev S512 : Shape := ⟨1, ![512]⟩
abbrev S512x1 : Shape := ⟨2, ![512, 1]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 14
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4x128, .f32⟩
  | .hbm, ⟨3, _⟩ => ⟨S128, .f32⟩
  | .hbm, ⟨4, _⟩ => ⟨S4x256x512, .f32⟩
  | .hbm, ⟨5, _⟩ => ⟨S4x256x512, .f32⟩
  | .hbm, ⟨6, _⟩ => ⟨S4x128x1024, .f32⟩
  | .hbm, ⟨7, _⟩ => ⟨S1x1024, .f32⟩
  | .hbm, ⟨8, _⟩ => ⟨S1024x512, .f32⟩
  | .hbm, ⟨9, _⟩ => ⟨S1024x512, .bf16⟩
  | .hbm, ⟨10, _⟩ => ⟨S1x128, .f32⟩
  | .hbm, ⟨11, _⟩ => ⟨S512x1024, .f32⟩
  | .hbm, ⟨12, _⟩ => ⟨S512x1024, .bf16⟩
  | .hbm, ⟨13, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x512, .bf16⟩
  | .local _ .vmem, ⟨4, _⟩ => ⟨S1x128, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S512x1024, .bf16⟩
  | .local _ .vmem, ⟨10, _⟩ => ⟨S1x512x1024, .f32⟩
  | .local _ .vmem, ⟨11, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MemAttnIdeal.lean ====
variable {F : FTy → Type} [FloatOps F] [Named F]
def κ : String → Option EReal := fun
  | "root128" => some (((Real.sqrt 128)⁻¹ : ℝ) : EReal)
  | _ => none
-- ==== MemAttnReferenceIdeal.lean ====
abbrev S4x4096x1024 : Shape := ⟨3, ![4, 4096, 1024]⟩
abbrev S1024 : Shape := ⟨1, ![1024]⟩
abbrev S1024x4x128 : Shape := ⟨3, ![1024, 4, 128]⟩
abbrev S128 : Shape := ⟨1, ![128]⟩
abbrev S4x256x512 : Shape := ⟨3, ![4, 256, 512]⟩
abbrev S4x128x1024 : Shape := ⟨3, ![4, 128, 1024]⟩
abbrev S4x256x4x128 : Shape := ⟨4, ![4, 256, 4, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4x128, .f32⟩
  | .hbm, ⟨3, _⟩ => ⟨S128, .f32⟩
  | .hbm, ⟨4, _⟩ => ⟨S4x256x512, .f32⟩
  | .hbm, ⟨5, _⟩ => ⟨S4x256x512, .f32⟩
  | .hbm, ⟨6, _⟩ => ⟨S4x128x1024, .f32⟩
  | .hbm, ⟨7, _⟩ => ⟨S4x256x4x128, .f32⟩
  | .hbm, ⟨8, _⟩ => ⟨S4x256x4x128, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x4096x4x128, .f32⟩
  | .hbm, ⟨26, _⟩ => ⟨S4x4096x4x128, .f32⟩
  | .hbm, ⟨27, _⟩ => ⟨S_, .f32⟩
  | .hbm, ⟨28, _⟩ => ⟨S4x4096x4, .f32⟩
  | .hbm, ⟨29, _⟩ => ⟨S4x4096x4x1, .f32⟩
  | .hbm, ⟨30, _⟩ => ⟨S_, .f32⟩
  | .hbm, ⟨31, _⟩ => ⟨S4x4096x4x1, .f32⟩
  | .hbm, ⟨32, _⟩ => ⟨S4x4096x4x1, .f32⟩
  | .hbm, ⟨33, _⟩ => ⟨S_, .f32⟩
  | .hbm, ⟨34, _⟩ => ⟨S4x4096x4x1, .f32⟩
  | .hbm, ⟨35, _⟩ => ⟨S4x4096x4x1, .f32⟩
  | .hbm, ⟨36, _⟩ => ⟨S4x4096x4x1, .f32⟩
  | .hbm, ⟨37, _⟩ => ⟨S4x4096x4x128, .f32⟩
  | .hbm, ⟨38, _⟩ => ⟨S4x4096x4x128, .f32⟩
  | .hbm, ⟨39, _⟩ => ⟨S1x1x1x128, .f32⟩
  | .hbm, ⟨40, _⟩ => ⟨S4x4096x4x128, .f32⟩
  | .hbm, ⟨41, _⟩ => ⟨S4x4096x4x128, .f32⟩
  | .hbm, ⟨42, _⟩ => ⟨S4x4x4096x256, .f32⟩
  | .hbm, ⟨43, _⟩ => ⟨S_, .f32⟩
  | .hbm, ⟨44, _⟩ => ⟨S_, .f32⟩
  | .hbm, ⟨45, _⟩ => ⟨S4x4x4096x256, .f32⟩
  | .hbm, ⟨46, _⟩ => ⟨S4x4x4096x256, .f32⟩
  | .hbm, ⟨47, _⟩ => ⟨S_, .f32⟩
  | .hbm, ⟨48, _⟩ => ⟨S4x4x4096, .f32⟩
  | .hbm, ⟨49, _⟩ => ⟨S_, .f32⟩
  | .hbm, ⟨50, _⟩ => ⟨S4x4x4096, .f32⟩
  | .hbm, ⟨51, _⟩ => ⟨S4x4x4096, .f32⟩
  | .hbm, ⟨52, _⟩ => ⟨S4x4x4096x1, .f32⟩
  | .hbm, ⟨53, _⟩ => ⟨S4x4x4096x256, .f32⟩
  | .hbm, ⟨54, _⟩ => ⟨S4x4x4096x256, .f32⟩
  | .hbm, ⟨55, _⟩ => ⟨S4x4x4096x256, .f32⟩
  | .hbm, ⟨56, _⟩ => ⟨S_, .f32⟩
  | .hbm, ⟨57, _⟩ => ⟨S4x4x4096, .f32⟩
  | .hbm, ⟨58, _⟩ => ⟨S4x4x4096x1, .f32⟩
  | .hbm, ⟨59, _⟩ => ⟨S4x4x4096x256, .f32⟩
  | .hbm, ⟨60, _⟩ => ⟨S4x4x4096x256, .f32⟩
  | .hbm, ⟨61, _⟩ => ⟨S4x4x128x4096, .f32⟩
  | .hbm, ⟨62, _⟩ => ⟨S4x4096x4x128, .f32⟩
  | .hbm, ⟨63, _⟩ => ⟨S4x4096x1024, .f32⟩
  | .hbm, ⟨64, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== OddProj.lean ====
abbrev S4x4096x1024 : Shape := ⟨3, ![4, 4096, 1024]⟩
abbrev S1024 : Shape := ⟨1, ![1024]⟩
abbrev S1024x2832 : Shape := ⟨2, ![1024, 2832]⟩
abbrev S16x512 : Shape := ⟨2, ![16, 512]⟩
abbrev S512 : Shape := ⟨1, ![512]⟩
abbrev S16384x1024 : Shape := ⟨2, ![16384, 1024]⟩
abbrev S1024x1024 : Shape := ⟨2, ![1024, 1024]⟩
abbrev S1024x768 : Shape := ⟨2, ![1024, 768]⟩
abbrev S1024x4x192 : Shape := ⟨3, ![1024, 4, 192]⟩
abbrev S_ : Shape := ⟨0, ![]⟩
abbrev S1024x4x256 : Shape := ⟨3, ![1024, 4, 256]⟩
abbrev S1024x256 : Shape := ⟨2, ![1024, 256]⟩
abbrev S1024x16 : Shape := ⟨2, ![1024, 16]⟩
abbrev S1024x128 : Shape := ⟨2, ![1024, 128]⟩
abbrev S1024x3456 : Shape := ⟨2, ![1024, 3456]⟩
abbrev S128x512 : Shape := ⟨2, ![128, 512]⟩
abbrev S1x512 : Shape := ⟨2, ![1, 512]⟩
abbrev S1x1024 : Shape := ⟨2, ![1, 1024]⟩
abbrev S16384x512 : Shape := ⟨2, ![16384, 512]⟩
abbrev S16384x256 : Shape := ⟨2, ![16384, 256]⟩
abbrev S512x1024 : Shape := ⟨2, ![512, 1024]⟩
abbrev S512x512 : Shape := ⟨2, ![512, 512]⟩
abbrev S512x256 : Shape := ⟨2, ![512, 256]⟩
abbrev S512x1 : Shape := ⟨2, ![512, 1]⟩
abbrev S512x3456 : Shape := ⟨2, ![512, 3456]⟩
abbrev S512x128 : Shape := ⟨2, ![512, 128]⟩

abbrev nBuf : Space → Nat
  | .hbm => 38
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2832, .f32⟩
  | .hbm, ⟨3, _⟩ => ⟨S16x512, .f32⟩
  | .hbm, ⟨4, _⟩ => ⟨S512, .f32⟩
  | .hbm, ⟨5, _⟩ => ⟨S16384x1024, .f32⟩
  | .hbm, ⟨6, _⟩ => ⟨S1024x1024, .f32⟩
  | .hbm, ⟨7, _⟩ => ⟨S1024x768, .f32⟩
  | .hbm, ⟨8, _⟩ => ⟨S1024x4x192, .f32⟩
  | .hbm, ⟨9, _⟩ => ⟨S_, .i32⟩
  | .hbm, ⟨10, _⟩ => ⟨S_, .f32⟩
  | .hbm, ⟨11, _⟩ => ⟨S1024x4x256, .f32⟩
  | .hbm, ⟨12, _⟩ => ⟨S1024x1024, .f32⟩
  | .hbm, ⟨13, _⟩ => ⟨S1024x768, .f32⟩
  | .hbm, ⟨14, _⟩ => ⟨S1024x4x192, .f32⟩
  | .hbm, ⟨15, _⟩ => ⟨S_, .i32⟩
  | .hbm, ⟨16, _⟩ => ⟨S_, .f32⟩
  | .hbm, ⟨17, _⟩ => ⟨S1024x4x256, .f32⟩
  | .hbm, ⟨18, _⟩ => ⟨S1024x1024, .f32⟩
  | .hbm, ⟨19, _⟩ => ⟨S1024x256, .f32⟩
  | .hbm, ⟨20, _⟩ => ⟨S1024x16, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x3456, .f32⟩
  | .hbm, ⟨25, _⟩ => ⟨S_, .i32⟩
  | .hbm, ⟨26, _⟩ => ⟨S_, .f32⟩
  | .hbm, ⟨27, _⟩ => ⟨S128x512, .f32⟩
  | .hbm, ⟨28, _⟩ => ⟨S1024x3456, .bf16⟩
  | .hbm, ⟨29, _⟩ => ⟨S128x512, .bf16⟩
  | .hbm, ⟨30, _⟩ => ⟨S1x512, .f32⟩
  | .hbm, ⟨31, _⟩ => ⟨S1x1024, .f32⟩
  | .hbm, ⟨32, _⟩ => ⟨S16384x512, .f32⟩
  | .hbm, ⟨33, _⟩ => ⟨S16384x512, .f32⟩
  | .hbm, ⟨34, _⟩ => ⟨S16384x1024, .f32⟩
  | .hbm, ⟨35, _⟩ => ⟨S16384x1024, .f32⟩
  | .hbm, ⟨36, _⟩ => ⟨S16384x256, .f32⟩
  | .hbm, ⟨37, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S128x512, .bf16⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x256, .f32⟩
  | .local _ .vmem, ⟨15, _⟩ => ⟨S512x256, .f32⟩
  | .local _ .vmem, ⟨16, _⟩ => ⟨S512x512, .f32⟩
  | .local _ .vmem, ⟨17, _⟩ => ⟨S512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call2_v0 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_call3_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev main_v19_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OddProjIdeal.lean ====
variable {F : FTy → Type} [FloatOps F] [Named F]
def κ : String → Option EReal := fun
  | "root128" => some (((Real.sqrt 128)⁻¹ : ℝ) : EReal)
  | _ => none
-- ==== OddProjReferenceIdeal.lean ====
abbrev S4x4096x1024 : Shape := ⟨3, ![4, 4096, 1024]⟩
abbrev S1024 : Shape := ⟨1, ![1024]⟩
abbrev S1024x2832 : Shape := ⟨2, ![1024, 2832]⟩
abbrev S16x512 : Shape := ⟨2, ![16, 512]⟩
abbrev S512 : Shape := ⟨1, ![512]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2832 : Shape := ⟨3, ![4, 4096, 2832]⟩
abbrev S4x4096x512 : Shape := ⟨3, ![4, 4096, 512]⟩
abbrev S4x4096x768 : Shape := ⟨3, ![4, 4096, 768]⟩
abbrev S4x4096x16 : Shape := ⟨3, ![4, 4096, 16]⟩
abbrev S4x4096x256 : Shape := ⟨3, ![4, 4096, 256]⟩
abbrev S1x1x512 : Shape := ⟨3, ![1, 1, 512]⟩
abbrev S16384x512 : Shape := ⟨2, ![16384, 512]⟩
abbrev S16384x4x192 : Shape := ⟨3, ![16384, 4, 192]⟩
abbrev S16384x4x256 : Shape := ⟨3, ![16384, 4, 256]⟩
abbrev S16384x1024 : Shape := ⟨2, ![16384, 1024]⟩
abbrev S16384x256 : Shape := ⟨2, ![16384, 256]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2832, .f32⟩
  | .hbm, ⟨3, _⟩ => ⟨S16x512, .f32⟩
  | .hbm, ⟨4, _⟩ => ⟨S512, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x2832, .f32⟩
  | .hbm, ⟨22, _⟩ => ⟨S4x4096x512, .f32⟩
  | .hbm, ⟨23, _⟩ => ⟨S_, .f32⟩
  | .hbm, ⟨24, _⟩ => ⟨S_, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x768, .f32⟩
  | .hbm, ⟨29, _⟩ => ⟨S4x4096x768, .f32⟩
  | .hbm, ⟨30, _⟩ => ⟨S4x4096x16, .f32⟩
  | .hbm, ⟨31, _⟩ => ⟨S4x4096x256, .f32⟩
  | .hbm, ⟨32, _⟩ => ⟨S4x4096x512, .f32⟩
  | .hbm, ⟨33, _⟩ => ⟨S1x1x512, .f32⟩
  | .hbm, ⟨34, _⟩ => ⟨S4x4096x512, .f32⟩
  | .hbm, ⟨35, _⟩ => ⟨S4x4096x512, .f32⟩
  | .hbm, ⟨36, _⟩ => ⟨S4x4096x512, .f32⟩
  | .hbm, ⟨37, _⟩ => ⟨S_, .f32⟩
  | .hbm, ⟨38, _⟩ => ⟨S4x4096x512, .f32⟩
  | .hbm, ⟨39, _⟩ => ⟨S4x4096x512, .f32⟩
  | .hbm, ⟨40, _⟩ => ⟨S4x4096x512, .f32⟩
  | .hbm, ⟨41, _⟩ => ⟨S4x4096x512, .f32⟩
  | .hbm, ⟨42, _⟩ => ⟨S4x4096x512, .i1⟩
  | .hbm, ⟨43, _⟩ => ⟨S4x4096x512, .f32⟩
  | .hbm, ⟨44, _⟩ => ⟨S4x4096x512, .f32⟩
  | .hbm, ⟨45, _⟩ => ⟨S4x4096x512, .f32⟩
  | .hbm, ⟨46, _⟩ => ⟨S4x4096x512, .f32⟩
  | .hbm, ⟨47, _⟩ => ⟨S4x4096x512, .f32⟩
  | .hbm, ⟨48, _⟩ => ⟨S4x4096x512, .f32⟩
  | .hbm, ⟨49, _⟩ => ⟨S4x4096x512, .f32⟩
  | .hbm, ⟨50, _⟩ => ⟨S4x4096x512, .f32⟩
  | .hbm, ⟨51, _⟩ => ⟨S4x4096x512, .f32⟩
  | .hbm, ⟨52, _⟩ => ⟨S_, .f32⟩
  | .hbm, ⟨53, _⟩ => ⟨S4x4096x512, .f32⟩
  | .hbm, ⟨54, _⟩ => ⟨S4x4096x512, .f32⟩
  | .hbm, ⟨55, _⟩ => ⟨S16384x512, .f32⟩
  | .hbm, ⟨56, _⟩ => ⟨S16384x512, .f32⟩
  | .hbm, ⟨57, _⟩ => ⟨S16384x4x192, .f32⟩
  | .hbm, ⟨58, _⟩ => ⟨S_, .i32⟩
  | .hbm, ⟨59, _⟩ => ⟨S_, .f32⟩
  | .hbm, ⟨60, _⟩ => ⟨S16384x4x256, .f32⟩
  | .hbm, ⟨61, _⟩ => ⟨S16384x1024, .f32⟩
  | .hbm, ⟨62, _⟩ => ⟨S16384x4x192, .f32⟩
  | .hbm, ⟨63, _⟩ => ⟨S_, .i32⟩
  | .hbm, ⟨64, _⟩ => ⟨S_, .f32⟩
  | .hbm, ⟨65, _⟩ => ⟨S16384x4x256, .f32⟩
  | .hbm, ⟨66, _⟩ => ⟨S16384x1024, .f32⟩
  | .hbm, ⟨67, _⟩ => ⟨S16384x256, .f32⟩
  | .hbm, ⟨68, _⟩ => ⟨S16384x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c : Ref sig .tc := ⟨.hbm, 58, rfl⟩
abbrev main_call1_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_4 : Ref sig .tc := ⟨.hbm, 63, rfl⟩
abbrev main_call2_v0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩

abbrev nD : Nat := 1
abbrev τ : Topo := Topo.v7x

variable {F : FTy → Type} [FloatOps F]
-- ==== EvenProj.lean ====
abbrev S4x4096x1024 : Shape := ⟨3, ![4, 4096, 1024]⟩
abbrev S1024 : Shape := ⟨1, ![1024]⟩
abbrev S1024x2208 : Shape := ⟨2, ![1024, 2208]⟩
abbrev S384 : Shape := ⟨1, ![384]⟩
abbrev S256 : Shape := ⟨1, ![256]⟩
abbrev S256x8x64 : Shape := ⟨3, ![256, 8, 64]⟩
abbrev S64 : Shape := ⟨1, ![64]⟩
abbrev S384x1024 : Shape := ⟨2, ![384, 1024]⟩
abbrev S256x1024 : Shape := ⟨2, ![256, 1024]⟩
abbrev S32x1024 : Shape := ⟨2, ![32, 1024]⟩
abbrev S1024x128 : Shape := ⟨2, ![1024, 128]⟩
abbrev S128x1024 : Shape := ⟨2, ![128, 1024]⟩
abbrev S1x1024 : Shape := ⟨2, ![1, 1024]⟩
abbrev S512x512 : Shape := ⟨2, ![512, 512]⟩
abbrev S2208 : Shape := ⟨1, ![2208]⟩
abbrev S_ : Shape := ⟨0, ![]⟩
abbrev S2208x1 : Shape := ⟨2, ![2208, 1]⟩
abbrev S1024x2304 : Shape := ⟨2, ![1024, 2304]⟩
abbrev S256x512 : Shape := ⟨2, ![256, 512]⟩
abbrev S1x384 : Shape := ⟨2, ![1, 384]⟩
abbrev S1x256 : Shape := ⟨2, ![1, 256]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S16384x1024 : Shape := ⟨2, ![16384, 1024]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x128 : Shape := ⟨2, ![4096, 128]⟩
abbrev S4096x64 : Shape := ⟨2, ![4096, 64]⟩
abbrev S4096x256 : Shape := ⟨2, ![4096, 256]⟩
abbrev S8 : Shape := ⟨1, ![8]⟩
abbrev S1x8 : Shape := ⟨2, ![1, 8]⟩
abbrev S4096x8 : Shape := ⟨2, ![4096, 8]⟩
abbrev S4096x48 : Shape := ⟨2, ![4096, 48]⟩
abbrev S16384x256 : Shape := ⟨2, ![16384, 256]⟩
abbrev S16384x32 : Shape := ⟨2, ![16384, 32]⟩
abbrev S16384x512 : Shape := ⟨2, ![16384, 512]⟩
abbrev S64x1x512 : Shape := ⟨3, ![64, 1, 512]⟩
abbrev S256x256 : Shape := ⟨2, ![256, 256]⟩
abbrev S256x128 : Shape := ⟨2, ![256, 128]⟩
abbrev S256x32 : Shape := ⟨2, ![256, 32]⟩
abbrev S1x1x512 : Shape := ⟨3, ![1, 1, 512]⟩
abbrev S256x1 : Shape := ⟨2, ![256, 1]⟩
abbrev S256x2304 : Shape := ⟨2, ![256, 2304]⟩
abbrev S256x384 : Shape := ⟨2, ![256, 384]⟩

abbrev nBuf : Space → Nat
  | .hbm => 99
  | .vmem => 43
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2208, .f32⟩
  | .hbm, ⟨3, _⟩ => ⟨S384, .f32⟩
  | .hbm, ⟨4, _⟩ => ⟨S256, .f32⟩
  | .hbm, ⟨5, _⟩ => ⟨S256x8x64, .f32⟩
  | .hbm, ⟨6, _⟩ => ⟨S64, .f32⟩
  | .hbm, ⟨7, _⟩ => ⟨S64, .f32⟩
  | .hbm, ⟨8, _⟩ => ⟨S384x1024, .bf16⟩
  | .hbm, ⟨9, _⟩ => ⟨S256x1024, .bf16⟩
  | .hbm, ⟨10, _⟩ => ⟨S32x1024, .bf16⟩
  | .hbm, ⟨11, _⟩ => ⟨S1024x128, .bf16⟩
  | .hbm, ⟨12, _⟩ => ⟨S128x1024, .bf16⟩
  | .hbm, ⟨13, _⟩ => ⟨S1x1024, .f32⟩
  | .hbm, ⟨14, _⟩ => ⟨S1x1024, .f32⟩
  | .hbm, ⟨15, _⟩ => ⟨S512x512, .bf16⟩
  | .hbm, ⟨16, _⟩ => ⟨S2208, .i32⟩
  | .hbm, ⟨17, _⟩ => ⟨S2208, .i1⟩
  | .hbm, ⟨18, _⟩ => ⟨S_, .i32⟩
  | .hbm, ⟨19, _⟩ => ⟨S2208, .i32⟩
  | .hbm, ⟨20, _⟩ => ⟨S2208, .i32⟩
  | .hbm, ⟨21, _⟩ => ⟨S2208, .i32⟩
  | .hbm, ⟨22, _⟩ => ⟨S2208x1, .i32⟩
  | .hbm, ⟨23, _⟩ => ⟨S1024x2208, .f32⟩
  | .hbm, ⟨24, _⟩ => ⟨S_, .i32⟩
  | .hbm, ⟨25, _⟩ => ⟨S_, .f32⟩
  | .hbm, ⟨26, _⟩ => ⟨S1024x2304, .f32⟩
  | .hbm, ⟨27, _⟩ => ⟨S1024x2304, .bf16⟩
  | .hbm, ⟨28, _⟩ => ⟨S256x512, .f32⟩
  | .hbm, ⟨29, _⟩ => ⟨S256x512, .bf16⟩
  | .hbm, ⟨30, _⟩ => ⟨S1x384, .f32⟩
  | .hbm, ⟨31, _⟩ => ⟨S1x256, .f32⟩
  | .hbm, ⟨32, _⟩ => ⟨S1x64, .f32⟩
  | .hbm, ⟨33, _⟩ => ⟨S8x64, .f32⟩
  | .hbm, ⟨34, _⟩ => ⟨S512, .f32⟩
  | .hbm, ⟨35, _⟩ => ⟨S1x512, .f32⟩
  | .hbm, ⟨36, _⟩ => ⟨S1x64, .f32⟩
  | .hbm, ⟨37, _⟩ => ⟨S8x64, .f32⟩
  | .hbm, ⟨38, _⟩ => ⟨S512, .f32⟩
  | .hbm, ⟨39, _⟩ => ⟨S1x512, .f32⟩
  | .hbm, ⟨40, _⟩ => ⟨S16384x1024, .f32⟩
  | .hbm, ⟨41, _⟩ => ⟨S4096, .i32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S16, .f32⟩
  | .hbm, ⟨47, _⟩ => ⟨S4096, .f32⟩
  | .hbm, ⟨48, _⟩ => ⟨S4096x1, .f32⟩
  | .hbm, ⟨49, _⟩ => ⟨S1x16, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S_, .f32⟩
  | .hbm, ⟨56, _⟩ => ⟨S4096x128, .f32⟩
  | .hbm, ⟨57, _⟩ => ⟨S_, .f32⟩
  | .hbm, ⟨58, _⟩ => ⟨S4096x64, .f32⟩
  | .hbm, ⟨59, _⟩ => ⟨S4096x256, .f32⟩
  | .hbm, ⟨60, _⟩ => ⟨S_, .f32⟩
  | .hbm, ⟨61, _⟩ => ⟨S4096x128, .f32⟩
  | .hbm, ⟨62, _⟩ => ⟨S4096x128, .f32⟩
  | .hbm, ⟨63, _⟩ => ⟨S_, .f32⟩
  | .hbm, ⟨64, _⟩ => ⟨S4096x64, .f32⟩
  | .hbm, ⟨65, _⟩ => ⟨S4096x64, .f32⟩
  | .hbm, ⟨66, _⟩ => ⟨S4096x256, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S8, .f32⟩
  | .hbm, ⟨72, _⟩ => ⟨S4096, .f32⟩
  | .hbm, ⟨73, _⟩ => ⟨S4096x1, .f32⟩
  | .hbm, ⟨74, _⟩ => ⟨S1x8, .f32⟩
  | .hbm, ⟨75, _⟩ => ⟨S4096x8, .f32⟩
  | .hbm, ⟨76, _⟩ => ⟨S4096x8, .f32⟩
  | .hbm, ⟨77, _⟩ => ⟨S4096x8, .f32⟩
  | .hbm, ⟨78, _⟩ => ⟨S4096x8, .f32⟩
  | .hbm, ⟨79, _⟩ => ⟨S4096x8, .f32⟩
  | .hbm, ⟨80, _⟩ => ⟨S_, .f32⟩
  | .hbm, ⟨81, _⟩ => ⟨S4096x48, .f32⟩
  | .hbm, ⟨82, _⟩ => ⟨S4096x64, .f32⟩
  | .hbm, ⟨83, _⟩ => ⟨S_, .f32⟩
  | .hbm, ⟨84, _⟩ => ⟨S4096x48, .f32⟩
  | .hbm, ⟨85, _⟩ => ⟨S4096x48, .f32⟩
  | .hbm, ⟨86, _⟩ => ⟨S4096x64, .f32⟩
  | .hbm, ⟨87, _⟩ => ⟨S4096x128, .f32⟩
  | .hbm, ⟨88, _⟩ => ⟨S4096x128, .f32⟩
  | .hbm, ⟨89, _⟩ => ⟨S1x1024, .f32⟩
  | .hbm, ⟨90, _⟩ => ⟨S16384x256, .f32⟩
  | .hbm, ⟨91, _⟩ => ⟨S16384x32, .f32⟩
  | .hbm, ⟨92, _⟩ => ⟨S16384x1024, .bf16⟩
  | .hbm, ⟨93, _⟩ => ⟨S16384x1024, .bf16⟩
  | .hbm, ⟨94, _⟩ => ⟨S16384x512, .bf16⟩
  | .hbm, ⟨95, _⟩ => ⟨S16384x512, .f32⟩
  | .hbm, ⟨96, _⟩ => ⟨S16384x512, .f32⟩
  | .hbm, ⟨97, _⟩ => ⟨S16384x512, .f32⟩
  | .hbm, ⟨98, _⟩ => ⟨S64x1x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2304, .bf16⟩
  | .local _ .vmem, ⟨4, _⟩ => ⟨S1x384, .f32⟩
  | .local _ .vmem, ⟨5, _⟩ => ⟨S1x256, .f32⟩
  | .local _ .vmem, ⟨6, _⟩ => ⟨S384x1024, .bf16⟩
  | .local _ .vmem, ⟨7, _⟩ => ⟨S256x1024, .bf16⟩
  | .local _ .vmem, ⟨8, _⟩ => ⟨S256x512, .bf16⟩
  | .local _ .vmem, ⟨9, _⟩ => ⟨S32x1024, .bf16⟩
  | .local _ .vmem, ⟨10, _⟩ => ⟨S1024x128, .bf16⟩
  | .local _ .vmem, ⟨11, _⟩ => ⟨S128x1024, .bf16⟩
  | .local _ .vmem, ⟨12, _⟩ => ⟨S1x1024, .f32⟩
  | .local _ .vmem, ⟨13, _⟩ => ⟨S1x1024, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S512x512, .bf16⟩
  | .local _ .vmem, ⟨19, _⟩ => ⟨S1x512, .f32⟩
  | .local _ .vmem, ⟨20, _⟩ => ⟨S1x512, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x256, .f32⟩
  | .local _ .vmem, ⟨26, _⟩ => ⟨S256x256, .f32⟩
  | .local _ .vmem, ⟨27, _⟩ => ⟨S256x32, .f32⟩
  | .local _ .vmem, ⟨28, _⟩ => ⟨S256x32, .f32⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x512, .bf16⟩
  | .local _ .vmem, ⟨34, _⟩ => ⟨S256x512, .bf16⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | .local _ .vmem, ⟨39, _⟩ => ⟨S256x512, .f32⟩
  | .local _ .vmem, ⟨40, _⟩ => ⟨S256x512, .f32⟩
  | .local _ .vmem, ⟨41, _⟩ => ⟨S1x1x512, .f32⟩
  | .local _ .vmem, ⟨42, _⟩ => ⟨S1x1x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c_2 : Ref sig .tc := ⟨.hbm, 24, rfl⟩
abbrev main_call0_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61_0 : Ref sig .tc := ⟨.hbm, 90, rfl⟩
abbrev main_v61_1 : Ref sig .tc := ⟨.hbm, 91, rfl⟩
abbrev main_v61_2 : Ref sig .tc := ⟨.hbm, 92, rfl⟩
abbrev main_v61_3 : Ref sig .tc := ⟨.hbm, 93, rfl⟩
abbrev main_v61_4 : Ref sig .tc := ⟨.hbm, 94, rfl⟩
abbrev main_v61_5 : Ref sig .tc := ⟨.hbm, 95, rfl⟩
abbrev main_v61_6 : Ref sig .tc := ⟨.hbm, 96, rfl⟩
abbrev main_v61_7 : Ref sig .tc := ⟨.hbm, 97, rfl⟩
abbrev main_v61_8 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_stg28_0 : Ref sig .tc := ⟨.vmem, 41, rfl⟩
abbrev cc0_stg28_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40
abbrev cc0_sem28_0 : DmaSem sig := 41
abbrev cc0_sem28_1 : DmaSem sig := 42

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_19 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== EvenProjReferenceIdeal.lean ====
abbrev S4x4096x1024 : Shape := ⟨3, ![4, 4096, 1024]⟩
abbrev S1024 : Shape := ⟨1, ![1024]⟩
abbrev S1024x2208 : Shape := ⟨2, ![1024, 2208]⟩
abbrev S384 : Shape := ⟨1, ![384]⟩
abbrev S256 : Shape := ⟨1, ![256]⟩
abbrev S256x8x64 : Shape := ⟨3, ![256, 8, 64]⟩
abbrev S64 : Shape := ⟨1, ![64]⟩
abbrev S384x1024 : Shape := ⟨2, ![384, 1024]⟩
abbrev S256x1024 : Shape := ⟨2, ![256, 1024]⟩
abbrev S32x1024 : Shape := ⟨2, ![32, 1024]⟩
abbrev S1024x128 : Shape := ⟨2, ![1024, 128]⟩
abbrev S128x1024 : Shape := ⟨2, ![128, 1024]⟩
abbrev S1x1024 : Shape := ⟨2, ![1, 1024]⟩
abbrev S512x512 : Shape := ⟨2, ![512, 512]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2208 : Shape := ⟨3, ![4, 4096, 2208]⟩
abbrev S4x4096x256 : Shape := ⟨3, ![4, 4096, 256]⟩
abbrev S1x1x256 : Shape := ⟨3, ![1, 1, 256]⟩
abbrev S4x4096x32 : Shape := ⟨3, ![4, 4096, 32]⟩
abbrev S4x4096x512 : Shape := ⟨3, ![4, 4096, 512]⟩
abbrev S4x4096x8x64 : Shape := ⟨4, ![4, 4096, 8, 64]⟩
abbrev S16384x256 : Shape := ⟨2, ![16384, 256]⟩
abbrev S16384x32 : Shape := ⟨2, ![16384, 32]⟩
abbrev S16384x512 : Shape := ⟨2, ![16384, 512]⟩

abbrev nBuf : Space → Nat
  | .hbm => 58
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2208, .f32⟩
  | .hbm, ⟨3, _⟩ => ⟨S384, .f32⟩
  | .hbm, ⟨4, _⟩ => ⟨S256, .f32⟩
  | .hbm, ⟨5, _⟩ => ⟨S256x8x64, .f32⟩
  | .hbm, ⟨6, _⟩ => ⟨S64, .f32⟩
  | .hbm, ⟨7, _⟩ => ⟨S64, .f32⟩
  | .hbm, ⟨8, _⟩ => ⟨S384x1024, .bf16⟩
  | .hbm, ⟨9, _⟩ => ⟨S256x1024, .bf16⟩
  | .hbm, ⟨10, _⟩ => ⟨S32x1024, .bf16⟩
  | .hbm, ⟨11, _⟩ => ⟨S1024x128, .bf16⟩
  | .hbm, ⟨12, _⟩ => ⟨S128x1024, .bf16⟩
  | .hbm, ⟨13, _⟩ => ⟨S1x1024, .f32⟩
  | .hbm, ⟨14, _⟩ => ⟨S1x1024, .f32⟩
  | .hbm, ⟨15, _⟩ => ⟨S512x512, .bf16⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S4x4096x2208, .f32⟩
  | .hbm, ⟨33, _⟩ => ⟨S4x4096x256, .f32⟩
  | .hbm, ⟨34, _⟩ => ⟨S4x4096x256, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x256, .f32⟩
  | .hbm, ⟨46, _⟩ => ⟨S4x4096x256, .f32⟩
  | .hbm, ⟨47, _⟩ => ⟨S1x1x256, .f32⟩
  | .hbm, ⟨48, _⟩ => ⟨S4x4096x256, .f32⟩
  | .hbm, ⟨49, _⟩ => ⟨S4x4096x256, .f32⟩
  | .hbm, ⟨50, _⟩ => ⟨S4x4096x32, .f32⟩
  | .hbm, ⟨51, _⟩ => ⟨S4x4096x512, .f32⟩
  | .hbm, ⟨52, _⟩ => ⟨S4x4096x8x64, .f32⟩
  | .hbm, ⟨53, _⟩ => ⟨S4x4096x8x64, .bf16⟩
  | .hbm, ⟨54, _⟩ => ⟨S16384x256, .f32⟩
  | .hbm, ⟨55, _⟩ => ⟨S16384x32, .f32⟩
  | .hbm, ⟨56, _⟩ => ⟨S16384x512, .bf16⟩
  | .hbm, ⟨57, _⟩ => ⟨S16384x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== SampleFfn.lean ====
abbrev S128x1x1024 : Shape := ⟨3, ![128, 1, 1024]⟩
abbrev S1024 : Shape := ⟨1, ![1024]⟩
abbrev S1024x4096 : Shape := ⟨2, ![1024, 4096]⟩
abbrev S4096x1024 : Shape := ⟨2, ![4096, 1024]⟩
abbrev S128x1024 : Shape := ⟨2, ![128, 1024]⟩
abbrev S1x1024 : Shape := ⟨2, ![1, 1024]⟩
abbrev S1024x512 : Shape := ⟨2, ![1024, 512]⟩
abbrev S512x1024 : Shape := ⟨2, ![512, 1024]⟩
abbrev S128 : Shape := ⟨1, ![128]⟩
abbrev S128x1 : Shape := ⟨2, ![128, 1]⟩
abbrev S128x512 : Shape := ⟨2, ![128, 512]⟩

abbrev nBuf : Space → Nat
  | .hbm => 9
  | .vmem => 9
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S128x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S128x1024, .f32⟩
  | .local _ .vmem, ⟨7, _⟩ => ⟨S128x1024, .bf16⟩
  | .local _ .vmem, ⟨8, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== SampleFfnReferenceIdeal.lean ====
abbrev S128x1x1024 : Shape := ⟨3, ![128, 1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x4096 : Shape := ⟨3, ![128, 1, 4096]⟩
abbrev S128x1024 : Shape := ⟨2, ![128, 1024]⟩

abbrev nBuf : Space → Nat
  | .hbm => 28
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S128x1x1024, .f32⟩
  | .hbm, ⟨5, _⟩ => ⟨S_, .f32⟩
  | .hbm, ⟨6, _⟩ => ⟨S128x1, .f32⟩
  | .hbm, ⟨7, _⟩ => ⟨S128x1x1, .f32⟩
  | .hbm, ⟨8, _⟩ => ⟨S_, .f32⟩
  | .hbm, ⟨9, _⟩ => ⟨S128x1x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S128x1x1, .f32⟩
  | .hbm, ⟨15, _⟩ => ⟨S128x1x1024, .f32⟩
  | .hbm, ⟨16, _⟩ => ⟨S128x1x1024, .f32⟩
  | .hbm, ⟨17, _⟩ => ⟨S1x1x1024, .f32⟩
  | .hbm, ⟨18, _⟩ => ⟨S128x1x1024, .f32⟩
  | .hbm, ⟨19, _⟩ => ⟨S128x1x1024, .f32⟩
  | .hbm, ⟨20, _⟩ => ⟨S128x1x4096, .f32⟩
  | .hbm, ⟨21, _⟩ => ⟨S_, .f32⟩
  | .hbm, ⟨22, _⟩ => ⟨S128x1x4096, .f32⟩
  | .hbm, ⟨23, _⟩ => ⟨S128x1x4096, .f32⟩
  | .hbm, ⟨24, _⟩ => ⟨S128x1x4096, .f32⟩
  | .hbm, ⟨25, _⟩ => ⟨S128x1x1024, .f32⟩
  | .hbm, ⟨26, _⟩ => ⟨S128x1x1024, .f32⟩
  | .hbm, ⟨27, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== SampleOdd.lean ====
abbrev S128x1x1024 : Shape := ⟨3, ![128, 1, 1024]⟩
abbrev S1024 : Shape := ⟨1, ![1024]⟩
abbrev S1024x2832 : Shape := ⟨2, ![1024, 2832]⟩
abbrev S16x512 : Shape := ⟨2, ![16, 512]⟩
abbrev S512 : Shape := ⟨1, ![512]⟩
abbrev S128x1024 : Shape := ⟨2, ![128, 1024]⟩
abbrev S1024x1024 : Shape := ⟨2, ![1024, 1024]⟩
abbrev S1024x768 : Shape := ⟨2, ![1024, 768]⟩
abbrev S1024x4x192 : Shape := ⟨3, ![1024, 4, 192]⟩
abbrev S_ : Shape := ⟨0, ![]⟩
abbrev S1024x4x256 : Shape := ⟨3, ![1024, 4, 256]⟩
abbrev S1024x256 : Shape := ⟨2, ![1024, 256]⟩
abbrev S1024x16 : Shape := ⟨2, ![1024, 16]⟩
abbrev S1024x128 : Shape := ⟨2, ![1024, 128]⟩
abbrev S1024x3456 : Shape := ⟨2, ![1024, 3456]⟩
abbrev S128x512 : Shape := ⟨2, ![128, 512]⟩
abbrev S1x512 : Shape := ⟨2, ![1, 512]⟩
abbrev S1x1024 : Shape := ⟨2, ![1, 1024]⟩
abbrev S128x256 : Shape := ⟨2, ![128, 256]⟩
abbrev S128 : Shape := ⟨1, ![128]⟩
abbrev S128x1 : Shape := ⟨2, ![128, 1]⟩
abbrev S128x3456 : Shape := ⟨2, ![128, 3456]⟩
abbrev S128x128 : Shape := ⟨2, ![128, 128]⟩

abbrev nBuf : Space → Nat
  | .hbm => 38
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x2832, .f32⟩
  | .hbm, ⟨3, _⟩ => ⟨S16x512, .f32⟩
  | .hbm, ⟨4, _⟩ => ⟨S512, .f32⟩
  | .hbm, ⟨5, _⟩ => ⟨S128x1024, .f32⟩
  | .hbm, ⟨6, _⟩ => ⟨S1024x1024, .f32⟩
  | .hbm, ⟨7, _⟩ => ⟨S1024x768, .f32⟩
  | .hbm, ⟨8, _⟩ => ⟨S1024x4x192, .f32⟩
  | .hbm, ⟨9, _⟩ => ⟨S_, .i32⟩
  | .hbm, ⟨10, _⟩ => ⟨S_, .f32⟩
  | .hbm, ⟨11, _⟩ => ⟨S1024x4x256, .f32⟩
  | .hbm, ⟨12, _⟩ => ⟨S1024x1024, .f32⟩
  | .hbm, ⟨13, _⟩ => ⟨S1024x768, .f32⟩
  | .hbm, ⟨14, _⟩ => ⟨S1024x4x192, .f32⟩
  | .hbm, ⟨15, _⟩ => ⟨S_, .i32⟩
  | .hbm, ⟨16, _⟩ => ⟨S_, .f32⟩
  | .hbm, ⟨17, _⟩ => ⟨S1024x4x256, .f32⟩
  | .hbm, ⟨18, _⟩ => ⟨S1024x1024, .f32⟩
  | .hbm, ⟨19, _⟩ => ⟨S1024x256, .f32⟩
  | .hbm, ⟨20, _⟩ => ⟨S1024x16, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x3456, .f32⟩
  | .hbm, ⟨25, _⟩ => ⟨S_, .i32⟩
  | .hbm, ⟨26, _⟩ => ⟨S_, .f32⟩
  | .hbm, ⟨27, _⟩ => ⟨S128x512, .f32⟩
  | .hbm, ⟨28, _⟩ => ⟨S1024x3456, .bf16⟩
  | .hbm, ⟨29, _⟩ => ⟨S128x512, .bf16⟩
  | .hbm, ⟨30, _⟩ => ⟨S1x512, .f32⟩
  | .hbm, ⟨31, _⟩ => ⟨S1x1024, .f32⟩
  | .hbm, ⟨32, _⟩ => ⟨S128x512, .f32⟩
  | .hbm, ⟨33, _⟩ => ⟨S128x512, .f32⟩
  | .hbm, ⟨34, _⟩ => ⟨S128x1024, .f32⟩
  | .hbm, ⟨35, _⟩ => ⟨S128x1024, .f32⟩
  | .hbm, ⟨36, _⟩ => ⟨S128x256, .f32⟩
  | .hbm, ⟨37, _⟩ => ⟨S128x512, .f32⟩
  | .local _ .vmem, ⟨0, _⟩ => ⟨S128x1024, .f32⟩
  | .local _ .vmem, ⟨1, _⟩ => ⟨S1x1024, .f32⟩
  | .local _ .vmem, ⟨2, _⟩ => ⟨S1024x3456, .bf16⟩
  | .local _ .vmem, ⟨3, _⟩ => ⟨S128x512, .bf16⟩
  | .local _ .vmem, ⟨4, _⟩ => ⟨S1x512, .f32⟩
  | .local _ .vmem, ⟨5, _⟩ => ⟨S128x512, .f32⟩
  | .local _ .vmem, ⟨6, _⟩ => ⟨S128x512, .f32⟩
  | .local _ .vmem, ⟨7, _⟩ => ⟨S128x1024, .f32⟩
  | .local _ .vmem, ⟨8, _⟩ => ⟨S128x1024, .f32⟩
  | .local _ .vmem, ⟨9, _⟩ => ⟨S128x256, .f32⟩
  | .local _ .vmem, ⟨10, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call2_v0 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_call3_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev main_v19_5 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== SampleOddIdeal.lean ====
variable {F : FTy → Type} [FloatOps F] [Named F]
def κ : String → Option EReal := fun
  | "root128" => some (((Real.sqrt 128)⁻¹ : ℝ) : EReal)
  | _ => none
-- ==== SampleOddReferenceIdeal.lean ====
abbrev S128x1x1024 : Shape := ⟨3, ![128, 1, 1024]⟩
abbrev S1024 : Shape := ⟨1, ![1024]⟩
abbrev S1024x2832 : Shape := ⟨2, ![1024, 2832]⟩
abbrev S16x512 : Shape := ⟨2, ![16, 512]⟩
abbrev S512 : Shape := ⟨1, ![512]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x2832 : Shape := ⟨3, ![128, 1, 2832]⟩
abbrev S128x1x512 : Shape := ⟨3, ![128, 1, 512]⟩
abbrev S128x1x768 : Shape := ⟨3, ![128, 1, 768]⟩
abbrev S128x1x16 : Shape := ⟨3, ![128, 1, 16]⟩
abbrev S128x1x256 : Shape := ⟨3, ![128, 1, 256]⟩
abbrev S1x1x512 : Shape := ⟨3, ![1, 1, 512]⟩
abbrev S128x512 : Shape := ⟨2, ![128, 512]⟩
abbrev S128x4x192 : Shape := ⟨3, ![128, 4, 192]⟩
abbrev S128x4x256 : Shape := ⟨3, ![128, 4, 256]⟩
abbrev S128x1024 : Shape := ⟨2, ![128, 1024]⟩
abbrev S128x256 : Shape := ⟨2, ![128, 256]⟩

abbrev nBuf : Space → Nat
  | .hbm => 69
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x2832, .f32⟩
  | .hbm, ⟨3, _⟩ => ⟨S16x512, .f32⟩
  | .hbm, ⟨4, _⟩ => ⟨S512, .f32⟩
  | .hbm, ⟨5, _⟩ => ⟨S128x1x1024, .f32⟩
  | .hbm, ⟨6, _⟩ => ⟨S_, .f32⟩
  | .hbm, ⟨7, _⟩ => ⟨S128x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S128x1x1, .f32⟩
  | .hbm, ⟨16, _⟩ => ⟨S128x1x1024, .f32⟩
  | .hbm, ⟨17, _⟩ => ⟨S128x1x1024, .f32⟩
  | .hbm, ⟨18, _⟩ => ⟨S1x1x1024, .f32⟩
  | .hbm, ⟨19, _⟩ => ⟨S128x1x1024, .f32⟩
  | .hbm, ⟨20, _⟩ => ⟨S128x1x1024, .f32⟩
  | .hbm, ⟨21, _⟩ => ⟨S128x1x2832, .f32⟩
  | .hbm, ⟨22, _⟩ => ⟨S128x1x512, .f32⟩
  | .hbm, ⟨23, _⟩ => ⟨S_, .f32⟩
  | .hbm, ⟨24, _⟩ => ⟨S_, .f32⟩
  | .hbm, ⟨25, _⟩ => ⟨S128x1x512, .f32⟩
  | .hbm, ⟨26, _⟩ => ⟨S128x1x512, .f32⟩
  | .hbm, ⟨27, _⟩ => ⟨S128x1x512, .f32⟩
  | .hbm, ⟨28, _⟩ => ⟨S128x1x768, .f32⟩
  | .hbm, ⟨29, _⟩ => ⟨S128x1x768, .f32⟩
  | .hbm, ⟨30, _⟩ => ⟨S128x1x16, .f32⟩
  | .hbm, ⟨31, _⟩ => ⟨S128x1x256, .f32⟩
  | .hbm, ⟨32, _⟩ => ⟨S128x1x512, .f32⟩
  | .hbm, ⟨33, _⟩ => ⟨S1x1x512, .f32⟩
  | .hbm, ⟨34, _⟩ => ⟨S128x1x512, .f32⟩
  | .hbm, ⟨35, _⟩ => ⟨S128x1x512, .f32⟩
  | .hbm, ⟨36, _⟩ => ⟨S128x1x512, .f32⟩
  | .hbm, ⟨37, _⟩ => ⟨S_, .f32⟩
  | .hbm, ⟨38, _⟩ => ⟨S128x1x512, .f32⟩
  | .hbm, ⟨39, _⟩ => ⟨S128x1x512, .f32⟩
  | .hbm, ⟨40, _⟩ => ⟨S128x1x512, .f32⟩
  | .hbm, ⟨41, _⟩ => ⟨S128x1x512, .f32⟩
  | .hbm, ⟨42, _⟩ => ⟨S128x1x512, .i1⟩
  | .hbm, ⟨43, _⟩ => ⟨S128x1x512, .f32⟩
  | .hbm, ⟨44, _⟩ => ⟨S128x1x512, .f32⟩
  | .hbm, ⟨45, _⟩ => ⟨S128x1x512, .f32⟩
  | .hbm, ⟨46, _⟩ => ⟨S128x1x512, .f32⟩
  | .hbm, ⟨47, _⟩ => ⟨S128x1x512, .f32⟩
  | .hbm, ⟨48, _⟩ => ⟨S128x1x512, .f32⟩
  | .hbm, ⟨49, _⟩ => ⟨S128x1x512, .f32⟩
  | .hbm, ⟨50, _⟩ => ⟨S128x1x512, .f32⟩
  | .hbm, ⟨51, _⟩ => ⟨S128x1x512, .f32⟩
  | .hbm, ⟨52, _⟩ => ⟨S_, .f32⟩
  | .hbm, ⟨53, _⟩ => ⟨S128x1x512, .f32⟩
  | .hbm, ⟨54, _⟩ => ⟨S128x1x512, .f32⟩
  | .hbm, ⟨55, _⟩ => ⟨S128x512, .f32⟩
  | .hbm, ⟨56, _⟩ => ⟨S128x512, .f32⟩
  | .hbm, ⟨57, _⟩ => ⟨S128x4x192, .f32⟩
  | .hbm, ⟨58, _⟩ => ⟨S_, .i32⟩
  | .hbm, ⟨59, _⟩ => ⟨S_, .f32⟩
  | .hbm, ⟨60, _⟩ => ⟨S128x4x256, .f32⟩
  | .hbm, ⟨61, _⟩ => ⟨S128x1024, .f32⟩
  | .hbm, ⟨62, _⟩ => ⟨S128x4x192, .f32⟩
  | .hbm, ⟨63, _⟩ => ⟨S_, .i32⟩
  | .hbm, ⟨64, _⟩ => ⟨S_, .f32⟩
  | .hbm, ⟨65, _⟩ => ⟨S128x4x256, .f32⟩
  | .hbm, ⟨66, _⟩ => ⟨S128x1024, .f32⟩
  | .hbm, ⟨67, _⟩ => ⟨S128x256, .f32⟩
  | .hbm, ⟨68, _⟩ => ⟨S128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c : Ref sig .tc := ⟨.hbm, 58, rfl⟩
abbrev main_call1_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_4 : Ref sig .tc := ⟨.hbm, 63, rfl⟩
abbrev main_call2_v0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩

abbrev nD : Nat := 1
abbrev τ : Topo := Topo.v7x

variable {F : FTy → Type} [FloatOps F]
-- ==== GlaStep.lean ====
abbrev S128x512 : Shape := ⟨2, ![128, 512]⟩
abbrev S128x1024 : Shape := ⟨2, ![128, 1024]⟩
abbrev S1x1024 : Shape := ⟨2, ![1, 1024]⟩
abbrev S128x4x128x192 : Shape := ⟨4, ![128, 4, 128, 192]⟩
abbrev S8x512 : Shape := ⟨2, ![8, 512]⟩
abbrev S8x1024 : Shape := ⟨2, ![8, 1024]⟩
abbrev S8x4x128x192 : Shape := ⟨4, ![8, 4, 128, 192]⟩
abbrev S128x128 : Shape := ⟨2, ![128, 128]⟩
abbrev S1x128 : Shape := ⟨2, ![1, 128]⟩
abbrev S1x192 : Shape := ⟨2, ![1, 192]⟩
abbrev S1x1x128x192 : Shape := ⟨4, ![1, 1, 128, 192]⟩
abbrev S128x192 : Shape := ⟨2, ![128, 192]⟩
abbrev S128 : Shape := ⟨1, ![128]⟩
abbrev S128x1 : Shape := ⟨2, ![128, 1]⟩
abbrev S192 : Shape := ⟨1, ![192]⟩
abbrev S8x256 : Shape := ⟨2, ![8, 256]⟩
abbrev S8 : Shape := ⟨1, ![8]⟩
abbrev S8x1 : Shape := ⟨2, ![8, 1]⟩
abbrev S1x256 : Shape := ⟨2, ![1, 256]⟩

abbrev nBuf : Space → Nat
  | .hbm => 9
  | .vmem => 18
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x1024, .f32⟩
  | .hbm, ⟨3, _⟩ => ⟨S128x512, .f32⟩
  | .hbm, ⟨4, _⟩ => ⟨S128x1024, .f32⟩
  | .hbm, ⟨5, _⟩ => ⟨S1x1024, .f32⟩
  | .hbm, ⟨6, _⟩ => ⟨S128x4x128x192, .f32⟩
  | .hbm, ⟨7, _⟩ => ⟨S128x1024, .f32⟩
  | .hbm, ⟨8, _⟩ => ⟨S128x4x128x192, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x1024, .f32⟩
  | .local _ .vmem, ⟨5, _⟩ => ⟨S8x1024, .f32⟩
  | .local _ .vmem, ⟨6, _⟩ => ⟨S8x512, .f32⟩
  | .local _ .vmem, ⟨7, _⟩ => ⟨S8x512, .f32⟩
  | .local _ .vmem, ⟨8, _⟩ => ⟨S8x1024, .f32⟩
  | .local _ .vmem, ⟨9, _⟩ => ⟨S8x1024, .f32⟩
  | .local _ .vmem, ⟨10, _⟩ => ⟨S1x1024, .f32⟩
  | .local _ .vmem, ⟨11, _⟩ => ⟨S8x4x128x192, .f32⟩
  | .local _ .vmem, ⟨12, _⟩ => ⟨S8x4x128x192, .f32⟩
  | .local _ .vmem, ⟨13, _⟩ => ⟨S8x1024, .f32⟩
  | .local _ .vmem, ⟨14, _⟩ => ⟨S8x1024, .f32⟩
  | .local _ .vmem, ⟨15, _⟩ => ⟨S8x4x128x192, .f32⟩
  | .local _ .vmem, ⟨16, _⟩ => ⟨S8x4x128x192, .f32⟩
  | .local _ .vmem, ⟨17, _⟩ => ⟨S8x1024, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x4x128x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x128x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GlaStepReferenceIdeal.lean ====
abbrev S128x512 : Shape := ⟨2, ![128, 512]⟩
abbrev S128x1024 : Shape := ⟨2, ![128, 1024]⟩
abbrev S1x1024 : Shape := ⟨2, ![1, 1024]⟩
abbrev S128x4x128x192 : Shape := ⟨4, ![128, 4, 128, 192]⟩
abbrev S128x1x4x128 : Shape := ⟨4, ![128, 1, 4, 128]⟩
abbrev S128x1x4x256 : Shape := ⟨4, ![128, 1, 4, 256]⟩
abbrev S128x1x4x192 : Shape := ⟨4, ![128, 1, 4, 192]⟩
abbrev S_ : Shape := ⟨0, ![]⟩
abbrev S128x4x128 : Shape := ⟨3, ![128, 4, 128]⟩
abbrev S128x4x128x1 : Shape := ⟨4, ![128, 4, 128, 1]⟩

abbrev nBuf : Space → Nat
  | .hbm => 25
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x1024, .f32⟩
  | .hbm, ⟨3, _⟩ => ⟨S128x512, .f32⟩
  | .hbm, ⟨4, _⟩ => ⟨S128x1024, .f32⟩
  | .hbm, ⟨5, _⟩ => ⟨S1x1024, .f32⟩
  | .hbm, ⟨6, _⟩ => ⟨S128x4x128x192, .f32⟩
  | .hbm, ⟨7, _⟩ => ⟨S128x1x4x128, .f32⟩
  | .hbm, ⟨8, _⟩ => ⟨S128x1x4x256, .f32⟩
  | .hbm, ⟨9, _⟩ => ⟨S128x1x4x192, .f32⟩
  | .hbm, ⟨10, _⟩ => ⟨S128x1x4x128, .f32⟩
  | .hbm, ⟨11, _⟩ => ⟨S_, .f32⟩
  | .hbm, ⟨12, _⟩ => ⟨S_, .f32⟩
  | .hbm, ⟨13, _⟩ => ⟨S128x1x4x128, .f32⟩
  | .hbm, ⟨14, _⟩ => ⟨S128x4x128, .f32⟩
  | .hbm, ⟨15, _⟩ => ⟨S128x4x128, .f32⟩
  | .hbm, ⟨16, _⟩ => ⟨S128x4x128x1, .f32⟩
  | .hbm, ⟨17, _⟩ => ⟨S128x4x128x192, .f32⟩
  | .hbm, ⟨18, _⟩ => ⟨S128x4x128x192, .f32⟩
  | .hbm, ⟨19, _⟩ => ⟨S128x1x4x128, .f32⟩
  | .hbm, ⟨20, _⟩ => ⟨S128x1x4x128, .f32⟩
  | .hbm, ⟨21, _⟩ => ⟨S128x1x4x128, .f32⟩
  | .hbm, ⟨22, _⟩ => ⟨S128x1x4x128, .f32⟩
  | .hbm, ⟨23, _⟩ => ⟨S128x4x128x192, .f32⟩
  | .hbm, ⟨24, _⟩ => ⟨S128x4x128x192, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_call0_cst : Ref sig .tc := ⟨.hbm, 11, rfl⟩
abbrev main_call0_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.Mla.Fold.lean ====
/-
  The attention kernel's two counted loops as functions of vectors: the windows of keys, values and
  score tiles that a trip reads, and what the running maxima, the running sums and the accumulators
  hold after a number of trips.
-/
module

public import proofs.«01_k».proof.Proof.Gen.KernelIdeal.Skeleton
public import Idealize.ShloMosaic.Lib.VecWindow

@[expose] public section

noncomputable section

namespace Cert.Proof.Mla

open Cert.KernelIdeal Cert.KernelIdeal.Gen
open Idealize.ShloMosaic Idealize.ShloMosaic.TcCoe

variable {F : FTy → Type} [FloatOps F]

/-- Tile `j` of the keys: their rows `512 j` to `512 j + 511`. -/
def kTile (X : Vec F S1x4096x256 .bf16) (j : ℕ) : Vec F S1x512x256 .bf16 :=
  if h : j < 8 then VecWindow.window X ![0, 512 * j, 0] S1x512x256.size (by
    intro a; fin_cases a <;> simp [Shape.size, S1x512x256, S1x4096x256] <;> omega) else fun _ => X (fun a => ⟨0, by fin_cases a <;> decide⟩)

/-- Tile `j` of the values. -/
def vTile (X : Vec F S1x4096x128 .bf16) (j : ℕ) : Vec F S1x512x128 .bf16 :=
  if h : j < 8 then VecWindow.window X ![0, 512 * j, 0] S1x512x128.size (by
    intro a; fin_cases a <;> simp [Shape.size, S1x512x128, S1x4096x128] <;> omega) else fun _ => X (fun a => ⟨0, by fin_cases a <;> decide⟩)

/-- The scores of head `g` against key tile `j` in the table of score tiles. -/
def sTile (X : Vec F S2x8x512x512 .f32) (g j : ℕ) : Vec F S1x1x512x512 .f32 :=
  if h : g < 2 ∧ j < 8 then VecWindow.window X ![g, j, 0, 0] S1x1x512x512.size (by
    intro a; fin_cases a <;> simp [Shape.size, S1x1x512x512, S2x8x512x512] <;> omega) else fun _ => X (fun a => ⟨0, by fin_cases a <;> decide⟩)

/-- Head `0`'s half of a pair of score-shaped tables. -/
def lo (X : Vec F S2x512x512 .f32) : Vec F S1x512x512 .f32 :=
  VecWindow.window X ![0, 0, 0] S1x512x512.size inb_S2x512x512_S1x512x512_0_0_0
/-- Head `1`'s half. -/
def hi (X : Vec F S2x512x512 .f32) : Vec F S1x512x512 .f32 :=
  VecWindow.window X ![1, 0, 0] S1x512x512.size inb_S2x512x512_S1x512x512_1_0_0
/-- Head `0`'s half of the pair of accumulators. -/
def loA (X : Vec F S2x512x128 .f32) : Vec F S1x512x128 .f32 :=
  VecWindow.window X ![0, 0, 0] S1x512x128.size inb_S2x512x128_S1x512x128_0_0_0
/-- Head `1`'s half. -/
def hiA (X : Vec F S2x512x128 .f32) : Vec F S1x512x128 .f32 :=
  VecWindow.window X ![1, 0, 0] S1x512x128.size inb_S2x512x128_S1x512x128_1_0_0

/-- The running maxima of the two heads after `k` key tiles, from what they held at first. -/
def maxs (q0 q1 : FVec F S512x256 .bf16) (K : Vec F S1x4096x256 .bf16) (m : Vec F S1x512x512 .f32 × Vec F S1x512x512 .f32) :
    ℕ → Vec F S1x512x512 .f32 × Vec F S1x512x512 .f32
  | 0 => m
  | k + 1 => (k0_pay21 q0 (kTile K k) (maxs q0 q1 K m k).1, k0_pay24 q1 (kTile K k) (maxs q0 q1 K m k).2)

/-- The score tiles of the first `k` key tiles, newest first, as the table holds them. -/
def tiles (X : Vec F S2x8x512x512 .f32) : ℕ → List (Vec F S1x1x512x512 .f32 × Vec F S1x1x512x512 .f32)
  | 0 => []
  | k + 1 => (sTile X 0 k, sTile X 1 k) :: tiles X k

/-- The score tiles of the first `k` key tiles, newest first, computed from the queries and the keys. -/
def scores (q0 q1 : FVec F S512x256 .bf16) (K : Vec F S1x4096x256 .bf16) : ℕ → List (Vec F S1x1x512x512 .f32 × Vec F S1x1x512x512 .f32)
  | 0 => []
  | k + 1 => (k0_pay20 q0 (kTile K k), k0_pay23 q1 (kTile K k)) :: scores q0 q1 K k

/-- What the second loop carries: the running sums and the accumulators of the two heads. -/
abbrev Carry (F : FTy → Type) [FloatOps F] : Type :=
  (Vec F S1x512x512 .f32 × Vec F S1x512x512 .f32) × (Vec F S1x512x128 .f32 × Vec F S1x512x128 .f32)

/-- The sums and accumulators after `k` tiles, from the values, the two heads' score tiles and their row maxima. -/
def sums (V : Vec F S1x4096x128 .bf16) (s0 s1 : ℕ → Vec F S1x1x512x512 .f32) (m0 m1 : Vec F S1x512x512 .f32) (z : Carry F) : ℕ → Carry F
  | 0 => z
  | k + 1 =>
    ((k0_pay4 (s0 k) m0 (sums V s0 s1 m0 m1 z k).1.1, k0_pay45 (k0_pay6 (s1 k)) m1 (sums V s0 s1 m0 m1 z k).1.2),
     (k0_pay5 (vTile V k) (s0 k) m0 (sums V s0 s1 m0 m1 z k).2.1,
      k0_pay46 (k0_pay2 (vTile V k)) (k0_pay6 (s1 k)) m1 (sums V s0 s1 m0 m1 z k).2.2))

/-- Only the tiles summed matter. -/
theorem sums_congr (V : Vec F S1x4096x128 .bf16) (s0 s1 t0 t1 : ℕ → Vec F S1x1x512x512 .f32) (m0 m1 : Vec F S1x512x512 .f32) (z : Carry F) :
    ∀ k, (∀ j, j < k → s0 j = t0 j ∧ s1 j = t1 j) → sums V s0 s1 m0 m1 z k = sums V t0 t1 m0 m1 z k
  | 0, _ => rfl
  | k + 1, h => by
    have e := sums_congr V s0 s1 t0 t1 m0 m1 z k fun j hj => h j (hj.trans k.lt_succ_self)
    unfold sums
    rw [e, (h k k.lt_succ_self).1, (h k k.lt_succ_self).2]

/-- Equal lists of tiles have equal tiles. -/
theorem tiles_eq (X : Vec F S2x8x512x512 .f32) (q0 q1 : FVec F S512x256 .bf16) (K : Vec F S1x4096x256 .bf16) :
    ∀ k, tiles X k = scores q0 q1 K k → ∀ j, j < k → sTile X 0 j = k0_pay20 q0 (kTile K j) ∧ sTile X 1 j = k0_pay23 q1 (kTile K j)
  | 0, _, j, hj => absurd hj (Nat.not_lt_zero j)
  | k + 1, h, j, hj => by
    unfold tiles scores at h
    injection h with h1 h2
    rcases Nat.lt_succ_iff_lt_or_eq.mp hj with hj' | rfl
    · exact tiles_eq X q0 q1 K k h2 j hj'
    · injection h1 with a b
      exact ⟨a, b⟩

/-! ## What the body leaves -/

/-- The query tile with head `0`'s lanes alone, and with head `1`'s alone. -/
def qlo (x : Vec F S1x512x256 .bf16) : FVec F S512x256 .bf16 := k0_pay13 x
def qhi (x : Vec F S1x512x256 .bf16) : FVec F S512x256 .bf16 := k0_pay14 x

/-- The score tiles of query tile `n`: whole below the diagonal, masked on it. -/
def sc0 (q : FVec F S512x256 .bf16) (K : Vec F S1x4096x256 .bf16) (n j : ℕ) : Vec F S1x1x512x512 .f32 :=
  if j = n then k0_pay34 q k0_pay15 (kTile K n) else k0_pay20 q (kTile K j)
def sc1 (q : FVec F S512x256 .bf16) (K : Vec F S1x4096x256 .bf16) (n j : ℕ) : Vec F S1x1x512x512 .f32 :=
  if j = n then k0_pay37 q k0_pay15 (kTile K n) else k0_pay23 q (kTile K j)

/-- The running maxima of query tile `n` before the diagonal. -/
def mx (x : Vec F S1x512x256 .bf16) (K : Vec F S1x4096x256 .bf16) (n : ℕ) : Vec F S1x512x512 .f32 × Vec F S1x512x512 .f32 :=
  maxs (qlo x) (qhi x) K (lo (k0_pay17 k0_pay16), hi (k0_pay17 k0_pay16)) n

/-- The row maxima of query tile `n`. -/
def mf0 (x : Vec F S1x512x256 .bf16) (K : Vec F S1x4096x256 .bf16) (n : ℕ) : Vec F S1x512x512 .f32 :=
  k0_pay39 (k0_pay35 (qlo x) k0_pay15 (kTile K n) (mx x K n).1)
def mf1 (x : Vec F S1x512x256 .bf16) (K : Vec F S1x4096x256 .bf16) (n : ℕ) : Vec F S1x512x512 .f32 :=
  k0_pay40 (k0_pay38 (k0_pay36 (qhi x) k0_pay15 (kTile K n)) (mx x K n).2)

/-- What the second loop begins with: zeros. -/
def zeros : Carry F := ((lo k0_pay41, hi k0_pay41), (loA (k0_pay43 k0_pay42), hiA (k0_pay43 k0_pay42)))

/-- What the second loop ends with at query tile `n`. -/
def carry (x : Vec F S1x512x256 .bf16) (K : Vec F S1x4096x256 .bf16) (V : Vec F S1x4096x128 .bf16) (n : ℕ) : Carry F :=
  sums V (sc0 (qlo x) K n) (sc1 (qhi x) K n) (mf0 x K n) (mf1 x K n) zeros (n + 1)

/-- The output block of query tile `n`, from its queries, the keys and the values. -/
def out (x : Vec F S1x512x256 .bf16) (K : Vec F S1x4096x256 .bf16) (V : Vec F S1x4096x128 .bf16) (n : ℕ) : Vec F S1x512x128 .f32 :=
  k0_pay1 (k0_pay50 (carry x K V n).2.1 (carry x K V n).1.1 (carry x K V n).2.2 (carry x K V n).1.2)

end Cert.Proof.Mla

end
-- ==== Proof.Mla.Loops.lean ====
/-
  The attention kernel's two counted loops by their invariants: before trip `k` the first has filled
  the score tiles of the first `k` key tiles and taken their running maxima, and the second has added
  the first `k` tiles to the running sums and to the accumulators.
-/
module

public import proofs.«01_k».proof.Proof.Mla.Fold
public import proofs.«01_k».proof.Proof.Gen.KernelIdeal.Loops
public import proofs.«01_k».proof.Proof.Gen.KernelIdeal.Launch
public import proofs.«01_k».proof.Proof.Gen.KernelIdeal
public import Idealize.ShloMosaic.Lib.LoopRemainder

@[expose] public section

set_option maxRecDepth 16384

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Reads of the tables' parts -/

section Reads

variable {sig' : RefSig} {κ : Kind} {sp : Space}

theorem kTile_eq (X : Vec F S1x4096x256 .bf16) (j : ℕ) (h : j < 8) (inb : ∀ a, (![0, 512 * j, 0] : Fin 3 → ℕ) a + S1x512x256.size a ≤ S1x4096x256.size a) :
    VecWindow.window X ![0, 512 * j, 0] S1x512x256.size inb = kTile X j := by
  unfold kTile; rw [dif_pos h]

theorem vTile_eq (X : Vec F S1x4096x128 .bf16) (j : ℕ) (h : j < 8) (inb : ∀ a, (![0, 512 * j, 0] : Fin 3 → ℕ) a + S1x512x128.size a ≤ S1x4096x128.size a) :
    VecWindow.window X ![0, 512 * j, 0] S1x512x128.size inb = vTile X j := by
  unfold vTile; rw [dif_pos h]

theorem sTile_eq (X : Vec F S2x8x512x512 .f32) (g j : ℕ) (h : g < 2 ∧ j < 8) (inb : ∀ a, (![g, j, 0, 0] : Fin 4 → ℕ) a + S1x1x512x512.size a ≤ S2x8x512x512.size a) :
    VecWindow.window X ![g, j, 0, 0] S1x1x512x512.size inb = sTile X g j := by
  unfold sTile; rw [dif_pos h]

/-- A score tile just put is read back. -/
theorem sTile_put_same (X : Vec F S2x8x512x512 .f32) (g j : ℕ) (h : g < 2 ∧ j < 8) (w : Vec F S1x1x512x512 .f32) :
    sTile (VecWindow.put X ![g, j, 0, 0] S1x1x512x512.size w) g j = w := by
  unfold sTile; rw [dif_pos h]
  exact VecWindow.window_put_same _ _ _ _ _

/-- A score tile put elsewhere changes nothing. -/
theorem sTile_put_ne (X : Vec F S2x8x512x512 .f32) (g j g' j' : ℕ) (hh : g' < 2 ∧ j' < 8) (h : g ≠ g' ∨ j ≠ j') (w : Vec F S1x1x512x512 .f32) :
    sTile (VecWindow.put X ![g, j, 0, 0] S1x1x512x512.size w) g' j' = sTile X g' j' := by
  unfold sTile
  rw [dif_pos hh, dif_pos hh]
  rcases h with h | h
  · refine VecWindow.window_put_of_disjoint _ _ _ _ _ _ _ (0 : Fin 4) ?_
    show g' + 1 ≤ g ∨ g + 1 ≤ g'
    omega
  · refine VecWindow.window_put_of_disjoint _ _ _ _ _ _ _ (1 : Fin 4) ?_
    show j' + 1 ≤ j ∨ j + 1 ≤ j'
    omega

/-- A tile put at or past the first `k` leaves those as they were. -/
theorem tiles_put (X : Vec F S2x8x512x512 .f32) (g j : ℕ) (w : Vec F S1x1x512x512 .f32) (hj : j < 8) :
    ∀ k, k ≤ j → tiles (VecWindow.put X ![g, j, 0, 0] S1x1x512x512.size w) k = tiles X k
  | 0, _ => rfl
  | k + 1, h => by
    show (_, _) :: _ = (_, _) :: _
    rw [sTile_put_ne X g j 0 k ⟨by omega, by omega⟩ (.inr (by omega)), sTile_put_ne X g j 1 k ⟨by omega, by omega⟩ (.inr (by omega)),
      tiles_put X g j w hj k (by omega)]

/-- The halves of a pair of tables after a put over one of them. -/
theorem lo_put_lo (X : Vec F S2x512x512 .f32) (w : Vec F S1x512x512 .f32) : lo (VecWindow.put X ![0, 0, 0] S1x512x512.size w) = w :=
  VecWindow.window_put_same _ _ _ _ _
theorem hi_put_hi (X : Vec F S2x512x512 .f32) (w : Vec F S1x512x512 .f32) : hi (VecWindow.put X ![1, 0, 0] S1x512x512.size w) = w :=
  VecWindow.window_put_same _ _ _ _ _
theorem lo_put_hi (X : Vec F S2x512x512 .f32) (w : Vec F S1x512x512 .f32) : lo (VecWindow.put X ![1, 0, 0] S1x512x512.size w) = lo X :=
  VecWindow.window_put_of_disjoint _ _ _ _ _ _ _ (0 : Fin 3) (.inl (by decide))
theorem hi_put_lo (X : Vec F S2x512x512 .f32) (w : Vec F S1x512x512 .f32) : hi (VecWindow.put X ![0, 0, 0] S1x512x512.size w) = hi X :=
  VecWindow.window_put_of_disjoint _ _ _ _ _ _ _ (0 : Fin 3) (.inr (by decide))
theorem loA_put_lo (X : Vec F S2x512x128 .f32) (w : Vec F S1x512x128 .f32) : loA (VecWindow.put X ![0, 0, 0] S1x512x128.size w) = w :=
  VecWindow.window_put_same _ _ _ _ _
theorem hiA_put_hi (X : Vec F S2x512x128 .f32) (w : Vec F S1x512x128 .f32) : hiA (VecWindow.put X ![1, 0, 0] S1x512x128.size w) = w :=
  VecWindow.window_put_same _ _ _ _ _
theorem loA_put_hi (X : Vec F S2x512x128 .f32) (w : Vec F S1x512x128 .f32) : loA (VecWindow.put X ![1, 0, 0] S1x512x128.size w) = loA X :=
  VecWindow.window_put_of_disjoint _ _ _ _ _ _ _ (0 : Fin 3) (.inl (by decide))
theorem hiA_put_lo (X : Vec F S2x512x128 .f32) (w : Vec F S1x512x128 .f32) : hiA (VecWindow.put X ![0, 0, 0] S1x512x128.size w) = hiA X :=
  VecWindow.window_put_of_disjoint _ _ _ _ _ _ _ (0 : Fin 3) (.inr (by decide))

end Reads

/-! ## The trip counts -/

/-- The first loop runs over the key tiles before the query tile's own. -/
theorem trips_t1 : ∀ i : grid0.Coords, (k0_t1_loop i).trips = (i 2).val := by
  have h : ∀ x : Fin 8, ∀ i : grid0.Coords, (i 2) = x → (k0_t1_loop i).trips = x.val := by
    intro x i hx
    unfold k0_t1_loop
    simp only [hx]
    clear hx i; revert x; decide +kernel
  intro i
  exact h (i 2) i rfl

/-- The second loop runs over those and its own. -/
theorem trips_t3 : ∀ i : grid0.Coords, (k0_t3_loop i).trips = (i 2).val + 1 := by
  have h : ∀ x : Fin 8, ∀ i : grid0.Coords, (i 2) = x → (k0_t3_loop i).trips = x.val + 1 := by
    intro x i hx
    unfold k0_t3_loop
    simp only [hx]
    clear hx i; revert x; decide +kernel
  intro i
  exact h (i 2) i rfl

/-! ## The invariants -/

section Inv

variable (𝒱 : Variants) (c : Dev nD) (bd : Option 𝒱.V) (E : Set ℕ) (i : grid0.Coords)
  (arg3 : Memref sig .tc .vmem S1x512x256 .bf16) (harg3 : arg3.IsWhole) (arg4 : Memref sig .tc .vmem S1x4096x256 .bf16) (harg4 : arg4.IsWhole)
  (arg5 : Memref sig .tc .vmem S1x4096x128 .bf16) (harg5 : arg5.IsWhole) (arg6 : Memref sig .tc .vmem S1x512x128 .f32) (harg6 : arg6.IsWhole)
  (arg7 : Memref sig .tc .vmem S2x8x512x512 .f32) (harg7 : arg7.IsWhole) (arg8 : Memref sig .tc .vmem S2x512x512 .f32) (harg8 : arg8.IsWhole)
  (arg9 : Memref sig .tc .vmem S2x512x512 .f32) (harg9 : arg9.IsWhole) (arg10 : Memref sig .tc .vmem S2x512x128 .f32) (harg10 : arg10.IsWhole)
  (arg2 : BitVec 32)

/-- Before trip `k` of the first loop: the keys, the table with the first `k` tiles filled, the running maxima. -/
abbrev inv1 (v17 v33 : FVec F S512x256 .bf16) (X4 : BufTy.Contents (Elt F) arg4.view.ty) (G8 : BufTy.Contents (Elt F) arg8.view.ty) (k : ℕ) : sProp 𝕄 :=
  iprop((arg4.view.loc (c : Thread nD τ) ↦[arg4.view.set]{fullShare} X4)
    ∗ (∃ f7, (arg7.view.loc (c : Thread nD τ) ↦[arg7.view.set]{fullShare} f7) ∗ ⌜tiles (arg7.view.read (Elt F) f7) k = scores v17 v33 (arg4.view.read (Elt F) X4) k⌝)
    ∗ (∃ f8, (arg8.view.loc (c : Thread nD τ) ↦[arg8.view.set]{fullShare} f8)
        ∗ ⌜(lo (arg8.view.read (Elt F) f8), hi (arg8.view.read (Elt F) f8))
            = maxs v17 v33 (arg4.view.read (Elt F) X4) (lo (arg8.view.read (Elt F) G8), hi (arg8.view.read (Elt F) G8)) k⌝))

/-- The first loop by its invariant. -/
@[instance_reducible, sl_loop] def loop1 (v17 v33 : FVec F S512x256 .bf16) (v36 : IVec S512x512 1) (v37 : FVec F S2x512x512 .f32)
    (X4 : BufTy.Contents (Elt F) arg4.view.ty) (G8 : BufTy.Contents (Elt F) arg8.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg2 v17 v33 v36 v37 where
  inv k _ := inv1 c arg4 arg7 arg8 v17 v33 X4 G8 k
  step k acc := by
    have hk : k.val < 8 := lt_of_lt_of_le k.isLt ((k0_t1_abs i).2.1.trans (by decide))
    unfold k0_t1_body inv1
    iintro ⟨H4, ⟨%f7, H7, %h7⟩, ⟨%f8, H8, %h8⟩⟩
    sl_exec
    sl_step
    isplitl [H4]; · iexact H4
    have e4 : View.readAt (Elt F) arg4.view (Rect.unit (s := S1x4096x256) (k0_off1 i k) S1x512x256.size (k0_off1_inb i k)).toLoadRect X4
        = kTile (arg4.view.read (Elt F) X4) k.val := by
      rw [View.readAt_unit arg4.view X4 _ (k0_off1_eq i k) (by rw [← k0_off1_eq i k]; exact k0_off1_inb i k)]
      exact kTile_eq _ _ hk _
    isplitl [H7]
    · iexists _; isplitl [H7]; · iexact H7
      ipureintro
      rw [e4, View.read_writes_cons_put _ _ _ _ _ (k0_off3_eq i k), View.read_writes_cons_put _ _ _ _ _ (k0_off2_eq i k), View.writes_nil]
      show (_, _) :: _ = (_, _) :: _
      rw [tiles_put _ 1 k.val _ hk _ le_rfl, tiles_put _ 0 k.val _ hk _ le_rfl, h7, sTile_put_same _ 1 k.val ⟨by decide, hk⟩,
        sTile_put_ne _ 1 k.val 0 k.val ⟨by decide, hk⟩ (.inl (by decide)), sTile_put_same _ 0 k.val ⟨by decide, hk⟩]
    iexists _; isplitl [H8]; · iexact H8
    ipureintro
    have e0 : View.readAt (Elt F) arg8.view (Rect.unit (s := S2x512x512) ![0, 0, 0] S1x512x512.size inb_S2x512x512_S1x512x512_0_0_0).toLoadRect f8
        = lo (arg8.view.read (Elt F) f8) := rfl
    have e1 : loop1.sl.v155 c arg8 f8 = hi (arg8.view.read (Elt F) f8) := rfl
    rw [e4, e0, e1, View.read_writes_cons_put _ _ _ _ _ rfl, View.read_writes_cons_put _ _ _ _ _ rfl, View.writes_nil, lo_put_hi, lo_put_lo, hi_put_hi]
    show (_, _) = (_, _)
    rw [← h8]

/-- Before trip `k` of the second loop: the values, the score tiles, the row maxima, the sums and the accumulators. -/
abbrev inv2 (X5 : BufTy.Contents (Elt F) arg5.view.ty) (X7 : BufTy.Contents (Elt F) arg7.view.ty) (X8 : BufTy.Contents (Elt F) arg8.view.ty)
    (G9 : BufTy.Contents (Elt F) arg9.view.ty) (G10 : BufTy.Contents (Elt F) arg10.view.ty) (k : ℕ) : sProp 𝕄 :=
  iprop((arg5.view.loc (c : Thread nD τ) ↦[arg5.view.set]{fullShare} X5)
    ∗ (arg7.view.loc (c : Thread nD τ) ↦[arg7.view.set]{fullShare} X7)
    ∗ (arg8.view.loc (c : Thread nD τ) ↦[arg8.view.set]{fullShare} X8)
    ∗ (∃ f9 f10, (arg9.view.loc (c : Thread nD τ) ↦[arg9.view.set]{fullShare} f9) ∗ (arg10.view.loc (c : Thread nD τ) ↦[arg10.view.set]{fullShare} f10)
        ∗ ⌜((lo (arg9.view.read (Elt F) f9), hi (arg9.view.read (Elt F) f9)), (loA (arg10.view.read (Elt F) f10), hiA (arg10.view.read (Elt F) f10)))
            = sums (arg5.view.read (Elt F) X5) (sTile (arg7.view.read (Elt F) X7) 0) (sTile (arg7.view.read (Elt F) X7) 1) (lo (arg8.view.read (Elt F) X8)) (hi (arg8.view.read (Elt F) X8))
                ((lo (arg9.view.read (Elt F) G9), hi (arg9.view.read (Elt F) G9)), (loA (arg10.view.read (Elt F) G10), hiA (arg10.view.read (Elt F) G10))) k⌝))

/-- The second loop by its invariant. -/
@[instance_reducible, sl_loop] def loop2 (v99 : FVec F S2x512x128 .f32)
    (X5 : BufTy.Contents (Elt F) arg5.view.ty) (X7 : BufTy.Contents (Elt F) arg7.view.ty) (X8 : BufTy.Contents (Elt F) arg8.view.ty)
    (G9 : BufTy.Contents (Elt F) arg9.view.ty) (G10 : BufTy.Contents (Elt F) arg10.view.ty) :
    LoopInvTy_k0_t3 (F := F) Unit ℕ (UR sig nD τ) ℕ 𝒱 c bd E i arg3 harg3 arg4 harg4 arg5 harg5 arg6 harg6 arg7 harg7 arg8 harg8 arg9 harg9 arg10 harg10 arg2 v99 where
  inv k _ := inv2 c arg5 arg7 arg8 arg9 arg10 X5 X7 X8 G9 G10 k
  step k acc := by
    have hk : k.val < 8 := lt_of_lt_of_le k.isLt (k0_t3_abs i).2.1
    unfold k0_t3_body inv2
    simp only [k0_part1_eq_skeleton]
    iintro ⟨H5, H7, H8, ⟨%f9, %f10, H9, H10, %h⟩⟩
    sl_exec
    sl_step
    isplitl [H5]; · iexact H5
    isplitl [H7]; · iexact H7
    isplitl [H8]; · iexact H8
    iexists _, _; isplitl [H9]; · iexact H9
    isplitl [H10]; · iexact H10
    ipureintro
    have ev : View.readAt (Elt F) arg5.view (Rect.unit (s := S1x4096x128) (k0_off10 i k) S1x512x128.size (k0_off10_inb i k)).toLoadRect X5
        = vTile (arg5.view.read (Elt F) X5) k.val := by
      rw [View.readAt_unit arg5.view X5 _ (k0_off10_eq i k) (by rw [← k0_off10_eq i k]; exact k0_off10_inb i k)]
      exact vTile_eq _ _ hk _
    have es : View.readAt (Elt F) arg7.view (Rect.unit (s := S2x8x512x512) (k0_off11 i k) S1x1x512x512.size (k0_off11_inb i k)).toLoadRect X7
        = sTile (arg7.view.read (Elt F) X7) 0 k.val := by
      rw [View.readAt_unit arg7.view X7 _ (k0_off11_eq i k) (by rw [← k0_off11_eq i k]; exact k0_off11_inb i k)]
      exact sTile_eq _ _ _ ⟨by decide, hk⟩ _
    have et : loop2.sl.r_1 i arg7 X7 k = k0_pay6 (sTile (arg7.view.read (Elt F) X7) 1 k.val) := by
      show k0_pay6 (View.readAt (Elt F) arg7.view (Rect.unit (s := S2x8x512x512) (k0_off12 i k) S1x1x512x512.size (k0_off12_inb i k)).toLoadRect X7) = _
      rw [View.readAt_unit arg7.view X7 _ (k0_off12_eq i k) (by rw [← k0_off12_eq i k]; exact k0_off12_inb i k)]
      exact congrArg k0_pay6 (sTile_eq _ _ _ ⟨by decide, hk⟩ _)
    have ew : loop2.sl.r i arg5 X5 k = k0_pay2 (vTile (arg5.view.read (Elt F) X5) k.val) := congrArg k0_pay2 ev
    have e80 : View.readAt (Elt F) arg8.view (Rect.unit (s := S2x512x512) ![0, 0, 0] S1x512x512.size inb_S2x512x512_S1x512x512_0_0_0).toLoadRect X8
        = lo (arg8.view.read (Elt F) X8) := rfl
    have e81 : View.readAt (Elt F) arg8.view (Rect.unit (s := S2x512x512) ![1, 0, 0] S1x512x512.size inb_S2x512x512_S1x512x512_1_0_0).toLoadRect X8
        = hi (arg8.view.read (Elt F) X8) := rfl
    have e90 : View.readAt (Elt F) arg9.view (Rect.unit (s := S2x512x512) ![0, 0, 0] S1x512x512.size inb_S2x512x512_S1x512x512_0_0_0).toLoadRect f9
        = lo (arg9.view.read (Elt F) f9) := rfl
    have e91 : loop2.sl.v167 c arg9 f9 = hi (arg9.view.read (Elt F) f9) := rfl
    have ea0 : View.readAt (Elt F) arg10.view (Rect.unit (s := S2x512x128) ![0, 0, 0] S1x512x128.size inb_S2x512x128_S1x512x128_0_0_0).toLoadRect f10
        = loA (arg10.view.read (Elt F) f10) := rfl
    have ea1 : loop2.sl.v173 c arg10 f10 = hiA (arg10.view.read (Elt F) f10) := rfl
    rw [e81, ev, es, et, ew, e80, e90, e91, ea0, ea1, View.read_writes_cons_put _ _ _ _ _ rfl, View.read_writes_cons_put _ _ _ _ _ rfl, View.writes_nil,
      View.read_writes_cons_put _ _ _ _ _ rfl, View.read_writes_cons_put _ _ _ _ _ rfl, View.writes_nil]
    refine (congrArg₂ Prod.mk (congrArg₂ Prod.mk ((lo_put_hi _ _).trans (lo_put_lo _ _)) (hi_put_hi _ _))
      (congrArg₂ Prod.mk ((loA_put_hi _ _).trans (loA_put_lo _ _)) (hiA_put_hi _ _))).trans ?_
    show ((_, _), (_, _)) = ((_, _), (_, _))
    rw [← h]

end Inv

end Cert.Proof.Mla

end
-- ==== Proof.Mla.Body.lean ====
/-
  One grid step of the attention kernel: from the query tile, the keys and the values the body leaves
  the output block `out`, whatever its four scratch tables held.
-/
module

public import proofs.«01_k».proof.Proof.Mla.Loops

@[expose] public section

set_option maxRecDepth 16384

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body on whole buffers: the inputs come back as they were, the output holds `out`, the scratch anything. -/
theorem sound_kernel (c : Dev nD) (E : Set ℕ) (i : grid0.Coords)
  (arg3 : Memref sig .tc .vmem S1x512x256 .bf16) (harg3 : arg3.IsWhole) (arg4 : Memref sig .tc .vmem S1x4096x256 .bf16) (harg4 : arg4.IsWhole)
  (arg5 : Memref sig .tc .vmem S1x4096x128 .bf16) (harg5 : arg5.IsWhole) (arg6 : Memref sig .tc .vmem S1x512x128 .f32) (harg6 : arg6.IsWhole)
  (arg7 : Memref sig .tc .vmem S2x8x512x512 .f32) (harg7 : arg7.IsWhole) (arg8 : Memref sig .tc .vmem S2x512x512 .f32) (harg8 : arg8.IsWhole)
  (arg9 : Memref sig .tc .vmem S2x512x512 .f32) (harg9 : arg9.IsWhole) (arg10 : Memref sig .tc .vmem S2x512x128 .f32) (harg10 : arg10.IsWhole)
    (x3 : Vec F S1x512x256 .bf16) (x4 : Vec F S1x4096x256 .bf16) (x5 : Vec F S1x4096x128 .bf16) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x3 ∗ owns (c : Thread nD τ) arg4 fullShare x4 ∗ owns (c : Thread nD τ) arg5 fullShare x5
            ∗ owns (c : Thread nD τ) arg6 fullShare (out x3 x4 x5 (i 2).val) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)) -∗ K ⟨⟩))
      ⊢ wp frame (wpE (defs₀ (F := F)) Variants.none c none) E
          (cc0_mla_attn i arg3 harg3 arg4 harg4 arg5 harg5 arg6 harg6 arg7 harg7 arg8 harg8 arg9 harg9 arg10 harg10) K := by
  simp only [cc0_mla_attn_eq_skeleton]; unfold cc0_mla_attn_skel
  simp only [k0_part3_eq_skeleton, k0_part4_eq_skeleton, k0_part5_eq_skeleton, k0_part6_eq_skeleton]
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf3 hf4 hf5
  sl_exec
  sl_step
  have ht1 : Scf.trips (k0_t1_loop i).lb (k0_t1_loop i).ub (k0_t1_loop i).st = (i 2).val := trips_t1 i
  have ht3 : Scf.trips (k0_t3_loop i).lb (k0_t3_loop i).ub (k0_t3_loop i).st = (i 2).val + 1 := trips_t3 i
  have hn : (i 2).val < 8 := (i 2).isLt
  have er : sound_kernel.sl.r c arg3 f3 = qlo (arg3.view.read (Elt F) f3) := congrArg k0_pay13 (View.readAt_full _ _ _)
  have er1 : sound_kernel.sl.r_1 c arg3 f3 = qhi (arg3.view.read (Elt F) f3) := congrArg k0_pay14 (View.readAt_full _ _ _)
  have ek : View.readAt (Elt F) arg4.view (Rect.unit (s := S1x4096x256) (k0_off7 i) S1x512x256.size (k0_off7_inb i)).toLoadRect f4
      = kTile (arg4.view.read (Elt F) f4) (i 2).val := by
    rw [View.readAt_unit arg4.view f4 _ (k0_off7_eq i) (by rw [← k0_off7_eq i]; exact k0_off7_inb i)]
    exact kTile_eq _ _ hn _
  have er2 : sound_kernel.sl.r_2 c i arg3 arg4 f3 f4
      = k0_pay36 (qhi (arg3.view.read (Elt F) f3)) k0_pay15 (kTile (arg4.view.read (Elt F) f4) (i 2).val) := by
    unfold sound_kernel.sl.r_2; rw [er1, ek]
  have er3 : sound_kernel.sl.r_3 c i arg3 arg4 f3 f4
      = k0_pay37 (qhi (arg3.view.read (Elt F) f3)) k0_pay15 (kTile (arg4.view.read (Elt F) f4) (i 2).val) := by
    unfold sound_kernel.sl.r_3; rw [er1, ek]
  rw [ht1, er, er1] at hL2 hL4
  -- the running maxima begin at what the first store put there
  have e81 : arg8.view.read (Elt F) (arg8.view.writes (Elt F) arg8.view.junk sound_kernel.sl.H8_1) = k0_pay17 k0_pay16 :=
    View.read_writes_full _ _ _ _ _
  rw [e81] at hL4
  have hm0 : lo (arg8.view.read (Elt F) f8L1) = (mx (arg3.view.read (Elt F) f3) (arg4.view.read (Elt F) f4) (i 2).val).1 := congrArg Prod.fst hL4
  have hm1 : hi (arg8.view.read (Elt F) f8L1) = (mx (arg3.view.read (Elt F) f3) (arg4.view.read (Elt F) f4) (i 2).val).2 := congrArg Prod.snd hL4
  -- the stores of the diagonal and of the row maxima
  have e77 : sound_kernel.sl.v77 c i arg3 arg4 arg8 f3 f4 f8L1
      = k0_pay35 (qlo (arg3.view.read (Elt F) f3)) k0_pay15 (kTile (arg4.view.read (Elt F) f4) (i 2).val) (mx (arg3.view.read (Elt F) f3) (arg4.view.read (Elt F) f4) (i 2).val).1 := by
    show lo (arg8.view.read (Elt F) (arg8.view.writes (Elt F) arg8.view.junk (sound_kernel.sl.H8_2 c i arg3 arg4 arg8 f3 f4 f8L1))) = _
    unfold sound_kernel.sl.H8_2
    rw [View.read_writes_cons_put _ _ _ _ _ rfl, View.read_writes_cons_put _ _ _ _ _ rfl, er, ek]
    refine (lo_put_hi _ _).trans ((lo_put_lo _ _).trans ?_)
    exact congrArg _ hm0
  have e86 : sound_kernel.sl.v86 c i arg3 arg4 arg8 f3 f4 f8L1
      = k0_pay38 (k0_pay36 (qhi (arg3.view.read (Elt F) f3)) k0_pay15 (kTile (arg4.view.read (Elt F) f4) (i 2).val)) (mx (arg3.view.read (Elt F) f3) (arg4.view.read (Elt F) f4) (i 2).val).2 := by
    show hi (arg8.view.read (Elt F) (arg8.view.writes (Elt F) arg8.view.junk (sound_kernel.sl.H8_3 c i arg3 arg4 arg8 f3 f4 f8L1))) = _
    unfold sound_kernel.sl.H8_3 sound_kernel.sl.H8_2
    rw [View.read_writes_cons_put _ _ _ _ _ rfl, View.read_writes_cons_put _ _ _ _ _ rfl, er2]
    refine (hi_put_lo _ _).trans ((hi_put_hi _ _).trans ?_)
    exact congrArg _ hm1
  have e8 : lo (arg8.view.read (Elt F) (arg8.view.writes (Elt F) arg8.view.junk (sound_kernel.sl.H8_4 c i arg3 arg4 arg8 f3 f4 f8L1)))
        = mf0 (arg3.view.read (Elt F) f3) (arg4.view.read (Elt F) f4) (i 2).val
      ∧ hi (arg8.view.read (Elt F) (arg8.view.writes (Elt F) arg8.view.junk (sound_kernel.sl.H8_4 c i arg3 arg4 arg8 f3 f4 f8L1)))
        = mf1 (arg3.view.read (Elt F) f3) (arg4.view.read (Elt F) f4) (i 2).val := by
    unfold sound_kernel.sl.H8_4 sound_kernel.sl.H8_3
    rw [View.read_writes_cons_put _ _ _ _ _ rfl, View.read_writes_cons_put _ _ _ _ _ rfl, e77, e86]
    exact ⟨(lo_put_hi _ _).trans (lo_put_lo _ _), hi_put_hi _ _⟩
  have e9 : arg9.view.read (Elt F) (arg9.view.writes (Elt F) arg9.view.junk sound_kernel.sl.H9_1) = k0_pay41 :=
    View.read_writes_full _ _ _ _ _
  have e10 : arg10.view.read (Elt F) (arg10.view.writes (Elt F) arg10.view.junk sound_kernel.sl.H10_1) = k0_pay43 k0_pay42 :=
    View.read_writes_full _ _ _ _ _
  rw [ht3, e8.1, e8.2, e9, e10, er3, er, ek, View.read_writes_cons_put _ _ _ _ _ (k0_off9_eq i), View.read_writes_cons_put _ _ _ _ _ (k0_off8_eq i), View.writes_nil,
    sums_congr _ _ _ (sc0 (qlo (arg3.view.read (Elt F) f3)) (arg4.view.read (Elt F) f4) (i 2).val) (sc1 (qhi (arg3.view.read (Elt F) f3)) (arg4.view.read (Elt F) f4) (i 2).val) _ _ _ _ (by
      intro j hj
      unfold sc0 sc1
      by_cases hjn : j = (i 2).val
      · subst hjn
        rw [if_pos rfl, if_pos rfl]
        exact ⟨(sTile_put_ne _ 1 _ 0 _ ⟨by decide, hn⟩ (.inl (by decide)) _).trans (sTile_put_same _ 0 _ ⟨by decide, hn⟩ _), sTile_put_same _ 1 _ ⟨by decide, hn⟩ _⟩
      · rw [if_neg hjn, if_neg hjn]
        have hj' : j < (i 2).val := by omega
        have ht := tiles_eq _ _ _ _ _ hL2 j hj'
        exact ⟨(sTile_put_ne _ 1 _ 0 _ ⟨by decide, by omega⟩ (.inl (by decide)) _).trans ((sTile_put_ne _ 0 _ 0 _ ⟨by decide, by omega⟩ (.inr (Ne.symm hjn)) _).trans ht.1),
          (sTile_put_ne _ 1 _ 1 _ ⟨by decide, by omega⟩ (.inr (Ne.symm hjn)) _).trans ((sTile_put_ne _ 0 _ 1 _ ⟨by decide, by omega⟩ (.inl (by decide)) _).trans ht.2)⟩)] at hL11
  have eo : sound_kernel.sl.r_4 c arg9 arg10 f9L2 f10L3
      = k0_pay50 (loA (arg10.view.read (Elt F) f10L3)) (lo (arg9.view.read (Elt F) f9L2)) (hiA (arg10.view.read (Elt F) f10L3)) (hi (arg9.view.read (Elt F) f9L2)) := rfl
  have hc : ((lo (arg9.view.read (Elt F) f9L2), hi (arg9.view.read (Elt F) f9L2)), (loA (arg10.view.read (Elt F) f10L3), hiA (arg10.view.read (Elt F) f10L3)))
      = carry (arg3.view.read (Elt F) f3) (arg4.view.read (Elt F) f4) (arg5.view.read (Elt F) f5) (i 2).val := hL11
  have hA : k0_pay1 (sound_kernel.sl.r_4 c arg9 arg10 f9L2 f10L3)
      = out (arg3.view.read (Elt F) f3) (arg4.view.read (Elt F) f4) (arg5.view.read (Elt F) f5) (i 2).val := by
    rw [eo]; unfold out; rw [← hc]
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [hA]
    exact View.read_writes_full _ _ _ _ _
  isplitl [H7]
  · iexists _, _; isplitr
    swap; · iexact H7
    ipureintro; rfl
  isplitl [H8]
  · iexists _, _; isplitr
    swap; · iexact H8
    ipureintro; rfl
  isplitl [H9]
  · iexists _, _; isplitr
    swap; · iexact H9
    ipureintro; rfl
  iexists _, _; isplitr
  swap; · iexact H10
  ipureintro; rfl

end Cert.Proof.Mla

end
-- ==== Proof.Mla.Run.lean ====
/-
  The whole launch of the attention kernel: every grid point leaves `out` of its input blocks in the
  output's block, the arguments end as they began and every semaphore counter at zero.
-/
module

public import proofs.«01_k».proof.Proof.Mla.Body
public import proofs.«01_k».proof.Proof.Gen.KernelIdeal.Points
public import proofs.«01_k».proof.Proof.Gen.KernelIdeal.Frame
public import Idealize.ShloMosaic.Lib.Pipeline.FrameBody
public import Idealize.ShloMosaic.Lib.Claim

@[expose] public section

set_option maxRecDepth 16384

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: each input's buffer at its block after every point, the output's at `out` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (iblk m c 0 t) (iblk m c 1 t) (iblk m c 2 t) (grid0.coords t 2).val
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out (iblk m c 0 t) (iblk m c 1 t) (iblk m c 2 t) (grid0.coords t 2).val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The scratch tables between the points: each owned whole at some contents, beside the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
        ∗ (∃ r, prngReg c r)) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- and what it returns with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1000000 in
/-- The body at any point. -/
theorem sound_body (c : Dev nD) (t : Fin cfg0.N) :
    bodyPre (F := F) m c t
      ⊢ wp frame (wpE (defs₀ (F := F)) Variants.none c none) Set.univ (bodyAt0 (F := F) t) (fun _ => bodyPost m c t) := by
  unfold bodyPre bodyPost bodyAt0
  simp only [before0_0, before0_1, before0_2]
  rw [show (dats m 0 c).Φ t.succ = (dats m 0 c).Φ t.castSucc from rfl, show (dats m 0 c).owesAt () t.succ = (dats m 0 c).owesAt () t.castSucc from rfl,
    after0_0, after0_1, after0_2, after0_3]
  rw [show (dats m 0 c).Φ t.castSucc = Pipeline.ΦA spec0 c from rfl, PhiA_eq]
  iintro ⟨⟨⟨HS0, HS1, HS2, HS3⟩, Hg⟩, Ho, ⟨%d0, H0⟩, ⟨%d1, H1⟩, ⟨%d2, H2⟩, ⟨%d3, H3⟩⟩
  iapply (sound_kernel c Set.univ (grid0.coords t) (st0_0 t) _ (st0_1 t) _ (st0_2 t) _ (st0_3 t) _ (Memref.whole cc0_scratch0) _ (Memref.whole cc0_scratch1) _
    (Memref.whole cc0_scratch2) _ (Memref.whole cc0_scratch3) _ (iblk m c 0 t) (iblk m c 1 t) (iblk m c 2 t))
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    · iexact Hg
  isplitl [Ho]; · iexact Ho
  isplitl [H0]; · iexact H0
  isplitl [H1]; · iexact H1
  isplitl [H2]; · iexact H2
  iexact H3

/-- The program's body at a point is the kernel on that point's buffers. -/
theorem defs_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
set_option maxHeartbeats 800000 in
/-- The run: every array at what the grid left in it, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl) (howed := fun _ _ => rfl)
    (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The launch ends with every argument as it began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ)) ((θ_run defs _ _).mono (fun _ h => h.2) (run_main_quiescent m ρ))

end Cert.Proof.Mla

end
-- ==== Proof.Mla.Math.lean ====
/-
  The mathematics of the tiled softmax over the extended reals: a row of 4096 masked scores cut in
  eight tiles of 512, its maximum, the sum of its exponentials, and the quotient by that sum taken
  before or after the weighted sum of the values.
-/
module

public import Idealize.ShloMosaic.PureOps.Ideal
public import Idealize.ShloMosaic.PureOps.Ideal.Laws

@[expose] public section

noncomputable section

namespace Cert.Proof.Mla

open Idealize.ShloMosaic

/-- Position `c` of tile `j` in a row of 4096. -/
def at8 (j : ℕ) (c : Fin 512) : Fin 4096 := ⟨(512 * j + c.val) % 4096, Nat.mod_lt _ (by decide)⟩

/-- It is `512 j + c`. -/
theorem at8_val (j : ℕ) (hj : j < 8) (c : Fin 512) : (at8 j c).val = 512 * j + c.val := by
  have := c.isLt
  show (512 * j + c.val) % 4096 = _
  omega

/-- Every position of the row is one of a tile. -/
theorem exists_at8 (C : Fin 4096) : ∃ j, j < 8 ∧ ∃ c, at8 j c = C ∧ C.val = 512 * j + c.val := by
  have := C.isLt
  refine ⟨C.val / 512, by omega, ⟨C.val % 512, by omega⟩, ?_, ?_⟩
  · apply Fin.ext
    rw [at8_val _ (by omega)]
    show 512 * (C.val / 512) + C.val % 512 = _
    omega
  · show C.val = 512 * (C.val / 512) + C.val % 512
    omega

/-- A sum over the row is the sum of the tiles' sums. -/
theorem sum_at8 {M : Type} [AddCommMonoid M] (f : Fin 4096 → M) :
    ∑ C, f C = ∑ j ∈ Finset.range 8, ∑ c, f (at8 j c) := by
  rw [Finset.sum_range, ← Fintype.sum_prod_type', ← Equiv.sum_comp (finProdFinEquiv (m := 8) (n := 512))]
  refine Finset.sum_congr rfl fun x _ => congrArg f (Fin.ext ?_)
  rw [at8_val _ x.1.isLt, finProdFinEquiv_apply_val]
  omega

/-- Where the row vanishes behind tile `n`, the first `n + 1` tiles make the whole sum. -/
theorem sum_tiles {M : Type} [AddCommMonoid M] (f : Fin 4096 → M) (n : ℕ) (hn : n < 8) (h : ∀ C : Fin 4096, 512 * (n + 1) ≤ C.val → f C = 0) :
    ∑ C, f C = ∑ j ∈ Finset.range (n + 1), ∑ c, f (at8 j c) := by
  rw [sum_at8]
  refine (Finset.sum_subset (Finset.range_subset_range.2 (by omega)) fun j hj hj' => ?_).symm
  rw [Finset.mem_range] at hj hj'
  refine Finset.sum_eq_zero fun c _ => h _ ?_
  rw [at8_val _ hj]
  omega

/-- The largest of a row that is `⊥` behind tile `n` is the largest of the first `n + 1` tiles. -/
theorem sup_tiles (f : Fin 4096 → EReal) (n : ℕ) (hn : n < 8) (h : ∀ C : Fin 4096, 512 * (n + 1) ≤ C.val → f C = ⊥) :
    Finset.univ.sup f = Finset.univ.sup fun c : Fin 512 => (Finset.range (n + 1)).sup fun j => f (at8 j c) := by
  apply le_antisymm
  · refine Finset.sup_le fun C _ => ?_
    obtain ⟨j, hj, c, hc, hv⟩ := exists_at8 C
    by_cases hjn : j < n + 1
    · refine le_trans ?_ (Finset.le_sup (Finset.mem_univ c))
      rw [← hc]
      exact Finset.le_sup (f := fun j => f (at8 j c)) (Finset.mem_range.2 hjn)
    · rw [h C (by omega)]
      exact bot_le
  · refine Finset.sup_le fun c _ => Finset.sup_le fun j _ => Finset.le_sup (Finset.mem_univ _)

/-- A fold by `max` from `⊥` is the least upper bound. -/
theorem fold_max {ι : Type} (s : Finset ι) (f : ι → EReal) : s.fold max ⊥ f = s.sup f := rfl

/-- A nonnegative finite factor moves into a sum. -/
theorem sum_mul_real {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih, mul_comm, EReal.left_distrib_of_nonneg_of_ne_top (EReal.coe_nonneg.2 ha) (EReal.coe_ne_top a),
      mul_comm, mul_comm (a : EReal) (∑ i ∈ s, f i)]

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential of a score below the maximum is a nonnegative real. -/
theorem exp_sub_real (x : EReal) (m : ℝ) (hx : x ≠ ⊤) : ∃ p : ℝ, 0 ≤ p ∧ Ideal.exp (x - (m : EReal)) = (p : EReal) ∧ (x ≠ ⊥ → 0 < p) := by
  induction x using EReal.rec with
  | bot => exact ⟨0, le_refl _, by rw [EReal.bot_sub]; simp, fun h => absurd rfl h⟩
  | coe r => exact ⟨Real.exp (r - m), (Real.exp_pos _).le, by rw [← EReal.coe_sub, Ideal.exp_coe], fun _ => Real.exp_pos _⟩
  | top => exact absurd rfl hx

/-- The sum of the exponentials of a row with a finite maximum is a positive real. -/
theorem sum_exp_real (S : Fin 4096 → EReal) (m : ℝ) (htop : ∀ C, S C ≠ ⊤) (hown : ∃ C, S C ≠ ⊥) :
    ∃ L : ℝ, 0 < L ∧ ∑ C, Ideal.exp (S C - (m : EReal)) = (L : EReal) := by
  choose p hp0 hp hpos using fun C => exp_sub_real (S C) m (htop C)
  obtain ⟨C, hC⟩ := hown
  refine ⟨∑ C, p C, lt_of_lt_of_le (hpos C hC) (Finset.single_le_sum (fun i _ => hp0 i) (Finset.mem_univ C)), ?_⟩
  rw [coe_sum]
  exact Finset.sum_congr rfl fun i _ => hp i

/-- The largest of a row of scores below `⊤`, one of them above `⊥`, is a real. -/
theorem sup_real (S : Fin 4096 → EReal) (htop : ∀ C, S C ≠ ⊤) (hown : ∃ C, S C ≠ ⊥) : ∃ m : ℝ, Finset.univ.sup S = (m : EReal) := by
  obtain ⟨C, hC⟩ := hown
  have h1 : Finset.univ.sup S ≠ ⊥ := fun h => hC (le_bot_iff.1 (h ▸ Finset.le_sup (Finset.mem_univ C)))
  have h2 : Finset.univ.sup S ≠ ⊤ := by
    refine ne_of_lt ((Finset.sup_lt_iff (bot_lt_top)).2 fun i _ => lt_top_iff_ne_top.2 (htop i))
  exact ⟨(Finset.univ.sup S).toReal, (EReal.coe_toReal h2 h1).symm⟩

/-- **The tiled softmax is the softmax.** For a row of scores that is `⊥` behind tile `n`, below `⊤`
    everywhere and above `⊥` somewhere: the weighted sum of the values over the tiles, divided at the
    end by the tiles' sum, is the sum of the values weighted by the quotients. -/
theorem softmax_tiles (S v : Fin 4096 → EReal) (n : ℕ) (hn : n < 8) (hS : ∀ C : Fin 4096, 512 * (n + 1) ≤ C.val → S C = ⊥)
    (htop : ∀ C, S C ≠ ⊤) (hown : ∃ C, S C ≠ ⊥) (m : EReal) (hm : m = Finset.univ.sup S) :
    Ideal.div (∑ j ∈ Finset.range (n + 1), ∑ c, Ideal.exp (S (at8 j c) - m) * v (at8 j c))
        (∑ c : Fin 512, ∑ j ∈ Finset.range (n + 1), Ideal.exp (S (at8 j c) - m))
      = ∑ C, v C * Ideal.div (Ideal.exp (S C - m)) (∑ C, Ideal.exp (S C - m)) := by
  have hz : ∀ C : Fin 4096, 512 * (n + 1) ≤ C.val → Ideal.exp (S C - m) = 0 := fun C hC => by
    rw [hS C hC, EReal.bot_sub, Ideal.exp_bot]
  rw [Finset.sum_comm (s := (Finset.univ : Finset (Fin 512))), ← sum_tiles (fun C => Ideal.exp (S C - m)) n hn hz,
    ← sum_tiles (fun C => Ideal.exp (S C - m) * v C) n hn fun C hC => by rw [hz C hC, zero_mul]]
  obtain ⟨μ, hμ⟩ := sup_real S htop hown
  rw [hm, hμ]
  obtain ⟨L, hL, e⟩ := sum_exp_real S μ htop hown
  rw [e, Ideal.div_coe hL.ne', sum_mul_real _ _ _ (one_div_nonneg.2 hL.le)]
  refine Finset.sum_congr rfl fun C _ => ?_
  rw [Ideal.div_coe hL.ne', mul_comm (Ideal.exp _) (v C), mul_assoc]

end Cert.Proof.Mla

end
-- ==== Proof.Mla.Score.lean ====
/-
  The attention kernel's payloads at an index: the score tiles of one query tile are the masked scores
  of one row of keys, their running maxima the maximum of that row, and what the second loop adds up
  the row's exponentials and their products with the values.
-/
module

public import proofs.«01_k».proof.Proof.Mla.Fold
public import proofs.«01_k».proof.Proof.Mla.Math
public import Idealize.ShloMosaic.Lib.Pointwise

@[expose] public section

set_option maxRecDepth 16384

noncomputable section

namespace Cert.Proof.Mla

open Cert.KernelIdeal Cert.KernelIdeal.Gen
open Idealize.ShloMosaic Idealize.ShloMosaic.TcCoe

/-- The literal for minus infinity is `⊥`. -/
theorem ofBits_neg_inf : Ideal.ofBits FTy.f32 4286578688#32 = ⊥ := by
  simp [Ideal.ofBits, Ideal.ieee]

/-- A select on the word of a decidable proposition. -/
theorem select_ofBool {α : Type} (p : Prop) [Decidable p] (a b : α) : Scalar.select (BitVec.ofBool (decide p)) a b = if p then a else b := by
  by_cases h : p <;> simp [h, Scalar.select]

/-- Row `c` of key tile `j` is row `512 j + c` of the keys. -/
theorem kTile_apply (X : Vec Ideal S1x4096x256 .bf16) (j : ℕ) (h : j < 8) (c : Fin 512) (l : Fin 256) :
    kTile X j (ix3 0 c l) = X (ix3 0 (at8 j c) l) := by
  unfold kTile
  rw [dif_pos h]
  refine congrArg X (funext fun a => Fin.ext ?_)
  match a with
  | ⟨0, _⟩ => rfl
  | ⟨1, _⟩ =>
    show 512 * j + 1 * c.val = (at8 j c).val
    rw [at8_val j h c]; omega
  | ⟨2, _⟩ =>
    show 0 + 1 * l.val = l.val
    omega

/-- Row `c` of value tile `j` is row `512 j + c` of the values. -/
theorem vTile_apply (X : Vec Ideal S1x4096x128 .bf16) (j : ℕ) (h : j < 8) (c : Fin 512) (l : Fin 128) :
    vTile X j (ix3 0 c l) = X (ix3 0 (at8 j c) l) := by
  unfold vTile
  rw [dif_pos h]
  refine congrArg X (funext fun a => Fin.ext ?_)
  match a with
  | ⟨0, _⟩ => rfl
  | ⟨1, _⟩ =>
    show 512 * j + 1 * c.val = (at8 j c).val
    rw [at8_val j h c]; omega
  | ⟨2, _⟩ =>
    show 0 + 1 * l.val = l.val
    omega

/-! ## The two heads' lanes -/

/-- Lane `d` of head `e` without rotation, in the packed 256 lanes of a pair. -/
def laneN (e : Fin 2) (d : Fin 64) : Fin 256 := ⟨64 * e.val + d.val, by omega⟩
/-- Lane `d` of head `e` with rotation. -/
def laneR (e : Fin 2) (d : Fin 32) : Fin 256 := ⟨128 + (32 * e.val + d.val), by omega⟩

/-- The product of a query and a key over the lanes of head `e`. -/
def hdot (e : Fin 2) (f g : Fin 256 → EReal) : EReal :=
  (∑ d, f (laneN e d) * g (laneN e d)) + ∑ d, f (laneR e d) * g (laneR e d)

/-- Over all lanes, with the others' queries zero, it is head `0`'s. -/
theorem sum_lo (f g : Fin 256 → EReal) :
    (∑ l : Fin 256, (if l.val < 64 ∨ (128 ≤ l.val ∧ l.val < 160) then f l else 0) * g l) = hdot 0 f g := by
  rw [Fin.sum_univ_two_halves 64 192 rfl, Fin.sum_univ_two_halves 64 128 rfl, Fin.sum_univ_two_halves 32 96 rfl]
  refine congrArg₂ (· + ·) (Finset.sum_congr rfl fun d _ => ?_) ((congrArg₂ (· + ·) (Finset.sum_eq_zero fun d _ => ?_)
    (congrArg₂ (· + ·) (Finset.sum_congr rfl fun d _ => ?_) (Finset.sum_eq_zero fun d _ => ?_))).trans ((zero_add _).trans (add_zero _)))
  all_goals have hd := d.isLt
  · rw [if_pos (Or.inl d.isLt)]
    have : (⟨d.val, by omega⟩ : Fin 256) = laneN 0 d := Fin.ext (by show d.val = 64 * 0 + d.val; omega)
    rw [this]
  · rw [if_neg (by simp only []; omega), zero_mul]
  · rw [if_pos (by simp only []; omega)]
    have : (⟨64 + (64 + d.val), by omega⟩ : Fin 256) = laneR 0 d := Fin.ext (by show 64 + (64 + d.val) = 128 + (32 * 0 + d.val); omega)
    rw [this]
  · rw [if_neg (by simp only []; omega), zero_mul]

/-- And with the others zero for head `1`. -/
theorem sum_hi (f g : Fin 256 → EReal) :
    (∑ l : Fin 256, (if (64 ≤ l.val ∧ l.val < 128) ∨ (160 ≤ l.val ∧ l.val < 192) then f l else 0) * g l) = hdot 1 f g := by
  rw [Fin.sum_univ_two_halves 64 192 rfl, Fin.sum_univ_two_halves 64 128 rfl, Fin.sum_univ_two_halves 32 96 rfl, Fin.sum_univ_two_halves 32 64 rfl]
  refine (congrArg₂ (· + ·) (Finset.sum_eq_zero fun d _ => ?_) (congrArg₂ (· + ·) (Finset.sum_congr rfl fun d _ => ?_)
    ((congrArg₂ (· + ·) (Finset.sum_eq_zero fun d _ => ?_) (congrArg₂ (· + ·) (Finset.sum_congr rfl fun d _ => ?_)
      (Finset.sum_eq_zero fun d _ => ?_))).trans ((zero_add _).trans (add_zero _))))).trans (zero_add _)
  all_goals have hd := d.isLt
  · rw [if_neg (by simp only []; omega), zero_mul]
  · rw [if_pos (by simp only []; omega)]
    have : (⟨64 + d.val, by omega⟩ : Fin 256) = laneN 1 d := Fin.ext (by show 64 + d.val = 64 * 1 + d.val; omega)
    rw [this]
  · rw [if_neg (by simp only []; omega), zero_mul]
  · rw [if_pos (by simp only []; omega)]
    have : (⟨64 + (64 + (32 + d.val)), by omega⟩ : Fin 256) = laneR 1 d := Fin.ext (by show 64 + (64 + (32 + d.val)) = 128 + (32 * 1 + d.val); omega)
    rw [this]
  · rw [if_neg (by simp only []; omega), zero_mul]

/-- The lanes the kernel keeps of a query for head `0`, as the words of its mask decide them. -/
theorem mask_lo : ∀ l : Fin 256,
    IntOp.ori
        (IntOp.andi (IntOp.cmpi CmpIPredicate.sge (BitVec.ofNat 32 l.val) 0#32) (IntOp.cmpi CmpIPredicate.slt (BitVec.ofNat 32 l.val) 64#32))
        (IntOp.andi (IntOp.cmpi CmpIPredicate.sge (BitVec.ofNat 32 l.val) 128#32) (IntOp.cmpi CmpIPredicate.slt (BitVec.ofNat 32 l.val) 160#32))
      = BitVec.ofBool (decide (l.val < 64 ∨ (128 ≤ l.val ∧ l.val < 160))) := by decide +kernel
/-- The lanes it keeps for head `1`. -/
theorem mask_hi : ∀ l : Fin 256,
    IntOp.ori
        (IntOp.andi (IntOp.cmpi CmpIPredicate.sge (BitVec.ofNat 32 l.val) 64#32) (IntOp.cmpi CmpIPredicate.slt (BitVec.ofNat 32 l.val) 128#32))
        (IntOp.andi (IntOp.cmpi CmpIPredicate.sge (BitVec.ofNat 32 l.val) 160#32) (IntOp.cmpi CmpIPredicate.slt (BitVec.ofNat 32 l.val) 192#32))
      = BitVec.ofBool (decide ((64 ≤ l.val ∧ l.val < 128) ∨ (160 ≤ l.val ∧ l.val < 192))) := by decide +kernel

/-- The causal mask's word of two positions in a tile. -/
theorem causal_word (r c : Fin 512) :
    IntOp.cmpi CmpIPredicate.sle (BitVec.ofNat 32 c.val) (BitVec.ofNat 32 r.val) = BitVec.ofBool (decide (c.val ≤ r.val)) := by
  have hr := r.isLt
  have hc := c.isLt
  simp only [IntOp.cmpi]
  congr 1
  rw [Bool.eq_iff_iff, BitVec.sle_iff_toInt_le, decide_eq_true_iff, BitVec.toInt_ofNat', BitVec.toInt_ofNat']
  rw [Int.bmod_eq_of_le (by omega) (by omega), Int.bmod_eq_of_le (by omega) (by omega)]
  omega

/-- The queries of head `0`, the other lanes zero. -/
theorem qlo_apply (x : Vec Ideal S1x512x256 .bf16) (r : Fin 512) (l : Fin 256) :
    qlo x (ix2 r l) = if l.val < 64 ∨ (128 ≤ l.val ∧ l.val < 160) then x (ix3 0 r l) else 0 := by
  unfold qlo
  pointwise [k0_pay13, k0_pay12]
  rw [mask_lo l, select_ofBool]

/-- The queries of head `1`, the other lanes zero. -/
theorem qhi_apply (x : Vec Ideal S1x512x256 .bf16) (r : Fin 512) (l : Fin 256) :
    qhi x (ix2 r l) = if (64 ≤ l.val ∧ l.val < 128) ∨ (160 ≤ l.val ∧ l.val < 192) then x (ix3 0 r l) else 0 := by
  unfold qhi
  pointwise [k0_pay14, k0_pay12]
  rw [mask_hi l, select_ofBool]

/-- The score of row `r` of the query tile against key `C`, for head `e`. -/
def kdot (x : Vec Ideal S1x512x256 .bf16) (K : Vec Ideal S1x4096x256 .bf16) (e : Fin 2) (r : Fin 512) (C : Fin 4096) : EReal :=
  hdot e (fun l => x (ix3 0 r l)) fun l => K (ix3 0 C l)

/-- The same masked: only keys up to the row's own position in the array. -/
def bscore (x : Vec Ideal S1x512x256 .bf16) (K : Vec Ideal S1x4096x256 .bf16) (n : ℕ) (e : Fin 2) (r : Fin 512) (C : Fin 4096) : EReal :=
  if C.val ≤ 512 * n + r.val then kdot x K e r C else ⊥

/-- The score tiles' product is the score of head `0`. -/
theorem dot_lo (x : Vec Ideal S1x512x256 .bf16) (K : Vec Ideal S1x4096x256 .bf16) (j : ℕ) (hj : j < 8) (r c : Fin 512) :
    (∑ l : Fin 256, qlo x (ix2 r l) * kTile K j (ix3 0 c l)) = kdot x K 0 r (at8 j c) := by
  unfold kdot
  rw [← sum_lo]
  exact Finset.sum_congr rfl fun l _ => by rw [qlo_apply, kTile_apply K j hj]
/-- And of head `1`. -/
theorem dot_hi (x : Vec Ideal S1x512x256 .bf16) (K : Vec Ideal S1x4096x256 .bf16) (j : ℕ) (hj : j < 8) (r c : Fin 512) :
    (∑ l : Fin 256, qhi x (ix2 r l) * kTile K j (ix3 0 c l)) = kdot x K 1 r (at8 j c) := by
  unfold kdot
  rw [← sum_hi]
  exact Finset.sum_congr rfl fun l _ => by rw [qhi_apply, kTile_apply K j hj]

/-- Below the diagonal tile no key is masked. -/
theorem bscore_below (x : Vec Ideal S1x512x256 .bf16) (K : Vec Ideal S1x4096x256 .bf16) (n j : ℕ) (hn : n < 8) (hj : j < n) (e : Fin 2) (r c : Fin 512) :
    bscore x K n e r (at8 j c) = kdot x K e r (at8 j c) := by
  have := c.isLt
  unfold bscore
  rw [if_pos (by rw [at8_val j (by omega)]; omega)]

/-- On the diagonal tile the mask compares positions within the tile. -/
theorem bscore_diag (x : Vec Ideal S1x512x256 .bf16) (K : Vec Ideal S1x4096x256 .bf16) (n : ℕ) (hn : n < 8) (e : Fin 2) (r c : Fin 512) :
    bscore x K n e r (at8 n c) = if c.val ≤ r.val then kdot x K e r (at8 n c) else ⊥ := by
  unfold bscore
  rw [at8_val n hn]
  by_cases h : c.val ≤ r.val
  · rw [if_pos h, if_pos (by omega)]
  · rw [if_neg h, if_neg (by omega)]

/-- Behind the diagonal tile every key is masked. -/
theorem bscore_above (x : Vec Ideal S1x512x256 .bf16) (K : Vec Ideal S1x4096x256 .bf16) (n : ℕ) (e : Fin 2) (r : Fin 512) (C : Fin 4096)
    (h : 512 * (n + 1) ≤ C.val) : bscore x K n e r C = ⊥ := by
  have := r.isLt
  unfold bscore
  rw [if_neg (by omega)]

/-! ## The score tiles -/

theorem pay20_apply (q : FVec Ideal S512x256 .bf16) (k : Vec Ideal S1x512x256 .bf16) (r c : Fin 512) :
    k0_pay20 (F := Ideal) q k (ix4 0 0 r c) = ∑ l : Fin 256, q (ix2 r l) * k (ix3 0 c l) := by
  pointwise [k0_pay20, k0_pay19, k0_pay18]
theorem pay23_apply (q : FVec Ideal S512x256 .bf16) (k : Vec Ideal S1x512x256 .bf16) (r c : Fin 512) :
    k0_pay23 (F := Ideal) q k (ix4 0 0 r c) = ∑ l : Fin 256, q (ix2 r l) * k (ix3 0 c l) := by
  pointwise [k0_pay23, k0_pay22, k0_pay18]
theorem pay34_apply (q : FVec Ideal S512x256 .bf16) (k : Vec Ideal S1x512x256 .bf16) (r c : Fin 512) :
    k0_pay34 (F := Ideal) q k0_pay15 k (ix4 0 0 r c) = if c.val ≤ r.val then ∑ l : Fin 256, q (ix2 r l) * k (ix3 0 c l) else ⊥ := by
  pointwise [k0_pay34, k0_pay33, k0_pay15, k0_pay32]
  rw [causal_word, select_ofBool, ofBits_neg_inf]
theorem pay37_apply (q : FVec Ideal S512x256 .bf16) (k : Vec Ideal S1x512x256 .bf16) (r c : Fin 512) :
    k0_pay37 (F := Ideal) q k0_pay15 k (ix4 0 0 r c) = if c.val ≤ r.val then ∑ l : Fin 256, q (ix2 r l) * k (ix3 0 c l) else ⊥ := by
  pointwise [k0_pay37, k0_pay36, k0_pay15, k0_pay32]
  rw [causal_word, select_ofBool, ofBits_neg_inf]

/-- Head `0`'s score tile `j` of query tile `n` holds the masked scores of its keys. -/
theorem sc0_apply (x : Vec Ideal S1x512x256 .bf16) (K : Vec Ideal S1x4096x256 .bf16) (n j : ℕ) (hn : n < 8) (hj : j ≤ n) (r c : Fin 512) :
    sc0 (qlo x) K n j (ix4 0 0 r c) = bscore x K n 0 r (at8 j c) := by
  unfold sc0
  by_cases h : j = n
  · subst h
    rw [if_pos rfl, pay34_apply, bscore_diag x K j hn, dot_lo x K j hn]
  · rw [if_neg h, pay20_apply, bscore_below x K n j hn (by omega), dot_lo x K j (by omega)]
/-- And head `1`'s. -/
theorem sc1_apply (x : Vec Ideal S1x512x256 .bf16) (K : Vec Ideal S1x4096x256 .bf16) (n j : ℕ) (hn : n < 8) (hj : j ≤ n) (r c : Fin 512) :
    sc1 (qhi x) K n j (ix4 0 0 r c) = bscore x K n 1 r (at8 j c) := by
  unfold sc1
  by_cases h : j = n
  · subst h
    rw [if_pos rfl, pay37_apply, bscore_diag x K j hn, dot_hi x K j hn]
  · rw [if_neg h, pay23_apply, bscore_below x K n j hn (by omega), dot_hi x K j (by omega)]

/-! ## The row maxima -/

theorem pay21_apply (q : FVec Ideal S512x256 .bf16) (k : Vec Ideal S1x512x256 .bf16) (m : Vec Ideal S1x512x512 .f32) (r c : Fin 512) :
    k0_pay21 (F := Ideal) q k m (ix3 0 r c) = max (m (ix3 0 r c)) (∑ l : Fin 256, q (ix2 r l) * k (ix3 0 c l)) := by
  pointwise [k0_pay21, k0_pay19, k0_pay18]
theorem pay24_apply (q : FVec Ideal S512x256 .bf16) (k : Vec Ideal S1x512x256 .bf16) (m : Vec Ideal S1x512x512 .f32) (r c : Fin 512) :
    k0_pay24 (F := Ideal) q k m (ix3 0 r c) = max (m (ix3 0 r c)) (∑ l : Fin 256, q (ix2 r l) * k (ix3 0 c l)) := by
  pointwise [k0_pay24, k0_pay22, k0_pay18]
theorem pay35_apply (q : FVec Ideal S512x256 .bf16) (k : Vec Ideal S1x512x256 .bf16) (m : Vec Ideal S1x512x512 .f32) (r c : Fin 512) :
    k0_pay35 (F := Ideal) q k0_pay15 k m (ix3 0 r c)
      = max (m (ix3 0 r c)) (if c.val ≤ r.val then ∑ l : Fin 256, q (ix2 r l) * k (ix3 0 c l) else ⊥) := by
  pointwise [k0_pay35, k0_pay33, k0_pay15, k0_pay32]
  rw [causal_word, select_ofBool, ofBits_neg_inf]
theorem pay38_apply (q : FVec Ideal S512x256 .bf16) (k : Vec Ideal S1x512x256 .bf16) (m : Vec Ideal S1x512x512 .f32) (r c : Fin 512) :
    k0_pay38 (F := Ideal) (k0_pay36 q k0_pay15 k) m (ix3 0 r c)
      = max (m (ix3 0 r c)) (if c.val ≤ r.val then ∑ l : Fin 256, q (ix2 r l) * k (ix3 0 c l) else ⊥) := by
  pointwise [k0_pay38, k0_pay36, k0_pay15, k0_pay32]
  rw [causal_word, select_ofBool, ofBits_neg_inf]
theorem pay39_apply (m : Vec Ideal S1x512x512 .f32) (r c : Fin 512) :
    k0_pay39 (F := Ideal) m (ix3 0 r c) = Finset.univ.sup fun c : Fin 512 => m (ix3 0 r c) := by
  pointwise [k0_pay39]
  rw [ofBits_neg_inf, fold_max]
theorem pay40_apply (m : Vec Ideal S1x512x512 .f32) (r c : Fin 512) :
    k0_pay40 (F := Ideal) m (ix3 0 r c) = Finset.univ.sup fun c : Fin 512 => m (ix3 0 r c) := by
  pointwise [k0_pay40]
  rw [ofBits_neg_inf, fold_max]

/-- The running maxima begin at `⊥`. -/
theorem start_apply (i : S1x512x512.Idx) :
    lo (F := Ideal) (k0_pay17 (F := Ideal) k0_pay16) i = ⊥ ∧ hi (F := Ideal) (k0_pay17 (F := Ideal) k0_pay16) i = ⊥ := by
  have h : ∀ y, (k0_pay17 (F := Ideal) k0_pay16) y = ⊥ := fun y => by
    pointwise [k0_pay16, k0_pay17]
    exact ofBits_neg_inf
  constructor
  · unfold lo VecWindow.window
    exact h _
  · unfold hi VecWindow.window
    exact h _

/-- The running maxima after `k` tiles, lane by lane. -/
theorem mx_apply (x : Vec Ideal S1x512x256 .bf16) (K : Vec Ideal S1x4096x256 .bf16) (n : ℕ) (hn : n < 8) (r c : Fin 512) : ∀ k, k ≤ n →
    (maxs (qlo x) (qhi x) K (lo (k0_pay17 (F := Ideal) k0_pay16), hi (k0_pay17 (F := Ideal) k0_pay16)) k).1 (ix3 0 r c) = ((Finset.range k).sup fun j => bscore x K n 0 r (at8 j c))
    ∧ (maxs (qlo x) (qhi x) K (lo (k0_pay17 (F := Ideal) k0_pay16), hi (k0_pay17 (F := Ideal) k0_pay16)) k).2 (ix3 0 r c) = (Finset.range k).sup fun j => bscore x K n 1 r (at8 j c)
  | 0, _ => start_apply (ix3 0 r c)
  | k + 1, h => by
    obtain ⟨h1, h2⟩ := mx_apply x K n hn r c k (by omega)
    rw [Finset.range_add_one, Finset.sup_insert, Finset.sup_insert, ← h1, ← h2, bscore_below x K n k hn (by omega), bscore_below x K n k hn (by omega),
      ← dot_lo x K k (by omega), ← dot_hi x K k (by omega)]
    exact ⟨(pay21_apply _ _ _ r c).trans (max_comm _ _), (pay24_apply _ _ _ r c).trans (max_comm _ _)⟩

/-- The row maxima are the largest of the row's masked scores, for head `0`, -/
theorem mf0_apply (x : Vec Ideal S1x512x256 .bf16) (K : Vec Ideal S1x4096x256 .bf16) (n : ℕ) (hn : n < 8) (r c : Fin 512) :
    mf0 x K n (ix3 0 r c) = Finset.univ.sup (bscore x K n 0 r) := by
  unfold mf0 mx
  rw [pay39_apply, sup_tiles (bscore x K n 0 r) n hn (bscore_above x K n 0 r)]
  refine Finset.sup_congr rfl fun c _ => ?_
  rw [pay35_apply, (mx_apply x K n hn r c n (le_refl n)).1, Finset.range_add_one, Finset.sup_insert, bscore_diag x K n hn, dot_lo x K n hn]
  exact max_comm _ _
/-- and for head `1`. -/
theorem mf1_apply (x : Vec Ideal S1x512x256 .bf16) (K : Vec Ideal S1x4096x256 .bf16) (n : ℕ) (hn : n < 8) (r c : Fin 512) :
    mf1 x K n (ix3 0 r c) = Finset.univ.sup (bscore x K n 1 r) := by
  unfold mf1 mx
  rw [pay40_apply, sup_tiles (bscore x K n 1 r) n hn (bscore_above x K n 1 r)]
  refine Finset.sup_congr rfl fun c _ => ?_
  rw [pay38_apply, (mx_apply x K n hn r c n (le_refl n)).2, Finset.range_add_one, Finset.sup_insert, bscore_diag x K n hn, dot_hi x K n hn]
  exact max_comm _ _

end Cert.Proof.Mla

end
-- ==== Proof.Mla.OutValue.lean ====
/-
  The block that the attention kernel's body leaves, at an index: the softmax of one row's masked
  scores, applied to the values.
-/
module

public import proofs.«01_k».proof.Proof.Mla.Score

@[expose] public section

set_option maxRecDepth 16384

noncomputable section

namespace Cert.Proof.Mla

open Cert.KernelIdeal Cert.KernelIdeal.Gen
open Idealize.ShloMosaic Idealize.ShloMosaic.TcCoe

theorem pay4_apply (s : Vec Ideal S1x1x512x512 .f32) (m l : Vec Ideal S1x512x512 .f32) (r c : Fin 512) :
    k0_pay4 (F := Ideal) s m l (ix3 0 r c) = l (ix3 0 r c) + Ideal.exp (s (ix4 0 0 r c) - m (ix3 0 r c)) := by
  pointwise [k0_pay4, k0_pay3]
theorem pay45_apply (s : Vec Ideal S1x1x512x512 .f32) (m l : Vec Ideal S1x512x512 .f32) (r c : Fin 512) :
    k0_pay45 (F := Ideal) (k0_pay6 s) m l (ix3 0 r c) = l (ix3 0 r c) + Ideal.exp (s (ix4 0 0 r c) - m (ix3 0 r c)) := by
  pointwise [k0_pay45, k0_pay44, k0_pay6]
theorem pay5_apply (v : Vec Ideal S1x512x128 .bf16) (s : Vec Ideal S1x1x512x512 .f32) (m : Vec Ideal S1x512x512 .f32)
    (a : Vec Ideal S1x512x128 .f32) (r : Fin 512) (l : Fin 128) :
    k0_pay5 (F := Ideal) v s m a (ix3 0 r l)
      = a (ix3 0 r l) + ∑ c : Fin 512, Ideal.exp (s (ix4 0 0 r c) - m (ix3 0 r c)) * v (ix3 0 c l) := by
  pointwise [k0_pay5, k0_pay3, k0_pay2]
theorem pay46_apply (v : Vec Ideal S1x512x128 .bf16) (s : Vec Ideal S1x1x512x512 .f32) (m : Vec Ideal S1x512x512 .f32)
    (a : Vec Ideal S1x512x128 .f32) (r : Fin 512) (l : Fin 128) :
    k0_pay46 (F := Ideal) (k0_pay2 v) (k0_pay6 s) m a (ix3 0 r l)
      = a (ix3 0 r l) + ∑ c : Fin 512, Ideal.exp (s (ix4 0 0 r c) - m (ix3 0 r c)) * v (ix3 0 c l) := by
  pointwise [k0_pay46, k0_pay44, k0_pay6, k0_pay2]

/-- The sums and accumulators begin at zero. -/
theorem zeros_apply (i : S1x512x512.Idx) (k : S1x512x128.Idx) :
    ((zeros (F := Ideal)).1.1 i = 0 ∧ (zeros (F := Ideal)).1.2 i = 0) ∧ ((zeros (F := Ideal)).2.1 k = 0 ∧ (zeros (F := Ideal)).2.2 k = 0) := by
  have h : ∀ y, k0_pay41 (F := Ideal) y = 0 := fun y => by pointwise [k0_pay41]
  have h' : ∀ y, k0_pay43 (F := Ideal) k0_pay42 y = 0 := fun y => by pointwise [k0_pay43, k0_pay42]
  refine ⟨⟨?_, ?_⟩, ?_, ?_⟩
  · show lo (F := Ideal) (k0_pay41 (F := Ideal)) i = 0
    unfold lo VecWindow.window
    exact h _
  · show hi (F := Ideal) (k0_pay41 (F := Ideal)) i = 0
    unfold hi VecWindow.window
    exact h _
  · show loA (F := Ideal) (k0_pay43 (F := Ideal) k0_pay42) k = 0
    unfold loA VecWindow.window
    exact h' _
  · show hiA (F := Ideal) (k0_pay43 (F := Ideal) k0_pay42) k = 0
    unfold hiA VecWindow.window
    exact h' _

/-- The second loop's running sums after `k` tiles are sums over the tiles. -/
theorem sums_l (V : Vec Ideal S1x4096x128 .bf16) (s0 s1 : ℕ → Vec Ideal S1x1x512x512 .f32) (m0 m1 : Vec Ideal S1x512x512 .f32) (r c : Fin 512) : ∀ k,
    (sums V s0 s1 m0 m1 zeros k).1.1 (ix3 0 r c) = (∑ j ∈ Finset.range k, Ideal.exp (s0 j (ix4 0 0 r c) - m0 (ix3 0 r c)))
    ∧ (sums V s0 s1 m0 m1 zeros k).1.2 (ix3 0 r c) = ∑ j ∈ Finset.range k, Ideal.exp (s1 j (ix4 0 0 r c) - m1 (ix3 0 r c))
  | 0 => (zeros_apply (ix3 0 r c) (ix3 0 0 0)).1
  | k + 1 => by
    obtain ⟨h1, h2⟩ := sums_l V s0 s1 m0 m1 r c k
    rw [Finset.sum_range_succ, Finset.sum_range_succ, ← h1, ← h2]
    exact ⟨pay4_apply _ _ _ r c, pay45_apply _ _ _ r c⟩

/-- And so are its accumulators. -/
theorem sums_a (V : Vec Ideal S1x4096x128 .bf16) (s0 s1 : ℕ → Vec Ideal S1x1x512x512 .f32) (m0 m1 : Vec Ideal S1x512x512 .f32) (r : Fin 512) (l : Fin 128) : ∀ k, k ≤ 8 →
    (sums V s0 s1 m0 m1 zeros k).2.1 (ix3 0 r l)
        = (∑ j ∈ Finset.range k, ∑ c : Fin 512, Ideal.exp (s0 j (ix4 0 0 r c) - m0 (ix3 0 r c)) * V (ix3 0 (at8 j c) l))
    ∧ (sums V s0 s1 m0 m1 zeros k).2.2 (ix3 0 r l)
        = ∑ j ∈ Finset.range k, ∑ c : Fin 512, Ideal.exp (s1 j (ix4 0 0 r c) - m1 (ix3 0 r c)) * V (ix3 0 (at8 j c) l)
  | 0, _ => (zeros_apply (ix3 0 0 0) (ix3 0 r l)).2
  | k + 1, h => by
    obtain ⟨h1, h2⟩ := sums_a V s0 s1 m0 m1 r l k (by omega)
    rw [Finset.sum_range_succ, Finset.sum_range_succ, ← h1, ← h2]
    have e : ∀ c, V (ix3 0 (at8 k c) l) = vTile V k (ix3 0 c l) := fun c => (vTile_apply V k (by omega) c l).symm
    simp only [e]
    exact ⟨pay5_apply _ _ _ _ r l, pay46_apply _ _ _ _ r l⟩

theorem pay50_apply (a0 a1 : Vec Ideal S1x512x128 .f32) (m0 m1 : Vec Ideal S1x512x512 .f32) (r : Fin 512) (l : Fin 128) :
    k0_pay1 (F := Ideal) (k0_pay50 a0 m0 a1 m1) (ix3 0 r l)
      = if l.val < 64 then Ideal.div (a0 (ix3 0 r l)) (∑ c : Fin 512, m0 (ix3 0 r c)) else Ideal.div (a1 (ix3 0 r l)) (∑ c : Fin 512, m1 (ix3 0 r c)) := by
  pointwise [k0_pay50, k0_pay1]
  have h : ∀ l : Fin 128, IntOp.cmpi CmpIPredicate.slt (BitVec.ofNat 32 l.val) 64#32 = BitVec.ofBool (decide (l.val < 64)) := by decide +kernel
  rw [h l, select_ofBool]

/-- The softmax of a row of scores applied to a column of values. -/
def soft (S v : Fin 4096 → EReal) : EReal :=
  ∑ C, v C * Ideal.div (Ideal.exp (S C - Finset.univ.sup S)) (∑ C, Ideal.exp (S C - Finset.univ.sup S))

/-- **The body's output block**: where the queries' scores are finite, entry `(r, l)` is the softmax of row
    `r`'s masked scores for the head that lane `l` belongs to, applied to lane `l` of the values. -/
theorem out_apply (x : Vec Ideal S1x512x256 .bf16) (K : Vec Ideal S1x4096x256 .bf16) (V : Vec Ideal S1x4096x128 .bf16) (n : ℕ) (hn : n < 8)
    (hreal : ∀ e r C, kdot x K e r C ≠ ⊤ ∧ kdot x K e r C ≠ ⊥) (r : Fin 512) (l : Fin 128) :
    out x K V n (ix3 0 r l) = soft (bscore x K n ⟨l.val / 64, by omega⟩ r) fun C => V (ix3 0 C l) := by
  have htop : ∀ e C, bscore x K n e r C ≠ ⊤ := fun e C => by
    unfold bscore
    split
    · exact (hreal e r C).1
    · exact bot_ne_top
  have hown : ∀ e, ∃ C, bscore x K n e r C ≠ ⊥ := fun e => by
    refine ⟨⟨512 * n + r.val, by omega⟩, ?_⟩
    unfold bscore
    rw [if_pos (le_refl _)]
    exact (hreal e r _).2
  unfold out carry
  rw [pay50_apply]
  have h0 : ∀ j ∈ Finset.range (n + 1), ∀ c, Ideal.exp (sc0 (qlo x) K n j (ix4 0 0 r c) - mf0 x K n (ix3 0 r c))
      = Ideal.exp (bscore x K n 0 r (at8 j c) - Finset.univ.sup (bscore x K n 0 r)) := fun j hj c => by
    rw [sc0_apply x K n j hn (by rw [Finset.mem_range] at hj; omega), mf0_apply x K n hn]
  have h1 : ∀ j ∈ Finset.range (n + 1), ∀ c, Ideal.exp (sc1 (qhi x) K n j (ix4 0 0 r c) - mf1 x K n (ix3 0 r c))
      = Ideal.exp (bscore x K n 1 r (at8 j c) - Finset.univ.sup (bscore x K n 1 r)) := fun j hj c => by
    rw [sc1_apply x K n j hn (by rw [Finset.mem_range] at hj; omega), mf1_apply x K n hn]
  by_cases hl : l.val < 64
  · have e0 : (⟨l.val / 64, by omega⟩ : Fin 2) = 0 := Fin.ext (by show l.val / 64 = 0; omega)
    rw [if_pos hl, e0, (sums_a V _ _ _ _ r l (n + 1) (by omega)).1]
    unfold soft
    rw [← softmax_tiles (bscore x K n 0 r) (fun C => V (ix3 0 C l)) n hn (bscore_above x K n 0 r) (htop 0) (hown 0) _ rfl]
    refine congrArg₂ Ideal.div (Finset.sum_congr rfl fun j hj => Finset.sum_congr rfl fun c _ => ?_) (Finset.sum_congr rfl fun c _ => ?_)
    · rw [h0 j hj c]
    · rw [(sums_l V _ _ _ _ r c (n + 1)).1]
      exact Finset.sum_congr rfl fun j hj => h0 j hj c
  · have e1 : (⟨l.val / 64, by omega⟩ : Fin 2) = 1 := Fin.ext (by show l.val / 64 = 1; omega)
    rw [if_neg hl, e1, (sums_a V _ _ _ _ r l (n + 1) (by omega)).2]
    unfold soft
    rw [← softmax_tiles (bscore x K n 1 r) (fun C => V (ix3 0 C l)) n hn (bscore_above x K n 1 r) (htop 1) (hown 1) _ rfl]
    refine congrArg₂ Ideal.div (Finset.sum_congr rfl fun j hj => Finset.sum_congr rfl fun c _ => ?_) (Finset.sum_congr rfl fun c _ => ?_)
    · rw [h1 j hj c]
    · rw [(sums_l V _ _ _ _ r c (n + 1)).2]
      exact Finset.sum_congr rfl fun j hj => h1 j hj c

end Cert.Proof.Mla

end
-- ==== Proof.Mla.RefValue.lean ====
/-
  The attention reference at an index: the softmax of one head's masked scores, applied to the values.
-/
module

public import proofs.«01_k».proof.Proof.Gen.ReferenceIdeal.Read
public import Idealize.ShloMosaic.Lib.Pointwise

@[expose] public section

set_option maxRecDepth 16384

noncomputable section

namespace Cert.Proof.Mla.Ref

open Cert.ReferenceIdeal Cert.ReferenceIdeal.Gen Cert.ReferenceIdeal.Read
open Idealize.ShloMosaic Idealize.ShloMosaic.TcCoe

/-- The score of query `R` against key `C` for head `h` of batch `b`: the lanes without rotation, then those with. -/
def dotqk (q k : Vec Ideal S4x4096x1024 .bf16) (b : Fin 4) (h : Fin 8) (R C : Fin 4096) : EReal :=
  (∑ d : Fin 64, q (ix3 b R ⟨h.val / 2 * 256 + (h.val % 2 * 64 + d.val), by omega⟩) * k (ix3 b C ⟨h.val / 2 * 256 + (h.val % 2 * 64 + d.val), by omega⟩))
    + ∑ d : Fin 32, q (ix3 b R ⟨h.val / 2 * 256 + (128 + (h.val % 2 * 32 + d.val)), by omega⟩)
        * k (ix3 b C ⟨h.val / 2 * 256 + (128 + (h.val % 2 * 32 + d.val)), by omega⟩)

/-- The same, masked. -/
def score (q k : Vec Ideal S4x4096x1024 .bf16) (b : Fin 4) (h : Fin 8) (R C : Fin 4096) : EReal :=
  if C.val ≤ R.val then dotqk q k b h R C else ⊥

/-- The reference's products of queries and keys. -/
theorem dot_read (q k : Vec Ideal S4x4096x1024 .bf16) (b : Fin 4) (h : Fin 8) (R C : Fin 4096) :
    val_main_v17 (F := Ideal) q k (ix4 b h R C) = dotqk q k b h R C := by
  pointwise [val_main_v17, val_main_v6, val_main_v5, val_main_v4, val_main_v3, val_main_v2, val_main_v1, val_main_v0,
    val_main_v13, val_main_v12, val_main_v11, val_main_v10, val_main_v9, val_main_v8, val_main_v7]
  rfl

/-- The causal mask's word of two positions of the array. -/
theorem causal_word (R C : Fin 4096) :
    IntOp.cmpi CmpIPredicate.sle (BitVec.ofNat 32 C.val) (BitVec.ofNat 32 R.val) = BitVec.ofBool (decide (C.val ≤ R.val)) := by
  have hr := R.isLt
  have hc := C.isLt
  simp only [IntOp.cmpi]
  congr 1
  rw [Bool.eq_iff_iff, BitVec.sle_iff_toInt_le, decide_eq_true_iff, BitVec.toInt_ofNat', BitVec.toInt_ofNat']
  rw [Int.bmod_eq_of_le (by omega) (by omega), Int.bmod_eq_of_le (by omega) (by omega)]
  omega

/-- The literal for minus infinity is `⊥`. -/
theorem neg_inf : Ideal.ofBits FTy.f32 4286578688#32 = ⊥ := by
  simp [Ideal.ofBits, Ideal.ieee]

/-- The mask at an index. -/
theorem mask_read (b : Fin 4) (h : Fin 8) (R C : Fin 4096) :
    val_main_call0_v1 (F := Ideal) (ix4 b h R C) = BitVec.ofBool (decide (C.val ≤ R.val)) := by
  rw [← causal_word]
  pointwise [val_main_call0_v1, val_main_v22, val_main_v21, val_main_v20, val_main_v19, val_main_v18, val_main_v16]

/-- What masked scores are replaced with. -/
theorem fill_read (i : S4x8x4096x4096.Idx) : val_main_call0_v2 (F := Ideal) i = ⊥ := by
  rw [val_main_call0_v2_apply, val_main_call0_v0_apply, val_main_cst_apply]
  exact neg_inf

/-- The reference's masked scores. -/
theorem score_read (q k : Vec Ideal S4x4096x1024 .bf16) (b : Fin 4) (h : Fin 8) (R C : Fin 4096) :
    val_main_v23 (F := Ideal) q k (ix4 b h R C) = score q k b h R C := by
  rw [val_main_v23_apply, mask_read, dot_read, fill_read]
  unfold score
  by_cases hc : C.val ≤ R.val <;> simp [hc, Scalar.select]

/-- A maximum over the last axis. -/
theorem max_read (X : FVec Ideal S4x8x4096x4096 .f32) (i : FVec Ideal S_ .f32) (b : Fin 4) (h : Fin 8) (R : Fin 4096) :
    Host.reduce (FloatOps.maximumf (F := Ideal) (φ := .f32)) X i reducesTo_S4x8x4096x4096_S4x8x4096_d3 h_S_ (ix3 b h R)
      = Finset.univ.fold max (i (Shape.Idx.first h_S_)) fun C => X (ix4 b h R C) := by
  pointwise

/-- The row maxima that the scores are lowered by. -/
theorem rowmax_read (q k : Vec Ideal S4x4096x1024 .bf16) (b : Fin 4) (h : Fin 8) (R C : Fin 4096) :
    val_main_v28 (F := Ideal) q k (ix4 b h R C) = Finset.univ.sup (score q k b h R) := by
  have e24 : val_main_v24 (F := Ideal) q k (ix3 b h R) = Finset.univ.sup (score q k b h R) := by
    unfold val_main_v24
    refine (max_read (val_main_v23 (F := Ideal) q k) (val_main_cst_0 (F := Ideal)) b h R).trans ?_
    rw [val_main_cst_0_apply]
    have e : (fun C => val_main_v23 (F := Ideal) q k (ix4 b h R C)) = score q k b h R := funext fun C => score_read q k b h R C
    rw [e]
    exact congrArg (fun z => Finset.univ.fold max z (score q k b h R)) neg_inf
  rw [val_main_v28_apply, val_main_v27_apply, val_main_v26_apply, val_main_v25_apply, val_main_cst_1_apply]
  have hi : idx_main_v27 (idx_main_v28 (ix4 b h R C)) = ix3 b h R := by
    funext a
    match a with
    | ⟨0, _⟩ => rfl
    | ⟨1, _⟩ => rfl
    | ⟨2, _⟩ => rfl
  rw [hi, e24]
  show max (Ideal.ofBits FTy.f32 4286578688#32) _ = _
  rw [neg_inf]
  exact max_eq_right bot_le

/-- The exponentials. -/
theorem exp_read (q k : Vec Ideal S4x4096x1024 .bf16) (b : Fin 4) (h : Fin 8) (R C : Fin 4096) :
    val_main_v30 (F := Ideal) q k (ix4 b h R C) = Ideal.exp (score q k b h R C - Finset.univ.sup (score q k b h R)) := by
  rw [val_main_v30_apply, val_main_v29_apply, rowmax_read, score_read]
  rfl

/-- A sum over the last axis. -/
theorem sum_read (X : FVec Ideal S4x8x4096x4096 .f32) (i : FVec Ideal S_ .f32) (b : Fin 4) (h : Fin 8) (R : Fin 4096) :
    Host.reduceAdd X i reducesTo_S4x8x4096x4096_S4x8x4096_d3 h_S_ (ix3 b h R)
      = i (Shape.Idx.first h_S_) + ∑ C : Fin 4096, X (ix4 b h R C) := by
  pointwise

/-- The quotients. -/
theorem quot_read (q k : Vec Ideal S4x4096x1024 .bf16) (b : Fin 4) (h : Fin 8) (R C : Fin 4096) :
    val_main_v34 (F := Ideal) q k (ix4 b h R C)
      = Ideal.div (Ideal.exp (score q k b h R C - Finset.univ.sup (score q k b h R)))
          (∑ C, Ideal.exp (score q k b h R C - Finset.univ.sup (score q k b h R))) := by
  have e31 : val_main_v31 (F := Ideal) q k (ix3 b h R) = ∑ C, Ideal.exp (score q k b h R C - Finset.univ.sup (score q k b h R)) := by
    unfold val_main_v31
    refine (sum_read (val_main_v30 (F := Ideal) q k) (val_main_cst_2 (F := Ideal)) b h R).trans ?_
    rw [val_main_cst_2_apply]
    have z : FloatOps.ofBits (F := Ideal) FTy.f32 0x00000000#32 = (0 : EReal) := by
      show Ideal.ofBits FTy.f32 0#32 = 0
      simp [Ideal.ofBits, Ideal.ieee]
    rw [z]
    refine (zero_add _).trans (Finset.sum_congr rfl fun C _ => exp_read q k b h R C)
  rw [val_main_v34_apply, val_main_v33_apply, val_main_v32_apply, exp_read]
  have hi : idx_main_v32 (idx_main_v33 (ix4 b h R C)) = ix3 b h R := by
    funext a
    match a with
    | ⟨0, _⟩ => rfl
    | ⟨1, _⟩ => rfl
    | ⟨2, _⟩ => rfl
  rw [hi, e31]
  rfl

/-- A product of values and quotients, put in the result's order. -/
theorem apply_read (X : FVec Ideal S4x8x4096x4096 .f32) (v : FVec Ideal S4x4096x512 .bf16) (b : Fin 4) (R : Fin 4096) (l : Fin 512) :
    shapeCast S4x4096x512 (transpose S4x4096x8x64 [0, 3, 1, 2]
        (Host.dotGeneral (φ₁ := .f32) (φ₂ := .f32) dot_S4x4096x8x64_S4x8x4096x4096_S4x8x64x4096_1_3_3_2_02_01 none (val_main_v15 (F := Ideal) v) X)
        transposes_S4x8x64x4096_S4x4096x8x64_0_3_1_2) shapeCasts_S4x4096x8x64_S4x4096x512 (ix3 b R l)
      = ∑ C : Fin 4096, (v (ix3 b C l) : EReal) * X (ix4 b ⟨l.val / 64, by omega⟩ R C) := by
  pointwise [val_main_v15, val_main_v14]

/-- **The reference's result** at batch `b`, position `R` and lane `l`. -/
theorem res_read (q k : Vec Ideal S4x4096x1024 .bf16) (v : Vec Ideal S4x4096x512 .bf16) (b : Fin 4) (R : Fin 4096) (l : Fin 512) :
    val_main_v37 (F := Ideal) q k v (ix3 b R l)
      = ∑ C : Fin 4096, (v (ix3 b C l) : EReal)
          * Ideal.div (Ideal.exp (score q k b ⟨l.val / 64, by omega⟩ R C - Finset.univ.sup (score q k b ⟨l.val / 64, by omega⟩ R)))
              (∑ C, Ideal.exp (score q k b ⟨l.val / 64, by omega⟩ R C - Finset.univ.sup (score q k b ⟨l.val / 64, by omega⟩ R))) := by
  unfold val_main_v37 val_main_v36 val_main_v35
  refine (apply_read (val_main_v34 (F := Ideal) q k) v b R l).trans (Finset.sum_congr rfl fun C _ => ?_)
  rw [quot_read]

end Cert.Proof.Mla.Ref

end
-- ==== Proof.Mla.Cover.lean ====
module

public import proofs.«01_k».proof.Proof.Mla.Run
public import proofs.«01_k».proof.Proof.Mla.OutValue
public import proofs.«01_k».proof.Proof.Mla.RefValue
public import proofs.«01_k».proof.Proof.Gen.Pre_finite_qk
public import Idealize.ShloMosaic.Lib.Pipeline.ValueKit.Geometry

@[expose] public section

noncomputable section

namespace Cert.Proof.Mla

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The windows' block indices at every point, and the point's bounds. -/
theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 2).val, (grid0.coords t 1).val] :=
  (by decide +kernel : ∀ t : Fin grid0.N, _)

theorem coord_lt : ∀ t : Fin cfg0.N, (grid0.coords t 0).val < 4 ∧ (grid0.coords t 1).val < 4 ∧ (grid0.coords t 2).val < 8 :=
  (by decide +kernel : ∀ t : Fin grid0.N, _)

/-- The queries' block at a point, read: position `512 n + r` of the batch and lanes `256 p …` of the array. -/
theorem q_read (c : Dev nD) (t : Fin cfg0.N) (b : Fin 4) (R : Fin 4096) (L : Fin 1024) (r : Fin 512) (l : Fin 256)
    (hb : b.val = (grid0.coords t 0).val) (hR : R.val = 512 * (grid0.coords t 2).val + r.val) (hL : L.val = 256 * (grid0.coords t 1).val + l.val) :
    (iblk m c 0 t : Vec Ideal S1x512x256 .bf16) (ix3 0 r l) = (m ((c : Thread nD τ).loc main_arg0) : Vec Ideal S4x4096x1024 .bf16) (ix3 b R L) := by
  blk_ext [iblk, V, idx t] <;> omega
/-- The keys' block likewise, all positions. -/
theorem k_read (c : Dev nD) (t : Fin cfg0.N) (b : Fin 4) (C : Fin 4096) (L : Fin 1024) (l : Fin 256)
    (hb : b.val = (grid0.coords t 0).val) (hL : L.val = 256 * (grid0.coords t 1).val + l.val) :
    (iblk m c 1 t : Vec Ideal S1x4096x256 .bf16) (ix3 0 C l) = (m ((c : Thread nD τ).loc main_arg1) : Vec Ideal S4x4096x1024 .bf16) (ix3 b C L) := by
  blk_ext [iblk, V, idx t] <;> omega
/-- And the values' block. -/
theorem v_read (c : Dev nD) (t : Fin cfg0.N) (b : Fin 4) (C : Fin 4096) (L : Fin 512) (l : Fin 128)
    (hb : b.val = (grid0.coords t 0).val) (hL : L.val = 128 * (grid0.coords t 1).val + l.val) :
    (iblk m c 2 t : Vec Ideal S1x4096x128 .bf16) (ix3 0 C l) = (m ((c : Thread nD τ).loc main_arg2) : Vec Ideal S4x4096x512 .bf16) (ix3 b C L) := by
  blk_ext [iblk, V, idx t] <;> omega

/-- A number that is neither infinity. -/
def Real (x : EReal) : Prop := ∃ a : ℝ, x = (a : EReal)

theorem Real.add {x y : EReal} : Real x → Real y → Real (x + y) := fun ⟨a, ha⟩ ⟨b, hb⟩ => ⟨a + b, by rw [ha, hb, EReal.coe_add]⟩
theorem Real.mul {x y : EReal} : Real x → Real y → Real (x * y) := fun ⟨a, ha⟩ ⟨b, hb⟩ => ⟨a * b, by rw [ha, hb, EReal.coe_mul]⟩
theorem Real.sum {n : ℕ} {f : Fin n → EReal} (h : ∀ i, Real (f i)) : Real (∑ i, f i) := by
  choose g hg using h
  exact ⟨∑ i, g i, by rw [coe_sum]; exact Finset.sum_congr rfl fun i _ => hg i⟩
theorem Real.ne {x : EReal} : Real x → x ≠ ⊤ ∧ x ≠ ⊥ := fun ⟨a, ha⟩ => ha ▸ ⟨EReal.coe_ne_top a, EReal.coe_ne_bot a⟩

/-- The precondition's word at an entry says that the entry of the queries and that of the keys are finite. -/
theorem finite_read (q k : Vec Ideal S4x4096x1024 .bf16) (v : Vec Ideal S4x4096x512 .bf16)
    (h : Cert.Pre_finite_qk.fn (F := Ideal) q k v = fun _ => 1#1) (b : Fin 4) (R : Fin 4096) (L : Fin 1024) :
    Real (q (ix3 b R L)) ∧ Real (k (ix3 b R L)) := by
  have h1 := congrFun h (ix3 b R L)
  revert h1
  pointwise [Cert.Pre_finite_qk.fn]
  have hinf : Ideal.ofBits FTy.f32 2139095040#32 = ⊤ := by simp [Ideal.ofBits, Ideal.ieee]
  rw [hinf]
  intro hw
  have key : ∀ x : EReal, FloatOps.absf (F := Ideal) (φ := .f32) x < ⊤ → Real x := fun x hx => by
    induction x using EReal.rec with
    | bot => exact absurd hx (by show ¬ max (⊥ : EReal) (-⊥) < ⊤; simp)
    | top => exact absurd hx (by show ¬ max (⊤ : EReal) (-⊤) < ⊤; simp)
    | coe a => exact ⟨a, rfl⟩
  by_cases h1 : FloatOps.absf (F := Ideal) (φ := .f32) (q (ix3 b R L)) < (⊤ : EReal)
  · by_cases h2 : FloatOps.absf (F := Ideal) (φ := .f32) (k (ix3 b R L)) < (⊤ : EReal)
    · exact ⟨key _ h1, key _ h2⟩
    · exact absurd hw (by rw [decide_eq_false h2]; generalize hv : decide (FloatOps.absf (F := Ideal) (φ := .f32) (q (ix3 b R L)) < (⊤ : EReal)) = w; cases w <;> decide)
  · exact absurd hw (by rw [decide_eq_false h1]; generalize hv : decide (FloatOps.absf (F := Ideal) (φ := .f32) (k (ix3 b R L)) < (⊤ : EReal)) = w; cases w <;> decide)

/-- The scores of a point's blocks are the reference's, of the head, the batch and the position that the block's
    entry stands for. -/
theorem score_block (c : Dev nD) (t : Fin cfg0.N) (b : Fin 4) (R : Fin 4096) (h : Fin 8) (e : Fin 2) (r : Fin 512) (C : Fin 4096)
    (hb : b.val = (grid0.coords t 0).val) (hR : R.val = 512 * (grid0.coords t 2).val + r.val) (hh : h.val = 2 * (grid0.coords t 1).val + e.val) :
    kdot (iblk m c 0 t) (iblk m c 1 t) e r C
      = Ref.dotqk (m ((c : Thread nD τ).loc main_arg0)) (m ((c : Thread nD τ).loc main_arg1)) b h R C := by
  unfold kdot hdot Ref.dotqk
  have h2 : h.val / 2 = (grid0.coords t 1).val ∧ h.val % 2 = e.val := by omega
  refine congrArg₂ (· + ·) (Finset.sum_congr rfl fun d _ => ?_) (Finset.sum_congr rfl fun d _ => ?_)
  · exact congrArg₂ (· * ·) (q_read m c t b R _ r _ hb hR (by simp only [laneN]; omega)) (k_read m c t b C _ _ hb (by simp only [laneN]; omega))
  · exact congrArg₂ (· * ·) (q_read m c t b R _ r _ hb hR (by simp only [laneR]; omega)) (k_read m c t b C _ _ hb (by simp only [laneR]; omega))

/-- So the reference's scores are real. -/
theorem real_dot {q k : Vec Ideal S4x4096x1024 .bf16} {v : Vec Ideal S4x4096x512 .bf16}
    (h : Cert.Pre_finite_qk.fn (F := Ideal) q k v = fun _ => 1#1) (b : Fin 4) (e : Fin 8) (R C : Fin 4096) : Real (Ref.dotqk q k b e R C) :=
  (Real.sum fun _ => (finite_read q k v h _ _ _).1.mul (finite_read q k v h _ _ _).2).add
    (Real.sum fun _ => (finite_read q k v h _ _ _).1.mul (finite_read q k v h _ _ _).2)

/-- **The kernel's result array** is the reference's result, where the queries and the keys are finite. -/
theorem final (c : Dev nD) (hfin : Cert.Pre_finite_qk.fn (F := Ideal) (m ((c : Thread nD τ).loc main_arg0)) (m ((c : Thread nD τ).loc main_arg1))
      (m ((c : Thread nD τ).loc main_arg2)) = fun _ => 1#1) :
    (dats m 0 c).arrAt 3 cfg0.N
      = Cert.ReferenceIdeal.Read.val_main_v37 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  obtain ⟨b0, b1, b2⟩ := coord_lt t
  obtain ⟨z, r, l, rfl⟩ : ∃ (z : Fin 1) (r : Fin 512) (l : Fin 128), y = ix3 z r l := ⟨y 0, y 1, y 2, by funext a; fin_cases a <;> rfl⟩
  obtain rfl : z = 0 := Subsingleton.elim _ _
  have hd : ∀ (e : Fin 2) (r : Fin 512) C, kdot (iblk m c 0 t) (iblk m c 1 t) e r C
      = Ref.dotqk (m ((c : Thread nD τ).loc main_arg0)) (m ((c : Thread nD τ).loc main_arg1)) ⟨(grid0.coords t 0).val, b0⟩
          ⟨2 * (grid0.coords t 1).val + e.val, by omega⟩ ⟨512 * (grid0.coords t 2).val + r.val, by omega⟩ C := fun e r C =>
    score_block m c t _ _ _ e r C rfl rfl rfl
  have he : ((cfg0.win 3).blk t).view.emb (ix3 0 r l)
      = (ix3 ⟨(grid0.coords t 0).val, b0⟩ ⟨512 * (grid0.coords t 2).val + r.val, by omega⟩ ⟨128 * (grid0.coords t 1).val + l.val, by omega⟩ : S4x4096x512.Idx) := by
    blk_ext [idx t] <;> omega
  rw [he]
  refine (out_apply (iblk m c 0 t) (iblk m c 1 t) (iblk m c 2 t) (grid0.coords t 2).val b2 (fun e r C => ?_) r l).trans
    ((?_ : _ = _).trans (Ref.res_read _ _ _ _ _ _).symm)
  · rw [hd]
    exact (real_dot hfin _ _ _ _).ne
  · have hs : bscore (iblk m c 0 t) (iblk m c 1 t) (grid0.coords t 2).val ⟨l.val / 64, by omega⟩ r
        = Ref.score (m ((c : Thread nD τ).loc main_arg0)) (m ((c : Thread nD τ).loc main_arg1)) ⟨(grid0.coords t 0).val, b0⟩
          ⟨(128 * (grid0.coords t 1).val + l.val) / 64, by omega⟩ ⟨512 * (grid0.coords t 2).val + r.val, by omega⟩ := funext fun C => by
      unfold bscore Ref.score
      rw [hd]
      have hh : (⟨2 * (grid0.coords t 1).val + l.val / 64, by omega⟩ : Fin 8) = ⟨(128 * (grid0.coords t 1).val + l.val) / 64, by omega⟩ :=
        Fin.ext (by show 2 * (grid0.coords t 1).val + l.val / 64 = (128 * (grid0.coords t 1).val + l.val) / 64; omega)
      rw [hh]
    unfold soft
    rw [hs]
    exact Finset.sum_congr rfl fun C _ => congrArg (· * _) (v_read m c t _ C _ l rfl rfl)

/-- The launch ends with the reference's result in the result array, and the arguments as they were. -/
theorem run_value (ρ : Dev nD → PrngReg) (hfin : ∀ c : Dev nD, Cert.Pre_finite_qk.fn (F := Ideal) (m ((c : Thread nD τ).loc main_arg0))
      (m ((c : Thread nD τ).loc main_arg1)) (m ((c : Thread nD τ).loc main_arg2)) = fun _ => 1#1) :
    θ_run defs (onTc (τ := τ) (main (F := Ideal))) ⟨m, fun _ => 0, ρ⟩ fun r => ∀ c : Dev nD,
      r.2.mem ((c : Thread nD τ).loc main_v0) = Cert.ReferenceIdeal.Read.val_main_v37 (F := Ideal) (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 3).trans (final m c (hfin c)), h.2 c⟩)
    (θ_run_and (run_main m ρ) (frame_of m ρ (dats m) (A_eq m) (run_main m ρ)))

end Cert.Proof.Mla

end
-- ==== Proof.Ffn.Acc.lean ====
/- Hand-written, untrusted: the feed-forward call at the ideal instance. What its two scratch arrays hold after each grid point. -/
module

public import proofs.«01_k».proof.Proof.Gen.FfnIdeal.Value
public import Idealize.ShloMosaic.Lib.Pipeline.ValueKit
public import Idealize.ShloMosaic.Lib.Pipeline.ReadBack
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open scoped BigOperators

namespace Cert.FfnIdeal.Sum

open Cert.FfnIdeal Cert.FfnIdeal.Gen

variable (m : (ℓ : Loc nD τ sig) → Buf (Elt Ideal) ℓ)

/-- Every window's block index, from the number of the grid point. -/
theorem idx : ∀ t : Fin cfg0.N, win0_0.index t = ![t.val / 8, 0]
    ∧ win0_1.index t = ![0, 0]
    ∧ win0_2.index t = ![0, t.val % 8]
    ∧ win0_3.index t = ![t.val % 8, 0]
    ∧ win0_4.index t = ![t.val / 8, 0] :=
  (by decide +kernel : ∀ t : Fin grid0.N, _)

/-- One entry of the product of the squared, clipped hidden block with its block of the second weights. -/
def part (xn : FVec Ideal S1024x1024 .bf16) (w1 : FVec Ideal S1024x512 .bf16) (w2 : FVec Ideal S512x1024 .bf16) (j : S1024x1024.Idx) : EReal :=
  ∑ k : Fin 512, max (∑ l : Fin 1024, (xn (ix2 (j 0) l) : EReal) * w1 (ix2 l k)) 0 * max (∑ l : Fin 1024, (xn (ix2 (j 0) l) : EReal) * w1 (ix2 l k)) 0 * w2 (ix2 k (j 1))

/-- The zero fill. -/
theorem zero_at (j) : k0_pay2 (F := Ideal) j = (0 : EReal) := by pointwise [k0_pay2]

/-- The accumulating store. -/
theorem add_at (xn w1 acc w2 j) : k0_pay3 (F := Ideal) xn w1 acc w2 j = (acc j : EReal) + part xn w1 w2 j := by
  pointwise [k0_pay3, part]

/-- Two points of one run have the same block of rows, and every point the same gain. -/
theorem rows_eq (c : Dev nD) (t u : Fin cfg0.N) (h : t.val / 8 = u.val / 8) : iblk m c 0 t = iblk m c 0 u := by
  blk_ext! [iblk, V, idx t, idx u]
theorem gain_eq (c : Dev nD) (t u : Fin cfg0.N) : iblk m c 1 t = iblk m c 1 u := by
  blk_ext! [iblk, V, idx t, idx u]

/-- After every point the first scratch holds the normalized rows of the point's own block. -/
theorem normed (c : Dev nD) : ∀ (n : ℕ) (h : n < cfg0.N),
    (outsAt0 m c n h).2.1 = k0_pay1 (F := Ideal) (iblk m c 0 ⟨n, h⟩) (iblk m c 1 ⟨n, h⟩) := by
  intro n
  induction n with
  | zero =>
    intro h
    rw [outsAt0_A m c ⟨0, h⟩ (by simp) (by simp)]
    frame_out
  | succ n ih =>
    intro h
    by_cases h0 : (n + 1) % 8 = 0
    · rw [outsAt0_A m c ⟨n + 1, h⟩ h0 (by dsimp only; omega)]
      frame_out
    · rw [rows_eq m c ⟨n + 1, h⟩ ⟨n, by omega⟩ (by dsimp only; omega), gain_eq m c ⟨n + 1, h⟩ ⟨n, by omega⟩, ← ih (by omega)]
      by_cases h1 : (n + 1) % 8 = 7
      · rw [outsAt0_C m c ⟨n + 1, h⟩ h0 h1]
        frame_out
        rfl
      · rw [outsAt0_B m c ⟨n + 1, h⟩ h0 h1]
        frame_out
        rfl

/-- What a point of a run adds to the second scratch. -/
def step (c : Dev nD) (t : Fin cfg0.N) : S1024x1024.Idx → EReal :=
  part (k0_pay1 (F := Ideal) (iblk m c 0 t) (iblk m c 1 t)) (iblk m c 2 t) (iblk m c 3 t)

theorem acc_reset (c : Dev nD) (t : Fin cfg0.N) (h0 : t.val % 8 = 0) (j : S1024x1024.Idx) :
    ((outsAt0 m c t.val t.isLt).2.2 j : EReal) = 0 + step m c t j := by
  rw [outsAt0_A m c t h0 (by omega)]
  frame_out
  rw [add_at, zero_at]
  rfl

theorem acc_step (c : Dev nD) (t : Fin cfg0.N) (h0 : ¬t.val % 8 = 0) (j : S1024x1024.Idx) :
    ((outsAt0 m c t.val t.isLt).2.2 j : EReal)
      = (outsAt0 m c (t.val - 1) (Nat.lt_of_le_of_lt (Nat.sub_le _ _) t.isLt)).2.2 j + step m c t j := by
  have e : (outsAt0 m c (t.val - 1) (Nat.lt_of_le_of_lt (Nat.sub_le _ _) t.isLt)).2.1
      = k0_pay1 (F := Ideal) (iblk m c 0 t) (iblk m c 1 t) := by
    have hlt : t.val - 1 < cfg0.N := Nat.lt_of_le_of_lt (Nat.sub_le _ _) t.isLt
    rw [normed m c (t.val - 1) hlt]
    rw [rows_eq m c ⟨t.val - 1, hlt⟩ t (by dsimp only; omega), gain_eq m c ⟨t.val - 1, hlt⟩ t]
  by_cases h1 : t.val % 8 = 7
  · rw [outsAt0_C m c t h0 h1]
    frame_out
    rw [add_at, e, read_unread_whole, read_unread_whole]
    rfl
  · rw [outsAt0_B m c t h0 h1]
    frame_out
    rw [add_at, e, read_unread_whole, read_unread_whole]
    rfl

/-- What the last point of a run writes back: the block of the rows, plus the sum over the run's points. -/
theorem written (c : Dev nD) (t : Fin cfg0.N) (h : t.val % 8 = 8 - 1) (j : S1024x1024.Idx) :
    ((outsAt0 m c t.val t.isLt).1 j : EReal)
      = (show FVec Ideal S1024x1024 .f32 from iblk m c 0 t) j
        + ∑ s : Fin 8, step m c ⟨8 * (t.val / 8) + s.val, Pipeline.run_point_lt_of_flush t h s⟩ j := by
  have e : (outsAt0 m c t.val t.isLt).1 = k0_pay4 (F := Ideal) (iblk m c 0 t) (outsAt0 m c t.val t.isLt).2.2 := by
    rw [outsAt0_C m c t (by omega) (by omega)]
    frame_out
  have hs := Pipeline.eq_sum_fin_of_reset_step_apply_of_flush
    (fun n h => ((outsAt0 m c n h).2.2 : S1024x1024.Idx → EReal)) 8 (fun _ => 0) (step m c)
    (acc_reset m c) (acc_step m c) t h j
  rw [zero_add] at hs
  rw [e, ← hs]
  pointwise [k0_pay4]

end Cert.FfnIdeal.Sum

end
-- ==== Proof.Ffn.Cover.lean ====
/- Hand-written, untrusted: the feed-forward call at the ideal instance. The array it leaves is the reference's. -/
module

public import proofs.«01_k».proof.Proof.Ffn.Acc
public import proofs.«01_k».proof.Proof.Gen.FfnReferenceIdeal.Run
public import proofs.«01_k».proof.Proof.Gen.FfnReferenceIdeal.Read

@[expose] public section

set_option maxRecDepth 16384

noncomputable section

open Idealize.ShloMosaic Idealize.ShloMosaic.TcCoe Idealize.SL.Sem
open Idealize.ShloMosaic.Pipeline (Dat)
open scoped BigOperators

namespace Cert.FfnIdeal.Sum

open Cert.FfnIdeal Cert.FfnIdeal.Gen
open Cert.FfnReferenceIdeal.Read

variable (m : (ℓ : Loc nD τ sig) → Buf (Elt Ideal) ℓ)

/-- The reference's result, as a function of its arguments. -/
abbrev REF (X : FVec Ideal Cert.FfnReferenceIdeal.S4x4096x1024 .f32) (G : FVec Ideal Cert.FfnReferenceIdeal.S1024 .f32) (A : FVec Ideal Cert.FfnReferenceIdeal.S1024x4096 .f32) (B : FVec Ideal Cert.FfnReferenceIdeal.S4096x1024 .f32) : FVec Ideal Cert.FfnReferenceIdeal.S16384x1024 .f32 :=
  val_main_v18 (F := Ideal) X G A B

/-- The four operands' blocks, read from the arguments. -/
theorem rows_at (c : Dev nD) (t : Fin cfg0.N) (b : Fin 4) (r : Fin 4096) (y l : Fin 1024) (h : b.val * 4096 + r.val = t.val / 8 * 1024 + y.val) :
    (show FVec Ideal S1024x1024 .f32 from iblk m c 0 t) (ix2 y l) = (m ((c : Thread nD τ).loc main_arg0) : FVec Ideal S4x4096x1024 .f32) (ix3 b r l) := by
  blk_point [iblk, V, idx t]
theorem gain_at (c : Dev nD) (t : Fin cfg0.N) (l : Fin 1024) :
    (show FVec Ideal S1x1024 .f32 from iblk m c 1 t) (ix2 0 l) = (m ((c : Thread nD τ).loc main_arg1) : FVec Ideal S1024 .f32) (ix1 l) := by
  blk_point [iblk, V, idx t]
theorem first_at (c : Dev nD) (t : Fin cfg0.N) (l : Fin 1024) (k : Fin 512) (q : Fin 4096) (h : q.val = t.val % 8 * 512 + k.val) :
    (show FVec Ideal S1024x512 .bf16 from iblk m c 2 t) (ix2 l k) = (m ((c : Thread nD τ).loc main_arg2) : FVec Ideal S1024x4096 .f32) (ix2 l q) := by
  blk_point [iblk, V, idx t]
theorem second_at (c : Dev nD) (t : Fin cfg0.N) (l : Fin 1024) (k : Fin 512) (q : Fin 4096) (h : q.val = t.val % 8 * 512 + k.val) :
    (show FVec Ideal S512x1024 .bf16 from iblk m c 3 t) (ix2 k l) = (m ((c : Thread nD τ).loc main_arg3) : FVec Ideal S4096x1024 .f32) (ix2 q l) := by
  blk_point [iblk, V, idx t]

/-- An entry of a row, normalized and scaled by its gain. -/
def nrm (X : FVec Ideal S4x4096x1024 .f32) (G : FVec Ideal S1024 .f32) (b : Fin 4) (r : Fin 4096) (l : Fin 1024) : EReal :=
  X (ix3 b r l) * Ideal.rsqrt (Ideal.div (∑ k : Fin 1024, X (ix3 b r k) * X (ix3 b r k)) (Ideal.ofBits FTy.f32 1149239296#32) + Ideal.ofBits FTy.f32 897988541#32) * G (ix1 l)

/-- A clipped hidden entry. -/
def hid (X : FVec Ideal S4x4096x1024 .f32) (G : FVec Ideal S1024 .f32) (A : FVec Ideal S1024x4096 .f32) (b : Fin 4) (r : Fin 4096) (q : Fin 4096) : EReal :=
  max (∑ l : Fin 1024, nrm X G b r l * A (ix2 l q)) 0

/-- The reference's result at an index. -/
theorem ref_at (X : FVec Ideal S4x4096x1024 .f32) (G : FVec Ideal S1024 .f32) (A : FVec Ideal S1024x4096 .f32) (B : FVec Ideal S4096x1024 .f32) (b : Fin 4) (r : Fin 4096) (j : Fin 1024) (R : Fin 16384) (h : R.val = b.val * 4096 + r.val) :
    REF X G A B (ix2 R j) = X (ix3 b r j) + ∑ q : Fin 4096, hid X G A b r q * hid X G A b r q * B (ix2 q j) := by
  unfold hid nrm
  pointwise [REF, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_cst]
  blk_point []

/-- What a grid point's first payload is at an index. -/
theorem nrm_at (c : Dev nD) (t : Fin cfg0.N) (b : Fin 4) (r : Fin 4096) (y l : Fin 1024) (h : b.val * 4096 + r.val = t.val / 8 * 1024 + y.val) :
    k0_pay1 (F := Ideal) (iblk m c 0 t) (iblk m c 1 t) (ix2 y l)
      = nrm (m ((c : Thread nD τ).loc main_arg0)) (m ((c : Thread nD τ).loc main_arg1)) b r l := by
  have e : ∀ (x : FVec Ideal S1024x1024 .f32) (g : FVec Ideal S1x1024 .f32), k0_pay1 (F := Ideal) x g (ix2 y l)
      = x (ix2 y l) * Ideal.rsqrt (Ideal.div (∑ k : Fin 1024, x (ix2 y k) * x (ix2 y k)) (Ideal.ofBits FTy.f32 1149239296#32) + Ideal.ofBits FTy.f32 897988541#32) * g (ix2 0 l) := by
    intro x g
    pointwise [k0_pay1]
  refine (e _ _).trans ?_
  unfold nrm
  have hx := fun k => rows_at m c t b r y k h
  dsimp only at hx
  simp only [hx, gain_at m c t l]

/-- What a grid point adds, at an index. -/
theorem step_at (c : Dev nD) (t : Fin cfg0.N) (b : Fin 4) (r : Fin 4096) (y j : Fin 1024) (h : b.val * 4096 + r.val = t.val / 8 * 1024 + y.val) :
    step m c t (ix2 y j) = ∑ k : Fin 512,
      hid (m ((c : Thread nD τ).loc main_arg0)) (m ((c : Thread nD τ).loc main_arg1)) (m ((c : Thread nD τ).loc main_arg2)) b r ⟨t.val % 8 * 512 + k.val, by omega⟩
      * hid (m ((c : Thread nD τ).loc main_arg0)) (m ((c : Thread nD τ).loc main_arg1)) (m ((c : Thread nD τ).loc main_arg2)) b r ⟨t.val % 8 * 512 + k.val, by omega⟩
      * (m ((c : Thread nD τ).loc main_arg3) : FVec Ideal S4096x1024 .f32) (ix2 ⟨t.val % 8 * 512 + k.val, by omega⟩ j) := by
  have hn := fun l => nrm_at m c t b r y l h
  unfold step part hid
  refine Finset.sum_congr rfl fun k _ => ?_
  have hs : ∀ k : Fin 512, (∑ l : Fin 1024, (k0_pay1 (F := Ideal) (iblk m c 0 t) (iblk m c 1 t) (ix2 y l) : EReal) * (show FVec Ideal S1024x512 .bf16 from iblk m c 2 t) (ix2 l k))
      = ∑ l : Fin 1024, nrm (m ((c : Thread nD τ).loc main_arg0)) (m ((c : Thread nD τ).loc main_arg1)) b r l * (m ((c : Thread nD τ).loc main_arg2) : FVec Ideal S1024x4096 .f32) (ix2 l ⟨t.val % 8 * 512 + k.val, by omega⟩) := fun k =>
    Finset.sum_congr rfl fun l _ => congrArg₂ (fun a b : EReal => a * b) (hn l) (first_at m c t l k _ rfl)
  exact congrArg₂ (fun a b : EReal => a * b) (congrArg₂ (fun a b : EReal => max a 0 * max b 0) (hs k) (hs k)) (second_at m c t j k _ rfl)

theorem point (c : Dev nD) (t : Fin cfg0.N) (h : t.val % 8 = 8 - 1) (y : S1024x1024.Idx) :
    ((outsAt0 m c t.val t.isLt).1 y : EReal)
      = REF (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 128 := lt_of_lt_of_eq t.isLt N_0
  obtain ⟨a, b, rfl⟩ : ∃ a b : Fin 1024, y = ix2 a b := ⟨y 0, y 1, by blk_ext⟩
  have he : (((cfg0.win 4).blk t).view.emb (ix2 a b) : S16384x1024.Idx) = ix2 (⟨t.val / 8 * 1024 + a.val, by omega⟩ : Fin 16384) b := by
    blk_ext [idx t]
  rw [written m c t h]
  refine Eq.trans ?_ (congrArg (REF _ _ _ _) he).symm
  refine Eq.trans ?_ (ref_at _ _ _ _ ⟨(t.val / 8 * 1024 + a.val) / 4096, by omega⟩ ⟨(t.val / 8 * 1024 + a.val) % 4096, by omega⟩ _ _ (by dsimp only; omega)).symm
  refine congrArg₂ (fun a b : EReal => a + b) ?_ ?_
  · exact rows_at m c t _ _ _ _ (by dsimp only; omega)
  · refine (Finset.sum_congr rfl fun s _ => step_at m c _ ⟨(t.val / 8 * 1024 + a.val) / 4096, by omega⟩ ⟨(t.val / 8 * 1024 + a.val) % 4096, by omega⟩ _ _ ?_).trans ?_
    · dsimp only
      omega
    · refine Fin.sum_mul_add_congr fun s k hl => ?_
      have e : ∀ hq, (⟨(8 * (t.val / 8) + s.val) % 8 * 512 + k.val, hq⟩ : Fin 4096) = ⟨s.val * 512 + k.val, hl⟩ := fun hq => Fin.ext (by dsimp only; omega)
      dsimp only
      rw [e]

/-- The result array after the run. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  exact point m c t ((flush0_4 t).mp hf) y

end Cert.FfnIdeal.Sum

end
-- ==== Proof.MemKv.Cover.lean ====
/- Hand-written, untrusted: the memory's keys and values at the ideal instance. The arrays the call leaves are the reference's. -/
module

public import proofs.«01_k».proof.Proof.Gen.MemKvIdeal.Value
public import Idealize.ShloMosaic.Lib.Pipeline.ValueKit
public import Idealize.ShloMosaic.Lib.Pipeline.ValueKit.Geometry
public import proofs.«01_k».proof.Proof.Gen.MemKvReferenceIdeal.Run
public import proofs.«01_k».proof.Proof.Gen.MemKvReferenceIdeal.Read

@[expose] public section

set_option maxRecDepth 16384

noncomputable section

open Idealize.ShloMosaic Idealize.ShloMosaic.TcCoe Idealize.SL.Sem
open Idealize.ShloMosaic.Pipeline (Dat)
open scoped BigOperators

namespace Cert.MemKvIdeal.Sum

open Cert.MemKvIdeal Cert.MemKvIdeal.Gen Cert.MemKvReferenceIdeal.Read

variable (m : (ℓ : Loc nD τ sig) → Buf (Elt Ideal) ℓ)

/-- Every window's block index, from the number of the grid point. -/
theorem idx : ∀ t : Fin cfg0.N, win0_0.index t = ![t.val, 0, 0]
    ∧ win0_1.index t = ![0, 0]
    ∧ win0_2.index t = ![0, 0]
    ∧ win0_3.index t = ![0, 0]
    ∧ win0_4.index t = ![0, 0]
    ∧ win0_5.index t = ![t.val, 0, 0]
    ∧ win0_6.index t = ![t.val, 0, 0] :=
  (by decide +kernel : ∀ t : Fin grid0.N, _)

/-- The reference's keys and values, as functions of its arguments. -/
abbrev KEYS (X : FVec Ideal S4x256x1024 .f32) (G : FVec Ideal S1024 .f32) (W : FVec Ideal S1024x4x128 .f32) (g : FVec Ideal S128 .f32) : FVec Ideal S4x256x512 .f32 :=
  val_main_v28 (F := Ideal) X G W g
abbrev VALUES (X : FVec Ideal S4x256x1024 .f32) (G : FVec Ideal S1024 .f32) (W : FVec Ideal S1024x4x128 .f32) : FVec Ideal S4x256x512 .f32 :=
  val_main_v29 (F := Ideal) X G W

set_option maxHeartbeats 1600000 in
theorem keys_point (c : Dev nD) (t : Fin cfg0.N) (y) :
    out0_5 (F := Ideal) (iblk m c 0 t) (iblk m c 1 t) (iblk m c 2 t) (iblk m c 3 t) (iblk m c 4 t) y
      = KEYS (m ((c : Thread nD τ).loc main_arg0)) (m ((c : Thread nD τ).loc main_arg1)) (m ((c : Thread nD τ).loc main_arg2)) (m ((c : Thread nD τ).loc main_arg4)) (((cfg0.win 5).blk t).view.emb y) := by
  canon_tiles x h
  all_goals
    open_payloads
    pointwise [KEYS, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29]
    blk_point [iblk, V, idx t]

theorem values_point (c : Dev nD) (t : Fin cfg0.N) (y) :
    k0_pay2 (F := Ideal) (k0_pay3 (iblk m c 0 t) (iblk m c 1 t)) (iblk m c 3 t) y
      = VALUES (m ((c : Thread nD τ).loc main_arg0)) (m ((c : Thread nD τ).loc main_arg1)) (m ((c : Thread nD τ).loc main_arg3)) (((cfg0.win 6).blk t).view.emb y) := by
  pointwise [k0_pay2, k0_pay3, VALUES, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29]
  blk_point [iblk, V, idx t]

/-- The result arrays after the run. -/
theorem keys (c : Dev nD) : (dats m 0 c).arrAt 5 (cfgs 0).N = KEYS (m ((c : Thread nD τ).loc main_arg0)) (m ((c : Thread nD τ).loc main_arg1)) (m ((c : Thread nD τ).loc main_arg2)) (m ((c : Thread nD τ).loc main_arg4)) := by
  refine (dats m 0 c).arrAt_eq_of_covers 5 _ (by decide +kernel) fun t hf y => ?_
  blk_simp; rw [after0_5]
  exact keys_point m c t y
theorem values (c : Dev nD) : (dats m 0 c).arrAt 6 (cfgs 0).N = VALUES (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp; rw [after0_6]; frame_out
  exact values_point m c t y

end Cert.MemKvIdeal.Sum

end
-- ==== Proof.Mix.Cover.lean ====
/- Hand-written, untrusted: the output projection at the ideal instance. The array it leaves is the reference's. -/
module

public import proofs.«01_k».proof.Proof.Gen.MixIdeal.Value
public import Idealize.ShloMosaic.Lib.Pipeline.ValueKit
public import Idealize.ShloMosaic.Lib.Pipeline.ValueKit.Geometry
public import proofs.«01_k».proof.Proof.Gen.MixReferenceIdeal.Run
public import proofs.«01_k».proof.Proof.Gen.MixReferenceIdeal.Read

@[expose] public section

set_option maxRecDepth 16384

noncomputable section

open Idealize.ShloMosaic Idealize.ShloMosaic.TcCoe Idealize.SL.Sem
open Idealize.ShloMosaic.Pipeline (Dat)
open scoped BigOperators

namespace Cert.MixIdeal.Sum

open Cert.MixIdeal Cert.MixIdeal.Gen Cert.MixReferenceIdeal.Read

variable (m : (ℓ : Loc nD τ sig) → Buf (Elt Ideal) ℓ)

/-- Every window's block index, from the number of the grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0] :=
  (by decide +kernel : ∀ t : Fin grid0.N, _)

/-- The reference's result, as a function of its arguments. -/
abbrev REF (A B : FVec Ideal S16384x512 .f32) (W : FVec Ideal S1024x1024 .f32) (Y : FVec Ideal S16384x1024 .f32) : FVec Ideal S16384x1024 .f32 :=
  val_main_v2 (F := Ideal) A B W Y

theorem point (c : Dev nD) (t : Fin cfg0.N) (y) :
    k0_pay1 (F := Ideal) (iblk m c 4 t) (iblk m c 0 t) (iblk m c 2 t) (iblk m c 1 t) (iblk m c 3 t) y
      = REF (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, REF, val_main_v2, val_main_v1, val_main_v0]
  refine (add_assoc (G := EReal) _ _ _).trans ?_
  blk_point [iblk, V, idx t]

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point m c t y

end Cert.MixIdeal.Sum

end
-- ==== Proof.MemAttn.Math.lean ====
/- Hand-written, untrusted: the attention over the memory for one row and one head, as a function of the row's products. -/
module

public import Idealize.ShloMosaic.PureOps.Ideal
public import Idealize.ShloMosaic.PureOps.Ideal.Laws

@[expose] public section

noncomputable section

open Idealize.ShloMosaic
open scoped BigOperators

namespace Cert.MemAttnIdeal.Sum

/-- The literal for minus infinity is `⊥`. -/
theorem neg_inf : Ideal.ofBits FTy.f32 0xFF800000#32 = ⊥ := by
  simp [Ideal.ofBits, Ideal.ieee]
/-- The literal 128. -/
theorem lit_128 : Ideal.ofBits FTy.f32 0x43000000#32 = ((128 : ℝ) : EReal) := by
  simp [Ideal.ofBits, Ideal.ieee, -EReal.coe_mul]
  norm_num

/-- A fold by `max` from `⊥` is the least upper bound. -/
theorem fold_max {ι : Type} (s : Finset ι) (f : ι → EReal) : s.fold max ⊥ f = s.sup f := rfl

/-- Division by the square root of 128 is multiplication with its inverse. -/
theorem div_root (x : EReal) : Ideal.div x (Ideal.sqrt ((128 : ℝ) : EReal)) = x * (((Real.sqrt 128)⁻¹ : ℝ) : EReal) := by
  have h : Real.sqrt 128 ≠ 0 := by positivity
  rw [Ideal.sqrt_coe, if_neg (by norm_num), Ideal.div_coe h]
  simp only [one_div]

/-- A head's normalized query. -/
def qn (z g : Fin 128 → EReal) (e : Fin 128) : EReal :=
  z e * Ideal.rsqrt (Ideal.div (∑ e : Fin 128, z e * z e) (Ideal.ofBits FTy.f32 0x43000000#32) + Ideal.ofBits FTy.f32 0x358637BD#32) * g e
/-- Its scaled scores. -/
def sc (z g : Fin 128 → EReal) (K : Fin 256 → Fin 128 → EReal) (k : Fin 256) : EReal :=
  (∑ e : Fin 128, qn z g e * K k e) * (((Real.sqrt 128)⁻¹ : ℝ) : EReal)
/-- The weights of a row of scores. -/
def wt (s : Fin 256 → EReal) (k : Fin 256) : EReal :=
  Ideal.div (Ideal.exp (s k - Finset.univ.sup s)) (∑ k : Fin 256, Ideal.exp (s k - Finset.univ.sup s))
/-- The weighted mean of the values. -/
def ctx (z g : Fin 128 → EReal) (K V : Fin 256 → Fin 128 → EReal) (e : Fin 128) : EReal :=
  ∑ k : Fin 256, wt (sc z g K) k * V k e

end Cert.MemAttnIdeal.Sum

end
-- ==== Proof.MemAttn.Pay.lean ====
/- Hand-written, untrusted: what the attention over the memory computes at a grid point, at an index. -/
module

public import proofs.«01_k».proof.Proof.Gen.MemAttnIdeal.Value
public import Idealize.ShloMosaic.Lib.Pipeline.ValueKit
public import Idealize.ShloMosaic.Lib.Pipeline.ValueKit.Geometry
public import proofs.«01_k».proof.Proof.MemAttn.Math

@[expose] public section

set_option maxRecDepth 16384

noncomputable section

open Idealize.ShloMosaic Idealize.ShloMosaic.TcCoe Idealize.SL.Sem
open Idealize.ShloMosaic.Pipeline (Dat)
open scoped BigOperators

namespace Cert.MemAttnIdeal.Sum

open Cert.MemAttnIdeal Cert.MemAttnIdeal.Gen

/-- The named constant. -/
theorem named_root : Named.named (F := Ideal) Cert.MemAttnIdeal.κ "root128" (φ := .f32) 0x3DB504F3#32 = (((Real.sqrt 128)⁻¹ : ℝ) : EReal) :=
  IdealRules.named_const.ideal_named_scalar _ _ _ _ rfl

/-- The normalized rows' products with the query weights. -/
theorem proj_at (x : FVec Ideal S1x512x1024 .f32) (g : FVec Ideal S1x1024 .f32) (w : FVec Ideal S1024x512 .bf16) (r j : Fin 512) :
    k0_pay3 (F := Ideal) x g w (ix2 r j) = ∑ l : Fin 1024, x (ix3 0 r l) * Ideal.rsqrt (Ideal.div (∑ k : Fin 1024, x (ix3 0 r k) * x (ix3 0 r k)) (Ideal.ofBits FTy.f32 0x44800000#32) + Ideal.ofBits FTy.f32 0x358637BD#32) * g (ix2 0 l) * w (ix2 l j) := by
  pointwise [k0_pay3, k0_pay2]

/-- The four heads. -/
theorem head0 (v22 v25 : FVec Ideal S256x512 .bf16) (x : FVec Ideal S1x512x1024 .f32) (n : FVec Ideal S1x1024 .f32) (w : FVec Ideal S1024x512 .bf16) (g : FVec Ideal S1x128 .f32) (r : Fin 512) (e : Fin 128) :
    k0_pay9 (F := Ideal) v22 v25 (k0_pay6 x n w) (k0_pay7 g) (k0_pay8 x n w) (ix2 r e)
      = ctx (fun e => k0_pay3 (F := Ideal) x n w (ix2 r ⟨0 + e.val, by omega⟩)) (fun e => g (ix2 0 e)) (fun k e => v22 (ix2 k ⟨0 + e.val, by omega⟩)) (fun k e => v25 (ix2 k ⟨0 + e.val, by omega⟩)) e := by
  unfold ctx wt sc qn
  pointwise [k0_pay9, k0_pay6, k0_pay7, k0_pay8]
  simp only [neg_inf, fold_max, named_root]
theorem head1 (v22 v25 : FVec Ideal S256x512 .bf16) (v19 : FVec Ideal S512x512 .f32) (g : FVec Ideal S1x128 .f32) (r : Fin 512) (e : Fin 128) :
    k0_pay11 (F := Ideal) v25 (k0_pay10 v19 v22 g) (ix2 r e)
      = ctx (fun e => v19 (ix2 r ⟨128 + e.val, by omega⟩)) (fun e => g (ix2 0 e)) (fun k e => v22 (ix2 k ⟨128 + e.val, by omega⟩)) (fun k e => v25 (ix2 k ⟨128 + e.val, by omega⟩)) e := by
  unfold ctx wt sc qn
  pointwise [k0_pay11, k0_pay10]
  simp only [neg_inf, fold_max, named_root]
theorem head2 (v22 v25 : FVec Ideal S256x512 .bf16) (v19 : FVec Ideal S512x512 .f32) (g : FVec Ideal S1x128 .f32) (r : Fin 512) (e : Fin 128) :
    k0_pay12 (F := Ideal) v19 v22 v25 g (ix2 r e)
      = ctx (fun e => v19 (ix2 r ⟨256 + e.val, by omega⟩)) (fun e => g (ix2 0 e)) (fun k e => v22 (ix2 k ⟨256 + e.val, by omega⟩)) (fun k e => v25 (ix2 k ⟨256 + e.val, by omega⟩)) e := by
  unfold ctx wt sc qn
  pointwise [k0_pay12]
  simp only [neg_inf, fold_max, named_root]
/-- The last head, as the output step computes it. -/
def last_head (v22 v25 : FVec Ideal S256x512 .bf16) (v122 : FVec Ideal S512x128 .f32) (v124 : FVec Ideal S1x128 .f32) (v127 : FVec Ideal S512x1 .f32) : FVec Ideal S512x128 .f32 :=
  have cst_48 : Ideal .f32 := Scalar.ofBits .f32 0x43000000#32
  have v128 : FVec Ideal S512x1 .f32 := broadcast S512x1 cst_48
  have v129 : FVec Ideal S512x1 .f32 := divf v127 v128
  have cst_49 : Ideal .f32 := Scalar.ofBits .f32 0x358637BD#32
  have v130 : FVec Ideal S512x1 .f32 := broadcast S512x1 cst_49
  have v131 : FVec Ideal S512x1 .f32 := addf v129 v130
  have v132 : FVec Ideal S512x1 .f32 := rsqrt v131
  have v133 : FVec Ideal S512x128 .f32 := broadcastTo S512x128 v132 broadcasts_S512x1_S512x128
  have v134 : FVec Ideal S512x128 .f32 := mulf v122 v133
  have v135 : FVec Ideal S512x128 .f32 := broadcastTo S512x128 v124 broadcasts_S1x128_S512x128
  have v136 : FVec Ideal S512x128 .f32 := mulf v134 v135
  have v137 : FVec Ideal S256x128 .bf16 := extractStridedSlice S256x128 ![0, 384] v22 slices_S256x512_o0_384_S256x128
  have v138 : FVec Ideal S512x128 .bf16 := truncf .bf16 v136 bitsLt_bf16_f32
  have cst_50 : FVec Ideal S512x256 .f32 := constant S512x256 .f32 0x00000000#32
  have v139 : FVec Ideal S512x256 .f32 := matmul dot_S512x128_S256x128_S512x256_1_1_0_0_n_n none v138 v137 cst_50
  have cst_51 : Ideal .f32 := Named.named κ "root128" 0x3DB504F3#32
  have v140 : FVec Ideal S512x256 .f32 := broadcast S512x256 cst_51
  have v141 : FVec Ideal S512x256 .f32 := mulf v139 v140
  have v142 : FVec Ideal S512 .f32 := multiReduction .maximumf [1] S512 v141 0xFF800000#32 reduces_S512x256_S512 (.inl rfl) rfl
  have v143 : FVec Ideal S512x1 .f32 := shapeCast S512x1 v142 shapeCasts_S512_S512x1
  have v144 : FVec Ideal S512x256 .f32 := broadcastTo S512x256 v143 broadcasts_S512x1_S512x256
  have v145 : FVec Ideal S512x256 .f32 := subf v141 v144
  have v146 : FVec Ideal S512x256 .f32 := exp v145
  have v147 : FVec Ideal S512 .f32 := multiReduction .add [1] S512 v146 0x00000000#32 reduces_S512x256_S512 (.inl rfl) rfl
  have v148 : FVec Ideal S512x1 .f32 := shapeCast S512x1 v147 shapeCasts_S512_S512x1
  have v149 : FVec Ideal S512x256 .f32 := broadcastTo S512x256 v148 broadcasts_S512x1_S512x256
  have v150 : FVec Ideal S512x256 .f32 := divf v146 v149
  have v151 : FVec Ideal S256x128 .bf16 := extractStridedSlice S256x128 ![0, 384] v25 slices_S256x512_o0_384_S256x128
  have v152 : FVec Ideal S512x256 .bf16 := truncf .bf16 v150 bitsLt_bf16_f32
  have cst_54 : FVec Ideal S512x128 .f32 := constant S512x128 .f32 0x00000000#32
  have v153 : FVec Ideal S512x128 .f32 := matmul dot_S512x256_S256x128_S512x128_1_0_0_1_n_n none v152 v151 cst_54
  v153
/-- The output step after it. -/
def join (v1 : FVec Ideal S512x1024 .f32) (v57 v89 v121 v153 : FVec Ideal S512x128 .f32) (v155 : Vec Ideal S512x1024 .bf16) : FVec Ideal S1x512x1024 .f32 :=
  have v154 : FVec Ideal S512x512 .f32 := concatenate S512x512 1 [⟨S512x128, v57⟩, ⟨S512x128, v89⟩, ⟨S512x128, v121⟩, ⟨S512x128, v153⟩] concatenates_S512x128_S512x128_S512x128_S512x128_S512x512_d1
  have v156 : FVec Ideal S512x1024 .bf16 := shapeCast S512x1024 v155 shapeCasts_S512x1024_S512x1024
  have v157 : FVec Ideal S512x512 .bf16 := truncf .bf16 v154 bitsLt_bf16_f32
  have cst_57 : FVec Ideal S512x1024 .f32 := constant S512x1024 .f32 0x00000000#32
  have v158 : FVec Ideal S512x1024 .f32 := matmul dot_S512x512_S512x1024_S512x1024_1_0_0_1_n_n none v157 v156 cst_57
  have v159 : FVec Ideal S512x1024 .f32 := addf v1 v158
  have v162 : FVec Ideal S1x512x1024 .f32 := shapeCast S1x512x1024 v159 shapeCasts_S512x1024_S1x512x1024
  v162
theorem pay1_eq (x : FVec Ideal S512x1024 .f32) (v22 v25 : FVec Ideal S256x512 .bf16) (a b c : FVec Ideal S512x128 .f32) (u : FVec Ideal S512x128 .f32) (v124 : FVec Ideal S1x128 .f32) (v127 : FVec Ideal S512x1 .f32) (wo : FVec Ideal S512x1024 .bf16) :
    k0_pay1 (F := Ideal) x v22 v25 a b c u v124 v127 wo = join x a b c (last_head v22 v25 u v124 v127) wo := rfl
theorem head3 (v22 v25 : FVec Ideal S256x512 .bf16) (v19 : FVec Ideal S512x512 .f32) (g : FVec Ideal S1x128 .f32) (r : Fin 512) (e : Fin 128) :
    last_head v22 v25 (k0_pay13 v19) (k0_pay14 g) (k0_pay15 v19) (ix2 r e)
      = ctx (fun e => v19 (ix2 r ⟨384 + e.val, by omega⟩)) (fun e => g (ix2 0 e)) (fun k e => v22 (ix2 k ⟨384 + e.val, by omega⟩)) (fun k e => v25 (ix2 k ⟨384 + e.val, by omega⟩)) e := by
  unfold ctx wt sc qn
  pointwise [last_head, k0_pay13, k0_pay14, k0_pay15]
  simp only [neg_inf, fold_max, named_root]

/-- A sum over 512 lanes, by blocks of 128. -/
theorem sum_four (f : Fin 512 → EReal) : ∑ x, f x
    = (∑ e : Fin 128, f ⟨e.val, by omega⟩) + (∑ e : Fin 128, f ⟨128 + e.val, by omega⟩) + (∑ e : Fin 128, f ⟨256 + e.val, by omega⟩) + (∑ e : Fin 128, f ⟨384 + e.val, by omega⟩) := by
  refine (Fin.sum_univ_add (a := 384) (b := 128) f).trans ?_
  refine congrArg₂ (fun a b : EReal => a + b) ?_ rfl
  refine (Fin.sum_univ_add (a := 256) (b := 128) _).trans ?_
  refine congrArg₂ (fun a b : EReal => a + b) ?_ rfl
  exact Fin.sum_univ_add (a := 128) (b := 128) _

/-- The output product over the four heads' lanes, with the residual. -/
theorem last_at (x : FVec Ideal S512x1024 .f32) (a b c d : FVec Ideal S512x128 .f32) (wo : FVec Ideal S512x1024 .bf16) (r : Fin 512) (j : Fin 1024) :
    join x a b c d wo (ix3 0 r j)
      = x (ix2 r j) + ((∑ e : Fin 128, a (ix2 r e) * wo (ix2 ⟨e.val, by omega⟩ j)) + (∑ e : Fin 128, b (ix2 r e) * wo (ix2 ⟨128 + e.val, by omega⟩ j))
        + (∑ e : Fin 128, c (ix2 r e) * wo (ix2 ⟨256 + e.val, by omega⟩ j)) + (∑ e : Fin 128, d (ix2 r e) * wo (ix2 ⟨384 + e.val, by omega⟩ j))) := by
  pointwise [join]
  refine congrArg (fun s : EReal => x (ix2 r j) + s) ((sum_four _).trans ?_)
  refine congrArg₂ (fun a b : EReal => a + b) (congrArg₂ (fun a b : EReal => a + b) (congrArg₂ (fun a b : EReal => a + b) ?_ ?_) ?_) ?_
  · refine Finset.sum_congr rfl fun e _ => ?_
    have he := e.isLt
    rw [dif_pos (by dsimp only; omega)]
  · refine Finset.sum_congr rfl fun e _ => ?_
    have he := e.isLt
    rw [dif_neg (by dsimp only; omega), dif_pos (by dsimp only; omega)]
    exact congrArg (fun q => b (ix2 r q) * wo _) (Fin.ext (by dsimp only; omega))
  · refine Finset.sum_congr rfl fun e _ => ?_
    have he := e.isLt
    rw [dif_neg (by dsimp only; omega), dif_neg (by dsimp only; omega), dif_pos (by dsimp only; omega)]
    exact congrArg (fun q => c (ix2 r q) * wo _) (Fin.ext (by dsimp only; omega))
  · refine Finset.sum_congr rfl fun e _ => ?_
    have he := e.isLt
    rw [dif_neg (by dsimp only; omega), dif_neg (by dsimp only; omega), dif_neg (by dsimp only; omega)]
    exact congrArg (fun q => d (ix2 r q) * wo _) (Fin.ext (by dsimp only; omega))

end Cert.MemAttnIdeal.Sum

end
-- ==== Proof.MemAttn.Ref.lean ====
/- Hand-written, untrusted: what the reference of the attention over the memory computes, at an index. -/
module

public import Idealize.ShloMosaic.Lib.Pipeline.ValueKit
public import Idealize.ShloMosaic.Lib.Pipeline.ValueKit.Geometry
public import proofs.«01_k».proof.Proof.Gen.MemAttnReferenceIdeal.Run
public import proofs.«01_k».proof.Proof.Gen.MemAttnReferenceIdeal.Read
public import proofs.«01_k».proof.Proof.MemAttn.Math

@[expose] public section

set_option maxRecDepth 16384

noncomputable section

open Idealize.ShloMosaic Idealize.ShloMosaic.TcCoe Idealize.SL.Sem
open Idealize.ShloMosaic.Pipeline (Dat)
open scoped BigOperators

namespace Cert.MemAttnIdeal.Sum

open Cert.MemAttnReferenceIdeal Cert.MemAttnReferenceIdeal.Gen Cert.MemAttnReferenceIdeal.Read

variable (X : FVec Ideal S4x4096x1024 .f32) (G : FVec Ideal S1024 .f32) (W : FVec Ideal S1024x4x128 .f32) (g : FVec Ideal S128 .f32) (K V : FVec Ideal S4x256x512 .f32) (O : FVec Ideal S4x128x1024 .f32)

/-- A row's products with a head's query weights. -/
def prj (b : Fin 4) (r : Fin 4096) (h : Fin 4) (e : Fin 128) : EReal :=
  ∑ l : Fin 1024, X (ix3 b r l) * Ideal.rsqrt (Ideal.div (∑ k : Fin 1024, X (ix3 b r k) * X (ix3 b r k)) (Ideal.ofBits FTy.f32 0x44800000#32) + Ideal.ofBits FTy.f32 0x358637BD#32) * G (ix1 l) * W (ix3 l h e)
theorem prj_read (b : Fin 4) (r : Fin 4096) (h : Fin 4) (e : Fin 128) : val_main_v15 (F := Ideal) X G W (ix4 b r h e) = prj X G W b r h e := by
  unfold prj
  pointwise [val_main_v2, val_main_cst, val_main_v3, val_main_v4, val_main_cst_0, val_main_v5, val_main_v6, val_main_cst_1, val_main_v7, val_main_v8, val_main_v9, val_main_v10, val_main_v11, val_main_v12, val_main_v13, val_main_v14, val_main_v15]
theorem qn_read (b : Fin 4) (r : Fin 4096) (h : Fin 4) (e : Fin 128) : val_main_v28 (F := Ideal) X G W g (ix4 b r h e) = qn (prj X G W b r h) (fun e => g (ix1 e)) e := by
  unfold qn
  pointwise [val_main_v16, val_main_cst_2, val_main_v17, val_main_v18, val_main_cst_3, val_main_v19, val_main_v20, val_main_cst_4, val_main_v21, val_main_v22, val_main_v23, val_main_v24, val_main_v25, val_main_v26, val_main_v27, val_main_v28]
  simp only [prj_read]

/-- A head's keys or values. -/
def mem (K : FVec Ideal S4x256x512 .f32) (b : Fin 4) (h : Fin 4) (k : Fin 256) (e : Fin 128) : EReal := K (ix3 b k ⟨h.val * 128 + e.val, by omega⟩)
theorem mem_read (b : Fin 4) (h : Fin 4) (k : Fin 256) (e : Fin 128) : val_main_v0 (F := Ideal) K (ix4 b k h e) = mem K b h k e := by
  unfold mem
  pointwise [val_main_v0]
theorem mem_read' (b : Fin 4) (h : Fin 4) (k : Fin 256) (e : Fin 128) : val_main_v1 (F := Ideal) K (ix4 b k h e) = mem K b h k e := by
  unfold mem
  pointwise [val_main_v1]
theorem sc_read (b : Fin 4) (r : Fin 4096) (h : Fin 4) (k : Fin 256) : val_main_v32 (F := Ideal) X G W g K (ix4 b h r k) = sc (prj X G W b r h) (fun e => g (ix1 e)) (mem K b h) k := by
  unfold sc
  pointwise [val_main_v32, val_main_v31, val_main_v30, val_main_v29, val_main_cst_5]
  simp only [qn_read, mem_read, lit_128, Ideal.hostUnary_sqrt_def, div_root]
theorem max_read (S : FVec Ideal S4x4x4096x256 .f32) (i : FVec Ideal S_ .f32) (b : Fin 4) (h : Fin 4) (r : Fin 4096) :
    Host.reduce (FloatOps.maximumf (F := Ideal) (φ := .f32)) S i reducesTo_S4x4x4096x256_S4x4x4096_d3 h_S_ (ix3 b h r)
      = Finset.univ.fold max (i (Shape.Idx.first h_S_)) fun k => S (ix4 b h r k) := by
  pointwise
theorem rowmax_read (b : Fin 4) (r : Fin 4096) (h : Fin 4) (k : Fin 256) : val_main_v37 (F := Ideal) X G W g K (ix4 b h r k) = Finset.univ.sup (sc (prj X G W b r h) (fun e => g (ix1 e)) (mem K b h)) := by
  have e24 : val_main_v33 (F := Ideal) X G W g K (ix3 b h r) = Finset.univ.sup (sc (prj X G W b r h) (fun e => g (ix1 e)) (mem K b h)) := by
    unfold val_main_v33
    refine (max_read (val_main_v32 (F := Ideal) X G W g K) (val_main_cst_6 (F := Ideal)) b h r).trans ?_
    rw [val_main_cst_6_apply]
    have e : (fun k => val_main_v32 (F := Ideal) X G W g K (ix4 b h r k)) = sc (prj X G W b r h) (fun e => g (ix1 e)) (mem K b h) := funext fun k => sc_read X G W g K b r h k
    rw [e]
    exact congrArg (fun z => Finset.univ.fold max z (sc (prj X G W b r h) (fun e => g (ix1 e)) (mem K b h))) neg_inf
  rw [val_main_v37_apply, val_main_v36_apply, val_main_v35_apply, val_main_v34_apply, val_main_cst_7_apply]
  have hi : idx_main_v36 (idx_main_v37 (ix4 b h r k)) = ix3 b h r := by
    funext a
    match a with
    | ⟨0, _⟩ => rfl
    | ⟨1, _⟩ => rfl
    | ⟨2, _⟩ => rfl
  rw [hi, e24]
  show max (Ideal.ofBits FTy.f32 0xFF800000#32) _ = _
  rw [neg_inf]
  exact max_eq_right bot_le
theorem exp_read (b : Fin 4) (r : Fin 4096) (h : Fin 4) (k : Fin 256) : val_main_v39 (F := Ideal) X G W g K (ix4 b h r k)
    = Ideal.exp (sc (prj X G W b r h) (fun e => g (ix1 e)) (mem K b h) k - Finset.univ.sup (sc (prj X G W b r h) (fun e => g (ix1 e)) (mem K b h))) := by
  rw [val_main_v39_apply, val_main_v38_apply, rowmax_read, sc_read]
  rfl
theorem sum_read (S : FVec Ideal S4x4x4096x256 .f32) (i : FVec Ideal S_ .f32) (b : Fin 4) (h : Fin 4) (r : Fin 4096) :
    Host.reduceAdd S i reducesTo_S4x4x4096x256_S4x4x4096_d3 h_S_ (ix3 b h r)
      = i (Shape.Idx.first h_S_) + ∑ k : Fin 256, S (ix4 b h r k) := by
  pointwise
theorem wt_read (b : Fin 4) (r : Fin 4096) (h : Fin 4) (k : Fin 256) : val_main_v43 (F := Ideal) X G W g K (ix4 b h r k) = wt (sc (prj X G W b r h) (fun e => g (ix1 e)) (mem K b h)) k := by
  have e31 : val_main_v40 (F := Ideal) X G W g K (ix3 b h r) = ∑ k : Fin 256, Ideal.exp (sc (prj X G W b r h) (fun e => g (ix1 e)) (mem K b h) k - Finset.univ.sup (sc (prj X G W b r h) (fun e => g (ix1 e)) (mem K b h))) := by
    unfold val_main_v40
    refine (sum_read (val_main_v39 (F := Ideal) X G W g K) (val_main_cst_8 (F := Ideal)) b h r).trans ?_
    rw [val_main_cst_8_apply]
    have z : FloatOps.ofBits (F := Ideal) FTy.f32 0x00000000#32 = (0 : EReal) := by
      show Ideal.ofBits FTy.f32 0#32 = 0
      simp [Ideal.ofBits, Ideal.ieee]
    rw [z]
    refine (zero_add _).trans (Finset.sum_congr rfl fun k _ => exp_read X G W g K b r h k)
  have hi : idx_main_v41 (idx_main_v42 (ix4 b h r k)) = ix3 b h r := by
    funext a
    match a with
    | ⟨0, _⟩ => rfl
    | ⟨1, _⟩ => rfl
    | ⟨2, _⟩ => rfl
  unfold wt
  rw [val_main_v43_apply, exp_read, val_main_v42_apply, val_main_v41_apply, hi, e31]
  rfl

/-- The reference's result, at an index. -/
theorem ref_at (b : Fin 4) (r : Fin 4096) (j : Fin 1024) : val_main_v47 (F := Ideal) X G W g K V O (ix3 b r j)
    = X (ix3 b r j) + ∑ e : Fin 128, ∑ h : Fin 4, ctx (prj X G W b r h) (fun e => g (ix1 e)) (mem K b h) (mem V b h) e * O (ix3 h e j) := by
  unfold ctx
  pointwise [val_main_v47, val_main_v46, val_main_v45, val_main_v44]
  simp only [wt_read, mem_read']
  blk_point []

end Cert.MemAttnIdeal.Sum

end
-- ==== Proof.MemAttn.Cover.lean ====
/- Hand-written, untrusted: the attention over the memory at the ideal instance. The array the call leaves is the reference's. -/
module

public import proofs.«01_k».proof.Proof.MemAttn.Pay
public import proofs.«01_k».proof.Proof.MemAttn.Ref

@[expose] public section

set_option maxRecDepth 16384

noncomputable section

open Idealize.ShloMosaic Idealize.ShloMosaic.TcCoe Idealize.SL.Sem
open Idealize.ShloMosaic.Pipeline (Dat)
open scoped BigOperators

namespace Cert.MemAttnIdeal.Sum

open Cert.MemAttnIdeal Cert.MemAttnIdeal.Gen Cert.MemAttnReferenceIdeal.Read

variable (m : (ℓ : Loc nD τ sig) → Buf (Elt Ideal) ℓ)

/-- Every window's block index, from the number of the grid point. -/
theorem idx : ∀ t : Fin cfg0.N, win0_0.index t = ![t.val / 8, t.val % 8, 0]
    ∧ win0_1.index t = ![0, 0]
    ∧ win0_2.index t = ![0, 0]
    ∧ win0_3.index t = ![0, 0]
    ∧ win0_4.index t = ![t.val / 8, 0, 0]
    ∧ win0_5.index t = ![t.val / 8, 0, 0]
    ∧ win0_6.index t = ![0, 0]
    ∧ win0_7.index t = ![t.val / 8, t.val % 8, 0] :=
  (by decide +kernel : ∀ t : Fin grid0.N, _)

/-- The operands' blocks, read from the arguments. -/
theorem rows_at (c : Dev nD) (t : Fin cfg0.N) (b : Fin 4) (R : Fin 4096) (r : Fin 512) (l : Fin 1024) (hb : b.val = t.val / 8) (hR : R.val = t.val % 8 * 512 + r.val) :
    (show FVec Ideal S1x512x1024 .f32 from iblk m c 0 t) (ix3 0 r l) = (m ((c : Thread nD τ).loc main_arg0) : FVec Ideal S4x4096x1024 .f32) (ix3 b R l) := by
  blk_point [iblk, V, idx t]
theorem gain_at (c : Dev nD) (t : Fin cfg0.N) (l : Fin 1024) :
    (show FVec Ideal S1x1024 .f32 from iblk m c 1 t) (ix2 0 l) = (m ((c : Thread nD τ).loc main_arg1) : FVec Ideal S1024 .f32) (ix1 l) := by
  blk_point [iblk, V, idx t]
theorem query_at (c : Dev nD) (t : Fin cfg0.N) (l : Fin 1024) (j : Fin 512) (h : Fin 4) (e : Fin 128) (hj : j.val = h.val * 128 + e.val) :
    (show FVec Ideal S1024x512 .bf16 from iblk m c 2 t) (ix2 l j) = (m ((c : Thread nD τ).loc main_arg2) : FVec Ideal S1024x4x128 .f32) (ix3 l h e) := by
  blk_point [iblk, V, idx t]
theorem head_gain_at (c : Dev nD) (t : Fin cfg0.N) (e : Fin 128) :
    (show FVec Ideal S1x128 .f32 from iblk m c 3 t) (ix2 0 e) = (m ((c : Thread nD τ).loc main_arg3) : FVec Ideal S128 .f32) (ix1 e) := by
  blk_point [iblk, V, idx t]
theorem keys_at (c : Dev nD) (t : Fin cfg0.N) (b : Fin 4) (k : Fin 256) (j : Fin 512) (hb : b.val = t.val / 8) :
    (show FVec Ideal S1x256x512 .f32 from iblk m c 4 t) (ix3 0 k j) = (m ((c : Thread nD τ).loc main_arg4) : FVec Ideal S4x256x512 .f32) (ix3 b k j) := by
  blk_point [iblk, V, idx t]
theorem values_at (c : Dev nD) (t : Fin cfg0.N) (b : Fin 4) (k : Fin 256) (j : Fin 512) (hb : b.val = t.val / 8) :
    (show FVec Ideal S1x256x512 .f32 from iblk m c 5 t) (ix3 0 k j) = (m ((c : Thread nD τ).loc main_arg5) : FVec Ideal S4x256x512 .f32) (ix3 b k j) := by
  blk_point [iblk, V, idx t]
theorem out_at (c : Dev nD) (t : Fin cfg0.N) (j : Fin 512) (l : Fin 1024) (h : Fin 4) (e : Fin 128) (hj : j.val = h.val * 128 + e.val) :
    (show FVec Ideal S512x1024 .bf16 from iblk m c 6 t) (ix2 j l) = (m ((c : Thread nD τ).loc main_arg6) : FVec Ideal S4x128x1024 .f32) (ix3 h e l) := by
  blk_point [iblk, V, idx t]

/-- A row's products with a head's query weights, and a head's keys and values. -/
theorem proj_eq (c : Dev nD) (t : Fin cfg0.N) (b : Fin 4) (R : Fin 4096) (r : Fin 512) (hb : b.val = t.val / 8) (hR : R.val = t.val % 8 * 512 + r.val)
    (j : Fin 512) (h : Fin 4) (e : Fin 128) (hj : j.val = h.val * 128 + e.val) :
    k0_pay3 (F := Ideal) (iblk m c 0 t) (iblk m c 1 t) (iblk m c 2 t) (ix2 r j) = prj (m ((c : Thread nD τ).loc main_arg0) : FVec Ideal S4x4096x1024 .f32) (m ((c : Thread nD τ).loc main_arg1) : FVec Ideal S1024 .f32) (m ((c : Thread nD τ).loc main_arg2) : FVec Ideal S1024x4x128 .f32) b R h e := by
  refine (proj_at _ _ _ r j).trans ?_
  unfold prj
  have hx := fun l => rows_at m c t b R r l hb hR
  dsimp only at hx
  have hs := Finset.sum_congr (rfl : (Finset.univ : Finset (Fin 1024)) = Finset.univ) fun k _ => congrArg₂ (fun a b : EReal => a * b) (hx k) (hx k)
  refine Finset.sum_congr rfl fun l _ => ?_
  refine congrArg₂ (fun a b : EReal => a * b) (congrArg₂ (fun a b : EReal => a * b) (congrArg₂ (fun a b : EReal => a * b) (hx l) ?_) (gain_at m c t l)) (query_at m c t l j h e hj)
  exact congrArg (fun s : EReal => Ideal.rsqrt (Ideal.div s (Ideal.ofBits FTy.f32 0x44800000#32) + Ideal.ofBits FTy.f32 0x358637BD#32)) hs
theorem pay4_at (x : FVec Ideal S1x256x512 .f32) (k : Fin 256) (j : Fin 512) : k0_pay4 (F := Ideal) x (ix2 k j) = x (ix3 0 k j) := by
  pointwise [k0_pay4]
theorem pay5_at (x : FVec Ideal S1x256x512 .f32) (k : Fin 256) (j : Fin 512) : k0_pay5 (F := Ideal) x (ix2 k j) = x (ix3 0 k j) := by
  pointwise [k0_pay5]
theorem pay2_at (x : FVec Ideal S1x512x1024 .f32) (r : Fin 512) (j : Fin 1024) : k0_pay2 (F := Ideal) x (ix2 r j) = x (ix3 0 r j) := by
  pointwise [k0_pay2]
theorem keys_eq (c : Dev nD) (t : Fin cfg0.N) (b : Fin 4) (hb : b.val = t.val / 8) (k : Fin 256) (j : Fin 512) (h : Fin 4) (e : Fin 128) (hj : j.val = h.val * 128 + e.val) :
    (k0_pay4 (F := Ideal) (iblk m c 4 t)) (ix2 k j) = mem (m ((c : Thread nD τ).loc main_arg4) : FVec Ideal S4x256x512 .f32) b h k e := by
  refine (pay4_at _ k j).trans ((keys_at m c t b k j hb).trans ?_)
  exact congrArg (fun q => (m ((c : Thread nD τ).loc main_arg4) : FVec Ideal S4x256x512 .f32) (ix3 b k q)) (Fin.ext hj)
theorem values_eq (c : Dev nD) (t : Fin cfg0.N) (b : Fin 4) (hb : b.val = t.val / 8) (k : Fin 256) (j : Fin 512) (h : Fin 4) (e : Fin 128) (hj : j.val = h.val * 128 + e.val) :
    (k0_pay5 (F := Ideal) (iblk m c 5 t)) (ix2 k j) = mem (m ((c : Thread nD τ).loc main_arg5) : FVec Ideal S4x256x512 .f32) b h k e := by
  refine (pay5_at _ k j).trans ((values_at m c t b k j hb).trans ?_)
  exact congrArg (fun q => (m ((c : Thread nD τ).loc main_arg5) : FVec Ideal S4x256x512 .f32) (ix3 b k q)) (Fin.ext hj)

/-- One head's result depends on its operands' entries only. -/
theorem ctx_congr {z z' g g' : Fin 128 → EReal} {K K' V V' : Fin 256 → Fin 128 → EReal} (hz : ∀ e, z e = z' e) (hg : ∀ e, g e = g' e) (hK : ∀ k e, K k e = K' k e) (hV : ∀ k e, V k e = V' k e) (e : Fin 128) :
    ctx z g K V e = ctx z' g' K' V' e := by
  rw [show z = z' from funext hz, show g = g' from funext hg, show K = K' from funext fun k => funext (hK k), show V = V' from funext fun k => funext (hV k)]

theorem head0_eq (c : Dev nD) (t : Fin cfg0.N) (b : Fin 4) (R : Fin 4096) (r : Fin 512) (hb : b.val = t.val / 8) (hR : R.val = t.val % 8 * 512 + r.val) (e : Fin 128) :
    k0_pay9 (F := Ideal) (k0_pay4 (F := Ideal) (iblk m c 4 t)) (k0_pay5 (F := Ideal) (iblk m c 5 t)) (k0_pay6 (iblk m c 0 t) (iblk m c 1 t) (iblk m c 2 t)) (k0_pay7 (iblk m c 3 t)) (k0_pay8 (iblk m c 0 t) (iblk m c 1 t) (iblk m c 2 t)) (ix2 r e) = ctx (prj (m ((c : Thread nD τ).loc main_arg0) : FVec Ideal S4x4096x1024 .f32) (m ((c : Thread nD τ).loc main_arg1) : FVec Ideal S1024 .f32) (m ((c : Thread nD τ).loc main_arg2) : FVec Ideal S1024x4x128 .f32) b R 0) (fun e => (m ((c : Thread nD τ).loc main_arg3) : FVec Ideal S128 .f32) (ix1 e)) (mem (m ((c : Thread nD τ).loc main_arg4) : FVec Ideal S4x256x512 .f32) b 0) (mem (m ((c : Thread nD τ).loc main_arg5) : FVec Ideal S4x256x512 .f32) b 0) e := by
  refine (head0 _ _ _ _ _ _ r e).trans ?_
  refine ctx_congr (fun e => proj_eq m c t b R r hb hR _ 0 e ?_) (fun e => head_gain_at m c t e) (fun k e => keys_eq m c t b hb k _ 0 e ?_) (fun k e => values_eq m c t b hb k _ 0 e ?_) e <;> simp
theorem head1_eq (c : Dev nD) (t : Fin cfg0.N) (b : Fin 4) (R : Fin 4096) (r : Fin 512) (hb : b.val = t.val / 8) (hR : R.val = t.val % 8 * 512 + r.val) (e : Fin 128) :
    k0_pay11 (F := Ideal) (k0_pay5 (F := Ideal) (iblk m c 5 t)) (k0_pay10 (k0_pay3 (F := Ideal) (iblk m c 0 t) (iblk m c 1 t) (iblk m c 2 t)) (k0_pay4 (F := Ideal) (iblk m c 4 t)) (iblk m c 3 t)) (ix2 r e) = ctx (prj (m ((c : Thread nD τ).loc main_arg0) : FVec Ideal S4x4096x1024 .f32) (m ((c : Thread nD τ).loc main_arg1) : FVec Ideal S1024 .f32) (m ((c : Thread nD τ).loc main_arg2) : FVec Ideal S1024x4x128 .f32) b R 1) (fun e => (m ((c : Thread nD τ).loc main_arg3) : FVec Ideal S128 .f32) (ix1 e)) (mem (m ((c : Thread nD τ).loc main_arg4) : FVec Ideal S4x256x512 .f32) b 1) (mem (m ((c : Thread nD τ).loc main_arg5) : FVec Ideal S4x256x512 .f32) b 1) e := by
  refine (head1 _ _ _ _ r e).trans ?_
  refine ctx_congr (fun e => proj_eq m c t b R r hb hR _ 1 e ?_) (fun e => head_gain_at m c t e) (fun k e => keys_eq m c t b hb k _ 1 e ?_) (fun k e => values_eq m c t b hb k _ 1 e ?_) e <;> simp
theorem head2_eq (c : Dev nD) (t : Fin cfg0.N) (b : Fin 4) (R : Fin 4096) (r : Fin 512) (hb : b.val = t.val / 8) (hR : R.val = t.val % 8 * 512 + r.val) (e : Fin 128) :
    k0_pay12 (F := Ideal) (k0_pay3 (F := Ideal) (iblk m c 0 t) (iblk m c 1 t) (iblk m c 2 t)) (k0_pay4 (F := Ideal) (iblk m c 4 t)) (k0_pay5 (F := Ideal) (iblk m c 5 t)) (iblk m c 3 t) (ix2 r e) = ctx (prj (m ((c : Thread nD τ).loc main_arg0) : FVec Ideal S4x4096x1024 .f32) (m ((c : Thread nD τ).loc main_arg1) : FVec Ideal S1024 .f32) (m ((c : Thread nD τ).loc main_arg2) : FVec Ideal S1024x4x128 .f32) b R 2) (fun e => (m ((c : Thread nD τ).loc main_arg3) : FVec Ideal S128 .f32) (ix1 e)) (mem (m ((c : Thread nD τ).loc main_arg4) : FVec Ideal S4x256x512 .f32) b 2) (mem (m ((c : Thread nD τ).loc main_arg5) : FVec Ideal S4x256x512 .f32) b 2) e := by
  refine (head2 _ _ _ _ r e).trans ?_
  refine ctx_congr (fun e => proj_eq m c t b R r hb hR _ 2 e ?_) (fun e => head_gain_at m c t e) (fun k e => keys_eq m c t b hb k _ 2 e ?_) (fun k e => values_eq m c t b hb k _ 2 e ?_) e <;> simp
theorem head3_eq (c : Dev nD) (t : Fin cfg0.N) (b : Fin 4) (R : Fin 4096) (r : Fin 512) (hb : b.val = t.val / 8) (hR : R.val = t.val % 8 * 512 + r.val) (e : Fin 128) :
    last_head (k0_pay4 (F := Ideal) (iblk m c 4 t)) (k0_pay5 (F := Ideal) (iblk m c 5 t)) (k0_pay13 (k0_pay3 (F := Ideal) (iblk m c 0 t) (iblk m c 1 t) (iblk m c 2 t))) (k0_pay14 (iblk m c 3 t)) (k0_pay15 (k0_pay3 (F := Ideal) (iblk m c 0 t) (iblk m c 1 t) (iblk m c 2 t))) (ix2 r e) = ctx (prj (m ((c : Thread nD τ).loc main_arg0) : FVec Ideal S4x4096x1024 .f32) (m ((c : Thread nD τ).loc main_arg1) : FVec Ideal S1024 .f32) (m ((c : Thread nD τ).loc main_arg2) : FVec Ideal S1024x4x128 .f32) b R 3) (fun e => (m ((c : Thread nD τ).loc main_arg3) : FVec Ideal S128 .f32) (ix1 e)) (mem (m ((c : Thread nD τ).loc main_arg4) : FVec Ideal S4x256x512 .f32) b 3) (mem (m ((c : Thread nD τ).loc main_arg5) : FVec Ideal S4x256x512 .f32) b 3) e := by
  refine (head3 _ _ _ _ r e).trans ?_
  refine ctx_congr (fun e => proj_eq m c t b R r hb hR _ 3 e ?_) (fun e => head_gain_at m c t e) (fun k e => keys_eq m c t b hb k _ 3 e ?_) (fun k e => values_eq m c t b hb k _ 3 e ?_) e <;> simp

/-- What a grid point leaves, at an index. -/
theorem point_at (c : Dev nD) (t : Fin cfg0.N) (b : Fin 4) (R : Fin 4096) (r : Fin 512) (hb : b.val = t.val / 8) (hR : R.val = t.val % 8 * 512 + r.val) (j : Fin 1024) :
    k0_pay1 (F := Ideal) (k0_pay2 (iblk m c 0 t)) (k0_pay4 (F := Ideal) (iblk m c 4 t)) (k0_pay5 (F := Ideal) (iblk m c 5 t)) (k0_pay9 (F := Ideal) (k0_pay4 (F := Ideal) (iblk m c 4 t)) (k0_pay5 (F := Ideal) (iblk m c 5 t)) (k0_pay6 (iblk m c 0 t) (iblk m c 1 t) (iblk m c 2 t)) (k0_pay7 (iblk m c 3 t)) (k0_pay8 (iblk m c 0 t) (iblk m c 1 t) (iblk m c 2 t))) (k0_pay11 (F := Ideal) (k0_pay5 (F := Ideal) (iblk m c 5 t)) (k0_pay10 (k0_pay3 (F := Ideal) (iblk m c 0 t) (iblk m c 1 t) (iblk m c 2 t)) (k0_pay4 (F := Ideal) (iblk m c 4 t)) (iblk m c 3 t))) (k0_pay12 (F := Ideal) (k0_pay3 (F := Ideal) (iblk m c 0 t) (iblk m c 1 t) (iblk m c 2 t)) (k0_pay4 (F := Ideal) (iblk m c 4 t)) (k0_pay5 (F := Ideal) (iblk m c 5 t)) (iblk m c 3 t)) (k0_pay13 (k0_pay3 (F := Ideal) (iblk m c 0 t) (iblk m c 1 t) (iblk m c 2 t))) (k0_pay14 (iblk m c 3 t)) (k0_pay15 (k0_pay3 (F := Ideal) (iblk m c 0 t) (iblk m c 1 t) (iblk m c 2 t))) (iblk m c 6 t) (ix3 0 r j)
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b R j) := by
  rw [pay1_eq]
  refine (last_at _ _ _ _ _ _ r j).trans ?_
  refine Eq.trans ?_ (ref_at _ _ _ _ _ _ _ b R j).symm
  refine congrArg₂ (fun a b : EReal => a + b) ((pay2_at _ r j).trans (rows_at m c t b R r j hb hR)) ?_
  rw [Finset.sum_comm, Fin.sum_univ_four]
  refine congrArg₂ (fun a b : EReal => a + b) (congrArg₂ (fun a b : EReal => a + b) (congrArg₂ (fun a b : EReal => a + b) ?_ ?_) ?_) ?_
  · exact Finset.sum_congr rfl fun e _ => congrArg₂ (fun a b : EReal => a * b) (head0_eq m c t b R r hb hR e) (out_at m c t _ j 0 e (by simp))
  · exact Finset.sum_congr rfl fun e _ => congrArg₂ (fun a b : EReal => a * b) (head1_eq m c t b R r hb hR e) (out_at m c t _ j 1 e (by simp))
  · exact Finset.sum_congr rfl fun e _ => congrArg₂ (fun a b : EReal => a * b) (head2_eq m c t b R r hb hR e) (out_at m c t _ j 2 e (by simp))
  · exact Finset.sum_congr rfl fun e _ => congrArg₂ (fun a b : EReal => a * b) (head3_eq m c t b R r hb hR e) (out_at m c t _ j 3 e (by simp))

theorem point (c : Dev nD) (t : Fin cfg0.N) (y : S1x512x1024.Idx) :
    k0_pay1 (F := Ideal) (k0_pay2 (iblk m c 0 t)) (k0_pay4 (F := Ideal) (iblk m c 4 t)) (k0_pay5 (F := Ideal) (iblk m c 5 t)) (k0_pay9 (F := Ideal) (k0_pay4 (F := Ideal) (iblk m c 4 t)) (k0_pay5 (F := Ideal) (iblk m c 5 t)) (k0_pay6 (iblk m c 0 t) (iblk m c 1 t) (iblk m c 2 t)) (k0_pay7 (iblk m c 3 t)) (k0_pay8 (iblk m c 0 t) (iblk m c 1 t) (iblk m c 2 t))) (k0_pay11 (F := Ideal) (k0_pay5 (F := Ideal) (iblk m c 5 t)) (k0_pay10 (k0_pay3 (F := Ideal) (iblk m c 0 t) (iblk m c 1 t) (iblk m c 2 t)) (k0_pay4 (F := Ideal) (iblk m c 4 t)) (iblk m c 3 t))) (k0_pay12 (F := Ideal) (k0_pay3 (F := Ideal) (iblk m c 0 t) (iblk m c 1 t) (iblk m c 2 t)) (k0_pay4 (F := Ideal) (iblk m c 4 t)) (k0_pay5 (F := Ideal) (iblk m c 5 t)) (iblk m c 3 t)) (k0_pay13 (k0_pay3 (F := Ideal) (iblk m c 0 t) (iblk m c 1 t) (iblk m c 2 t))) (k0_pay14 (iblk m c 3 t)) (k0_pay15 (k0_pay3 (F := Ideal) (iblk m c 0 t) (iblk m c 1 t) (iblk m c 2 t))) (iblk m c 6 t) y
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  have ht : t.val < 32 := lt_of_lt_of_eq t.isLt N_0
  obtain ⟨r, j, rfl⟩ : ∃ (r : Fin 512) (j : Fin 1024), y = ix3 0 r j := ⟨y 1, y 2, by blk_ext⟩
  have he : (((cfg0.win 7).blk t).view.emb (ix3 0 r j) : S4x4096x1024.Idx) = ix3 (⟨t.val / 8, by omega⟩ : Fin 4) (⟨t.val % 8 * 512 + r.val, by omega⟩ : Fin 4096) j := by
    blk_ext [idx t]
  refine Eq.trans ?_ (congrArg (val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) he).symm
  exact point_at m c t _ _ r rfl rfl j

theorem out_eq (c : Dev nD) (t : Fin cfg0.N) : out0_7 (F := Ideal) (iblk m c 0 t) (iblk m c 1 t) (iblk m c 2 t) (iblk m c 3 t) (iblk m c 4 t) (iblk m c 5 t) (iblk m c 6 t)
    = k0_pay1 (F := Ideal) (k0_pay2 (iblk m c 0 t)) (k0_pay4 (F := Ideal) (iblk m c 4 t)) (k0_pay5 (F := Ideal) (iblk m c 5 t)) (k0_pay9 (F := Ideal) (k0_pay4 (F := Ideal) (iblk m c 4 t)) (k0_pay5 (F := Ideal) (iblk m c 5 t)) (k0_pay6 (iblk m c 0 t) (iblk m c 1 t) (iblk m c 2 t)) (k0_pay7 (iblk m c 3 t)) (k0_pay8 (iblk m c 0 t) (iblk m c 1 t) (iblk m c 2 t))) (k0_pay11 (F := Ideal) (k0_pay5 (F := Ideal) (iblk m c 5 t)) (k0_pay10 (k0_pay3 (F := Ideal) (iblk m c 0 t) (iblk m c 1 t) (iblk m c 2 t)) (k0_pay4 (F := Ideal) (iblk m c 4 t)) (iblk m c 3 t))) (k0_pay12 (F := Ideal) (k0_pay3 (F := Ideal) (iblk m c 0 t) (iblk m c 1 t) (iblk m c 2 t)) (k0_pay4 (F := Ideal) (iblk m c 4 t)) (k0_pay5 (F := Ideal) (iblk m c 5 t)) (iblk m c 3 t)) (k0_pay13 (k0_pay3 (F := Ideal) (iblk m c 0 t) (iblk m c 1 t) (iblk m c 2 t))) (k0_pay14 (iblk m c 3 t)) (k0_pay15 (k0_pay3 (F := Ideal) (iblk m c 0 t) (iblk m c 1 t) (iblk m c 2 t))) (iblk m c 6 t) := by
  unfold_out out0_7
  frame_out

/-- The result array after the run. -/
theorem final (c : Dev nD) : (dats m 0 c).arrAt 7 (cfgs 0).N = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp; rw [after0_7, out_eq]
  exact point m c t y

end Cert.MemAttnIdeal.Sum

end
-- ==== Proof.OddProj.Host.lean ====
/- Hand-written, untrusted: what the host hands the linear attention's projection call. -/
module

public import proofs.«01_k».proof.Proof.Gen.OddProjIdeal.Value
public import Idealize.ShloMosaic.Lib.Pipeline.ValueKit
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open scoped BigOperators

namespace Cert.OddProjIdeal.Sum

open Cert.OddProjIdeal Cert.OddProjIdeal.Gen

variable (m : (ℓ : Loc nD τ sig) → Buf (Elt Ideal) ℓ)

/-- The heads' columns from number `o` on, each head's 192 followed by 64 zeros. -/
def padded (o : Nat) (h : S1024x2832.Slices ![0, o] S1024x768) (w : FVec Ideal S1024x2832 .f32) : FVec Ideal S1024x1024 .f32 :=
  shapeCast S1024x1024 (pad S1024x4x256 ![0, 0, 0] ![0, 0, 64] ![0, 0, 0] (shapeCast S1024x4x192 (extractStridedSlice S1024x768 ![0, o] w h) shapeCasts_S1024x768_S1024x4x192)
    (sitofp .f32 (constantI S_ 32 0#32)) pads_S1024x4x192_S1024x4x256_000_000_0640 h_S_) shapeCasts_S1024x4x256_S1024x1024

/-- The widened input weight. -/
def wide (w : FVec Ideal S1024x2832 .f32) : FVec Ideal S1024x3456 .bf16 :=
  truncf .bf16 (concatenate S1024x3456 1 [⟨S1024x1024, extractStridedSlice S1024x1024 ![0, 0] w slices_S1024x2832_S1024x1024_0_0⟩, ⟨S1024x1024, padded 1024 slices_S1024x2832_S1024x768_0_1024 w⟩, ⟨S1024x1024, padded 1792 slices_S1024x2832_S1024x768_0_1792 w⟩, ⟨S1024x256, extractStridedSlice S1024x256 ![0, 2576] w slices_S1024x2832_S1024x256_0_2576⟩,
    ⟨S1024x128, pad S1024x128 ![0, 0] ![0, 112] ![0, 0] (extractStridedSlice S1024x16 ![0, 2560] w slices_S1024x2832_S1024x16_0_2560) (sitofp .f32 (constantI S_ 32 0#32)) pads_S1024x16_S1024x128_000_01120 h_S_⟩] concatenates_S1024x1024_S1024x1024_S1024x1024_S1024x256_S1024x128_S1024x3456_d1) bitsLt_bf16_f32

theorem host_wide (c : Dev nD) : V m c main_v15 = wide (m ((c : Thread nD τ).loc main_arg2)) := by
  unfold V wide padded
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem host_lift (c : Dev nD) : V m c main_v16 = truncf (F := Ideal) .bf16 (pad S128x512 ![0, 0] ![112, 0] ![0, 0] (m ((c : Thread nD τ).loc main_arg3) : FVec Ideal S16x512 .f32) (sitofp .f32 (constantI S_ 32 0#32)) pads_S16x512_S128x512_01120_000 h_S_) bitsLt_bf16_f32 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl
theorem host_bias (c : Dev nD) : V m c main_v17 = broadcastInDim S1x512 ![1] bcast_S512_S1x512_1 (m ((c : Thread nD τ).loc main_arg4) : FVec Ideal S512 .f32) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
theorem host_gain (c : Dev nD) : V m c main_v18 = broadcastInDim S1x1024 ![1] bcast_S1024_S1x1024_1 (m ((c : Thread nD τ).loc main_arg1) : FVec Ideal S1024 .f32) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
theorem host_rows (c : Dev nD) : V m c main_v0 = shapeCast S16384x1024 (m ((c : Thread nD τ).loc main_arg0) : FVec Ideal S4x4096x1024 .f32) shapeCasts_S4x4096x1024_S16384x1024 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The padding value. -/
theorem int_zero : (FloatOps.sitofp (F := Ideal) FTy.f32 (0#32 : BitVec 32) : EReal) = 0 := by
  show (((0#32 : BitVec 32).toInt : ℝ) : EReal) = 0
  simp

/-- The columns of the widened weight: of queries and keys, of values, of the output gate, of the pooling, of the decay. -/
theorem wide_low (w : FVec Ideal S1024x2832 .f32) (l : Fin 1024) (j : Fin 3456) (q : Fin 2832) (hj : j.val < 1024) (h : q.val = j.val) :
    wide w (ix2 l j) = w (ix2 l q) := by
  pointwise [wide, padded]
  split_ifs <;> first | omega | exact int_zero | blk_point []
theorem wide_v (w : FVec Ideal S1024x2832 .f32) (l : Fin 1024) (j : Fin 3456) (q : Fin 2832) (i : Fin 1024) (hj : j.val = 1024 + i.val) (hi : i.val % 256 < 192) (h : q.val = 1024 + (i.val / 256 * 192 + i.val % 256)) :
    wide w (ix2 l j) = w (ix2 l q) := by
  pointwise [wide, padded]
  split_ifs <;> first | omega | exact int_zero | blk_point []
theorem wide_v_pad (w : FVec Ideal S1024x2832 .f32) (l : Fin 1024) (j : Fin 3456) (i : Fin 1024) (hj : j.val = 1024 + i.val) (hi : ¬ i.val % 256 < 192) :
    wide w (ix2 l j) = (0 : EReal) := by
  pointwise [wide, padded]
  split_ifs <;> first | omega | exact int_zero | blk_point []
theorem wide_r (w : FVec Ideal S1024x2832 .f32) (l : Fin 1024) (j : Fin 3456) (q : Fin 2832) (i : Fin 1024) (hj : j.val = 2048 + i.val) (hi : i.val % 256 < 192) (h : q.val = 1792 + (i.val / 256 * 192 + i.val % 256)) :
    wide w (ix2 l j) = w (ix2 l q) := by
  pointwise [wide, padded]
  split_ifs <;> first | omega | exact int_zero | blk_point []
theorem wide_r_pad (w : FVec Ideal S1024x2832 .f32) (l : Fin 1024) (j : Fin 3456) (i : Fin 1024) (hj : j.val = 2048 + i.val) (hi : ¬ i.val % 256 < 192) :
    wide w (ix2 l j) = (0 : EReal) := by
  pointwise [wide, padded]
  split_ifs <;> first | omega | exact int_zero | blk_point []
theorem wide_u (w : FVec Ideal S1024x2832 .f32) (l : Fin 1024) (j : Fin 3456) (q : Fin 2832) (i : Fin 256) (hj : j.val = 3072 + i.val) (h : q.val = 2576 + i.val) :
    wide w (ix2 l j) = w (ix2 l q) := by
  pointwise [wide, padded]
  split_ifs <;> first | omega | exact int_zero | blk_point []
theorem wide_g (w : FVec Ideal S1024x2832 .f32) (l : Fin 1024) (j : Fin 3456) (q : Fin 2832) (i : Fin 128) (hj : j.val = 3328 + i.val) (hi : i.val < 16) (h : q.val = 2560 + i.val) :
    wide w (ix2 l j) = w (ix2 l q) := by
  pointwise [wide, padded]
  split_ifs <;> first | omega | exact int_zero | blk_point []
theorem wide_g_pad (w : FVec Ideal S1024x2832 .f32) (l : Fin 1024) (j : Fin 3456) (i : Fin 128) (hj : j.val = 3328 + i.val) (hi : ¬ i.val < 16) :
    wide w (ix2 l j) = (0 : EReal) := by
  pointwise [wide, padded]
  split_ifs <;> first | omega | exact int_zero | blk_point []

/-- The blocks a grid point finds. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0] :=
  (by decide +kernel : ∀ t : Fin grid0.N, _)
theorem wide_at (c : Dev nD) (t : Fin cfg0.N) (l : Fin 1024) (j : Fin 3456) :
    (show FVec Ideal S1024x3456 .bf16 from iblk m c 2 t) (ix2 l j) = wide (m ((c : Thread nD τ).loc main_arg2)) (ix2 l j) := by
  rw [← host_wide]
  blk_point [iblk, idx t]
theorem flat_at (x : FVec Ideal S4x4096x1024 .f32) (b : Fin 4) (r : Fin 4096) (R : Fin 16384) (l : Fin 1024) (h : R.val = b.val * 4096 + r.val) :
    shapeCast S16384x1024 x shapeCasts_S4x4096x1024_S16384x1024 (ix2 R l) = x (ix3 b r l) := by
  pointwise
  blk_point []
theorem pad_at (x : FVec Ideal S16x512 .f32) (k : Fin 128) (q : Fin 16) (j : Fin 512) (h : q.val = k.val) :
    truncf (F := Ideal) .bf16 (pad S128x512 ![0, 0] ![112, 0] ![0, 0] x (sitofp .f32 (constantI S_ 32 0#32)) pads_S16x512_S128x512_01120_000 h_S_) bitsLt_bf16_f32 (ix2 k j) = x (ix2 q j) := by
  pointwise
  split_ifs <;> first | omega | blk_point []
theorem rows_at (c : Dev nD) (t : Fin cfg0.N) (b : Fin 4) (r : Fin 4096) (y : Fin 512) (R : Fin 16384) (l : Fin 1024) (hR : R.val = t.val * 512 + y.val) (h : R.val = b.val * 4096 + r.val) :
    (show FVec Ideal S512x1024 .f32 from iblk m c 0 t) (ix2 y l) = (m ((c : Thread nD τ).loc main_arg0) : FVec Ideal S4x4096x1024 .f32) (ix3 b r l) := by
  have e : (show FVec Ideal S512x1024 .f32 from iblk m c 0 t) (ix2 y l) = (show FVec Ideal S16384x1024 .f32 from V m c main_v0) (ix2 R l) := by
    blk_point [iblk, idx t]
  refine e.trans ?_
  rw [host_rows]
  exact flat_at _ b r R l h
theorem gain_at (c : Dev nD) (t : Fin cfg0.N) (l : Fin 1024) :
    (show FVec Ideal S1x1024 .f32 from iblk m c 1 t) (ix2 0 l) = (m ((c : Thread nD τ).loc main_arg1) : FVec Ideal S1024 .f32) (ix1 l) := by
  have e : (show FVec Ideal S1x1024 .f32 from iblk m c 1 t) (ix2 0 l) = (show FVec Ideal S1x1024 .f32 from V m c main_v18) (ix2 0 l) := by
    blk_point [iblk, idx t]
  refine e.trans ?_
  rw [host_gain]
  pointwise
theorem bias_at (c : Dev nD) (t : Fin cfg0.N) (l : Fin 512) :
    (show FVec Ideal S1x512 .f32 from iblk m c 4 t) (ix2 0 l) = (m ((c : Thread nD τ).loc main_arg4) : FVec Ideal S512 .f32) (ix1 l) := by
  have e : (show FVec Ideal S1x512 .f32 from iblk m c 4 t) (ix2 0 l) = (show FVec Ideal S1x512 .f32 from V m c main_v17) (ix2 0 l) := by
    blk_point [iblk, idx t]
  refine e.trans ?_
  rw [host_bias]
  pointwise
theorem lift_at (c : Dev nD) (t : Fin cfg0.N) (k : Fin 128) (q : Fin 16) (j : Fin 512) (h : q.val = k.val) :
    (show FVec Ideal S128x512 .bf16 from iblk m c 3 t) (ix2 k j) = (m ((c : Thread nD τ).loc main_arg3) : FVec Ideal S16x512 .f32) (ix2 q j) := by
  have e : (show FVec Ideal S128x512 .bf16 from iblk m c 3 t) (ix2 k j) = (show FVec Ideal S128x512 .bf16 from V m c main_v16) (ix2 k j) := by
    blk_point [iblk, idx t]
  refine e.trans ?_
  rw [host_lift]
  exact pad_at _ k q j h

end Cert.OddProjIdeal.Sum

end
-- ==== Proof.OddProj.Ref.lean ====
/- Hand-written, untrusted: the reference of the linear attention's projections at an index. -/
module

public import proofs.«01_k».proof.Proof.Gen.OddProjReferenceIdeal.Run
public import proofs.«01_k».proof.Proof.Gen.OddProjReferenceIdeal.Read
public import Idealize.ShloMosaic.Lib.Pipeline.ValueKit
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open scoped BigOperators

namespace Cert.OddProjIdeal.Sum

open Cert.OddProjReferenceIdeal Cert.OddProjReferenceIdeal.Gen Cert.OddProjReferenceIdeal.Read

/-- The literal 128. -/
theorem lit_128 : Ideal.ofBits FTy.f32 0x43000000#32 = ((128 : ℝ) : EReal) := by
  simp [Ideal.ofBits, Ideal.ieee, -EReal.coe_mul]
  norm_num
/-- The literal 16. -/
theorem lit_16 : Ideal.ofBits FTy.f32 0x41800000#32 = ((16 : ℝ) : EReal) := by
  simp [Ideal.ofBits, Ideal.ieee, -EReal.coe_mul]
  norm_num
/-- The literal 1/16. -/
theorem lit_inv_16 : Ideal.ofBits FTy.f32 0x3D800000#32 = (((1 / 16 : ℝ)) : EReal) := by
  simp [Ideal.ofBits, Ideal.ieee, -EReal.coe_mul]
  norm_num
/-- The literal 0. -/
theorem lit_0 : Ideal.ofBits FTy.f32 0x00000000#32 = 0 := by
  simp [Ideal.ofBits, Ideal.ieee]
/-- Division by the square root of 128 is multiplication with its inverse. -/
theorem div_root (x : EReal) : Ideal.div x (Ideal.sqrt ((128 : ℝ) : EReal)) = x * (((Real.sqrt 128)⁻¹ : ℝ) : EReal) := by
  have h : Real.sqrt 128 ≠ 0 := by positivity
  rw [Ideal.sqrt_coe, if_neg (by norm_num), Ideal.div_coe h]
  simp only [one_div]
/-- The padding value. -/
theorem pad_zero : (FloatOps.sitofp (F := Ideal) FTy.f32 (0#32 : BitVec 32) : EReal) = 0 := by
  show (((0#32 : BitVec 32).toInt : ℝ) : EReal) = 0
  simp

variable (X : FVec Ideal S4x4096x1024 .f32) (G : FVec Ideal S1024 .f32) (W : FVec Ideal S1024x2832 .f32) (L : FVec Ideal S16x512 .f32) (B : FVec Ideal S512 .f32)

/-- An entry of a row, normalized and scaled by its gain. -/
def nrm (b : Fin 4) (r : Fin 4096) (l : Fin 1024) : EReal :=
  X (ix3 b r l) * Ideal.rsqrt (Ideal.div (∑ k : Fin 1024, X (ix3 b r k) * X (ix3 b r k)) (Ideal.ofBits FTy.f32 0x44800000#32) + Ideal.ofBits FTy.f32 0x358637BD#32) * G (ix1 l)
/-- An entry of the input projection. -/
def prj (b : Fin 4) (r : Fin 4096) (q : Fin 2832) : EReal := ∑ l : Fin 1024, nrm X G b r l * W (ix2 l q)
theorem prj_read (b : Fin 4) (r : Fin 4096) (q : Fin 2832) : val_main_v13 (F := Ideal) X G W (ix3 b r q) = prj X G W b r q := by
  unfold prj nrm
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]

/-- The results at an index. -/
theorem ref_q (b : Fin 4) (r : Fin 4096) (R : Fin 16384) (h : R.val = b.val * 4096 + r.val) (j : Fin 512) (q : Fin 2832) (hq : q.val = j.val) :
    val_main_v30 (F := Ideal) X G W (ix2 R j) = prj X G W b r q * (((Real.sqrt 128)⁻¹ : ℝ) : EReal) := by
  rw [← prj_read]
  pointwise [val_main_v30, val_main_v17, val_main_v16, val_main_v15, val_main_cst_2, val_main_v14]
  rw [lit_128, div_root]
  blk_point []
theorem ref_k (b : Fin 4) (r : Fin 4096) (R : Fin 16384) (h : R.val = b.val * 4096 + r.val) (j : Fin 512) (q : Fin 2832) (hq : q.val = 512 + j.val) :
    val_main_v31 (F := Ideal) X G W (ix2 R j) = prj X G W b r q := by
  pointwise [val_main_v31, val_main_v18]
  rw [← prj_read]
  blk_point []
theorem ref_v (b : Fin 4) (r : Fin 4096) (R : Fin 16384) (h : R.val = b.val * 4096 + r.val) (j : Fin 1024) (hj : j.val % 256 < 192) (q : Fin 2832) (hq : q.val = 1024 + (j.val / 256 * 192 + j.val % 256)) :
    val_main_v34 (F := Ideal) X G W (ix2 R j) = prj X G W b r q := by
  rw [← prj_read]
  pointwise [val_main_v34, val_main_v33, val_main_v32, val_main_v19, val_main_call1_v0, val_main_c]
  split_ifs <;> first | omega | blk_point []
theorem ref_v_pad (R : Fin 16384) (j : Fin 1024) (hj : ¬ j.val % 256 < 192) :
    val_main_v34 (F := Ideal) X G W (ix2 R j) = (0 : EReal) := by
  pointwise [val_main_v34, val_main_v33, val_main_v32, val_main_v19, val_main_call1_v0, val_main_c]
  split_ifs <;> first | omega | exact pad_zero
theorem ref_r (b : Fin 4) (r : Fin 4096) (R : Fin 16384) (h : R.val = b.val * 4096 + r.val) (j : Fin 1024) (hj : j.val % 256 < 192) (q : Fin 2832) (hq : q.val = 1792 + (j.val / 256 * 192 + j.val % 256)) :
    val_main_v37 (F := Ideal) X G W (ix2 R j) = prj X G W b r q := by
  rw [← prj_read]
  pointwise [val_main_v37, val_main_v36, val_main_v35, val_main_v20, val_main_call2_v0, val_main_c_4]
  split_ifs <;> first | omega | blk_point []
theorem ref_r_pad (R : Fin 16384) (j : Fin 1024) (hj : ¬ j.val % 256 < 192) :
    val_main_v37 (F := Ideal) X G W (ix2 R j) = (0 : EReal) := by
  pointwise [val_main_v37, val_main_v36, val_main_v35, val_main_v20, val_main_call2_v0, val_main_c_4]
  split_ifs <;> first | omega | exact pad_zero
theorem ref_u (b : Fin 4) (r : Fin 4096) (R : Fin 16384) (h : R.val = b.val * 4096 + r.val) (j : Fin 256) (q : Fin 2832) (hq : q.val = 2576 + j.val) :
    val_main_v38 (F := Ideal) X G W (ix2 R j) = prj X G W b r q := by
  pointwise [val_main_v38, val_main_v22]
  rw [← prj_read]
  blk_point []
/-- The decay before the logarithm. -/
def pre (b : Fin 4) (r : Fin 4096) (j : Fin 512) : EReal := ∑ k : Fin 16, prj X G W b r ⟨2560 + k.val, by omega⟩ * L (ix2 k j) + B (ix1 j)
theorem pre_read (b : Fin 4) (r : Fin 4096) (j : Fin 512) : val_main_v26 (F := Ideal) X G W L B (ix3 b r j) = pre X G W L B b r j := by
  unfold pre
  simp only [← prj_read]
  pointwise [val_main_v26, val_main_v25, val_main_v24, val_main_v23, val_main_v21]
/-- The logarithm of one more than an exponential is no negative infinity. -/
theorem log1p_exp_ne (y : EReal) : Ideal.log1p (Ideal.exp y) ≠ ⊥ := by
  unfold Ideal.log1p
  induction y with
  | bot =>
    rw [Ideal.exp_bot, add_zero, ← EReal.coe_one, Ideal.log_coe, if_neg (by norm_num)]
    exact EReal.coe_ne_bot _
  | top =>
    rw [Ideal.exp_top, ← EReal.coe_one, EReal.add_top_of_ne_bot (EReal.coe_ne_bot 1)]
    exact top_ne_bot
  | coe v =>
    have h : 0 < 1 + Real.exp v := by positivity
    rw [Ideal.exp_coe, ← EReal.coe_one, ← EReal.coe_add, Ideal.log_coe, if_neg (not_le.mpr h)]
    exact EReal.coe_ne_bot _
/-- The logistic function's logarithm, in the two forms. -/
theorem log_sig (x : EReal) : (min x 0 - Ideal.log1p (Ideal.exp (0 - FloatOps.absf (F := Ideal) (φ := .f32) x))) * Ideal.ofBits FTy.f32 0x3D800000#32
    = Ideal.div (-if -x ≠ -x then -x else max (-x) 0 + Ideal.log1p (Ideal.exp (-FloatOps.absf (F := Ideal) (φ := .f32) (-x)))) (Ideal.ofBits FTy.f32 0x41800000#32) := by
  rw [lit_16, lit_inv_16, Ideal.div_coe (by norm_num), if_neg (by simp), zero_sub]
  have ha : FloatOps.absf (F := Ideal) (φ := .f32) (-x) = FloatOps.absf (F := Ideal) (φ := .f32) x := by
    show max (-x) (- -x) = max x (-x)
    rw [neg_neg, max_comm]
  rw [ha]
  refine congrArg (fun z : EReal => z * _) ?_
  have hl := log1p_exp_ne (-FloatOps.absf (F := Ideal) (φ := .f32) x)
  have hm : max (-x) 0 ≠ ⊥ := ne_of_gt (lt_of_lt_of_le EReal.bot_lt_zero (le_max_right _ _))
  rw [EReal.neg_add (.inl hm) (.inr hl)]
  refine congrArg (fun z : EReal => z - _) ?_
  rcases le_total x 0 with h | h
  · rw [min_eq_left h, max_eq_left (EReal.neg_nonneg.mpr h), neg_neg]
  · rw [min_eq_right h, max_eq_right ((EReal.neg_le_neg_iff.mpr h).trans_eq neg_zero), neg_zero]
theorem ref_gate (b : Fin 4) (r : Fin 4096) (R : Fin 16384) (h : R.val = b.val * 4096 + r.val) (j : Fin 512) :
    val_main_v39 (F := Ideal) X G W L B (ix2 R j)
      = (min (pre X G W L B b r j) 0 - Ideal.log1p (Ideal.exp (0 - FloatOps.absf (F := Ideal) (φ := .f32) (pre X G W L B b r j)))) * Ideal.ofBits FTy.f32 0x3D800000#32 := by
  have e : val_main_v39 (F := Ideal) X G W L B (ix2 R j) = val_main_v29 (F := Ideal) X G W L B (ix3 b r j) := by
    pointwise [val_main_v39]
    blk_point []
  rw [e, log_sig, ← pre_read]
  pointwise [val_main_v29, val_main_v28, val_main_cst_3, val_main_v27, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1]

end Cert.OddProjIdeal.Sum

end
-- ==== Proof.OddProj.Cover.lean ====
/- Hand-written, untrusted: the linear attention's projections at the ideal instance. The arrays the call leaves are the reference's. -/
module

public import proofs.«01_k».proof.Proof.OddProj.Host
public import proofs.«01_k».proof.Proof.OddProj.Ref

@[expose] public section

set_option maxRecDepth 16384

noncomputable section

open Idealize.ShloMosaic Idealize.ShloMosaic.TcCoe Idealize.SL.Sem
open Idealize.ShloMosaic.Pipeline (Dat)
open scoped BigOperators

namespace Cert.OddProjIdeal.Sum

open Cert.OddProjIdeal Cert.OddProjIdeal.Gen Cert.OddProjReferenceIdeal.Read

variable (m : (ℓ : Loc nD τ sig) → Buf (Elt Ideal) ℓ)

/-- The product of the normalized rows with the widened weight. -/
theorem pay2_at (x : FVec Ideal S512x1024 .f32) (g : FVec Ideal S1x1024 .f32) (w : FVec Ideal S1024x3456 .bf16) (y : Fin 512) (j : Fin 3456) :
    k0_pay2 (F := Ideal) x g w (ix2 y j) = ∑ l : Fin 1024, x (ix2 y l) * Ideal.rsqrt (Ideal.div (∑ k : Fin 1024, x (ix2 y k) * x (ix2 y k)) (Ideal.ofBits FTy.f32 0x44800000#32) + Ideal.ofBits FTy.f32 0x358637BD#32) * g (ix2 0 l) * w (ix2 l j) := by
  pointwise [k0_pay2]
theorem pay3_at (x : FVec Ideal S512x1024 .f32) (g : FVec Ideal S1x1024 .f32) (w : FVec Ideal S1024x3456 .bf16) (y : Fin 512) (j : Fin 512) :
    k0_pay3 (F := Ideal) x g w (ix2 y j) = k0_pay2 (F := Ideal) x g w (ix2 y ⟨j.val, by omega⟩) * (((Real.sqrt 128)⁻¹ : ℝ) : EReal) := by
  have hn : Named.named (F := Ideal) Cert.OddProjIdeal.κ "root128" (φ := .f32) 0x3DB504F3#32 = (((Real.sqrt 128)⁻¹ : ℝ) : EReal) := IdealRules.named_const.ideal_named_scalar _ _ _ _ rfl
  rw [← hn]
  pointwise [k0_pay3]
theorem pay4_at (x : FVec Ideal S512x1024 .f32) (g : FVec Ideal S1x1024 .f32) (w : FVec Ideal S1024x3456 .bf16) (y : Fin 512) (j : Fin 512) :
    k0_pay4 (F := Ideal) x g w (ix2 y j) = k0_pay2 (F := Ideal) x g w (ix2 y ⟨512 + j.val, by omega⟩) := by
  pointwise [k0_pay4]
theorem pay5_at (x : FVec Ideal S512x1024 .f32) (g : FVec Ideal S1x1024 .f32) (w : FVec Ideal S1024x3456 .bf16) (y : Fin 512) (j : Fin 1024) :
    k0_pay5 (F := Ideal) x g w (ix2 y j) = k0_pay2 (F := Ideal) x g w (ix2 y ⟨1024 + j.val, by omega⟩) := by
  pointwise [k0_pay5]
theorem pay6_at (x : FVec Ideal S512x1024 .f32) (g : FVec Ideal S1x1024 .f32) (w : FVec Ideal S1024x3456 .bf16) (y : Fin 512) (j : Fin 1024) :
    k0_pay6 (F := Ideal) x g w (ix2 y j) = k0_pay2 (F := Ideal) x g w (ix2 y ⟨2048 + j.val, by omega⟩) := by
  pointwise [k0_pay6]
theorem pay7_at (x : FVec Ideal S512x1024 .f32) (g : FVec Ideal S1x1024 .f32) (w : FVec Ideal S1024x3456 .bf16) (y : Fin 512) (j : Fin 256) :
    k0_pay7 (F := Ideal) x g w (ix2 y j) = k0_pay2 (F := Ideal) x g w (ix2 y ⟨3072 + j.val, by omega⟩) := by
  pointwise [k0_pay7]
theorem pay8_at (x : FVec Ideal S512x1024 .f32) (g : FVec Ideal S1x1024 .f32) (w : FVec Ideal S1024x3456 .bf16) (y : Fin 512) (j : Fin 128) :
    k0_pay8 (F := Ideal) x g w (ix2 y j) = k0_pay2 (F := Ideal) x g w (ix2 y ⟨3328 + j.val, by omega⟩) := by
  pointwise [k0_pay8]
theorem pay1_at (z : FVec Ideal S512x128 .f32) (w : FVec Ideal S128x512 .bf16) (b : FVec Ideal S1x512 .f32) (y : Fin 512) (j : Fin 512) :
    k0_pay1 (F := Ideal) z w b (ix2 y j)
      = (min (∑ k : Fin 128, z (ix2 y k) * w (ix2 k j) + b (ix2 0 j)) 0 - Ideal.log1p (Ideal.exp (0 - FloatOps.absf (F := Ideal) (φ := .f32) (∑ k : Fin 128, z (ix2 y k) * w (ix2 k j) + b (ix2 0 j))))) * Ideal.ofBits FTy.f32 0x3D800000#32 := by
  pointwise [k0_pay1]

/-- A sum over 128 lanes, of which all from the 16th on are 0. -/
theorem sum_lanes (f : Fin 128 → EReal) (g : Fin 16 → EReal) (h : ∀ k : Fin 16, f ⟨k.val, by omega⟩ = g k) (h0 : ∀ k : Fin 128, ¬ k.val < 16 → f k = 0) :
    ∑ k : Fin 128, f k = ∑ k : Fin 16, g k := by
  refine (Fin.sum_univ_add (a := 16) (b := 112) f).trans ?_
  rw [show (∑ k : Fin 112, f (Fin.natAdd 16 k)) = 0 from Finset.sum_eq_zero fun k _ => h0 _ (by simp), add_zero]
  exact Finset.sum_congr rfl fun k _ => h k

variable (c : Dev nD) (t : Fin cfg0.N) (b : Fin 4) (r : Fin 4096) (y : Fin 512) (R : Fin 16384)

/-- A column of the product is the reference's, or 0. -/
theorem prod_eq (hR : R.val = t.val * 512 + y.val) (h : R.val = b.val * 4096 + r.val) (j : Fin 3456) (q : Fin 2832)
    (hw : ∀ l, wide (m ((c : Thread nD τ).loc main_arg2) : FVec Ideal S1024x2832 .f32) (ix2 l j) = (m ((c : Thread nD τ).loc main_arg2) : FVec Ideal S1024x2832 .f32) (ix2 l q)) :
    k0_pay2 (F := Ideal) (iblk m c 0 t) (iblk m c 1 t) (iblk m c 2 t) (ix2 y j) = prj (m ((c : Thread nD τ).loc main_arg0) : FVec Ideal S4x4096x1024 .f32) (m ((c : Thread nD τ).loc main_arg1) : FVec Ideal S1024 .f32) (m ((c : Thread nD τ).loc main_arg2) : FVec Ideal S1024x2832 .f32) b r q := by
  refine (pay2_at _ _ _ y j).trans ?_
  unfold prj nrm
  have hx := fun l => rows_at m c t b r y R l hR h
  dsimp only at hx
  have hs := Finset.sum_congr (rfl : (Finset.univ : Finset (Fin 1024)) = Finset.univ) fun k _ => congrArg₂ (fun a b : EReal => a * b) (hx k) (hx k)
  refine Finset.sum_congr rfl fun l _ => ?_
  refine congrArg₂ (fun a b : EReal => a * b) (congrArg₂ (fun a b : EReal => a * b) (congrArg₂ (fun a b : EReal => a * b) (hx l) ?_) (gain_at m c t l)) ((wide_at m c t l j).trans (hw l))
  exact congrArg (fun s : EReal => Ideal.rsqrt (Ideal.div s (Ideal.ofBits FTy.f32 0x44800000#32) + Ideal.ofBits FTy.f32 0x358637BD#32)) hs
theorem prod_zero (j : Fin 3456) (hw : ∀ l, wide (m ((c : Thread nD τ).loc main_arg2) : FVec Ideal S1024x2832 .f32) (ix2 l j) = (0 : EReal)) :
    k0_pay2 (F := Ideal) (iblk m c 0 t) (iblk m c 1 t) (iblk m c 2 t) (ix2 y j) = (0 : EReal) := by
  refine (pay2_at _ _ _ y j).trans ?_
  exact Finset.sum_eq_zero fun l _ => (congrArg (fun a : EReal => _ * a) ((wide_at m c t l j).trans (hw l))).trans (mul_zero _)

/-- What a grid point leaves, at an index. -/
theorem at_q (hR : R.val = t.val * 512 + y.val) (h : R.val = b.val * 4096 + r.val) (j : Fin 512) :
    k0_pay3 (F := Ideal) (iblk m c 0 t) (iblk m c 1 t) (iblk m c 2 t) (ix2 y j) = val_main_v30 (F := Ideal) (m ((c : Thread nD τ).loc main_arg0)) (m ((c : Thread nD τ).loc main_arg1)) (m ((c : Thread nD τ).loc main_arg2)) (ix2 R j) := by
  refine (pay3_at _ _ _ y j).trans (Eq.trans ?_ (ref_q _ _ _ b r R h j ⟨j.val, by omega⟩ rfl).symm)
  exact congrArg (fun a : EReal => a * _) (prod_eq m c t b r y R hR h _ _ fun l => wide_low _ l _ _ (by show j.val < 1024; omega) rfl)
theorem at_k (hR : R.val = t.val * 512 + y.val) (h : R.val = b.val * 4096 + r.val) (j : Fin 512) :
    k0_pay4 (F := Ideal) (iblk m c 0 t) (iblk m c 1 t) (iblk m c 2 t) (ix2 y j) = val_main_v31 (F := Ideal) (m ((c : Thread nD τ).loc main_arg0)) (m ((c : Thread nD τ).loc main_arg1)) (m ((c : Thread nD τ).loc main_arg2)) (ix2 R j) := by
  refine (pay4_at _ _ _ y j).trans (Eq.trans ?_ (ref_k _ _ _ b r R h j ⟨512 + j.val, by omega⟩ rfl).symm)
  exact prod_eq m c t b r y R hR h _ _ fun l => wide_low _ l _ _ (by show 512 + j.val < 1024; omega) rfl
theorem at_v (hR : R.val = t.val * 512 + y.val) (h : R.val = b.val * 4096 + r.val) (j : Fin 1024) :
    k0_pay5 (F := Ideal) (iblk m c 0 t) (iblk m c 1 t) (iblk m c 2 t) (ix2 y j) = val_main_v34 (F := Ideal) (m ((c : Thread nD τ).loc main_arg0)) (m ((c : Thread nD τ).loc main_arg1)) (m ((c : Thread nD τ).loc main_arg2)) (ix2 R j) := by
  refine (pay5_at _ _ _ y j).trans ?_
  by_cases hj : j.val % 256 < 192
  · refine Eq.trans ?_ (ref_v _ _ _ b r R h j hj ⟨1024 + (j.val / 256 * 192 + j.val % 256), by omega⟩ rfl).symm
    exact prod_eq m c t b r y R hR h _ _ fun l => wide_v _ l _ _ j rfl hj rfl
  · refine Eq.trans ?_ (ref_v_pad _ _ _ R j hj).symm
    exact prod_zero m c t y _ fun l => wide_v_pad _ l _ j rfl hj
theorem at_r (hR : R.val = t.val * 512 + y.val) (h : R.val = b.val * 4096 + r.val) (j : Fin 1024) :
    k0_pay6 (F := Ideal) (iblk m c 0 t) (iblk m c 1 t) (iblk m c 2 t) (ix2 y j) = val_main_v37 (F := Ideal) (m ((c : Thread nD τ).loc main_arg0)) (m ((c : Thread nD τ).loc main_arg1)) (m ((c : Thread nD τ).loc main_arg2)) (ix2 R j) := by
  refine (pay6_at _ _ _ y j).trans ?_
  by_cases hj : j.val % 256 < 192
  · refine Eq.trans ?_ (ref_r _ _ _ b r R h j hj ⟨1792 + (j.val / 256 * 192 + j.val % 256), by omega⟩ rfl).symm
    exact prod_eq m c t b r y R hR h _ _ fun l => wide_r _ l _ _ j rfl hj rfl
  · refine Eq.trans ?_ (ref_r_pad _ _ _ R j hj).symm
    exact prod_zero m c t y _ fun l => wide_r_pad _ l _ j rfl hj
theorem at_u (hR : R.val = t.val * 512 + y.val) (h : R.val = b.val * 4096 + r.val) (j : Fin 256) :
    k0_pay7 (F := Ideal) (iblk m c 0 t) (iblk m c 1 t) (iblk m c 2 t) (ix2 y j) = val_main_v38 (F := Ideal) (m ((c : Thread nD τ).loc main_arg0)) (m ((c : Thread nD τ).loc main_arg1)) (m ((c : Thread nD τ).loc main_arg2)) (ix2 R j) := by
  refine (pay7_at _ _ _ y j).trans (Eq.trans ?_ (ref_u _ _ _ b r R h j ⟨2576 + j.val, by omega⟩ rfl).symm)
  exact prod_eq m c t b r y R hR h _ _ fun l => wide_u _ l _ _ j rfl rfl
theorem at_gate (hR : R.val = t.val * 512 + y.val) (h : R.val = b.val * 4096 + r.val) (j : Fin 512) :
    k0_pay1 (F := Ideal) (k0_pay8 (F := Ideal) (iblk m c 0 t) (iblk m c 1 t) (iblk m c 2 t)) (iblk m c 3 t) (iblk m c 4 t) (ix2 y j) = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R j) := by
  refine (pay1_at _ _ _ y j).trans (Eq.trans ?_ (ref_gate _ _ _ _ _ b r R h j).symm)
  refine congrArg (fun z : EReal => (min z 0 - Ideal.log1p (Ideal.exp (0 - FloatOps.absf (F := Ideal) (φ := .f32) z))) * Ideal.ofBits FTy.f32 0x3D800000#32) ?_
  unfold pre
  refine congrArg₂ (fun a b : EReal => a + b) ?_ (bias_at m c t j)
  refine sum_lanes _ _ (fun k => ?_) fun k hk => ?_
  · refine congrArg₂ (fun a b : EReal => a * b) ((pay8_at _ _ _ y _).trans ?_) (lift_at m c t _ k j rfl)
    exact prod_eq m c t b r y R hR h _ _ fun l => wide_g _ l _ _ ⟨k.val, by omega⟩ rfl k.isLt rfl
  · refine (congrArg (fun a : EReal => a * _) ((pay8_at _ _ _ y k).trans (prod_zero m c t y _ fun l => wide_g_pad _ l _ k rfl hk))).trans (zero_mul _)

theorem point_q (c : Dev nD) (t : Fin cfg0.N) (y : S512x512.Idx) :
    k0_pay3 (F := Ideal) (iblk m c 0 t) (iblk m c 1 t) (iblk m c 2 t) y = val_main_v30 (F := Ideal) (m ((c : Thread nD τ).loc main_arg0)) (m ((c : Thread nD τ).loc main_arg1)) (m ((c : Thread nD τ).loc main_arg2)) (((cfg0.win 5).blk t).view.emb y) := by
  have ht : t.val < 32 := lt_of_lt_of_eq t.isLt N_0
  obtain ⟨r, j, rfl⟩ : ∃ (r : Fin 512) (j : Fin 512), y = ix2 r j := ⟨y 0, y 1, by blk_ext⟩
  have he : (((cfg0.win 5).blk t).view.emb (ix2 r j) : S16384x512.Idx) = ix2 (⟨t.val * 512 + r.val, by omega⟩ : Fin 16384) j := by
    blk_ext [idx t]
  refine Eq.trans ?_ (congrArg (val_main_v30 (F := Ideal) (m ((c : Thread nD τ).loc main_arg0)) (m ((c : Thread nD τ).loc main_arg1)) (m ((c : Thread nD τ).loc main_arg2))) he).symm
  exact at_q m c t (⟨(t.val * 512 + r.val) / 4096, by omega⟩ : Fin 4) (⟨(t.val * 512 + r.val) % 4096, by omega⟩ : Fin 4096) r _ rfl (by show t.val * 512 + r.val = (t.val * 512 + r.val) / 4096 * 4096 + (t.val * 512 + r.val) % 4096; omega) j
theorem point_k (c : Dev nD) (t : Fin cfg0.N) (y : S512x512.Idx) :
    k0_pay4 (F := Ideal) (iblk m c 0 t) (iblk m c 1 t) (iblk m c 2 t) y = val_main_v31 (F := Ideal) (m ((c : Thread nD τ).loc main_arg0)) (m ((c : Thread nD τ).loc main_arg1)) (m ((c : Thread nD τ).loc main_arg2)) (((cfg0.win 6).blk t).view.emb y) := by
  have ht : t.val < 32 := lt_of_lt_of_eq t.isLt N_0
  obtain ⟨r, j, rfl⟩ : ∃ (r : Fin 512) (j : Fin 512), y = ix2 r j := ⟨y 0, y 1, by blk_ext⟩
  have he : (((cfg0.win 6).blk t).view.emb (ix2 r j) : S16384x512.Idx) = ix2 (⟨t.val * 512 + r.val, by omega⟩ : Fin 16384) j := by
    blk_ext [idx t]
  refine Eq.trans ?_ (congrArg (val_main_v31 (F := Ideal) (m ((c : Thread nD τ).loc main_arg0)) (m ((c : Thread nD τ).loc main_arg1)) (m ((c : Thread nD τ).loc main_arg2))) he).symm
  exact at_k m c t (⟨(t.val * 512 + r.val) / 4096, by omega⟩ : Fin 4) (⟨(t.val * 512 + r.val) % 4096, by omega⟩ : Fin 4096) r _ rfl (by show t.val * 512 + r.val = (t.val * 512 + r.val) / 4096 * 4096 + (t.val * 512 + r.val) % 4096; omega) j
theorem point_v (c : Dev nD) (t : Fin cfg0.N) (y : S512x1024.Idx) :
    k0_pay5 (F := Ideal) (iblk m c 0 t) (iblk m c 1 t) (iblk m c 2 t) y = val_main_v34 (F := Ideal) (m ((c : Thread nD τ).loc main_arg0)) (m ((c : Thread nD τ).loc main_arg1)) (m ((c : Thread nD τ).loc main_arg2)) (((cfg0.win 7).blk t).view.emb y) := by
  have ht : t.val < 32 := lt_of_lt_of_eq t.isLt N_0
  obtain ⟨r, j, rfl⟩ : ∃ (r : Fin 512) (j : Fin 1024), y = ix2 r j := ⟨y 0, y 1, by blk_ext⟩
  have he : (((cfg0.win 7).blk t).view.emb (ix2 r j) : S16384x1024.Idx) = ix2 (⟨t.val * 512 + r.val, by omega⟩ : Fin 16384) j := by
    blk_ext [idx t]
  refine Eq.trans ?_ (congrArg (val_main_v34 (F := Ideal) (m ((c : Thread nD τ).loc main_arg0)) (m ((c : Thread nD τ).loc main_arg1)) (m ((c : Thread nD τ).loc main_arg2))) he).symm
  exact at_v m c t (⟨(t.val * 512 + r.val) / 4096, by omega⟩ : Fin 4) (⟨(t.val * 512 + r.val) % 4096, by omega⟩ : Fin 4096) r _ rfl (by show t.val * 512 + r.val = (t.val * 512 + r.val) / 4096 * 4096 + (t.val * 512 + r.val) % 4096; omega) j
theorem point_r (c : Dev nD) (t : Fin cfg0.N) (y : S512x1024.Idx) :
    k0_pay6 (F := Ideal) (iblk m c 0 t) (iblk m c 1 t) (iblk m c 2 t) y = val_main_v37 (F := Ideal) (m ((c : Thread nD τ).loc main_arg0)) (m ((c : Thread nD τ).loc main_arg1)) (m ((c : Thread nD τ).loc main_arg2)) (((cfg0.win 8).blk t).view.emb y) := by
  have ht : t.val < 32 := lt_of_lt_of_eq t.isLt N_0
  obtain ⟨r, j, rfl⟩ : ∃ (r : Fin 512) (j : Fin 1024), y = ix2 r j := ⟨y 0, y 1, by blk_ext⟩
  have he : (((cfg0.win 8).blk t).view.emb (ix2 r j) : S16384x1024.Idx) = ix2 (⟨t.val * 512 + r.val, by omega⟩ : Fin 16384) j := by
    blk_ext [idx t]
  refine Eq.trans ?_ (congrArg (val_main_v37 (F := Ideal) (m ((c : Thread nD τ).loc main_arg0)) (m ((c : Thread nD τ).loc main_arg1)) (m ((c : Thread nD τ).loc main_arg2))) he).symm
  exact at_r m c t (⟨(t.val * 512 + r.val) / 4096, by omega⟩ : Fin 4) (⟨(t.val * 512 + r.val) % 4096, by omega⟩ : Fin 4096) r _ rfl (by show t.val * 512 + r.val = (t.val * 512 + r.val) / 4096 * 4096 + (t.val * 512 + r.val) % 4096; omega) j
theorem point_u (c : Dev nD) (t : Fin cfg0.N) (y : S512x256.Idx) :
    k0_pay7 (F := Ideal) (iblk m c 0 t) (iblk m c 1 t) (iblk m c 2 t) y = val_main_v38 (F := Ideal) (m ((c : Thread nD τ).loc main_arg0)) (m ((c : Thread nD τ).loc main_arg1)) (m ((c : Thread nD τ).loc main_arg2)) (((cfg0.win 9).blk t).view.emb y) := by
  have ht : t.val < 32 := lt_of_lt_of_eq t.isLt N_0
  obtain ⟨r, j, rfl⟩ : ∃ (r : Fin 512) (j : Fin 256), y = ix2 r j := ⟨y 0, y 1, by blk_ext⟩
  have he : (((cfg0.win 9).blk t).view.emb (ix2 r j) : S16384x256.Idx) = ix2 (⟨t.val * 512 + r.val, by omega⟩ : Fin 16384) j := by
    blk_ext [idx t]
  refine Eq.trans ?_ (congrArg (val_main_v38 (F := Ideal) (m ((c : Thread nD τ).loc main_arg0)) (m ((c : Thread nD τ).loc main_arg1)) (m ((c : Thread nD τ).loc main_arg2))) he).symm
  exact at_u m c t (⟨(t.val * 512 + r.val) / 4096, by omega⟩ : Fin 4) (⟨(t.val * 512 + r.val) % 4096, by omega⟩ : Fin 4096) r _ rfl (by show t.val * 512 + r.val = (t.val * 512 + r.val) / 4096 * 4096 + (t.val * 512 + r.val) % 4096; omega) j
theorem point_gate (c : Dev nD) (t : Fin cfg0.N) (y : S512x512.Idx) :
    k0_pay1 (F := Ideal) (k0_pay8 (F := Ideal) (iblk m c 0 t) (iblk m c 1 t) (iblk m c 2 t)) (iblk m c 3 t) (iblk m c 4 t) y = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 10).blk t).view.emb y) := by
  have ht : t.val < 32 := lt_of_lt_of_eq t.isLt N_0
  obtain ⟨r, j, rfl⟩ : ∃ (r : Fin 512) (j : Fin 512), y = ix2 r j := ⟨y 0, y 1, by blk_ext⟩
  have he : (((cfg0.win 10).blk t).view.emb (ix2 r j) : S16384x512.Idx) = ix2 (⟨t.val * 512 + r.val, by omega⟩ : Fin 16384) j := by
    blk_ext [idx t]
  refine Eq.trans ?_ (congrArg (val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))) he).symm
  exact at_gate m c t (⟨(t.val * 512 + r.val) / 4096, by omega⟩ : Fin 4) (⟨(t.val * 512 + r.val) % 4096, by omega⟩ : Fin 4096) r _ rfl (by show t.val * 512 + r.val = (t.val * 512 + r.val) / 4096 * 4096 + (t.val * 512 + r.val) % 4096; omega) j
theorem final_q (c : Dev nD) : (dats m 0 c).arrAt 5 (cfgs 0).N = val_main_v30 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point_q m c t y
theorem final_k (c : Dev nD) : (dats m 0 c).arrAt 6 (cfgs 0).N = val_main_v31 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]; frame_out
  exact point_k m c t y
theorem final_v (c : Dev nD) : (dats m 0 c).arrAt 7 (cfgs 0).N = val_main_v34 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]; frame_out
  exact point_v m c t y
theorem final_r (c : Dev nD) : (dats m 0 c).arrAt 8 (cfgs 0).N = val_main_v37 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp; rw [after0_8]; frame_out
  exact point_r m c t y
theorem final_u (c : Dev nD) : (dats m 0 c).arrAt 9 (cfgs 0).N = val_main_v38 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp; rw [after0_9]; frame_out
  exact point_u m c t y
theorem final_gate (c : Dev nD) : (dats m 0 c).arrAt 10 (cfgs 0).N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp; rw [after0_10]; frame_out
  exact point_gate m c t y

end Cert.OddProjIdeal.Sum

end
-- ==== Proof.EvenProj.Launch.lean ====
/- Hand-written, untrusted: the launch of the block attention layer's projection call. It follows the generated frame, with more room for two of its steps. -/
module

public import proofs.«01_k».proof.Proof.Gen.EvenProjIdeal.Launch
public import proofs.«01_k».proof.Proof.Gen.EvenProjIdeal.Skeleton
public import proofs.«01_k».proof.Proof.Gen.EvenProjIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.EvenProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1740000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_EvenProjIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 5).trans (((dats 0 c).arrAt_in 5 rfl _).trans ((hA c 5).trans (V_main_arg8 m c))),
      ((h c).1 6).trans (((dats 0 c).arrAt_in 6 rfl _).trans ((hA c 6).trans (V_main_arg9 m c))),
      ((h c).1 8).trans (((dats 0 c).arrAt_in 8 rfl _).trans ((hA c 8).trans (V_main_arg10 m c))),
      ((h c).1 9).trans (((dats 0 c).arrAt_in 9 rfl _).trans ((hA c 9).trans (V_main_arg11 m c))),
      ((h c).1 10).trans (((dats 0 c).arrAt_in 10 rfl _).trans ((hA c 10).trans (V_main_arg12 m c))),
      ((h c).1 11).trans (((dats 0 c).arrAt_in 11 rfl _).trans ((hA c 11).trans (V_main_arg13 m c))),
      ((h c).1 12).trans (((dats 0 c).arrAt_in 12 rfl _).trans ((hA c 12).trans (V_main_arg14 m c))),
      ((h c).1 15).trans (((dats 0 c).arrAt_in 15 rfl _).trans ((hA c 15).trans (V_main_arg15 m c)))⟩) h

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1024x2304 := Rect.unit (s := S1024x2304) ![0, 0] S1024x2304.size inb_S1024x2304_S1024x2304_0_0
abbrev r0_3 : Rect S1x384 := Rect.unit (s := S1x384) ![0, 0] S1x384.size inb_S1x384_S1x384_0_0
abbrev r0_4 : Rect S1x256 := Rect.unit (s := S1x256) ![0, 0] S1x256.size inb_S1x256_S1x256_0_0
abbrev r0_5 : Rect S256x256 := Rect.unit (s := S256x256) ![0, 0] S256x256.size inb_S256x256_S256x256_0_0
abbrev r0_6 : Rect S256x32 := Rect.unit (s := S256x32) ![0, 0] S256x32.size inb_S256x32_S256x32_0_0
abbrev r0_7 : Rect S256x512 := Rect.unit (s := S256x512) ![0, 0] S256x512.size inb_S256x512_S256x512_0_0
abbrev r0_8 : Rect S384x1024 := Rect.unit (s := S384x1024) ![0, 0] S384x1024.size inb_S384x1024_S384x1024_0_0
abbrev r0_9 : Rect S1024x128 := Rect.unit (s := S1024x128) ![0, 0] S1024x128.size inb_S1024x128_S1024x128_0_0
abbrev r0_10 : Rect S128x1024 := Rect.unit (s := S128x1024) ![0, 0] S128x1024.size inb_S128x1024_S128x1024_0_0
abbrev r0_11 : Rect S32x1024 := Rect.unit (s := S32x1024) ![0, 0] S32x1024.size inb_S32x1024_S32x1024_0_0
abbrev r0_12 : Rect S256x128 := Rect.unit (s := S256x128) ![0, 0] S256x128.size inb_S256x128_S256x128_0_0
abbrev r0_13 : Rect S1x512 := Rect.unit (s := S1x512) ![0, 0] S1x512.size inb_S1x512_S1x512_0_0
abbrev r0_14 : Rect S512x512 := Rect.unit (s := S512x512) ![0, 0] S512x512.size inb_S512x512_S512x512_0_0
abbrev r0_15 : Rect S1x1x512 := Rect.unit (s := S1x1x512) ![0, 0, 0] S1x1x512.size inb_S1x1x512_S1x1x512_0_0_0

/-! ## What the body leaves in each output window's buffer -/

/-! ### Values of the body that the stores' payloads, spelt out, would write more than once

    Each is a vector the body binds (often a part call's result), stated over the input windows' blocks and
    numbered on from the skeleton's payload functions (`k0_pay39` …, after `k0_pay38`), so that
    `out0_W` and the values after it name it instead of spelling it out (`unfold_out out0_W` opens a canon
    with them, `unfold_payloads` opens them with the payloads); the comment after each is the printed function's
    name for the value (a count appended where that name is bound again). -/

def k0_pay39 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x2304 .f32 :=
  k0_pay3 (View.ld x0 r0_0) (View.ld x1 r0_1) (View.ld x2 r0_2) -- `v19`
def k0_pay40 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x384 .f32 :=
  k0_pay4 (View.ld x0 r0_0) (View.ld x1 r0_1) (View.ld x2 r0_2) (View.ld x3 r0_3) -- `v34`
def k0_pay41 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x256 .f32 :=
  k0_pay5 (View.ld x0 r0_0) (View.ld x1 r0_1) (View.ld x2 r0_2) -- `v35`
def k0_pay42 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S1x256 .f32 :=
  k0_pay6 (View.ld x4 r0_4) -- `v37`
def k0_pay43 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x1 .f32 :=
  k0_pay7 (View.ld x0 r0_0) (View.ld x1 r0_1) (View.ld x2 r0_2) -- `v40`
def k0_pay44 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x256 .f32 :=
  k0_pay8 (k0_pay41 x0 x1 x2 x3 x4 x5 x6 x7 x8 x9 x10 x11 x12 x13 x14 x15 x16 x17 x18 x19) (k0_pay42 x0 x1 x2 x3 x4 x5 x6 x7 x8 x9 x10 x11 x12 x13 x14 x15 x16 x17 x18 x19) (k0_pay43 x0 x1 x2 x3 x4 x5 x6 x7 x8 x9 x10 x11 x12 x13 x14 x15 x16 x17 x18 x19) -- `v49`
def k0_pay45 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x512 .f32 :=
  k0_pay9 (k0_pay39 x0 x1 x2 x3 x4 x5 x6 x7 x8 x9 x10 x11 x12 x13 x14 x15 x16 x17 x18 x19) -- `v50`
def k0_pay46 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x512 .f32 :=
  k0_pay10 (k0_pay39 x0 x1 x2 x3 x4 x5 x6 x7 x8 x9 x10 x11 x12 x13 x14 x15 x16 x17 x18 x19) -- `v51`
def k0_pay47 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x32 .f32 :=
  k0_pay12 (k0_pay39 x0 x1 x2 x3 x4 x5 x6 x7 x8 x9 x10 x11 x12 x13 x14 x15 x16 x17 x18 x19) -- `v53`
def k0_pay48 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x1024 .f32 :=
  k0_pay13 (View.ld x13 r0_5) -- `v59`
def k0_pay49 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x1024 .f32 :=
  k0_pay14 (View.ld x14 r0_5) -- `v62`
def k0_pay50 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : IVec S1x1024 1 :=
  k0_pay16 (iota .tc S1x1024 32 [1] iota_S1x1024_d1_w32) k0_pay15 -- `v103`
def k0_pay51 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x512 .f32 :=
  k0_pay28 (View.ld x18 r0_12) -- `v205`
def k0_pay52 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x512 .f32 :=
  k0_pay29 (View.ld x19 r0_12) -- `v208`
def k0_pay53 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : IVec S1x512 1 :=
  k0_pay30 -- `v227`
def k0_pay54 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x512 .f32 :=
  k0_pay35 (k0_pay46 x0 x1 x2 x3 x4 x5 x6 x7 x8 x9 x10 x11 x12 x13 x14 x15 x16 x17 x18 x19) (View.ld x17 r0_13) (View.ld x15 r0_14) -- `v276`
def k0_pay55 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x512 .f32 :=
  k0_pay36 (k0_pay46 x0 x1 x2 x3 x4 x5 x6 x7 x8 x9 x10 x11 x12 x13 x14 x15 x16 x17 x18 x19) (View.ld x17 r0_13) (View.ld x15 r0_14) -- `v279`
def k0_pay56 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : FVec F S256x512 .f32 :=
  k0_pay37 (k0_pay46 x0 x1 x2 x3 x4 x5 x6 x7 x8 x9 x10 x11 x12 x13 x14 x15 x16 x17 x18 x19) (View.ld x17 r0_13) (View.ld x15 r0_14) -- `v280`
def k0_pay57 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : IVec S1x512 1 :=
  k0_pay38 (k0_pay53 x0 x1 x2 x3 x4 x5 x6 x7 x8 x9 x10 x11 x12 x13 x14 x15 x16 x17 x18 x19) -- `v281`

/-- Window 20's staging buffer after the body, from the input windows' blocks: its 1 store as pieces, LAST
    FIRST. -/
def out0_20 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : Vec F S256x256 .f32 :=
  View.canon [⟨r0_5, k0_pay8 (k0_pay41 x0 x1 x2 x3 x4 x5 x6 x7 x8 x9 x10 x11 x12 x13 x14 x15 x16 x17 x18 x19) (k0_pay42 x0 x1 x2 x3 x4 x5 x6 x7 x8 x9 x10 x11 x12 x13 x14 x15 x16 x17 x18 x19) (k0_pay43 x0 x1 x2 x3 x4 x5 x6 x7 x8 x9 x10 x11 x12 x13 x14 x15 x16 x17 x18 x19)⟩]

/-- Its stores tile the buffer (checked by evaluation), so they cover it. -/
theorem cover0_20 (p0 : Vec F S256x256 .f32) (y : S256x256.Idx) :
    ∃ pc ∈ ([⟨r0_5, p0⟩] : List (View.Piece (Elt F) S256x256 .f32)), y ∈ pc.1.set :=
  View.cover_of_tiled [⟨r0_5, p0⟩] S256x256.size (by rfl) y

/-- Window 21's staging buffer after the body, from the input windows' blocks: its 1 store as pieces, LAST
    FIRST. -/
def out0_21 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : Vec F S256x32 .f32 :=
  View.canon [⟨r0_6, k0_pay12 (k0_pay39 x0 x1 x2 x3 x4 x5 x6 x7 x8 x9 x10 x11 x12 x13 x14 x15 x16 x17 x18 x19)⟩]

/-- Its stores tile the buffer (checked by evaluation), so they cover it. -/
theorem cover0_21 (p0 : Vec F S256x32 .f32) (y : S256x32.Idx) :
    ∃ pc ∈ ([⟨r0_6, p0⟩] : List (View.Piece (Elt F) S256x32 .f32)), y ∈ pc.1.set :=
  View.cover_of_tiled [⟨r0_6, p0⟩] S256x32.size (by rfl) y

/-- Window 22's staging buffer after the body, from the input windows' blocks: its 1 store as pieces, LAST
    FIRST. -/
def out0_22 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : Vec F S256x1024 .bf16 :=
  View.canon [⟨r0_0, k0_pay24 (k0_pay20 (k0_pay48 x0 x1 x2 x3 x4 x5 x6 x7 x8 x9 x10 x11 x12 x13 x14 x15 x16 x17 x18 x19) (k0_pay49 x0 x1 x2 x3 x4 x5 x6 x7 x8 x9 x10 x11 x12 x13 x14 x15 x16 x17 x18 x19) (k0_pay50 x0 x1 x2 x3 x4 x5 x6 x7 x8 x9 x10 x11 x12 x13 x14 x15 x16 x17 x18 x19) (k0_pay17 (k0_pay40 x0 x1 x2 x3 x4 x5 x6 x7 x8 x9 x10 x11 x12 x13 x14 x15 x16 x17 x18 x19) (View.ld x5 r0_8)) (View.ld x11 r0_1) (k0_pay18 (k0_pay40 x0 x1 x2 x3 x4 x5 x6 x7 x8 x9 x10 x11 x12 x13 x14 x15 x16 x17 x18 x19) (View.ld x5 r0_8) (View.ld x9 r0_9)) (k0_pay19 (F := F)) (View.ld x10 r0_10))⟩]

/-- Its stores tile the buffer (checked by evaluation), so they cover it. -/
theorem cover0_22 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- Window 23's staging buffer after the body, from the input windows' blocks: its 1 store as pieces, LAST
    FIRST. -/
def out0_23 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : Vec F S256x1024 .bf16 :=
  View.canon [⟨r0_0, k0_pay25 (k0_pay48 x0 x1 x2 x3 x4 x5 x6 x7 x8 x9 x10 x11 x12 x13 x14 x15 x16 x17 x18 x19) (k0_pay49 x0 x1 x2 x3 x4 x5 x6 x7 x8 x9 x10 x11 x12 x13 x14 x15 x16 x17 x18 x19) (k0_pay50 x0 x1 x2 x3 x4 x5 x6 x7 x8 x9 x10 x11 x12 x13 x14 x15 x16 x17 x18 x19) (k0_pay21 (k0_pay44 x0 x1 x2 x3 x4 x5 x6 x7 x8 x9 x10 x11 x12 x13 x14 x15 x16 x17 x18 x19) (k0_pay47 x0 x1 x2 x3 x4 x5 x6 x7 x8 x9 x10 x11 x12 x13 x14 x15 x16 x17 x18 x19) (View.ld x6 r0_0) (View.ld x8 r0_11)) (View.ld x12 r0_1) (k0_pay22 (k0_pay44 x0 x1 x2 x3 x4 x5 x6 x7 x8 x9 x10 x11 x12 x13 x14 x15 x16 x17 x18 x19) (k0_pay47 x0 x1 x2 x3 x4 x5 x6 x7 x8 x9 x10 x11 x12 x13 x14 x15 x16 x17 x18 x19) (View.ld x6 r0_0) (View.ld x8 r0_11)) (View.ld x9 r0_9) (k0_pay23 (k0_pay44 x0 x1 x2 x3 x4 x5 x6 x7 x8 x9 x10 x11 x12 x13 x14 x15 x16 x17 x18 x19) (k0_pay47 x0 x1 x2 x3 x4 x5 x6 x7 x8 x9 x10 x11 x12 x13 x14 x15 x16 x17 x18 x19) (View.ld x6 r0_0) (View.ld x8 r0_11)) (View.ld x10 r0_10)⟩]

/-- Its stores tile the buffer (checked by evaluation), so they cover it. -/
theorem cover0_23 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- Window 24's staging buffer after the body, from the input windows' blocks: its 1 store as pieces, LAST
    FIRST. -/
def out0_24 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : Vec F S256x512 .bf16 :=
  View.canon [⟨r0_7, k0_pay27 (k0_pay26 (k0_pay44 x0 x1 x2 x3 x4 x5 x6 x7 x8 x9 x10 x11 x12 x13 x14 x15 x16 x17 x18 x19) (View.ld x7 r0_7))⟩]

/-- Its stores tile the buffer (checked by evaluation), so they cover it. -/
theorem cover0_24 (p0 : Vec F S256x512 .bf16) (y : S256x512.Idx) :
    ∃ pc ∈ ([⟨r0_7, p0⟩] : List (View.Piece (Elt F) S256x512 .bf16)), y ∈ pc.1.set :=
  View.cover_of_tiled [⟨r0_7, p0⟩] S256x512.size (by rfl) y

/-- Window 25's staging buffer after the body, from the input windows' blocks: its 1 store as pieces, LAST
    FIRST. -/
def out0_25 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : Vec F S256x512 .f32 :=
  View.canon [⟨r0_7, k0_pay34 (k0_pay45 x0 x1 x2 x3 x4 x5 x6 x7 x8 x9 x10 x11 x12 x13 x14 x15 x16 x17 x18 x19) (k0_pay51 x0 x1 x2 x3 x4 x5 x6 x7 x8 x9 x10 x11 x12 x13 x14 x15 x16 x17 x18 x19) (k0_pay52 x0 x1 x2 x3 x4 x5 x6 x7 x8 x9 x10 x11 x12 x13 x14 x15 x16 x17 x18 x19) (k0_pay53 x0 x1 x2 x3 x4 x5 x6 x7 x8 x9 x10 x11 x12 x13 x14 x15 x16 x17 x18 x19) (k0_pay31 (View.ld x16 r0_13)) (k0_pay32 (k0_pay45 x0 x1 x2 x3 x4 x5 x6 x7 x8 x9 x10 x11 x12 x13 x14 x15 x16 x17 x18 x19) (View.ld x15 r0_14)) (k0_pay33 (F := F))⟩]

/-- Its stores tile the buffer (checked by evaluation), so they cover it. -/
theorem cover0_25 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 26's staging buffer after the body, from the input windows' blocks: its 1 store as pieces, LAST
    FIRST. -/
def out0_26 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : Vec F S256x512 .f32 :=
  View.canon [⟨r0_7, k0_pay1 (k0_pay51 x0 x1 x2 x3 x4 x5 x6 x7 x8 x9 x10 x11 x12 x13 x14 x15 x16 x17 x18 x19) (k0_pay52 x0 x1 x2 x3 x4 x5 x6 x7 x8 x9 x10 x11 x12 x13 x14 x15 x16 x17 x18 x19) (k0_pay54 x0 x1 x2 x3 x4 x5 x6 x7 x8 x9 x10 x11 x12 x13 x14 x15 x16 x17 x18 x19) (k0_pay55 x0 x1 x2 x3 x4 x5 x6 x7 x8 x9 x10 x11 x12 x13 x14 x15 x16 x17 x18 x19) (k0_pay56 x0 x1 x2 x3 x4 x5 x6 x7 x8 x9 x10 x11 x12 x13 x14 x15 x16 x17 x18 x19) (k0_pay57 x0 x1 x2 x3 x4 x5 x6 x7 x8 x9 x10 x11 x12 x13 x14 x15 x16 x17 x18 x19)⟩]

/-- Its stores tile the buffer (checked by evaluation), so they cover it. -/
theorem cover0_26 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 27's staging buffer after the body, from the input windows' blocks: its 1 store as pieces, LAST
    FIRST. -/
def out0_27 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : Vec F S256x512 .f32 :=
  View.canon [⟨r0_7, k0_pay11 (k0_pay39 x0 x1 x2 x3 x4 x5 x6 x7 x8 x9 x10 x11 x12 x13 x14 x15 x16 x17 x18 x19)⟩]

/-- Its stores tile the buffer (checked by evaluation), so they cover it. -/
theorem cover0_27 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 28's staging buffer after the body, from the input windows' blocks: its 1 store as pieces, LAST
    FIRST. -/
def out0_28 (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) : Vec F S1x1x512 .f32 :=
  View.canon [⟨r0_15, k0_pay2 (k0_pay51 x0 x1 x2 x3 x4 x5 x6 x7 x8 x9 x10 x11 x12 x13 x14 x15 x16 x17 x18 x19) (k0_pay52 x0 x1 x2 x3 x4 x5 x6 x7 x8 x9 x10 x11 x12 x13 x14 x15 x16 x17 x18 x19) (k0_pay54 x0 x1 x2 x3 x4 x5 x6 x7 x8 x9 x10 x11 x12 x13 x14 x15 x16 x17 x18 x19) (k0_pay55 x0 x1 x2 x3 x4 x5 x6 x7 x8 x9 x10 x11 x12 x13 x14 x15 x16 x17 x18 x19) (k0_pay56 x0 x1 x2 x3 x4 x5 x6 x7 x8 x9 x10 x11 x12 x13 x14 x15 x16 x17 x18 x19) (k0_pay57 x0 x1 x2 x3 x4 x5 x6 x7 x8 x9 x10 x11 x12 x13 x14 x15 x16 x17 x18 x19)⟩]

/-- Its stores tile the buffer (checked by evaluation), so they cover it. -/
theorem cover0_28 (p0 : Vec F S1x1x512 .f32) (y : S1x1x512.Idx) :
    ∃ pc ∈ ([⟨r0_15, p0⟩] : List (View.Piece (Elt F) S1x1x512 .f32)), y ∈ pc.1.set :=
  View.cover_of_tiled [⟨r0_15, p0⟩] S1x1x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x2304 .bf16) (harg3 : arg3.IsWhole) (arg4 : Memref sig .tc .vmem S1x384 .f32) (harg4 : arg4.IsWhole) (arg5 : Memref sig .tc .vmem S1x256 .f32) (harg5 : arg5.IsWhole) (arg6 : Memref sig .tc .vmem S384x1024 .bf16) (harg6 : arg6.IsWhole) (arg7 : Memref sig .tc .vmem S256x1024 .bf16) (harg7 : arg7.IsWhole) (arg8 : Memref sig .tc .vmem S256x512 .bf16) (harg8 : arg8.IsWhole) (arg9 : Memref sig .tc .vmem S32x1024 .bf16) (harg9 : arg9.IsWhole) (arg10 : Memref sig .tc .vmem S1024x128 .bf16) (harg10 : arg10.IsWhole) (arg11 : Memref sig .tc .vmem S128x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S512x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x256 .f32) (harg21 : arg21.IsWhole) (arg22 : Memref sig .tc .vmem S256x32 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x512 .bf16) (harg25 : arg25.IsWhole) (arg26 : Memref sig .tc .vmem S256x512 .f32) (harg26 : arg26.IsWhole) (arg27 : Memref sig .tc .vmem S256x512 .f32) (harg27 : arg27.IsWhole) (arg28 : Memref sig .tc .vmem S256x512 .f32) (harg28 : arg28.IsWhole) (arg29 : Memref sig .tc .vmem S1x1x512 .f32) (harg29 : arg29.IsWhole)
    (x0 : Vec F S256x1024 .f32) (x1 : Vec F S1x1024 .f32) (x2 : Vec F S1024x2304 .bf16) (x3 : Vec F S1x384 .f32) (x4 : Vec F S1x256 .f32) (x5 : Vec F S384x1024 .bf16) (x6 : Vec F S256x1024 .bf16) (x7 : Vec F S256x512 .bf16) (x8 : Vec F S32x1024 .bf16) (x9 : Vec F S1024x128 .bf16) (x10 : Vec F S128x1024 .bf16) (x11 : Vec F S1x1024 .f32) (x12 : Vec F S1x1024 .f32) (x13 : Vec F S256x256 .f32) (x14 : Vec F S256x256 .f32) (x15 : Vec F S512x512 .bf16) (x16 : Vec F S1x512 .f32) (x17 : Vec F S1x512 .f32) (x18 : Vec F S256x128 .f32) (x19 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out0_20 x0 x1 x2 x3 x4 x5 x6 x7 x8 x9 x10 x11 x12 x13 x14 x15 x16 x17 x18 x19) ∗ owns (c : Thread nD τ) arg22 fullShare (out0_21 x0 x1 x2 x3 x4 x5 x6 x7 x8 x9 x10 x11 x12 x13 x14 x15 x16 x17 x18 x19) ∗ owns (c : Thread nD τ) arg23 fullShare (out0_22 x0 x1 x2 x3 x4 x5 x6 x7 x8 x9 x10 x11 x12 x13 x14 x15 x16 x17 x18 x19) ∗ owns (c : Thread nD τ) arg24 fullShare (out0_23 x0 x1 x2 x3 x4 x5 x6 x7 x8 x9 x10 x11 x12 x13 x14 x15 x16 x17 x18 x19) ∗ owns (c : Thread nD τ) arg25 fullShare (out0_24 x0 x1 x2 x3 x4 x5 x6 x7 x8 x9 x10 x11 x12 x13 x14 x15 x16 x17 x18 x19) ∗ owns (c : Thread nD τ) arg26 fullShare (out0_25 x0 x1 x2 x3 x4 x5 x6 x7 x8 x9 x10 x11 x12 x13 x14 x15 x16 x17 x18 x19) ∗ owns (c : Thread nD τ) arg27 fullShare (out0_26 x0 x1 x2 x3 x4 x5 x6 x7 x8 x9 x10 x11 x12 x13 x14 x15 x16 x17 x18 x19) ∗ owns (c : Thread nD τ) arg28 fullShare (out0_27 x0 x1 x2 x3 x4 x5 x6 x7 x8 x9 x10 x11 x12 x13 x14 x15 x16 x17 x18 x19) ∗ owns (c : Thread nD τ) arg29 fullShare (out0_28 x0 x1 x2 x3 x4 x5 x6 x7 x8 x9 x10 x11 x12 x13 x14 x15 x16 x17 x18 x19)) -∗ K ⟨⟩))
      ⊢ wp frame (wpE (defs₀ (F := F)) Variants.none c none) E (cc0_even_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_even_proj_eq_skeleton]; unfold cc0_even_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  iexists _; isplitr
  swap; · iexact H28
  ipureintro
  refine (View.read_writes_eq_canon _ _ _ (cover0_28 _)).trans ?_
  rfl

/-! ## The pipeline's proof data -/

/-- The proof data of the one pipeline on core `c`: the arrays as the region finds them (`V`); after the body at
    point `t` each input's buffer at its block and each output's at `out0_W` of the input blocks; the invariant the
    class's; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 29, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The frame: the arguments end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

/-- The run: the four arrays that are claimed end at what the grid leaves of them, and the arguments are kept. -/
theorem run_four : θ_run defs (onTc (τ := τ) (main (F := F))) ⟨m, fun _ => 0, ρ⟩ (fun r => ∀ c : Dev nD,
      r.2.mem ((c.tc : Thread nD τ).loc main_v61_0) = (dats m 0 c).arrAt 20 cfg0.N
      ∧ r.2.mem ((c.tc : Thread nD τ).loc main_v61_1) = (dats m 0 c).arrAt 21 cfg0.N
      ∧ r.2.mem ((c.tc : Thread nD τ).loc main_v61_4) = (dats m 0 c).arrAt 24 cfg0.N
      ∧ r.2.mem ((c.tc : Thread nD τ).loc main_v61_7) = (dats m 0 c).arrAt 27 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h.1 c).1 20, (h.1 c).1 21, (h.1 c).1 24, (h.1 c).1 27, h.2 c⟩) (θ_run_and (run_main m ρ) (unchanged m ρ))

end Cert.EvenProjIdeal.Gen

end
-- ==== Proof.EvenProj.Host.lean ====
/- Hand-written, untrusted: what the host hands the block attention layer's projection call. -/
module

public import proofs.«01_k».proof.Proof.EvenProj.Launch
public import Idealize.ShloMosaic.Lib.Pipeline.ValueKit
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open scoped BigOperators

namespace Cert.EvenProjIdeal.Sum

open Cert.EvenProjIdeal Cert.EvenProjIdeal.Gen

variable (m : (ℓ : Loc nD τ sig) → Buf (Elt Ideal) ℓ)

/-- The column numbers, as the gather takes them. -/
def cols : IVec S2208x1 32 :=
  broadcastInDim S2208x1 ![0] bcast_S2208_S2208x1_0 (select (constantI S2208 1 0#1) (addi (fun i => lit0 (S2208.rowMajor i)) (broadcastInDim S2208 ![] bcast_S_S2208 (constantI S_ 32 2208#32))) (fun i => lit0 (S2208.rowMajor i)))

/-- The input weight with its columns in the kernel's order. -/
def moved (w : FVec Ideal S1024x2208 .f32) : FVec Ideal S1024x2208 .f32 := Host.gather gather_S1024x2208_S2208x1_S1024x2208_0_1_n_n_1_1_10241 w cols

/-- The input weight the kernel takes: those columns, then 96 of zeros. -/
def wide (w : FVec Ideal S1024x2208 .f32) : FVec Ideal S1024x2304 .bf16 :=
  truncf .bf16 (pad S1024x2304 ![0, 0] ![0, 96] ![0, 0] (moved w) (sitofp .f32 (constantI S_ 32 0#32)) pads_S1024x2208_S1024x2304_000_0960 h_S_) bitsLt_bf16_f32

theorem host_wide (c : Dev nD) : V m c main_v6 = wide (m ((c : Thread nD τ).loc main_arg2)) := by
  unfold V wide moved cols
  simp only [hostOps0, hostOps0_1, hostOps0_2, List.flatten_cons, List.flatten_nil, List.append_nil, List.cons_append, List.nil_append]
  after_results_simp
  rfl
theorem host_up (c : Dev nD) : V m c main_v8 = truncf (F := Ideal) .bf16 (shapeCast S256x512 (m ((c : Thread nD τ).loc main_arg5) : FVec Ideal S256x8x64 .f32) shapeCasts_S256x8x64_S256x512) bitsLt_bf16_f32 := by
  unfold V
  simp only [hostOps0, hostOps0_1, hostOps0_2, List.flatten_cons, List.flatten_nil, List.append_nil, List.cons_append, List.nil_append]
  after_results_simp
  rfl
theorem host_gain_kv (c : Dev nD) : V m c main_v10 = broadcastInDim S1x256 ![1] bcast_S256_S1x256_1 (m ((c : Thread nD τ).loc main_arg4) : FVec Ideal S256 .f32) := by
  unfold V
  simp only [hostOps0, hostOps0_1, hostOps0_2, List.flatten_cons, List.flatten_nil, List.append_nil, List.cons_append, List.nil_append]
  after_results_simp
theorem host_gain (c : Dev nD) : V m c main_v60 = broadcastInDim S1x1024 ![1] bcast_S1024_S1x1024_1 (m ((c : Thread nD τ).loc main_arg1) : FVec Ideal S1024 .f32) := by
  unfold V
  simp only [hostOps0, hostOps0_1, hostOps0_2, List.flatten_cons, List.flatten_nil, List.append_nil, List.cons_append, List.nil_append]
  after_results_simp
theorem host_rows (c : Dev nD) : V m c main_v19 = shapeCast S16384x1024 (m ((c : Thread nD τ).loc main_arg0) : FVec Ideal S4x4096x1024 .f32) shapeCasts_S4x4096x1024_S16384x1024 := by
  unfold V
  simp only [hostOps0, hostOps0_1, hostOps0_2, List.flatten_cons, List.flatten_nil, List.append_nil, List.cons_append, List.nil_append]
  after_results_simp
  rfl

/-- The column of the layer's weight that stands at each of the kernel's. -/
theorem table : ∀ j : Fin 2208, (lit0 j).toInt.toNat = if j.val < 640 then j.val else if j.val < 2176 then 32 + j.val else j.val - 1536 := by
  decide +kernel
theorem cols_at (j : Fin 2208) : cols (ix2 j 0) = lit0 j := by
  pointwise [cols]
  refine congrArg lit0 (Fin.ext ?_)
  exact Shape.rowMajor_val_one (d := ![2208]) (ix1 j)
/-- The gather at an index: the column its number names. -/
theorem gather_at (x : FVec Ideal S1024x2208 .f32) (i : IVec S2208x1 32) (l : Fin 1024) (j q : Fin 2208) (h : (i (ix2 j 0)).toInt.toNat = q.val) :
    Host.gather gather_S1024x2208_S2208x1_S1024x2208_0_1_n_n_1_1_10241 x i (ix2 l j) = x (ix2 l q) := by
  unfold Host.gather
  refine congrArg x ?_
  funext a
  refine Fin.ext ?_
  show (gather_S1024x2208_S2208x1_S1024x2208_0_1_n_n_1_1_10241).start (ix2 l j) i a + (gather_S1024x2208_S2208x1_S1024x2208_0_1_n_n_1_1_10241).batchCoord (ix2 l j) a + (gather_S1024x2208_S2208x1_S1024x2208_0_1_n_n_1_1_10241).offCoord (ix2 l j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (show (0 : Fin 2) ∉ (gather_S1024x2208_S2208x1_S1024x2208_0_1_n_n_1_1_10241).startIndexMap from by simp [gather_S1024x2208_S2208x1_S1024x2208_0_1_n_n_1_1_10241])]
    simp only [Nat.zero_add]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S1024x2208_S2208x1_S1024x2208_0_1_n_n_1_1_10241).startIndexMap from List.mem_singleton.mpr rfl)]
    have hsi : (gather_S1024x2208_S2208x1_S1024x2208_0_1_n_n_1_1_10241).siIdx (ix2 l j) ⟨List.idxOf (1 : Fin 2) (gather_S1024x2208_S2208x1_S1024x2208_0_1_n_n_1_1_10241).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi, h]
    show min q.val (2208 - 1) = q.val
    omega
/-- The padding value. -/
theorem int_zero : (FloatOps.sitofp (F := Ideal) FTy.f32 (0#32 : BitVec 32) : EReal) = 0 := by
  show (((0#32 : BitVec 32).toInt : ℝ) : EReal) = 0
  simp
/-- A column of the kernel's weight is one of the layer's. -/
theorem wide_col (w : FVec Ideal S1024x2208 .f32) (l : Fin 1024) (j : Fin 2304) (q : Fin 2208) (hj : j.val < 2208)
    (h : q.val = if j.val < 640 then j.val else if j.val < 2176 then 32 + j.val else j.val - 1536) :
    wide w (ix2 l j) = w (ix2 l q) := by
  have e : wide w (ix2 l j) = moved w (ix2 l ⟨j.val, hj⟩) := by
    generalize hM : moved w = M
    unfold wide
    rw [hM]
    pointwise
    split_ifs <;> first | omega | blk_point []
  rw [e]
  unfold moved
  refine gather_at w cols l _ q ?_
  rw [cols_at, table]
  exact h.symm

/-- The blocks a grid point finds. -/
theorem idx : ∀ t : Fin cfg0.N, win0_0.index t = ![t.val, 0]
    ∧ win0_1.index t = ![0, 0]
    ∧ win0_2.index t = ![0, 0]
    ∧ win0_4.index t = ![0, 0]
    ∧ win0_7.index t = ![0, 0]
    ∧ win0_20.index t = ![t.val, 0]
    ∧ win0_21.index t = ![t.val, 0]
    ∧ win0_24.index t = ![t.val, 0]
    ∧ win0_27.index t = ![t.val, 0] :=
  (by decide +kernel : ∀ t : Fin grid0.N, _)
theorem wide_at (c : Dev nD) (t : Fin cfg0.N) (l : Fin 1024) (j : Fin 2304) :
    (show FVec Ideal S1024x2304 .bf16 from iblk m c 2 t) (ix2 l j) = wide (m ((c : Thread nD τ).loc main_arg2)) (ix2 l j) := by
  rw [← host_wide]
  blk_point [iblk, idx t]
theorem flat_at (x : FVec Ideal S4x4096x1024 .f32) (b : Fin 4) (r : Fin 4096) (R : Fin 16384) (l : Fin 1024) (h : R.val = b.val * 4096 + r.val) :
    shapeCast S16384x1024 x shapeCasts_S4x4096x1024_S16384x1024 (ix2 R l) = x (ix3 b r l) := by
  pointwise
  blk_point []
theorem up_flat (x : FVec Ideal S256x8x64 .f32) (k : Fin 256) (j : Fin 512) :
    truncf (F := Ideal) .bf16 (shapeCast S256x512 x shapeCasts_S256x8x64_S256x512) bitsLt_bf16_f32 (ix2 k j) = x (ix3 k ⟨j.val / 64, by omega⟩ ⟨j.val % 64, by omega⟩) := by
  pointwise
theorem rows_at (c : Dev nD) (t : Fin cfg0.N) (b : Fin 4) (r : Fin 4096) (y : Fin 256) (R : Fin 16384) (l : Fin 1024) (hR : R.val = t.val * 256 + y.val) (h : R.val = b.val * 4096 + r.val) :
    (show FVec Ideal S256x1024 .f32 from iblk m c 0 t) (ix2 y l) = (m ((c : Thread nD τ).loc main_arg0) : FVec Ideal S4x4096x1024 .f32) (ix3 b r l) := by
  have e : (show FVec Ideal S256x1024 .f32 from iblk m c 0 t) (ix2 y l) = (show FVec Ideal S16384x1024 .f32 from V m c main_v19) (ix2 R l) := by
    blk_point [iblk, idx t]
  refine e.trans ?_
  rw [host_rows]
  exact flat_at _ b r R l h
theorem gain_at (c : Dev nD) (t : Fin cfg0.N) (l : Fin 1024) :
    (show FVec Ideal S1x1024 .f32 from iblk m c 1 t) (ix2 0 l) = (m ((c : Thread nD τ).loc main_arg1) : FVec Ideal S1024 .f32) (ix1 l) := by
  have e : (show FVec Ideal S1x1024 .f32 from iblk m c 1 t) (ix2 0 l) = (show FVec Ideal S1x1024 .f32 from V m c main_v60) (ix2 0 l) := by
    blk_point [iblk, idx t]
  refine e.trans ?_
  rw [host_gain]
  pointwise
theorem gain_kv_at (c : Dev nD) (t : Fin cfg0.N) (l : Fin 256) :
    (show FVec Ideal S1x256 .f32 from iblk m c 4 t) (ix2 0 l) = (m ((c : Thread nD τ).loc main_arg4) : FVec Ideal S256 .f32) (ix1 l) := by
  have e : (show FVec Ideal S1x256 .f32 from iblk m c 4 t) (ix2 0 l) = (show FVec Ideal S1x256 .f32 from V m c main_v10) (ix2 0 l) := by
    blk_point [iblk, idx t]
  refine e.trans ?_
  rw [host_gain_kv]
  pointwise
theorem up_at (c : Dev nD) (t : Fin cfg0.N) (k : Fin 256) (j : Fin 512) :
    (show FVec Ideal S256x512 .bf16 from iblk m c 7 t) (ix2 k j) = (m ((c : Thread nD τ).loc main_arg5) : FVec Ideal S256x8x64 .f32) (ix3 k ⟨j.val / 64, by omega⟩ ⟨j.val % 64, by omega⟩) := by
  have e : (show FVec Ideal S256x512 .bf16 from iblk m c 7 t) (ix2 k j) = (show FVec Ideal S256x512 .bf16 from V m c main_v8) (ix2 k j) := by
    blk_point [iblk, idx t]
  refine e.trans ?_
  rw [host_up]
  exact up_flat _ k j

end Cert.EvenProjIdeal.Sum

end
-- ==== Proof.EvenProj.Ref.lean ====
/- Hand-written, untrusted: the reference of the block attention layer's projections at an index. -/
module

public import proofs.«01_k».proof.Proof.Gen.EvenProjReferenceIdeal.Run
public import proofs.«01_k».proof.Proof.Gen.EvenProjReferenceIdeal.Read
public import Idealize.ShloMosaic.Lib.Pipeline.ValueKit
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open scoped BigOperators

namespace Cert.EvenProjIdeal.Sum

open Cert.EvenProjReferenceIdeal Cert.EvenProjReferenceIdeal.Gen Cert.EvenProjReferenceIdeal.Read

variable (X : FVec Ideal S4x4096x1024 .f32) (G : FVec Ideal S1024 .f32) (W : FVec Ideal S1024x2208 .f32) (K : FVec Ideal S256 .f32) (U : FVec Ideal S256x8x64 .f32)

/-- An entry of a row, normalized and scaled by its gain. -/
def nrm (b : Fin 4) (r : Fin 4096) (l : Fin 1024) : EReal :=
  X (ix3 b r l) * Ideal.rsqrt (Ideal.div (∑ k : Fin 1024, X (ix3 b r k) * X (ix3 b r k)) (Ideal.ofBits FTy.f32 0x44800000#32) + Ideal.ofBits FTy.f32 0x358637BD#32) * G (ix1 l)
/-- An entry of the input projection. -/
def prj (b : Fin 4) (r : Fin 4096) (q : Fin 2208) : EReal := ∑ l : Fin 1024, nrm X G b r l * W (ix2 l q)
theorem prj_read (b : Fin 4) (r : Fin 4096) (q : Fin 2208) : val_main_v13 (F := Ideal) X G W (ix3 b r q) = prj X G W b r q := by
  unfold prj nrm
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]

/-- A latent entry, normalized over the 256 of its row and scaled by its gain, of a row's projection `z`. -/
def lat (z : Fin 2208 → EReal) (K : FVec Ideal S256 .f32) (j : Fin 256) : EReal :=
  z ⟨384 + j.val, by omega⟩ * Ideal.rsqrt (Ideal.div (∑ k : Fin 256, z ⟨384 + k.val, by omega⟩ * z ⟨384 + k.val, by omega⟩) (Ideal.ofBits FTy.f32 0x43800000#32) + Ideal.ofBits FTy.f32 0x358637BD#32) * K (ix1 j)
theorem lat_read (b : Fin 4) (r : Fin 4096) (j : Fin 256) : val_main_v27 (F := Ideal) X G W K (ix3 b r j) = lat (prj X G W b r) K j := by
  unfold lat
  simp only [← prj_read]
  pointwise [val_main_v14, val_main_v15, val_main_cst_2, val_main_v16, val_main_v17, val_main_cst_3, val_main_v18, val_main_v19, val_main_cst_4, val_main_v20, val_main_v21, val_main_v22, val_main_v23, val_main_v24, val_main_v25, val_main_v26, val_main_v27]
/-- The results at an index. -/
theorem ref_latent (b : Fin 4) (r : Fin 4096) (R : Fin 16384) (h : R.val = b.val * 4096 + r.val) (j : Fin 256) : val_main_v32 (F := Ideal) X G W K (ix2 R j) = lat (prj X G W b r) K j := by
  rw [← lat_read]
  pointwise [val_main_v32]
  blk_point []
theorem ref_turned (b : Fin 4) (r : Fin 4096) (R : Fin 16384) (h : R.val = b.val * 4096 + r.val) (j : Fin 32) : val_main_v33 (F := Ideal) X G W (ix2 R j) = prj X G W b r ⟨640 + j.val, by omega⟩ := by
  rw [← prj_read]
  pointwise [val_main_v33, val_main_v28]
  blk_point []
theorem ref_block (b : Fin 4) (r : Fin 4096) (R : Fin 16384) (h : R.val = b.val * 4096 + r.val) (j : Fin 512) : val_main_v35 (F := Ideal) X G W (ix2 R j) = prj X G W b r ⟨1696 + j.val, by omega⟩ := by
  rw [← prj_read]
  pointwise [val_main_v35, val_main_v29]
  blk_point []
theorem ref_value (b : Fin 4) (r : Fin 4096) (R : Fin 16384) (h : R.val = b.val * 4096 + r.val) (j : Fin 512) : val_main_v34 (F := Ideal) X G W K U (ix2 R j) = ∑ k : Fin 256, lat (prj X G W b r) K k * U (ix3 k ⟨j.val / 64, by omega⟩ ⟨j.val % 64, by omega⟩) := by
  have e : val_main_v34 (F := Ideal) X G W K U (ix2 R j) = val_main_v31 (F := Ideal) X G W K U (ix4 b r ⟨j.val / 64, by omega⟩ ⟨j.val % 64, by omega⟩) := by
    pointwise [val_main_v34]
    blk_point []
  rw [e]
  simp only [← lat_read]
  pointwise [val_main_v31, val_main_v30]

end Cert.EvenProjIdeal.Sum

end
-- ==== Proof.EvenProj.Cover.lean ====
/- Hand-written, untrusted: the block attention layer's projections at the ideal instance. The four arrays claimed are the reference's. -/
module

public import proofs.«01_k».proof.Proof.EvenProj.Host
public import proofs.«01_k».proof.Proof.EvenProj.Ref

@[expose] public section

set_option maxRecDepth 16384

noncomputable section

open Idealize.ShloMosaic Idealize.ShloMosaic.TcCoe Idealize.SL.Sem
open Idealize.ShloMosaic.Pipeline (Dat)
open scoped BigOperators

namespace Cert.EvenProjIdeal.Sum

open Cert.EvenProjIdeal Cert.EvenProjIdeal.Gen Cert.EvenProjReferenceIdeal.Read

variable (m : (ℓ : Loc nD τ sig) → Buf (Elt Ideal) ℓ)

/-- The product of the normalized rows with the kernel's weight. -/
theorem pay3_at (x : FVec Ideal S256x1024 .f32) (g : FVec Ideal S1x1024 .f32) (w : FVec Ideal S1024x2304 .bf16) (y : Fin 256) (j : Fin 2304) :
    k0_pay3 (F := Ideal) x g w (ix2 y j) = ∑ l : Fin 1024, x (ix2 y l) * Ideal.rsqrt (Ideal.div (∑ k : Fin 1024, x (ix2 y k) * x (ix2 y k)) (Ideal.ofBits FTy.f32 0x44800000#32) + Ideal.ofBits FTy.f32 0x358637BD#32) * g (ix2 0 l) * w (ix2 l j) := by
  pointwise [k0_pay3]
theorem pay8_at (x : FVec Ideal S256x1024 .f32) (g : FVec Ideal S1x1024 .f32) (w : FVec Ideal S1024x2304 .bf16) (v : FVec Ideal S1x256 .f32) (y : Fin 256) (j : Fin 256) :
    k0_pay8 (F := Ideal) (k0_pay5 x g w) (k0_pay6 v) (k0_pay7 x g w) (ix2 y j) = k0_pay3 (F := Ideal) x g w (ix2 y ⟨384 + j.val, by omega⟩) * Ideal.rsqrt (Ideal.div (∑ k : Fin 256, k0_pay3 (F := Ideal) x g w (ix2 y ⟨384 + k.val, by omega⟩) * k0_pay3 (F := Ideal) x g w (ix2 y ⟨384 + k.val, by omega⟩)) (Ideal.ofBits FTy.f32 0x43800000#32) + Ideal.ofBits FTy.f32 0x358637BD#32) * v (ix2 0 j) := by
  pointwise [k0_pay8, k0_pay7, k0_pay6, k0_pay5]
theorem pay11_at (z : FVec Ideal S256x2304 .f32) (y : Fin 256) (j : Fin 512) : k0_pay11 (F := Ideal) z (ix2 y j) = z (ix2 y ⟨1664 + j.val, by omega⟩) := by
  pointwise [k0_pay11]
theorem pay12_at (z : FVec Ideal S256x2304 .f32) (y : Fin 256) (j : Fin 32) : k0_pay12 (F := Ideal) z (ix2 y j) = z (ix2 y ⟨2176 + j.val, by omega⟩) := by
  pointwise [k0_pay12]
theorem pay27_at (z : FVec Ideal S256x256 .f32) (w : FVec Ideal S256x512 .bf16) (y : Fin 256) (j : Fin 512) : k0_pay27 (F := Ideal) (k0_pay26 z w) (ix2 y j) = ∑ k : Fin 256, z (ix2 y k) * w (ix2 k j) := by
  pointwise [k0_pay27, k0_pay26]

variable (c : Dev nD) (t : Fin cfg0.N) (b : Fin 4) (r : Fin 4096) (y : Fin 256) (R : Fin 16384)

/-- A column of the product is the reference's. -/
theorem prod_eq (hR : R.val = t.val * 256 + y.val) (h : R.val = b.val * 4096 + r.val) (j : Fin 2304) (q : Fin 2208)
    (hj : j.val < 2208) (hq : q.val = if j.val < 640 then j.val else if j.val < 2176 then 32 + j.val else j.val - 1536) :
    k0_pay3 (F := Ideal) (iblk m c 0 t) (iblk m c 1 t) (iblk m c 2 t) (ix2 y j) = prj (m ((c : Thread nD τ).loc main_arg0) : FVec Ideal S4x4096x1024 .f32) (m ((c : Thread nD τ).loc main_arg1) : FVec Ideal S1024 .f32) (m ((c : Thread nD τ).loc main_arg2) : FVec Ideal S1024x2208 .f32) b r q := by
  refine (pay3_at _ _ _ y j).trans ?_
  unfold prj nrm
  have hx := fun l => rows_at m c t b r y R l hR h
  dsimp only at hx
  have hs := Finset.sum_congr (rfl : (Finset.univ : Finset (Fin 1024)) = Finset.univ) fun k _ => congrArg₂ (fun a b : EReal => a * b) (hx k) (hx k)
  refine Finset.sum_congr rfl fun l _ => ?_
  refine congrArg₂ (fun a b : EReal => a * b) (congrArg₂ (fun a b : EReal => a * b) (congrArg₂ (fun a b : EReal => a * b) (hx l) ?_) (gain_at m c t l)) ((wide_at m c t l j).trans (wide_col _ l j q hj hq))
  exact congrArg (fun s : EReal => Ideal.rsqrt (Ideal.div s (Ideal.ofBits FTy.f32 0x44800000#32) + Ideal.ofBits FTy.f32 0x358637BD#32)) hs

/-- What a grid point leaves, at an index. -/
theorem lat_at (hR : R.val = t.val * 256 + y.val) (h : R.val = b.val * 4096 + r.val) (j : Fin 256) :
    k0_pay8 (F := Ideal) (k0_pay5 (iblk m c 0 t) (iblk m c 1 t) (iblk m c 2 t)) (k0_pay6 (iblk m c 4 t)) (k0_pay7 (iblk m c 0 t) (iblk m c 1 t) (iblk m c 2 t)) (ix2 y j) = lat (prj (m ((c : Thread nD τ).loc main_arg0)) (m ((c : Thread nD τ).loc main_arg1)) (m ((c : Thread nD τ).loc main_arg2)) b r) (m ((c : Thread nD τ).loc main_arg4)) j := by
  refine (pay8_at _ _ _ _ y j).trans ?_
  unfold lat
  have hz := fun k : Fin 256 => prod_eq m c t b r y R hR h ⟨384 + k.val, by omega⟩ ⟨384 + k.val, by omega⟩ (by show 384 + k.val < 2208; omega) (by show 384 + k.val = if 384 + k.val < 640 then _ else _; rw [if_pos (by omega)])
  have hs := Finset.sum_congr (rfl : (Finset.univ : Finset (Fin 256)) = Finset.univ) fun k _ => congrArg₂ (fun a b : EReal => a * b) (hz k) (hz k)
  refine congrArg₂ (fun a b : EReal => a * b) (congrArg₂ (fun a b : EReal => a * b) (hz j) ?_) (gain_kv_at m c t j)
  exact congrArg (fun s : EReal => Ideal.rsqrt (Ideal.div s (Ideal.ofBits FTy.f32 0x43800000#32) + Ideal.ofBits FTy.f32 0x358637BD#32)) hs
theorem at_latent (hR : R.val = t.val * 256 + y.val) (h : R.val = b.val * 4096 + r.val) (j : Fin 256) :
    k0_pay8 (F := Ideal) (k0_pay5 (iblk m c 0 t) (iblk m c 1 t) (iblk m c 2 t)) (k0_pay6 (iblk m c 4 t)) (k0_pay7 (iblk m c 0 t) (iblk m c 1 t) (iblk m c 2 t)) (ix2 y j) = val_main_v32 (F := Ideal) (m ((c : Thread nD τ).loc main_arg0)) (m ((c : Thread nD τ).loc main_arg1)) (m ((c : Thread nD τ).loc main_arg2)) (m ((c : Thread nD τ).loc main_arg4)) (ix2 R j) :=
  (lat_at m c t b r y R hR h j).trans (ref_latent _ _ _ _ b r R h j).symm
theorem at_turned (hR : R.val = t.val * 256 + y.val) (h : R.val = b.val * 4096 + r.val) (j : Fin 32) :
    k0_pay12 (F := Ideal) (k0_pay3 (iblk m c 0 t) (iblk m c 1 t) (iblk m c 2 t)) (ix2 y j) = val_main_v33 (F := Ideal) (m ((c : Thread nD τ).loc main_arg0)) (m ((c : Thread nD τ).loc main_arg1)) (m ((c : Thread nD τ).loc main_arg2)) (ix2 R j) := by
  refine (pay12_at _ y j).trans (Eq.trans ?_ (ref_turned _ _ _ b r R h j).symm)
  exact prod_eq m c t b r y R hR h _ _ (by show 2176 + j.val < 2208; omega) (by show 640 + j.val = if 2176 + j.val < 640 then _ else if 2176 + j.val < 2176 then _ else 2176 + j.val - 1536; rw [if_neg (by omega), if_neg (by omega)]; omega)
theorem at_block (hR : R.val = t.val * 256 + y.val) (h : R.val = b.val * 4096 + r.val) (j : Fin 512) :
    k0_pay11 (F := Ideal) (k0_pay3 (iblk m c 0 t) (iblk m c 1 t) (iblk m c 2 t)) (ix2 y j) = val_main_v35 (F := Ideal) (m ((c : Thread nD τ).loc main_arg0)) (m ((c : Thread nD τ).loc main_arg1)) (m ((c : Thread nD τ).loc main_arg2)) (ix2 R j) := by
  refine (pay11_at _ y j).trans (Eq.trans ?_ (ref_block _ _ _ b r R h j).symm)
  exact prod_eq m c t b r y R hR h _ _ (by show 1664 + j.val < 2208; omega) (by show 1696 + j.val = if 1664 + j.val < 640 then _ else if 1664 + j.val < 2176 then 32 + (1664 + j.val) else _; rw [if_neg (by omega), if_pos (by omega)]; omega)
theorem at_value (hR : R.val = t.val * 256 + y.val) (h : R.val = b.val * 4096 + r.val) (j : Fin 512) :
    k0_pay27 (F := Ideal) (k0_pay26 (k0_pay8 (k0_pay5 (iblk m c 0 t) (iblk m c 1 t) (iblk m c 2 t)) (k0_pay6 (iblk m c 4 t)) (k0_pay7 (iblk m c 0 t) (iblk m c 1 t) (iblk m c 2 t))) (iblk m c 7 t)) (ix2 y j) = val_main_v34 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (ix2 R j) := by
  refine (pay27_at _ _ y j).trans (Eq.trans ?_ (ref_value _ _ _ _ _ b r R h j).symm)
  exact Finset.sum_congr rfl fun k _ => congrArg₂ (fun a b : EReal => a * b) (lat_at m c t b r y R hR h k) (up_at m c t k j)

theorem point_latent (c : Dev nD) (t : Fin cfg0.N) (y : S256x256.Idx) :
    k0_pay8 (F := Ideal) (k0_pay5 (iblk m c 0 t) (iblk m c 1 t) (iblk m c 2 t)) (k0_pay6 (iblk m c 4 t)) (k0_pay7 (iblk m c 0 t) (iblk m c 1 t) (iblk m c 2 t)) y = val_main_v32 (F := Ideal) (m ((c : Thread nD τ).loc main_arg0)) (m ((c : Thread nD τ).loc main_arg1)) (m ((c : Thread nD τ).loc main_arg2)) (m ((c : Thread nD τ).loc main_arg4)) (((cfg0.win 20).blk t).view.emb y) := by
  have ht : t.val < 64 := lt_of_lt_of_eq t.isLt N_0
  obtain ⟨r, j, rfl⟩ : ∃ (r : Fin 256) (j : Fin 256), y = ix2 r j := ⟨y 0, y 1, by blk_ext⟩
  have he : (((cfg0.win 20).blk t).view.emb (ix2 r j) : S16384x256.Idx) = ix2 (⟨t.val * 256 + r.val, by omega⟩ : Fin 16384) j := by
    blk_ext [idx t]
  refine Eq.trans ?_ (congrArg (val_main_v32 (F := Ideal) (m ((c : Thread nD τ).loc main_arg0)) (m ((c : Thread nD τ).loc main_arg1)) (m ((c : Thread nD τ).loc main_arg2)) (m ((c : Thread nD τ).loc main_arg4))) he).symm
  exact at_latent m c t (⟨(t.val * 256 + r.val) / 4096, by omega⟩ : Fin 4) (⟨(t.val * 256 + r.val) % 4096, by omega⟩ : Fin 4096) r _ rfl (by show t.val * 256 + r.val = (t.val * 256 + r.val) / 4096 * 4096 + (t.val * 256 + r.val) % 4096; omega) j
theorem point_turned (c : Dev nD) (t : Fin cfg0.N) (y : S256x32.Idx) :
    k0_pay12 (F := Ideal) (k0_pay3 (iblk m c 0 t) (iblk m c 1 t) (iblk m c 2 t)) y = val_main_v33 (F := Ideal) (m ((c : Thread nD τ).loc main_arg0)) (m ((c : Thread nD τ).loc main_arg1)) (m ((c : Thread nD τ).loc main_arg2)) (((cfg0.win 21).blk t).view.emb y) := by
  have ht : t.val < 64 := lt_of_lt_of_eq t.isLt N_0
  obtain ⟨r, j, rfl⟩ : ∃ (r : Fin 256) (j : Fin 32), y = ix2 r j := ⟨y 0, y 1, by blk_ext⟩
  have he : (((cfg0.win 21).blk t).view.emb (ix2 r j) : S16384x32.Idx) = ix2 (⟨t.val * 256 + r.val, by omega⟩ : Fin 16384) j := by
    blk_ext [idx t]
  refine Eq.trans ?_ (congrArg (val_main_v33 (F := Ideal) (m ((c : Thread nD τ).loc main_arg0)) (m ((c : Thread nD τ).loc main_arg1)) (m ((c : Thread nD τ).loc main_arg2))) he).symm
  exact at_turned m c t (⟨(t.val * 256 + r.val) / 4096, by omega⟩ : Fin 4) (⟨(t.val * 256 + r.val) % 4096, by omega⟩ : Fin 4096) r _ rfl (by show t.val * 256 + r.val = (t.val * 256 + r.val) / 4096 * 4096 + (t.val * 256 + r.val) % 4096; omega) j
theorem point_value (c : Dev nD) (t : Fin cfg0.N) (y : S256x512.Idx) :
    k0_pay27 (F := Ideal) (k0_pay26 (k0_pay8 (k0_pay5 (iblk m c 0 t) (iblk m c 1 t) (iblk m c 2 t)) (k0_pay6 (iblk m c 4 t)) (k0_pay7 (iblk m c 0 t) (iblk m c 1 t) (iblk m c 2 t))) (iblk m c 7 t)) y = val_main_v34 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (((cfg0.win 24).blk t).view.emb y) := by
  have ht : t.val < 64 := lt_of_lt_of_eq t.isLt N_0
  obtain ⟨r, j, rfl⟩ : ∃ (r : Fin 256) (j : Fin 512), y = ix2 r j := ⟨y 0, y 1, by blk_ext⟩
  have he : (((cfg0.win 24).blk t).view.emb (ix2 r j) : S16384x512.Idx) = ix2 (⟨t.val * 256 + r.val, by omega⟩ : Fin 16384) j := by
    blk_ext [idx t]
  refine Eq.trans ?_ (congrArg (val_main_v34 (F := Ideal) (m ((c : Thread nD τ).loc main_arg0)) (m ((c : Thread nD τ).loc main_arg1)) (m ((c : Thread nD τ).loc main_arg2)) (m ((c : Thread nD τ).loc main_arg4)) (m ((c : Thread nD τ).loc main_arg5))) he).symm
  exact at_value m c t (⟨(t.val * 256 + r.val) / 4096, by omega⟩ : Fin 4) (⟨(t.val * 256 + r.val) % 4096, by omega⟩ : Fin 4096) r _ rfl (by show t.val * 256 + r.val = (t.val * 256 + r.val) / 4096 * 4096 + (t.val * 256 + r.val) % 4096; omega) j
theorem point_block (c : Dev nD) (t : Fin cfg0.N) (y : S256x512.Idx) :
    k0_pay11 (F := Ideal) (k0_pay3 (iblk m c 0 t) (iblk m c 1 t) (iblk m c 2 t)) y = val_main_v35 (F := Ideal) (m ((c : Thread nD τ).loc main_arg0)) (m ((c : Thread nD τ).loc main_arg1)) (m ((c : Thread nD τ).loc main_arg2)) (((cfg0.win 27).blk t).view.emb y) := by
  have ht : t.val < 64 := lt_of_lt_of_eq t.isLt N_0
  obtain ⟨r, j, rfl⟩ : ∃ (r : Fin 256) (j : Fin 512), y = ix2 r j := ⟨y 0, y 1, by blk_ext⟩
  have he : (((cfg0.win 27).blk t).view.emb (ix2 r j) : S16384x512.Idx) = ix2 (⟨t.val * 256 + r.val, by omega⟩ : Fin 16384) j := by
    blk_ext [idx t]
  refine Eq.trans ?_ (congrArg (val_main_v35 (F := Ideal) (m ((c : Thread nD τ).loc main_arg0)) (m ((c : Thread nD τ).loc main_arg1)) (m ((c : Thread nD τ).loc main_arg2))) he).symm
  exact at_block m c t (⟨(t.val * 256 + r.val) / 4096, by omega⟩ : Fin 4) (⟨(t.val * 256 + r.val) % 4096, by omega⟩ : Fin 4096) r _ rfl (by show t.val * 256 + r.val = (t.val * 256 + r.val) / 4096 * 4096 + (t.val * 256 + r.val) % 4096; omega) j
theorem final_latent (c : Dev nD) : (dats m 0 c).arrAt 20 (cfgs 0).N = val_main_v32 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 20 _ (by decide +kernel) fun t hf y => ?_
  blk_simp; rw [after0_20]; unfold out0_20 k0_pay43 k0_pay42 k0_pay41; frame_out
  exact point_latent m c t y
theorem final_turned (c : Dev nD) : (dats m 0 c).arrAt 21 (cfgs 0).N = val_main_v33 (F := Ideal) (m ((c : Thread nD τ).loc main_arg0)) (m ((c : Thread nD τ).loc main_arg1)) (m ((c : Thread nD τ).loc main_arg2)) := by
  refine (dats m 0 c).arrAt_eq_of_covers 21 _ (by decide +kernel) fun t hf y => ?_
  blk_simp; rw [after0_21]; unfold out0_21 k0_pay39; frame_out
  exact point_turned m c t y
theorem final_value (c : Dev nD) : (dats m 0 c).arrAt 24 (cfgs 0).N = val_main_v34 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 24 _ (by decide +kernel) fun t hf y => ?_
  blk_simp; rw [after0_24]; unfold out0_24 k0_pay44 k0_pay43 k0_pay42 k0_pay41; frame_out
  exact point_value m c t y
theorem final_block (c : Dev nD) : (dats m 0 c).arrAt 27 (cfgs 0).N = val_main_v35 (F := Ideal) (m ((c : Thread nD τ).loc main_arg0)) (m ((c : Thread nD τ).loc main_arg1)) (m ((c : Thread nD τ).loc main_arg2)) := by
  refine (dats m 0 c).arrAt_eq_of_covers 27 _ (by decide +kernel) fun t hf y => ?_
  blk_simp; rw [after0_27]; unfold out0_27 k0_pay39; frame_out
  exact point_block m c t y

end Cert.EvenProjIdeal.Sum

end
-- ==== Proof.SampleFfn.Acc.lean ====
/- Hand-written, untrusted: the samples' feed-forward call at the ideal instance. What its two scratch arrays hold after each grid point. -/
module

public import proofs.«01_k».proof.Proof.Gen.SampleFfnIdeal.Value
public import Idealize.ShloMosaic.Lib.Pipeline.ValueKit
public import Idealize.ShloMosaic.Lib.Pipeline.ReadBack
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open scoped BigOperators

namespace Cert.SampleFfnIdeal.Sum

open Cert.SampleFfnIdeal Cert.SampleFfnIdeal.Gen

variable (m : (ℓ : Loc nD τ sig) → Buf (Elt Ideal) ℓ)

/-- Every window's block index, from the number of the grid point. -/
theorem idx : ∀ t : Fin cfg0.N, win0_0.index t = ![t.val / 8, 0]
    ∧ win0_1.index t = ![0, 0]
    ∧ win0_2.index t = ![0, t.val % 8]
    ∧ win0_3.index t = ![t.val % 8, 0]
    ∧ win0_4.index t = ![t.val / 8, 0] :=
  (by decide +kernel : ∀ t : Fin grid0.N, _)

/-- One entry of the product of the squared, clipped hidden block with its block of the second weights. -/
def part (xn : FVec Ideal S128x1024 .bf16) (w1 : FVec Ideal S1024x512 .bf16) (w2 : FVec Ideal S512x1024 .bf16) (j : S128x1024.Idx) : EReal :=
  ∑ k : Fin 512, max (∑ l : Fin 1024, (xn (ix2 (j 0) l) : EReal) * w1 (ix2 l k)) 0 * max (∑ l : Fin 1024, (xn (ix2 (j 0) l) : EReal) * w1 (ix2 l k)) 0 * w2 (ix2 k (j 1))

/-- The zero fill. -/
theorem zero_at (j) : k0_pay2 (F := Ideal) j = (0 : EReal) := by pointwise [k0_pay2]

/-- The accumulating store. -/
theorem add_at (xn w1 acc w2 j) : k0_pay3 (F := Ideal) xn w1 acc w2 j = (acc j : EReal) + part xn w1 w2 j := by
  pointwise [k0_pay3, part]

/-- Two points of one run have the same block of rows, and every point the same gain. -/
theorem rows_eq (c : Dev nD) (t u : Fin cfg0.N) (h : t.val / 8 = u.val / 8) : iblk m c 0 t = iblk m c 0 u := by
  blk_ext! [iblk, V, idx t, idx u]
theorem gain_eq (c : Dev nD) (t u : Fin cfg0.N) : iblk m c 1 t = iblk m c 1 u := by
  blk_ext! [iblk, V, idx t, idx u]

/-- After every point the first scratch holds the normalized rows of the point's own block. -/
theorem normed (c : Dev nD) : ∀ (n : ℕ) (h : n < cfg0.N),
    (outsAt0 m c n h).2.1 = k0_pay1 (F := Ideal) (iblk m c 0 ⟨n, h⟩) (iblk m c 1 ⟨n, h⟩) := by
  intro n
  induction n with
  | zero =>
    intro h
    rw [outsAt0_A m c ⟨0, h⟩ (by simp) (by simp)]
    frame_out
  | succ n ih =>
    intro h
    by_cases h0 : (n + 1) % 8 = 0
    · rw [outsAt0_A m c ⟨n + 1, h⟩ h0 (by dsimp only; omega)]
      frame_out
    · rw [rows_eq m c ⟨n + 1, h⟩ ⟨n, by omega⟩ (by dsimp only; omega), gain_eq m c ⟨n + 1, h⟩ ⟨n, by omega⟩, ← ih (by omega)]
      by_cases h1 : (n + 1) % 8 = 7
      · rw [outsAt0_C m c ⟨n + 1, h⟩ h0 h1]
        frame_out
        rfl
      · rw [outsAt0_B m c ⟨n + 1, h⟩ h0 h1]
        frame_out
        rfl

/-- What a point of a run adds to the second scratch. -/
def step (c : Dev nD) (t : Fin cfg0.N) : S128x1024.Idx → EReal :=
  part (k0_pay1 (F := Ideal) (iblk m c 0 t) (iblk m c 1 t)) (iblk m c 2 t) (iblk m c 3 t)

theorem acc_reset (c : Dev nD) (t : Fin cfg0.N) (h0 : t.val % 8 = 0) (j : S128x1024.Idx) :
    ((outsAt0 m c t.val t.isLt).2.2 j : EReal) = 0 + step m c t j := by
  rw [outsAt0_A m c t h0 (by omega)]
  frame_out
  rw [add_at, zero_at]
  rfl

theorem acc_step (c : Dev nD) (t : Fin cfg0.N) (h0 : ¬t.val % 8 = 0) (j : S128x1024.Idx) :
    ((outsAt0 m c t.val t.isLt).2.2 j : EReal)
      = (outsAt0 m c (t.val - 1) (Nat.lt_of_le_of_lt (Nat.sub_le _ _) t.isLt)).2.2 j + step m c t j := by
  have e : (outsAt0 m c (t.val - 1) (Nat.lt_of_le_of_lt (Nat.sub_le _ _) t.isLt)).2.1
      = k0_pay1 (F := Ideal) (iblk m c 0 t) (iblk m c 1 t) := by
    have hlt : t.val - 1 < cfg0.N := Nat.lt_of_le_of_lt (Nat.sub_le _ _) t.isLt
    rw [normed m c (t.val - 1) hlt]
    rw [rows_eq m c ⟨t.val - 1, hlt⟩ t (by dsimp only; omega), gain_eq m c ⟨t.val - 1, hlt⟩ t]
  by_cases h1 : t.val % 8 = 7
  · rw [outsAt0_C m c t h0 h1]
    frame_out
    rw [add_at, e, read_unread_whole, read_unread_whole]
    rfl
  · rw [outsAt0_B m c t h0 h1]
    frame_out
    rw [add_at, e, read_unread_whole, read_unread_whole]
    rfl

/-- What the last point of a run writes back: the block of the rows, plus the sum over the run's points. -/
theorem written (c : Dev nD) (t : Fin cfg0.N) (h : t.val % 8 = 8 - 1) (j : S128x1024.Idx) :
    ((outsAt0 m c t.val t.isLt).1 j : EReal)
      = (show FVec Ideal S128x1024 .f32 from iblk m c 0 t) j
        + ∑ s : Fin 8, step m c ⟨8 * (t.val / 8) + s.val, Pipeline.run_point_lt_of_flush t h s⟩ j := by
  have e : (outsAt0 m c t.val t.isLt).1 = k0_pay4 (F := Ideal) (iblk m c 0 t) (outsAt0 m c t.val t.isLt).2.2 := by
    rw [outsAt0_C m c t (by omega) (by omega)]
    frame_out
  have hs := Pipeline.eq_sum_fin_of_reset_step_apply_of_flush
    (fun n h => ((outsAt0 m c n h).2.2 : S128x1024.Idx → EReal)) 8 (fun _ => 0) (step m c)
    (acc_reset m c) (acc_step m c) t h j
  rw [zero_add] at hs
  rw [e, ← hs]
  pointwise [k0_pay4]

end Cert.SampleFfnIdeal.Sum

end
-- ==== Proof.SampleFfn.Cover.lean ====
/- Hand-written, untrusted: the samples' feed-forward call at the ideal instance. The array it leaves is the reference's. -/
module

public import proofs.«01_k».proof.Proof.SampleFfn.Acc
public import proofs.«01_k».proof.Proof.Gen.SampleFfnReferenceIdeal.Run
public import proofs.«01_k».proof.Proof.Gen.SampleFfnReferenceIdeal.Read

@[expose] public section

set_option maxRecDepth 16384

noncomputable section

open Idealize.ShloMosaic Idealize.ShloMosaic.TcCoe Idealize.SL.Sem
open Idealize.ShloMosaic.Pipeline (Dat)
open scoped BigOperators

namespace Cert.SampleFfnIdeal.Sum

open Cert.SampleFfnIdeal Cert.SampleFfnIdeal.Gen
open Cert.SampleFfnReferenceIdeal.Read

variable (m : (ℓ : Loc nD τ sig) → Buf (Elt Ideal) ℓ)

/-- The reference's result, as a function of its arguments. -/
abbrev REF (X : FVec Ideal Cert.SampleFfnReferenceIdeal.S128x1x1024 .f32) (G : FVec Ideal Cert.SampleFfnReferenceIdeal.S1024 .f32) (A : FVec Ideal Cert.SampleFfnReferenceIdeal.S1024x4096 .f32) (B : FVec Ideal Cert.SampleFfnReferenceIdeal.S4096x1024 .f32) : FVec Ideal Cert.SampleFfnReferenceIdeal.S128x1024 .f32 :=
  val_main_v18 (F := Ideal) X G A B

/-- The four operands' blocks, read from the arguments. -/
theorem rows_at (c : Dev nD) (t : Fin cfg0.N) (b : Fin 128) (r : Fin 1) (y : Fin 128) (l : Fin 1024) (h : b.val = t.val / 8 * 128 + y.val) :
    (show FVec Ideal S128x1024 .f32 from iblk m c 0 t) (ix2 y l) = (m ((c : Thread nD τ).loc main_arg0) : FVec Ideal S128x1x1024 .f32) (ix3 b r l) := by
  blk_point [iblk, V, idx t]
theorem gain_at (c : Dev nD) (t : Fin cfg0.N) (l : Fin 1024) :
    (show FVec Ideal S1x1024 .f32 from iblk m c 1 t) (ix2 0 l) = (m ((c : Thread nD τ).loc main_arg1) : FVec Ideal S1024 .f32) (ix1 l) := by
  blk_point [iblk, V, idx t]
theorem first_at (c : Dev nD) (t : Fin cfg0.N) (l : Fin 1024) (k : Fin 512) (q : Fin 4096) (h : q.val = t.val % 8 * 512 + k.val) :
    (show FVec Ideal S1024x512 .bf16 from iblk m c 2 t) (ix2 l k) = (m ((c : Thread nD τ).loc main_arg2) : FVec Ideal S1024x4096 .f32) (ix2 l q) := by
  blk_point [iblk, V, idx t]
theorem second_at (c : Dev nD) (t : Fin cfg0.N) (l : Fin 1024) (k : Fin 512) (q : Fin 4096) (h : q.val = t.val % 8 * 512 + k.val) :
    (show FVec Ideal S512x1024 .bf16 from iblk m c 3 t) (ix2 k l) = (m ((c : Thread nD τ).loc main_arg3) : FVec Ideal S4096x1024 .f32) (ix2 q l) := by
  blk_point [iblk, V, idx t]

/-- An entry of a row, normalized and scaled by its gain. -/
def nrm (X : FVec Ideal S128x1x1024 .f32) (G : FVec Ideal S1024 .f32) (b : Fin 128) (r : Fin 1) (l : Fin 1024) : EReal :=
  X (ix3 b r l) * Ideal.rsqrt (Ideal.div (∑ k : Fin 1024, X (ix3 b r k) * X (ix3 b r k)) (Ideal.ofBits FTy.f32 1149239296#32) + Ideal.ofBits FTy.f32 897988541#32) * G (ix1 l)

/-- A clipped hidden entry. -/
def hid (X : FVec Ideal S128x1x1024 .f32) (G : FVec Ideal S1024 .f32) (A : FVec Ideal S1024x4096 .f32) (b : Fin 128) (r : Fin 1) (q : Fin 4096) : EReal :=
  max (∑ l : Fin 1024, nrm X G b r l * A (ix2 l q)) 0

/-- The reference's result at an index. -/
theorem ref_at (X : FVec Ideal S128x1x1024 .f32) (G : FVec Ideal S1024 .f32) (A : FVec Ideal S1024x4096 .f32) (B : FVec Ideal S4096x1024 .f32) (b : Fin 128) (r : Fin 1) (j : Fin 1024) (R : Fin 128) (h : R.val = b.val) :
    REF X G A B (ix2 R j) = X (ix3 b r j) + ∑ q : Fin 4096, hid X G A b r q * hid X G A b r q * B (ix2 q j) := by
  unfold hid nrm
  pointwise [REF, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_cst]
  blk_point []

/-- What a grid point's first payload is at an index. -/
theorem nrm_at (c : Dev nD) (t : Fin cfg0.N) (b : Fin 128) (r : Fin 1) (y : Fin 128) (l : Fin 1024) (h : b.val = t.val / 8 * 128 + y.val) :
    k0_pay1 (F := Ideal) (iblk m c 0 t) (iblk m c 1 t) (ix2 y l)
      = nrm (m ((c : Thread nD τ).loc main_arg0)) (m ((c : Thread nD τ).loc main_arg1)) b r l := by
  have e : ∀ (x : FVec Ideal S128x1024 .f32) (g : FVec Ideal S1x1024 .f32), k0_pay1 (F := Ideal) x g (ix2 y l)
      = x (ix2 y l) * Ideal.rsqrt (Ideal.div (∑ k : Fin 1024, x (ix2 y k) * x (ix2 y k)) (Ideal.ofBits FTy.f32 1149239296#32) + Ideal.ofBits FTy.f32 897988541#32) * g (ix2 0 l) := by
    intro x g
    pointwise [k0_pay1]
  refine (e _ _).trans ?_
  unfold nrm
  have hx := fun k => rows_at m c t b r y k h
  dsimp only at hx
  simp only [hx, gain_at m c t l]

/-- What a grid point adds, at an index. -/
theorem step_at (c : Dev nD) (t : Fin cfg0.N) (b : Fin 128) (r : Fin 1) (y : Fin 128) (j : Fin 1024) (h : b.val = t.val / 8 * 128 + y.val) :
    step m c t (ix2 y j) = ∑ k : Fin 512,
      hid (m ((c : Thread nD τ).loc main_arg0)) (m ((c : Thread nD τ).loc main_arg1)) (m ((c : Thread nD τ).loc main_arg2)) b r ⟨t.val % 8 * 512 + k.val, by omega⟩
      * hid (m ((c : Thread nD τ).loc main_arg0)) (m ((c : Thread nD τ).loc main_arg1)) (m ((c : Thread nD τ).loc main_arg2)) b r ⟨t.val % 8 * 512 + k.val, by omega⟩
      * (m ((c : Thread nD τ).loc main_arg3) : FVec Ideal S4096x1024 .f32) (ix2 ⟨t.val % 8 * 512 + k.val, by omega⟩ j) := by
  have hn := fun l => nrm_at m c t b r y l h
  unfold step part hid
  refine Finset.sum_congr rfl fun k _ => ?_
  have hs : ∀ k : Fin 512, (∑ l : Fin 1024, (k0_pay1 (F := Ideal) (iblk m c 0 t) (iblk m c 1 t) (ix2 y l) : EReal) * (show FVec Ideal S1024x512 .bf16 from iblk m c 2 t) (ix2 l k))
      = ∑ l : Fin 1024, nrm (m ((c : Thread nD τ).loc main_arg0)) (m ((c : Thread nD τ).loc main_arg1)) b r l * (m ((c : Thread nD τ).loc main_arg2) : FVec Ideal S1024x4096 .f32) (ix2 l ⟨t.val % 8 * 512 + k.val, by omega⟩) := fun k =>
    Finset.sum_congr rfl fun l _ => congrArg₂ (fun a b : EReal => a * b) (hn l) (first_at m c t l k _ rfl)
  exact congrArg₂ (fun a b : EReal => a * b) (congrArg₂ (fun a b : EReal => max a 0 * max b 0) (hs k) (hs k)) (second_at m c t j k _ rfl)

theorem point (c : Dev nD) (t : Fin cfg0.N) (h : t.val % 8 = 8 - 1) (y : S128x1024.Idx) :
    ((outsAt0 m c t.val t.isLt).1 y : EReal)
      = REF (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 8 := lt_of_lt_of_eq t.isLt N_0
  obtain ⟨a, b, rfl⟩ : ∃ (a : Fin 128) (b : Fin 1024), y = ix2 a b := ⟨y 0, y 1, by blk_ext⟩
  have he : (((cfg0.win 4).blk t).view.emb (ix2 a b) : S128x1024.Idx) = ix2 (⟨t.val / 8 * 128 + a.val, by omega⟩ : Fin 128) b := by
    blk_ext [idx t]
  rw [written m c t h]
  refine Eq.trans ?_ (congrArg (REF _ _ _ _) he).symm
  refine Eq.trans ?_ (ref_at _ _ _ _ ⟨t.val / 8 * 128 + a.val, by omega⟩ 0 _ _ rfl).symm
  refine congrArg₂ (fun a b : EReal => a + b) ?_ ?_
  · exact rows_at m c t _ _ _ _ rfl
  · refine (Finset.sum_congr rfl fun s _ => step_at m c _ ⟨t.val / 8 * 128 + a.val, by omega⟩ 0 _ _ ?_).trans ?_
    · dsimp only
      omega
    · refine Fin.sum_mul_add_congr fun s k hl => ?_
      have e : ∀ hq, (⟨(8 * (t.val / 8) + s.val) % 8 * 512 + k.val, hq⟩ : Fin 4096) = ⟨s.val * 512 + k.val, hl⟩ := fun hq => Fin.ext (by dsimp only; omega)
      dsimp only
      rw [e]

/-- The result array after the run. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  exact point m c t ((flush0_4 t).mp hf) y

end Cert.SampleFfnIdeal.Sum

end
-- ==== Proof.SampleOdd.Host.lean ====
/- Hand-written, untrusted: what the host hands the samples' linear attention's projection call. -/
module

public import proofs.«01_k».proof.Proof.Gen.SampleOddIdeal.Value
public import Idealize.ShloMosaic.Lib.Pipeline.ValueKit
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open scoped BigOperators

namespace Cert.SampleOddIdeal.Sum

open Cert.SampleOddIdeal Cert.SampleOddIdeal.Gen

variable (m : (ℓ : Loc nD τ sig) → Buf (Elt Ideal) ℓ)

/-- The heads' columns from number `o` on, each head's 192 followed by 64 zeros. -/
def padded (o : Nat) (h : S1024x2832.Slices ![0, o] S1024x768) (w : FVec Ideal S1024x2832 .f32) : FVec Ideal S1024x1024 .f32 :=
  shapeCast S1024x1024 (pad S1024x4x256 ![0, 0, 0] ![0, 0, 64] ![0, 0, 0] (shapeCast S1024x4x192 (extractStridedSlice S1024x768 ![0, o] w h) shapeCasts_S1024x768_S1024x4x192)
    (sitofp .f32 (constantI S_ 32 0#32)) pads_S1024x4x192_S1024x4x256_000_000_0640 h_S_) shapeCasts_S1024x4x256_S1024x1024

/-- The widened input weight. -/
def wide (w : FVec Ideal S1024x2832 .f32) : FVec Ideal S1024x3456 .bf16 :=
  truncf .bf16 (concatenate S1024x3456 1 [⟨S1024x1024, extractStridedSlice S1024x1024 ![0, 0] w slices_S1024x2832_S1024x1024_0_0⟩, ⟨S1024x1024, padded 1024 slices_S1024x2832_S1024x768_0_1024 w⟩, ⟨S1024x1024, padded 1792 slices_S1024x2832_S1024x768_0_1792 w⟩, ⟨S1024x256, extractStridedSlice S1024x256 ![0, 2576] w slices_S1024x2832_S1024x256_0_2576⟩,
    ⟨S1024x128, pad S1024x128 ![0, 0] ![0, 112] ![0, 0] (extractStridedSlice S1024x16 ![0, 2560] w slices_S1024x2832_S1024x16_0_2560) (sitofp .f32 (constantI S_ 32 0#32)) pads_S1024x16_S1024x128_000_01120 h_S_⟩] concatenates_S1024x1024_S1024x1024_S1024x1024_S1024x256_S1024x128_S1024x3456_d1) bitsLt_bf16_f32

theorem host_wide (c : Dev nD) : V m c main_v15 = wide (m ((c : Thread nD τ).loc main_arg2)) := by
  unfold V wide padded
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem host_lift (c : Dev nD) : V m c main_v16 = truncf (F := Ideal) .bf16 (pad S128x512 ![0, 0] ![112, 0] ![0, 0] (m ((c : Thread nD τ).loc main_arg3) : FVec Ideal S16x512 .f32) (sitofp .f32 (constantI S_ 32 0#32)) pads_S16x512_S128x512_01120_000 h_S_) bitsLt_bf16_f32 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl
theorem host_bias (c : Dev nD) : V m c main_v17 = broadcastInDim S1x512 ![1] bcast_S512_S1x512_1 (m ((c : Thread nD τ).loc main_arg4) : FVec Ideal S512 .f32) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
theorem host_gain (c : Dev nD) : V m c main_v18 = broadcastInDim S1x1024 ![1] bcast_S1024_S1x1024_1 (m ((c : Thread nD τ).loc main_arg1) : FVec Ideal S1024 .f32) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
theorem host_rows (c : Dev nD) : V m c main_v0 = shapeCast S128x1024 (m ((c : Thread nD τ).loc main_arg0) : FVec Ideal S128x1x1024 .f32) shapeCasts_S128x1x1024_S128x1024 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The padding value. -/
theorem int_zero : (FloatOps.sitofp (F := Ideal) FTy.f32 (0#32 : BitVec 32) : EReal) = 0 := by
  show (((0#32 : BitVec 32).toInt : ℝ) : EReal) = 0
  simp

/-- The columns of the widened weight: of queries and keys, of values, of the output gate, of the pooling, of the decay. -/
theorem wide_low (w : FVec Ideal S1024x2832 .f32) (l : Fin 1024) (j : Fin 3456) (q : Fin 2832) (hj : j.val < 1024) (h : q.val = j.val) :
    wide w (ix2 l j) = w (ix2 l q) := by
  pointwise [wide, padded]
  split_ifs <;> first | omega | exact int_zero | blk_point []
theorem wide_v (w : FVec Ideal S1024x2832 .f32) (l : Fin 1024) (j : Fin 3456) (q : Fin 2832) (i : Fin 1024) (hj : j.val = 1024 + i.val) (hi : i.val % 256 < 192) (h : q.val = 1024 + (i.val / 256 * 192 + i.val % 256)) :
    wide w (ix2 l j) = w (ix2 l q) := by
  pointwise [wide, padded]
  split_ifs <;> first | omega | exact int_zero | blk_point []
theorem wide_v_pad (w : FVec Ideal S1024x2832 .f32) (l : Fin 1024) (j : Fin 3456) (i : Fin 1024) (hj : j.val = 1024 + i.val) (hi : ¬ i.val % 256 < 192) :
    wide w (ix2 l j) = (0 : EReal) := by
  pointwise [wide, padded]
  split_ifs <;> first | omega | exact int_zero | blk_point []
theorem wide_r (w : FVec Ideal S1024x2832 .f32) (l : Fin 1024) (j : Fin 3456) (q : Fin 2832) (i : Fin 1024) (hj : j.val = 2048 + i.val) (hi : i.val % 256 < 192) (h : q.val = 1792 + (i.val / 256 * 192 + i.val % 256)) :
    wide w (ix2 l j) = w (ix2 l q) := by
  pointwise [wide, padded]
  split_ifs <;> first | omega | exact int_zero | blk_point []
theorem wide_r_pad (w : FVec Ideal S1024x2832 .f32) (l : Fin 1024) (j : Fin 3456) (i : Fin 1024) (hj : j.val = 2048 + i.val) (hi : ¬ i.val % 256 < 192) :
    wide w (ix2 l j) = (0 : EReal) := by
  pointwise [wide, padded]
  split_ifs <;> first | omega | exact int_zero | blk_point []
theorem wide_u (w : FVec Ideal S1024x2832 .f32) (l : Fin 1024) (j : Fin 3456) (q : Fin 2832) (i : Fin 256) (hj : j.val = 3072 + i.val) (h : q.val = 2576 + i.val) :
    wide w (ix2 l j) = w (ix2 l q) := by
  pointwise [wide, padded]
  split_ifs <;> first | omega | exact int_zero | blk_point []
theorem wide_g (w : FVec Ideal S1024x2832 .f32) (l : Fin 1024) (j : Fin 3456) (q : Fin 2832) (i : Fin 128) (hj : j.val = 3328 + i.val) (hi : i.val < 16) (h : q.val = 2560 + i.val) :
    wide w (ix2 l j) = w (ix2 l q) := by
  pointwise [wide, padded]
  split_ifs <;> first | omega | exact int_zero | blk_point []
theorem wide_g_pad (w : FVec Ideal S1024x2832 .f32) (l : Fin 1024) (j : Fin 3456) (i : Fin 128) (hj : j.val = 3328 + i.val) (hi : ¬ i.val < 16) :
    wide w (ix2 l j) = (0 : EReal) := by
  pointwise [wide, padded]
  split_ifs <;> first | omega | exact int_zero | blk_point []

/-- The blocks a grid point finds. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0] :=
  (by decide +kernel : ∀ t : Fin grid0.N, _)
theorem wide_at (c : Dev nD) (t : Fin cfg0.N) (l : Fin 1024) (j : Fin 3456) :
    (show FVec Ideal S1024x3456 .bf16 from iblk m c 2 t) (ix2 l j) = wide (m ((c : Thread nD τ).loc main_arg2)) (ix2 l j) := by
  rw [← host_wide]
  blk_point [iblk, idx t]
theorem flat_at (x : FVec Ideal S128x1x1024 .f32) (b : Fin 128) (r : Fin 1) (R : Fin 128) (l : Fin 1024) (h : R.val = b.val) :
    shapeCast S128x1024 x shapeCasts_S128x1x1024_S128x1024 (ix2 R l) = x (ix3 b r l) := by
  pointwise
  blk_point []
theorem pad_at (x : FVec Ideal S16x512 .f32) (k : Fin 128) (q : Fin 16) (j : Fin 512) (h : q.val = k.val) :
    truncf (F := Ideal) .bf16 (pad S128x512 ![0, 0] ![112, 0] ![0, 0] x (sitofp .f32 (constantI S_ 32 0#32)) pads_S16x512_S128x512_01120_000 h_S_) bitsLt_bf16_f32 (ix2 k j) = x (ix2 q j) := by
  pointwise
  split_ifs <;> first | omega | blk_point []
theorem rows_at (c : Dev nD) (t : Fin cfg0.N) (b : Fin 128) (r : Fin 1) (y : Fin 128) (R : Fin 128) (l : Fin 1024) (hR : R.val = t.val * 128 + y.val) (h : R.val = b.val) :
    (show FVec Ideal S128x1024 .f32 from iblk m c 0 t) (ix2 y l) = (m ((c : Thread nD τ).loc main_arg0) : FVec Ideal S128x1x1024 .f32) (ix3 b r l) := by
  have e : (show FVec Ideal S128x1024 .f32 from iblk m c 0 t) (ix2 y l) = (show FVec Ideal S128x1024 .f32 from V m c main_v0) (ix2 R l) := by
    blk_point [iblk, idx t]
  refine e.trans ?_
  rw [host_rows]
  exact flat_at _ b r R l h
theorem gain_at (c : Dev nD) (t : Fin cfg0.N) (l : Fin 1024) :
    (show FVec Ideal S1x1024 .f32 from iblk m c 1 t) (ix2 0 l) = (m ((c : Thread nD τ).loc main_arg1) : FVec Ideal S1024 .f32) (ix1 l) := by
  have e : (show FVec Ideal S1x1024 .f32 from iblk m c 1 t) (ix2 0 l) = (show FVec Ideal S1x1024 .f32 from V m c main_v18) (ix2 0 l) := by
    blk_point [iblk, idx t]
  refine e.trans ?_
  rw [host_gain]
  pointwise
theorem bias_at (c : Dev nD) (t : Fin cfg0.N) (l : Fin 512) :
    (show FVec Ideal S1x512 .f32 from iblk m c 4 t) (ix2 0 l) = (m ((c : Thread nD τ).loc main_arg4) : FVec Ideal S512 .f32) (ix1 l) := by
  have e : (show FVec Ideal S1x512 .f32 from iblk m c 4 t) (ix2 0 l) = (show FVec Ideal S1x512 .f32 from V m c main_v17) (ix2 0 l) := by
    blk_point [iblk, idx t]
  refine e.trans ?_
  rw [host_bias]
  pointwise
theorem lift_at (c : Dev nD) (t : Fin cfg0.N) (k : Fin 128) (q : Fin 16) (j : Fin 512) (h : q.val = k.val) :
    (show FVec Ideal S128x512 .bf16 from iblk m c 3 t) (ix2 k j) = (m ((c : Thread nD τ).loc main_arg3) : FVec Ideal S16x512 .f32) (ix2 q j) := by
  have e : (show FVec Ideal S128x512 .bf16 from iblk m c 3 t) (ix2 k j) = (show FVec Ideal S128x512 .bf16 from V m c main_v16) (ix2 k j) := by
    blk_point [iblk, idx t]
  refine e.trans ?_
  rw [host_lift]
  exact pad_at _ k q j h

end Cert.SampleOddIdeal.Sum

end
-- ==== Proof.SampleOdd.Ref.lean ====
/- Hand-written, untrusted: the reference of the samples' linear attention's projections at an index. -/
module

public import proofs.«01_k».proof.Proof.Gen.SampleOddReferenceIdeal.Run
public import proofs.«01_k».proof.Proof.Gen.SampleOddReferenceIdeal.Read
public import Idealize.ShloMosaic.Lib.Pipeline.ValueKit
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open scoped BigOperators

namespace Cert.SampleOddIdeal.Sum

open Cert.SampleOddReferenceIdeal Cert.SampleOddReferenceIdeal.Gen Cert.SampleOddReferenceIdeal.Read

/-- The literal 128. -/
theorem lit_128 : Ideal.ofBits FTy.f32 0x43000000#32 = ((128 : ℝ) : EReal) := by
  simp [Ideal.ofBits, Ideal.ieee, -EReal.coe_mul]
  norm_num
/-- The literal 16. -/
theorem lit_16 : Ideal.ofBits FTy.f32 0x41800000#32 = ((16 : ℝ) : EReal) := by
  simp [Ideal.ofBits, Ideal.ieee, -EReal.coe_mul]
  norm_num
/-- The literal 1/16. -/
theorem lit_inv_16 : Ideal.ofBits FTy.f32 0x3D800000#32 = (((1 / 16 : ℝ)) : EReal) := by
  simp [Ideal.ofBits, Ideal.ieee, -EReal.coe_mul]
  norm_num
/-- The literal 0. -/
theorem lit_0 : Ideal.ofBits FTy.f32 0x00000000#32 = 0 := by
  simp [Ideal.ofBits, Ideal.ieee]
/-- Division by the square root of 128 is multiplication with its inverse. -/
theorem div_root (x : EReal) : Ideal.div x (Ideal.sqrt ((128 : ℝ) : EReal)) = x * (((Real.sqrt 128)⁻¹ : ℝ) : EReal) := by
  have h : Real.sqrt 128 ≠ 0 := by positivity
  rw [Ideal.sqrt_coe, if_neg (by norm_num), Ideal.div_coe h]
  simp only [one_div]
/-- The padding value. -/
theorem pad_zero : (FloatOps.sitofp (F := Ideal) FTy.f32 (0#32 : BitVec 32) : EReal) = 0 := by
  show (((0#32 : BitVec 32).toInt : ℝ) : EReal) = 0
  simp

variable (X : FVec Ideal S128x1x1024 .f32) (G : FVec Ideal S1024 .f32) (W : FVec Ideal S1024x2832 .f32) (L : FVec Ideal S16x512 .f32) (B : FVec Ideal S512 .f32)

/-- An entry of a row, normalized and scaled by its gain. -/
def nrm (b : Fin 128) (r : Fin 1) (l : Fin 1024) : EReal :=
  X (ix3 b r l) * Ideal.rsqrt (Ideal.div (∑ k : Fin 1024, X (ix3 b r k) * X (ix3 b r k)) (Ideal.ofBits FTy.f32 0x44800000#32) + Ideal.ofBits FTy.f32 0x358637BD#32) * G (ix1 l)
/-- An entry of the input projection. -/
def prj (b : Fin 128) (r : Fin 1) (q : Fin 2832) : EReal := ∑ l : Fin 1024, nrm X G b r l * W (ix2 l q)
theorem prj_read (b : Fin 128) (r : Fin 1) (q : Fin 2832) : val_main_v13 (F := Ideal) X G W (ix3 b r q) = prj X G W b r q := by
  obtain rfl : r = 0 := Fin.eq_zero r
  unfold prj nrm
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]

/-- The results at an index. -/
theorem ref_q (b : Fin 128) (r : Fin 1) (R : Fin 128) (h : R.val = b.val) (j : Fin 512) (q : Fin 2832) (hq : q.val = j.val) :
    val_main_v30 (F := Ideal) X G W (ix2 R j) = prj X G W b r q * (((Real.sqrt 128)⁻¹ : ℝ) : EReal) := by
  rw [← prj_read]
  pointwise [val_main_v30, val_main_v17, val_main_v16, val_main_v15, val_main_cst_2, val_main_v14]
  rw [lit_128, div_root]
  blk_point []
theorem ref_k (b : Fin 128) (r : Fin 1) (R : Fin 128) (h : R.val = b.val) (j : Fin 512) (q : Fin 2832) (hq : q.val = 512 + j.val) :
    val_main_v31 (F := Ideal) X G W (ix2 R j) = prj X G W b r q := by
  pointwise [val_main_v31, val_main_v18]
  rw [← prj_read]
  blk_point []
theorem ref_v (b : Fin 128) (r : Fin 1) (R : Fin 128) (h : R.val = b.val) (j : Fin 1024) (hj : j.val % 256 < 192) (q : Fin 2832) (hq : q.val = 1024 + (j.val / 256 * 192 + j.val % 256)) :
    val_main_v34 (F := Ideal) X G W (ix2 R j) = prj X G W b r q := by
  rw [← prj_read]
  pointwise [val_main_v34, val_main_v33, val_main_v32, val_main_v19, val_main_call1_v0, val_main_c]
  split_ifs <;> first | omega | blk_point []
theorem ref_v_pad (R : Fin 128) (j : Fin 1024) (hj : ¬ j.val % 256 < 192) :
    val_main_v34 (F := Ideal) X G W (ix2 R j) = (0 : EReal) := by
  pointwise [val_main_v34, val_main_v33, val_main_v32, val_main_v19, val_main_call1_v0, val_main_c]
  split_ifs <;> first | omega | exact pad_zero
theorem ref_r (b : Fin 128) (r : Fin 1) (R : Fin 128) (h : R.val = b.val) (j : Fin 1024) (hj : j.val % 256 < 192) (q : Fin 2832) (hq : q.val = 1792 + (j.val / 256 * 192 + j.val % 256)) :
    val_main_v37 (F := Ideal) X G W (ix2 R j) = prj X G W b r q := by
  rw [← prj_read]
  pointwise [val_main_v37, val_main_v36, val_main_v35, val_main_v20, val_main_call2_v0, val_main_c_4]
  split_ifs <;> first | omega | blk_point []
theorem ref_r_pad (R : Fin 128) (j : Fin 1024) (hj : ¬ j.val % 256 < 192) :
    val_main_v37 (F := Ideal) X G W (ix2 R j) = (0 : EReal) := by
  pointwise [val_main_v37, val_main_v36, val_main_v35, val_main_v20, val_main_call2_v0, val_main_c_4]
  split_ifs <;> first | omega | exact pad_zero
theorem ref_u (b : Fin 128) (r : Fin 1) (R : Fin 128) (h : R.val = b.val) (j : Fin 256) (q : Fin 2832) (hq : q.val = 2576 + j.val) :
    val_main_v38 (F := Ideal) X G W (ix2 R j) = prj X G W b r q := by
  pointwise [val_main_v38, val_main_v22]
  rw [← prj_read]
  blk_point []
/-- The decay before the logarithm. -/
def pre (b : Fin 128) (r : Fin 1) (j : Fin 512) : EReal := ∑ k : Fin 16, prj X G W b r ⟨2560 + k.val, by omega⟩ * L (ix2 k j) + B (ix1 j)
theorem pre_read (b : Fin 128) (r : Fin 1) (j : Fin 512) : val_main_v26 (F := Ideal) X G W L B (ix3 b r j) = pre X G W L B b r j := by
  obtain rfl : r = 0 := Fin.eq_zero r
  unfold pre
  simp only [← prj_read]
  pointwise [val_main_v26, val_main_v25, val_main_v24, val_main_v23, val_main_v21]
/-- The logarithm of one more than an exponential is no negative infinity. -/
theorem log1p_exp_ne (y : EReal) : Ideal.log1p (Ideal.exp y) ≠ ⊥ := by
  unfold Ideal.log1p
  induction y with
  | bot =>
    rw [Ideal.exp_bot, add_zero, ← EReal.coe_one, Ideal.log_coe, if_neg (by norm_num)]
    exact EReal.coe_ne_bot _
  | top =>
    rw [Ideal.exp_top, ← EReal.coe_one, EReal.add_top_of_ne_bot (EReal.coe_ne_bot 1)]
    exact top_ne_bot
  | coe v =>
    have h : 0 < 1 + Real.exp v := by positivity
    rw [Ideal.exp_coe, ← EReal.coe_one, ← EReal.coe_add, Ideal.log_coe, if_neg (not_le.mpr h)]
    exact EReal.coe_ne_bot _
/-- The logistic function's logarithm, in the two forms. -/
theorem log_sig (x : EReal) : (min x 0 - Ideal.log1p (Ideal.exp (0 - FloatOps.absf (F := Ideal) (φ := .f32) x))) * Ideal.ofBits FTy.f32 0x3D800000#32
    = Ideal.div (-if -x ≠ -x then -x else max (-x) 0 + Ideal.log1p (Ideal.exp (-FloatOps.absf (F := Ideal) (φ := .f32) (-x)))) (Ideal.ofBits FTy.f32 0x41800000#32) := by
  rw [lit_16, lit_inv_16, Ideal.div_coe (by norm_num), if_neg (by simp), zero_sub]
  have ha : FloatOps.absf (F := Ideal) (φ := .f32) (-x) = FloatOps.absf (F := Ideal) (φ := .f32) x := by
    show max (-x) (- -x) = max x (-x)
    rw [neg_neg, max_comm]
  rw [ha]
  refine congrArg (fun z : EReal => z * _) ?_
  have hl := log1p_exp_ne (-FloatOps.absf (F := Ideal) (φ := .f32) x)
  have hm : max (-x) 0 ≠ ⊥ := ne_of_gt (lt_of_lt_of_le EReal.bot_lt_zero (le_max_right _ _))
  rw [EReal.neg_add (.inl hm) (.inr hl)]
  refine congrArg (fun z : EReal => z - _) ?_
  rcases le_total x 0 with h | h
  · rw [min_eq_left h, max_eq_left (EReal.neg_nonneg.mpr h), neg_neg]
  · rw [min_eq_right h, max_eq_right ((EReal.neg_le_neg_iff.mpr h).trans_eq neg_zero), neg_zero]
theorem ref_gate (b : Fin 128) (r : Fin 1) (R : Fin 128) (h : R.val = b.val) (j : Fin 512) :
    val_main_v39 (F := Ideal) X G W L B (ix2 R j)
      = (min (pre X G W L B b r j) 0 - Ideal.log1p (Ideal.exp (0 - FloatOps.absf (F := Ideal) (φ := .f32) (pre X G W L B b r j)))) * Ideal.ofBits FTy.f32 0x3D800000#32 := by
  have e : val_main_v39 (F := Ideal) X G W L B (ix2 R j) = val_main_v29 (F := Ideal) X G W L B (ix3 b r j) := by
    pointwise [val_main_v39]
    blk_point []
  rw [e, log_sig, ← pre_read]
  pointwise [val_main_v29, val_main_v28, val_main_cst_3, val_main_v27, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1]

end Cert.SampleOddIdeal.Sum

end
-- ==== Proof.SampleOdd.Cover.lean ====
/- Hand-written, untrusted: the samples' linear attention's projections at the ideal instance. The arrays the call leaves are the reference's. -/
module

public import proofs.«01_k».proof.Proof.SampleOdd.Host
public import proofs.«01_k».proof.Proof.SampleOdd.Ref

@[expose] public section

set_option maxRecDepth 16384

noncomputable section

open Idealize.ShloMosaic Idealize.ShloMosaic.TcCoe Idealize.SL.Sem
open Idealize.ShloMosaic.Pipeline (Dat)
open scoped BigOperators

namespace Cert.SampleOddIdeal.Sum

open Cert.SampleOddIdeal Cert.SampleOddIdeal.Gen Cert.SampleOddReferenceIdeal.Read

variable (m : (ℓ : Loc nD τ sig) → Buf (Elt Ideal) ℓ)

/-- The product of the normalized rows with the widened weight. -/
theorem pay2_at (x : FVec Ideal S128x1024 .f32) (g : FVec Ideal S1x1024 .f32) (w : FVec Ideal S1024x3456 .bf16) (y : Fin 128) (j : Fin 3456) :
    k0_pay2 (F := Ideal) x g w (ix2 y j) = ∑ l : Fin 1024, x (ix2 y l) * Ideal.rsqrt (Ideal.div (∑ k : Fin 1024, x (ix2 y k) * x (ix2 y k)) (Ideal.ofBits FTy.f32 0x44800000#32) + Ideal.ofBits FTy.f32 0x358637BD#32) * g (ix2 0 l) * w (ix2 l j) := by
  pointwise [k0_pay2]
theorem pay3_at (x : FVec Ideal S128x1024 .f32) (g : FVec Ideal S1x1024 .f32) (w : FVec Ideal S1024x3456 .bf16) (y : Fin 128) (j : Fin 512) :
    k0_pay3 (F := Ideal) x g w (ix2 y j) = k0_pay2 (F := Ideal) x g w (ix2 y ⟨j.val, by omega⟩) * (((Real.sqrt 128)⁻¹ : ℝ) : EReal) := by
  have hn : Named.named (F := Ideal) Cert.SampleOddIdeal.κ "root128" (φ := .f32) 0x3DB504F3#32 = (((Real.sqrt 128)⁻¹ : ℝ) : EReal) := IdealRules.named_const.ideal_named_scalar _ _ _ _ rfl
  rw [← hn]
  pointwise [k0_pay3]
theorem pay4_at (x : FVec Ideal S128x1024 .f32) (g : FVec Ideal S1x1024 .f32) (w : FVec Ideal S1024x3456 .bf16) (y : Fin 128) (j : Fin 512) :
    k0_pay4 (F := Ideal) x g w (ix2 y j) = k0_pay2 (F := Ideal) x g w (ix2 y ⟨512 + j.val, by omega⟩) := by
  pointwise [k0_pay4]
theorem pay5_at (x : FVec Ideal S128x1024 .f32) (g : FVec Ideal S1x1024 .f32) (w : FVec Ideal S1024x3456 .bf16) (y : Fin 128) (j : Fin 1024) :
    k0_pay5 (F := Ideal) x g w (ix2 y j) = k0_pay2 (F := Ideal) x g w (ix2 y ⟨1024 + j.val, by omega⟩) := by
  pointwise [k0_pay5]
theorem pay6_at (x : FVec Ideal S128x1024 .f32) (g : FVec Ideal S1x1024 .f32) (w : FVec Ideal S1024x3456 .bf16) (y : Fin 128) (j : Fin 1024) :
    k0_pay6 (F := Ideal) x g w (ix2 y j) = k0_pay2 (F := Ideal) x g w (ix2 y ⟨2048 + j.val, by omega⟩) := by
  pointwise [k0_pay6]
theorem pay7_at (x : FVec Ideal S128x1024 .f32) (g : FVec Ideal S1x1024 .f32) (w : FVec Ideal S1024x3456 .bf16) (y : Fin 128) (j : Fin 256) :
    k0_pay7 (F := Ideal) x g w (ix2 y j) = k0_pay2 (F := Ideal) x g w (ix2 y ⟨3072 + j.val, by omega⟩) := by
  pointwise [k0_pay7]
theorem pay8_at (x : FVec Ideal S128x1024 .f32) (g : FVec Ideal S1x1024 .f32) (w : FVec Ideal S1024x3456 .bf16) (y : Fin 128) (j : Fin 128) :
    k0_pay8 (F := Ideal) x g w (ix2 y j) = k0_pay2 (F := Ideal) x g w (ix2 y ⟨3328 + j.val, by omega⟩) := by
  pointwise [k0_pay8]
theorem pay1_at (z : FVec Ideal S128x128 .f32) (w : FVec Ideal S128x512 .bf16) (b : FVec Ideal S1x512 .f32) (y : Fin 128) (j : Fin 512) :
    k0_pay1 (F := Ideal) z w b (ix2 y j)
      = (min (∑ k : Fin 128, z (ix2 y k) * w (ix2 k j) + b (ix2 0 j)) 0 - Ideal.log1p (Ideal.exp (0 - FloatOps.absf (F := Ideal) (φ := .f32) (∑ k : Fin 128, z (ix2 y k) * w (ix2 k j) + b (ix2 0 j))))) * Ideal.ofBits FTy.f32 0x3D800000#32 := by
  pointwise [k0_pay1]

/-- A sum over 128 lanes, of which all from the 16th on are 0. -/
theorem sum_lanes (f : Fin 128 → EReal) (g : Fin 16 → EReal) (h : ∀ k : Fin 16, f ⟨k.val, by omega⟩ = g k) (h0 : ∀ k : Fin 128, ¬ k.val < 16 → f k = 0) :
    ∑ k : Fin 128, f k = ∑ k : Fin 16, g k := by
  refine (Fin.sum_univ_add (a := 16) (b := 112) f).trans ?_
  rw [show (∑ k : Fin 112, f (Fin.natAdd 16 k)) = 0 from Finset.sum_eq_zero fun k _ => h0 _ (by simp), add_zero]
  exact Finset.sum_congr rfl fun k _ => h k

variable (c : Dev nD) (t : Fin cfg0.N) (b : Fin 128) (r : Fin 1) (y : Fin 128) (R : Fin 128)

/-- A column of the product is the reference's, or 0. -/
theorem prod_eq (hR : R.val = t.val * 128 + y.val) (h : R.val = b.val) (j : Fin 3456) (q : Fin 2832)
    (hw : ∀ l, wide (m ((c : Thread nD τ).loc main_arg2) : FVec Ideal S1024x2832 .f32) (ix2 l j) = (m ((c : Thread nD τ).loc main_arg2) : FVec Ideal S1024x2832 .f32) (ix2 l q)) :
    k0_pay2 (F := Ideal) (iblk m c 0 t) (iblk m c 1 t) (iblk m c 2 t) (ix2 y j) = prj (m ((c : Thread nD τ).loc main_arg0) : FVec Ideal S128x1x1024 .f32) (m ((c : Thread nD τ).loc main_arg1) : FVec Ideal S1024 .f32) (m ((c : Thread nD τ).loc main_arg2) : FVec Ideal S1024x2832 .f32) b r q := by
  refine (pay2_at _ _ _ y j).trans ?_
  unfold prj nrm
  have hx := fun l => rows_at m c t b r y R l hR h
  dsimp only at hx
  have hs := Finset.sum_congr (rfl : (Finset.univ : Finset (Fin 1024)) = Finset.univ) fun k _ => congrArg₂ (fun a b : EReal => a * b) (hx k) (hx k)
  refine Finset.sum_congr rfl fun l _ => ?_
  refine congrArg₂ (fun a b : EReal => a * b) (congrArg₂ (fun a b : EReal => a * b) (congrArg₂ (fun a b : EReal => a * b) (hx l) ?_) (gain_at m c t l)) ((wide_at m c t l j).trans (hw l))
  exact congrArg (fun s : EReal => Ideal.rsqrt (Ideal.div s (Ideal.ofBits FTy.f32 0x44800000#32) + Ideal.ofBits FTy.f32 0x358637BD#32)) hs
theorem prod_zero (j : Fin 3456) (hw : ∀ l, wide (m ((c : Thread nD τ).loc main_arg2) : FVec Ideal S1024x2832 .f32) (ix2 l j) = (0 : EReal)) :
    k0_pay2 (F := Ideal) (iblk m c 0 t) (iblk m c 1 t) (iblk m c 2 t) (ix2 y j) = (0 : EReal) := by
  refine (pay2_at _ _ _ y j).trans ?_
  exact Finset.sum_eq_zero fun l _ => (congrArg (fun a : EReal => _ * a) ((wide_at m c t l j).trans (hw l))).trans (mul_zero _)

/-- What a grid point leaves, at an index. -/
theorem at_q (hR : R.val = t.val * 128 + y.val) (h : R.val = b.val) (j : Fin 512) :
    k0_pay3 (F := Ideal) (iblk m c 0 t) (iblk m c 1 t) (iblk m c 2 t) (ix2 y j) = val_main_v30 (F := Ideal) (m ((c : Thread nD τ).loc main_arg0)) (m ((c : Thread nD τ).loc main_arg1)) (m ((c : Thread nD τ).loc main_arg2)) (ix2 R j) := by
  refine (pay3_at _ _ _ y j).trans (Eq.trans ?_ (ref_q _ _ _ b 0 R h j ⟨j.val, by omega⟩ rfl).symm)
  exact congrArg (fun a : EReal => a * _) (prod_eq m c t b 0 y R hR h _ _ fun l => wide_low _ l _ _ (by show j.val < 1024; omega) rfl)
theorem at_k (hR : R.val = t.val * 128 + y.val) (h : R.val = b.val) (j : Fin 512) :
    k0_pay4 (F := Ideal) (iblk m c 0 t) (iblk m c 1 t) (iblk m c 2 t) (ix2 y j) = val_main_v31 (F := Ideal) (m ((c : Thread nD τ).loc main_arg0)) (m ((c : Thread nD τ).loc main_arg1)) (m ((c : Thread nD τ).loc main_arg2)) (ix2 R j) := by
  refine (pay4_at _ _ _ y j).trans (Eq.trans ?_ (ref_k _ _ _ b 0 R h j ⟨512 + j.val, by omega⟩ rfl).symm)
  exact prod_eq m c t b 0 y R hR h _ _ fun l => wide_low _ l _ _ (by show 512 + j.val < 1024; omega) rfl
theorem at_v (hR : R.val = t.val * 128 + y.val) (h : R.val = b.val) (j : Fin 1024) :
    k0_pay5 (F := Ideal) (iblk m c 0 t) (iblk m c 1 t) (iblk m c 2 t) (ix2 y j) = val_main_v34 (F := Ideal) (m ((c : Thread nD τ).loc main_arg0)) (m ((c : Thread nD τ).loc main_arg1)) (m ((c : Thread nD τ).loc main_arg2)) (ix2 R j) := by
  refine (pay5_at _ _ _ y j).trans ?_
  by_cases hj : j.val % 256 < 192
  · refine Eq.trans ?_ (ref_v _ _ _ b 0 R h j hj ⟨1024 + (j.val / 256 * 192 + j.val % 256), by omega⟩ rfl).symm
    exact prod_eq m c t b 0 y R hR h _ _ fun l => wide_v _ l _ _ j rfl hj rfl
  · refine Eq.trans ?_ (ref_v_pad _ _ _ R j hj).symm
    exact prod_zero m c t y _ fun l => wide_v_pad _ l _ j rfl hj
theorem at_r (hR : R.val = t.val * 128 + y.val) (h : R.val = b.val) (j : Fin 1024) :
    k0_pay6 (F := Ideal) (iblk m c 0 t) (iblk m c 1 t) (iblk m c 2 t) (ix2 y j) = val_main_v37 (F := Ideal) (m ((c : Thread nD τ).loc main_arg0)) (m ((c : Thread nD τ).loc main_arg1)) (m ((c : Thread nD τ).loc main_arg2)) (ix2 R j) := by
  refine (pay6_at _ _ _ y j).trans ?_
  by_cases hj : j.val % 256 < 192
  · refine Eq.trans ?_ (ref_r _ _ _ b 0 R h j hj ⟨1792 + (j.val / 256 * 192 + j.val % 256), by omega⟩ rfl).symm
    exact prod_eq m c t b 0 y R hR h _ _ fun l => wide_r _ l _ _ j rfl hj rfl
  · refine Eq.trans ?_ (ref_r_pad _ _ _ R j hj).symm
    exact prod_zero m c t y _ fun l => wide_r_pad _ l _ j rfl hj
theorem at_u (hR : R.val = t.val * 128 + y.val) (h : R.val = b.val) (j : Fin 256) :
    k0_pay7 (F := Ideal) (iblk m c 0 t) (iblk m c 1 t) (iblk m c 2 t) (ix2 y j) = val_main_v38 (F := Ideal) (m ((c : Thread nD τ).loc main_arg0)) (m ((c : Thread nD τ).loc main_arg1)) (m ((c : Thread nD τ).loc main_arg2)) (ix2 R j) := by
  refine (pay7_at _ _ _ y j).trans (Eq.trans ?_ (ref_u _ _ _ b 0 R h j ⟨2576 + j.val, by omega⟩ rfl).symm)
  exact prod_eq m c t b 0 y R hR h _ _ fun l => wide_u _ l _ _ j rfl rfl
theorem at_gate (hR : R.val = t.val * 128 + y.val) (h : R.val = b.val) (j : Fin 512) :
    k0_pay1 (F := Ideal) (k0_pay8 (F := Ideal) (iblk m c 0 t) (iblk m c 1 t) (iblk m c 2 t)) (iblk m c 3 t) (iblk m c 4 t) (ix2 y j) = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R j) := by
  refine (pay1_at _ _ _ y j).trans (Eq.trans ?_ (ref_gate _ _ _ _ _ b 0 R h j).symm)
  refine congrArg (fun z : EReal => (min z 0 - Ideal.log1p (Ideal.exp (0 - FloatOps.absf (F := Ideal) (φ := .f32) z))) * Ideal.ofBits FTy.f32 0x3D800000#32) ?_
  unfold pre
  refine congrArg₂ (fun a b : EReal => a + b) ?_ (bias_at m c t j)
  refine sum_lanes _ _ (fun k => ?_) fun k hk => ?_
  · refine congrArg₂ (fun a b : EReal => a * b) ((pay8_at _ _ _ y _).trans ?_) (lift_at m c t _ k j rfl)
    exact prod_eq m c t b 0 y R hR h _ _ fun l => wide_g _ l _ _ ⟨k.val, by omega⟩ rfl k.isLt rfl
  · refine (congrArg (fun a : EReal => a * _) ((pay8_at _ _ _ y k).trans (prod_zero m c t y _ fun l => wide_g_pad _ l _ k rfl hk))).trans (zero_mul _)

theorem point_q (c : Dev nD) (t : Fin cfg0.N) (y : S128x512.Idx) :
    k0_pay3 (F := Ideal) (iblk m c 0 t) (iblk m c 1 t) (iblk m c 2 t) y = val_main_v30 (F := Ideal) (m ((c : Thread nD τ).loc main_arg0)) (m ((c : Thread nD τ).loc main_arg1)) (m ((c : Thread nD τ).loc main_arg2)) (((cfg0.win 5).blk t).view.emb y) := by
  have ht : t.val < 1 := lt_of_lt_of_eq t.isLt N_0
  obtain ⟨r, j, rfl⟩ : ∃ (r : Fin 128) (j : Fin 512), y = ix2 r j := ⟨y 0, y 1, by blk_ext⟩
  have he : (((cfg0.win 5).blk t).view.emb (ix2 r j) : S128x512.Idx) = ix2 (⟨t.val * 128 + r.val, by omega⟩ : Fin 128) j := by
    blk_ext [idx t]
  refine Eq.trans ?_ (congrArg (val_main_v30 (F := Ideal) (m ((c : Thread nD τ).loc main_arg0)) (m ((c : Thread nD τ).loc main_arg1)) (m ((c : Thread nD τ).loc main_arg2))) he).symm
  exact at_q m c t (⟨t.val * 128 + r.val, by omega⟩ : Fin 128) r _ rfl rfl j
theorem point_k (c : Dev nD) (t : Fin cfg0.N) (y : S128x512.Idx) :
    k0_pay4 (F := Ideal) (iblk m c 0 t) (iblk m c 1 t) (iblk m c 2 t) y = val_main_v31 (F := Ideal) (m ((c : Thread nD τ).loc main_arg0)) (m ((c : Thread nD τ).loc main_arg1)) (m ((c : Thread nD τ).loc main_arg2)) (((cfg0.win 6).blk t).view.emb y) := by
  have ht : t.val < 1 := lt_of_lt_of_eq t.isLt N_0
  obtain ⟨r, j, rfl⟩ : ∃ (r : Fin 128) (j : Fin 512), y = ix2 r j := ⟨y 0, y 1, by blk_ext⟩
  have he : (((cfg0.win 6).blk t).view.emb (ix2 r j) : S128x512.Idx) = ix2 (⟨t.val * 128 + r.val, by omega⟩ : Fin 128) j := by
    blk_ext [idx t]
  refine Eq.trans ?_ (congrArg (val_main_v31 (F := Ideal) (m ((c : Thread nD τ).loc main_arg0)) (m ((c : Thread nD τ).loc main_arg1)) (m ((c : Thread nD τ).loc main_arg2))) he).symm
  exact at_k m c t (⟨t.val * 128 + r.val, by omega⟩ : Fin 128) r _ rfl rfl j
theorem point_v (c : Dev nD) (t : Fin cfg0.N) (y : S128x1024.Idx) :
    k0_pay5 (F := Ideal) (iblk m c 0 t) (iblk m c 1 t) (iblk m c 2 t) y = val_main_v34 (F := Ideal) (m ((c : Thread nD τ).loc main_arg0)) (m ((c : Thread nD τ).loc main_arg1)) (m ((c : Thread nD τ).loc main_arg2)) (((cfg0.win 7).blk t).view.emb y) := by
  have ht : t.val < 1 := lt_of_lt_of_eq t.isLt N_0
  obtain ⟨r, j, rfl⟩ : ∃ (r : Fin 128) (j : Fin 1024), y = ix2 r j := ⟨y 0, y 1, by blk_ext⟩
  have he : (((cfg0.win 7).blk t).view.emb (ix2 r j) : S128x1024.Idx) = ix2 (⟨t.val * 128 + r.val, by omega⟩ : Fin 128) j := by
    blk_ext [idx t]
  refine Eq.trans ?_ (congrArg (val_main_v34 (F := Ideal) (m ((c : Thread nD τ).loc main_arg0)) (m ((c : Thread nD τ).loc main_arg1)) (m ((c : Thread nD τ).loc main_arg2))) he).symm
  exact at_v m c t (⟨t.val * 128 + r.val, by omega⟩ : Fin 128) r _ rfl rfl j
theorem point_r (c : Dev nD) (t : Fin cfg0.N) (y : S128x1024.Idx) :
    k0_pay6 (F := Ideal) (iblk m c 0 t) (iblk m c 1 t) (iblk m c 2 t) y = val_main_v37 (F := Ideal) (m ((c : Thread nD τ).loc main_arg0)) (m ((c : Thread nD τ).loc main_arg1)) (m ((c : Thread nD τ).loc main_arg2)) (((cfg0.win 8).blk t).view.emb y) := by
  have ht : t.val < 1 := lt_of_lt_of_eq t.isLt N_0
  obtain ⟨r, j, rfl⟩ : ∃ (r : Fin 128) (j : Fin 1024), y = ix2 r j := ⟨y 0, y 1, by blk_ext⟩
  have he : (((cfg0.win 8).blk t).view.emb (ix2 r j) : S128x1024.Idx) = ix2 (⟨t.val * 128 + r.val, by omega⟩ : Fin 128) j := by
    blk_ext [idx t]
  refine Eq.trans ?_ (congrArg (val_main_v37 (F := Ideal) (m ((c : Thread nD τ).loc main_arg0)) (m ((c : Thread nD τ).loc main_arg1)) (m ((c : Thread nD τ).loc main_arg2))) he).symm
  exact at_r m c t (⟨t.val * 128 + r.val, by omega⟩ : Fin 128) r _ rfl rfl j
theorem point_u (c : Dev nD) (t : Fin cfg0.N) (y : S128x256.Idx) :
    k0_pay7 (F := Ideal) (iblk m c 0 t) (iblk m c 1 t) (iblk m c 2 t) y = val_main_v38 (F := Ideal) (m ((c : Thread nD τ).loc main_arg0)) (m ((c : Thread nD τ).loc main_arg1)) (m ((c : Thread nD τ).loc main_arg2)) (((cfg0.win 9).blk t).view.emb y) := by
  have ht : t.val < 1 := lt_of_lt_of_eq t.isLt N_0
  obtain ⟨r, j, rfl⟩ : ∃ (r : Fin 128) (j : Fin 256), y = ix2 r j := ⟨y 0, y 1, by blk_ext⟩
  have he : (((cfg0.win 9).blk t).view.emb (ix2 r j) : S128x256.Idx) = ix2 (⟨t.val * 128 + r.val, by omega⟩ : Fin 128) j := by
    blk_ext [idx t]
  refine Eq.trans ?_ (congrArg (val_main_v38 (F := Ideal) (m ((c : Thread nD τ).loc main_arg0)) (m ((c : Thread nD τ).loc main_arg1)) (m ((c : Thread nD τ).loc main_arg2))) he).symm
  exact at_u m c t (⟨t.val * 128 + r.val, by omega⟩ : Fin 128) r _ rfl rfl j
theorem point_gate (c : Dev nD) (t : Fin cfg0.N) (y : S128x512.Idx) :
    k0_pay1 (F := Ideal) (k0_pay8 (F := Ideal) (iblk m c 0 t) (iblk m c 1 t) (iblk m c 2 t)) (iblk m c 3 t) (iblk m c 4 t) y = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 10).blk t).view.emb y) := by
  have ht : t.val < 1 := lt_of_lt_of_eq t.isLt N_0
  obtain ⟨r, j, rfl⟩ : ∃ (r : Fin 128) (j : Fin 512), y = ix2 r j := ⟨y 0, y 1, by blk_ext⟩
  have he : (((cfg0.win 10).blk t).view.emb (ix2 r j) : S128x512.Idx) = ix2 (⟨t.val * 128 + r.val, by omega⟩ : Fin 128) j := by
    blk_ext [idx t]
  refine Eq.trans ?_ (congrArg (val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))) he).symm
  exact at_gate m c t (⟨t.val * 128 + r.val, by omega⟩ : Fin 128) r _ rfl rfl j
theorem final_q (c : Dev nD) : (dats m 0 c).arrAt 5 (cfgs 0).N = val_main_v30 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point_q m c t y
theorem final_k (c : Dev nD) : (dats m 0 c).arrAt 6 (cfgs 0).N = val_main_v31 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]; frame_out
  exact point_k m c t y
theorem final_v (c : Dev nD) : (dats m 0 c).arrAt 7 (cfgs 0).N = val_main_v34 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]; frame_out
  exact point_v m c t y
theorem final_r (c : Dev nD) : (dats m 0 c).arrAt 8 (cfgs 0).N = val_main_v37 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp; rw [after0_8]; frame_out
  exact point_r m c t y
theorem final_u (c : Dev nD) : (dats m 0 c).arrAt 9 (cfgs 0).N = val_main_v38 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp; rw [after0_9]; frame_out
  exact point_u m c t y
theorem final_gate (c : Dev nD) : (dats m 0 c).arrAt 10 (cfgs 0).N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp; rw [after0_10]; frame_out
  exact point_gate m c t y

end Cert.SampleOddIdeal.Sum

end
-- ==== Proof.GlaStep.Ref.lean ====
/- Hand-written, untrusted: the reference of the linear attention's step at an index. -/
module

public import proofs.«01_k».proof.Proof.Gen.GlaStepReferenceIdeal.Run
public import proofs.«01_k».proof.Proof.Gen.GlaStepReferenceIdeal.Read
public import proofs.«01_k».proof.Proof.Gen.Pre_finite_gate
public import Idealize.ShloMosaic.Lib.Pipeline.ValueKit
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open scoped BigOperators

namespace Cert.GlaStepIdeal.Sum

open Cert.GlaStepReferenceIdeal Cert.GlaStepReferenceIdeal.Gen Cert.GlaStepReferenceIdeal.Read

variable (K G : FVec Ideal S128x512 .f32) (V : FVec Ideal S128x1024 .f32) (S : FVec Ideal S128x4x128x192 .f32)

/-- The running sum over one position is the entry. -/
theorem window_one (x : FVec Ideal S128x1x4x128 .f32) (z : FVec Ideal S_ .f32) (n : Fin 128) (h : Fin 4) (i : Fin 128) :
    (Host.reduceWindowAdd ![1, 1, 1, 1] ![1, 1, 1, 1] ![0, 0, 0, 0] ![0, 0, 0, 0] x z reduceWindows_S128x1x4x128_S128x1x4x128_w1s1p0_0_w1s1p0_0_w1s1p0_0_w1s1p0_0 h_S_ : FVec Ideal S128x1x4x128 .f32) (ix4 n 0 h i)
      = (z (Shape.Idx.first h_S_) : EReal) + x (ix4 n 0 h i) := by
  unfold Host.reduceWindowAdd
  rw [Ideal.hostReduceWindowAdd_def]
  unfold Ideal.hostReduceWindowAdd Host.reduceWindow
  have hl : List.finRange (⟨4, ![1, 1, 1, 1]⟩ : Shape).numel = [⟨0, by decide⟩] := by decide
  show List.foldl _ _ (List.finRange (⟨4, ![1, 1, 1, 1]⟩ : Shape).numel) = _
  rw [hl]
  simp only [List.foldl_cons, List.foldl_nil]
  have hz : ∀ (a : Fin 4) (q : (⟨4, ![1, 1, 1, 1]⟩ : Shape).Idx), (q a).val = 0 := fun a q => by
    have := (q a).isLt
    fin_cases a <;> exact Nat.lt_one_iff.mp this
  rw [dif_pos]
  · refine congrArg (fun e : EReal => _ + e) (congrArg x ?_)
    funext a
    apply Fin.ext
    fin_cases a <;> simp [hz]
  · intro a
    fin_cases a <;> simp [hz] <;> omega

/-- The literal 0. -/
theorem lit_0 : Ideal.ofBits FTy.f32 0x00000000#32 = 0 := by
  simp [Ideal.ofBits, Ideal.ieee]

/-- The decay's running sum at an index. -/
theorem sum_at (n : Fin 128) (h : Fin 4) (i : Fin 128) (q : Fin 512) (hq : q.val = h.val * 128 + i.val) :
    val_main_v4 (F := Ideal) G (ix4 n 0 h i) = G (ix2 n q) := by
  unfold val_main_v4
  rw [window_one]
  have e : (val_main_call0_call0_v0 (F := Ideal) (Shape.Idx.first h_S_) : EReal) = 0 := lit_0
  rw [e, zero_add]
  pointwise [val_main_v3]
  blk_point []

/-- The precondition's word at an entry says that the decay's entry is finite. -/
theorem gate_read (q k : FVec Ideal S128x512 .f32) (v : FVec Ideal S128x1024 .f32) (r : FVec Ideal S128x1024 .f32) (o : FVec Ideal S1x1024 .f32)
    (h : Cert.Pre_finite_gate.fn (F := Ideal) q k v G r o S = fun _ => 1#1) (n : Fin 128) (i : Fin 512) :
    ∃ a : ℝ, G (ix2 n i) = (a : EReal) := by
  have h1 := congrFun h (ix2 n i)
  revert h1
  pointwise [Cert.Pre_finite_gate.fn]
  have hinf : Ideal.ofBits FTy.f32 2139095040#32 = ⊤ := by simp [Ideal.ofBits, Ideal.ieee]
  rw [hinf]
  intro hw
  have key : ∀ x : EReal, FloatOps.absf (F := Ideal) (φ := .f32) x < ⊤ → ∃ a : ℝ, x = (a : EReal) := fun x hx => by
    induction x using EReal.rec with
    | bot => exact absurd hx (by show ¬ max (⊥ : EReal) (-⊥) < ⊤; simp)
    | top => exact absurd hx (by show ¬ max (⊤ : EReal) (-⊤) < ⊤; simp)
    | coe a => exact ⟨a, rfl⟩
  by_cases h1 : FloatOps.absf (F := Ideal) (φ := .f32) (G (ix2 n i)) < (⊤ : EReal)
  · exact key _ h1
  · exact absurd hw (by rw [decide_eq_false h1]; decide)

/-- The reference's state at an index. -/
theorem ref_at (hG : ∀ (n : Fin 128) (i : Fin 512), ∃ a : ℝ, G (ix2 n i) = (a : EReal)) (n : Fin 128) (h : Fin 4) (i : Fin 128) (j : Fin 192)
    (q : Fin 512) (hq : q.val = h.val * 128 + i.val) (p : Fin 1024) (hp : p.val = h.val * 256 + j.val) :
    val_main_v15 (F := Ideal) K V G S (ix4 n h i j) = S (ix4 n h i j) * Ideal.exp (G (ix2 n q)) + K (ix2 n q) * V (ix2 n p) := by
  obtain ⟨a, ha⟩ := hG n q
  have hs := sum_at G n h i q hq
  have hk : val_main_v0 (F := Ideal) K (ix4 n 0 h i) = K (ix2 n q) := by
    pointwise [val_main_v0]
    blk_point []
  have hv : val_main_v2 (F := Ideal) V (ix4 n 0 h j) = V (ix2 n p) := by
    pointwise [val_main_v2, val_main_v1]
    blk_point []
  have hl : val_main_v5 (F := Ideal) G (ix3 n h i) = G (ix2 n q) := by
    rw [← hs]
    pointwise [val_main_v5]
  have he : Ideal.exp (G (ix2 n q) - G (ix2 n q)) = 1 := by
    rw [ha, ← EReal.coe_sub, sub_self, Ideal.exp_coe, Real.exp_zero, EReal.coe_one]
  have e : val_main_v15 (F := Ideal) K V G S (ix4 n h i j) = S (ix4 n h i j) * Ideal.exp (val_main_v5 (F := Ideal) G (ix3 n h i))
      + val_main_v0 (F := Ideal) K (ix4 n 0 h i) * Ideal.exp (val_main_v5 (F := Ideal) G (ix3 n h i) - val_main_v4 (F := Ideal) G (ix4 n 0 h i)) * val_main_v2 (F := Ideal) V (ix4 n 0 h j) := by
    pointwise [val_main_v15, val_main_v14, val_main_v13, val_main_v12, val_main_v11, val_main_v10, val_main_v9, val_main_v8, val_main_v7, val_main_v6]
    rw [Fin.sum_univ_one]
  rw [e, hl, hs, hk, hv, he, mul_one]

end Cert.GlaStepIdeal.Sum

end
-- ==== Proof.GlaStep.Cover.lean ====
/- Hand-written, untrusted: the linear attention's step at the ideal instance. The state the call leaves is the reference's. -/
module

public import proofs.«01_k».proof.Proof.Gen.GlaStepIdeal.Value
public import proofs.«01_k».proof.Proof.GlaStep.Ref

@[expose] public section

set_option maxRecDepth 16384

noncomputable section

open Idealize.ShloMosaic Idealize.ShloMosaic.TcCoe Idealize.SL.Sem
open Idealize.ShloMosaic.Pipeline (Dat)
open scoped BigOperators

namespace Cert.GlaStepIdeal.Sum

open Cert.GlaStepIdeal Cert.GlaStepIdeal.Gen Cert.GlaStepReferenceIdeal.Read

variable (m : (ℓ : Loc nD τ sig) → Buf (Elt Ideal) ℓ)

/-- A sum over lanes that keeps the lane of the row's own number. -/
theorem pick (f : Fin 128 → EReal) (i : Fin 128) :
    ∑ x : Fin 128, Scalar.select (IntOp.cmpi CmpIPredicate.eq (BitVec.ofNat 32 i.val) (BitVec.ofNat 32 x.val)) (f x) 0 = f i := by
  rw [Finset.sum_eq_single i]
  · simp [Scalar.select, IntOp.cmpi]
  · intro x _ hx
    have hne : BitVec.ofNat 32 i.val ≠ BitVec.ofNat 32 x.val := fun e => hx (by
      have e' := congrArg BitVec.toNat e
      simp only [BitVec.toNat_ofNat] at e'
      apply Fin.ext
      omega)
    simp only [Scalar.select, IntOp.cmpi, beq_eq_false_iff_ne.mpr hne]
    rfl
  · intro h
    exact absurd (Finset.mem_univ i) h

/-- What one sample's head leaves at an index. -/
theorem step_at (k g : FVec Ideal S1x128 .f32) (v : FVec Ideal S1x192 .f32) (s : FVec Ideal S1x1x128x192 .f32) (i : Fin 128) (j : Fin 192) :
    k0_pay5 (F := Ideal) k g v s (ix4 0 0 i j) = s (ix4 0 0 i j) * Ideal.exp (g (ix2 0 i)) + k (ix2 0 i) * v (ix2 0 j) := by
  pointwise [k0_pay5, k0_pay4, k0_pay2]
  rw [pick (fun x => Ideal.exp (g (ix2 0 x))) i, pick (fun x => k (ix2 0 x)) i]

/-- The blocks a grid point finds. -/
theorem idx : ∀ t : Fin cfg0.N, win0_1.index t = ![t.val, 0]
    ∧ win0_2.index t = ![t.val, 0]
    ∧ win0_3.index t = ![t.val, 0]
    ∧ win0_6.index t = ![t.val, 0, 0, 0]
    ∧ win0_8.index t = ![t.val, 0, 0, 0] :=
  (by decide +kernel : ∀ t : Fin grid0.N, _)

/-- The value a grid point leaves at an entry of its block. -/
def val (c : Dev nD) (t : Fin cfg0.N) (a : Fin 8) (h : Fin 4) (i : Fin 128) (j : Fin 192) : EReal :=
  (show FVec Ideal S8x4x128x192 .f32 from iblk m c 6 t) (ix4 a h i j) * Ideal.exp ((show FVec Ideal S8x512 .f32 from iblk m c 3 t) (ix2 a ⟨h.val * 128 + i.val, by omega⟩))
    + (show FVec Ideal S8x512 .f32 from iblk m c 1 t) (ix2 a ⟨h.val * 128 + i.val, by omega⟩) * (show FVec Ideal S8x1024 .f32 from iblk m c 2 t) (ix2 a ⟨h.val * 256 + j.val, by omega⟩)

/-- One store's value is the block's at the entry that it covers. -/
theorem tile (c : Dev nD) (t : Fin cfg0.N) (a : Fin 8) (h : Fin 4) (i : Fin 128) (j : Fin 192) (a0 h0 : Nat)
    (h1 : ∀ b, (![a0, h0 * 128] : Fin 2 → Nat) b + (![1, 128] : Fin 2 → Nat) b ≤ S8x512.size b)
    (h2 : ∀ b, (![a0, h0 * 256] : Fin 2 → Nat) b + (![1, 192] : Fin 2 → Nat) b ≤ S8x1024.size b)
    (h3 : ∀ b, (![a0, h0, 0, 0] : Fin 4 → Nat) b + (![1, 1, 128, 192] : Fin 4 → Nat) b ≤ S8x4x128x192.size b)
    (x : S1x1x128x192.Idx) (e0 : a.val = a0 + (x 0).val) (l0 : (x 0).val < 1) (e1 : h.val = h0 + (x 1).val) (l1 : (x 1).val < 1)
    (e2 : i.val = (x 2).val) (e3 : j.val = (x 3).val) :
    k0_pay5 (F := Ideal) (View.ld (show FVec Ideal S8x512 .f32 from iblk m c 1 t) (Rect.unit (s := S8x512) ![a0, h0 * 128] ![1, 128] h1))
      (View.ld (show FVec Ideal S8x512 .f32 from iblk m c 3 t) (Rect.unit (s := S8x512) ![a0, h0 * 128] ![1, 128] h1))
      (View.ld (show FVec Ideal S8x1024 .f32 from iblk m c 2 t) (Rect.unit (s := S8x1024) ![a0, h0 * 256] ![1, 192] h2))
      (View.ld (show FVec Ideal S8x4x128x192 .f32 from iblk m c 6 t) (Rect.unit (s := S8x4x128x192) ![a0, h0, 0, 0] ![1, 1, 128, 192] h3)) x = val m c t a h i j := by
  obtain rfl : x = ix4 0 0 i j := by
    funext b
    apply Fin.ext
    fin_cases b
    · show (x 0).val = 0
      omega
    · show (x 1).val = 0
      omega
    · exact e2.symm
    · exact e3.symm
  have e0' : a.val = a0 := e0
  have e1' : h.val = h0 := e1
  refine (step_at _ _ _ _ i j).trans ?_
  unfold val
  refine congrArg₂ (fun a b : EReal => a + b) (congrArg₂ (fun a b : EReal => a * b) ?_ (congrArg Ideal.exp ?_)) (congrArg₂ (fun a b : EReal => a * b) ?_ ?_)
  · refine View.ld_unit_apply_of _ _ _ _ _ _ fun b => ?_
    fin_cases b
    · exact e0
    · exact e1
    · exact (Nat.zero_add _).symm
    · exact (Nat.zero_add _).symm
  · refine View.ld_unit_apply_of _ _ _ _ _ _ fun b => ?_
    fin_cases b
    · exact e0
    · show h.val * 128 + i.val = h0 * 128 + i.val
      omega
  · refine View.ld_unit_apply_of _ _ _ _ _ _ fun b => ?_
    fin_cases b
    · exact e0
    · show h.val * 128 + i.val = h0 * 128 + i.val
      omega
  · refine View.ld_unit_apply_of _ _ _ _ _ _ fun b => ?_
    fin_cases b
    · exact e0
    · show h.val * 256 + j.val = h0 * 256 + j.val
      omega

/-- The block that a grid point leaves: 32 stores, one for each sample and head. -/
theorem point (c : Dev nD) (t : Fin cfg0.N) (a : Fin 8) (h : Fin 4) (i : Fin 128) (j : Fin 192) :
    (dats m 0 c).after 8 t (ix4 a h i j) = val m c t a h i j := by
  rw [after0_8]
  unfold outsAt0
  frame_out
  canon_tiles x hx
  · exact tile m c t a h i j 7 3 (by decide) (by decide) (by decide) x hx0 x0_lt hx1 x1_lt hx2 hx3
  · exact tile m c t a h i j 7 2 (by decide) (by decide) (by decide) x hx0 x0_lt hx1 x1_lt hx2 hx3
  · exact tile m c t a h i j 7 1 (by decide) (by decide) (by decide) x hx0 x0_lt hx1 x1_lt hx2 hx3
  · exact tile m c t a h i j 7 0 (by decide) (by decide) (by decide) x hx0 x0_lt (hx1.trans (Nat.zero_add _).symm) x1_lt hx2 hx3
  · exact tile m c t a h i j 6 3 (by decide) (by decide) (by decide) x hx0 x0_lt hx1 x1_lt hx2 hx3
  · exact tile m c t a h i j 6 2 (by decide) (by decide) (by decide) x hx0 x0_lt hx1 x1_lt hx2 hx3
  · exact tile m c t a h i j 6 1 (by decide) (by decide) (by decide) x hx0 x0_lt hx1 x1_lt hx2 hx3
  · exact tile m c t a h i j 6 0 (by decide) (by decide) (by decide) x hx0 x0_lt (hx1.trans (Nat.zero_add _).symm) x1_lt hx2 hx3
  · exact tile m c t a h i j 5 3 (by decide) (by decide) (by decide) x hx0 x0_lt hx1 x1_lt hx2 hx3
  · exact tile m c t a h i j 5 2 (by decide) (by decide) (by decide) x hx0 x0_lt hx1 x1_lt hx2 hx3
  · exact tile m c t a h i j 5 1 (by decide) (by decide) (by decide) x hx0 x0_lt hx1 x1_lt hx2 hx3
  · exact tile m c t a h i j 5 0 (by decide) (by decide) (by decide) x hx0 x0_lt (hx1.trans (Nat.zero_add _).symm) x1_lt hx2 hx3
  · exact tile m c t a h i j 4 3 (by decide) (by decide) (by decide) x hx0 x0_lt hx1 x1_lt hx2 hx3
  · exact tile m c t a h i j 4 2 (by decide) (by decide) (by decide) x hx0 x0_lt hx1 x1_lt hx2 hx3
  · exact tile m c t a h i j 4 1 (by decide) (by decide) (by decide) x hx0 x0_lt hx1 x1_lt hx2 hx3
  · exact tile m c t a h i j 4 0 (by decide) (by decide) (by decide) x hx0 x0_lt (hx1.trans (Nat.zero_add _).symm) x1_lt hx2 hx3
  · exact tile m c t a h i j 3 3 (by decide) (by decide) (by decide) x hx0 x0_lt hx1 x1_lt hx2 hx3
  · exact tile m c t a h i j 3 2 (by decide) (by decide) (by decide) x hx0 x0_lt hx1 x1_lt hx2 hx3
  · exact tile m c t a h i j 3 1 (by decide) (by decide) (by decide) x hx0 x0_lt hx1 x1_lt hx2 hx3
  · exact tile m c t a h i j 3 0 (by decide) (by decide) (by decide) x hx0 x0_lt (hx1.trans (Nat.zero_add _).symm) x1_lt hx2 hx3
  · exact tile m c t a h i j 2 3 (by decide) (by decide) (by decide) x hx0 x0_lt hx1 x1_lt hx2 hx3
  · exact tile m c t a h i j 2 2 (by decide) (by decide) (by decide) x hx0 x0_lt hx1 x1_lt hx2 hx3
  · exact tile m c t a h i j 2 1 (by decide) (by decide) (by decide) x hx0 x0_lt hx1 x1_lt hx2 hx3
  · exact tile m c t a h i j 2 0 (by decide) (by decide) (by decide) x hx0 x0_lt (hx1.trans (Nat.zero_add _).symm) x1_lt hx2 hx3
  · exact tile m c t a h i j 1 3 (by decide) (by decide) (by decide) x hx0 x0_lt hx1 x1_lt hx2 hx3
  · exact tile m c t a h i j 1 2 (by decide) (by decide) (by decide) x hx0 x0_lt hx1 x1_lt hx2 hx3
  · exact tile m c t a h i j 1 1 (by decide) (by decide) (by decide) x hx0 x0_lt hx1 x1_lt hx2 hx3
  · exact tile m c t a h i j 1 0 (by decide) (by decide) (by decide) x hx0 x0_lt (hx1.trans (Nat.zero_add _).symm) x1_lt hx2 hx3
  · exact tile m c t a h i j 0 3 (by decide) (by decide) (by decide) x (hx0.trans (Nat.zero_add _).symm) x0_lt hx1 x1_lt hx2 hx3
  · exact tile m c t a h i j 0 2 (by decide) (by decide) (by decide) x (hx0.trans (Nat.zero_add _).symm) x0_lt hx1 x1_lt hx2 hx3
  · exact tile m c t a h i j 0 1 (by decide) (by decide) (by decide) x (hx0.trans (Nat.zero_add _).symm) x0_lt hx1 x1_lt hx2 hx3
  · exact tile m c t a h i j 0 0 (by decide) (by decide) (by decide) x (hx0.trans (Nat.zero_add _).symm) x0_lt (hx1.trans (Nat.zero_add _).symm) x1_lt hx2 hx3

/-- The value is the reference's. -/
theorem val_eq (c : Dev nD) (hG : ∀ (n : Fin 128) (i : Fin 512), ∃ a : ℝ, (m ((c : Thread nD τ).loc main_arg3) : FVec Ideal S128x512 .f32) (ix2 n i) = (a : EReal))
    (t : Fin cfg0.N) (a : Fin 8) (h : Fin 4) (i : Fin 128) (j : Fin 192) (n : Fin 128) (hn : n.val = t.val * 8 + a.val) :
    val m c t a h i j = val_main_v15 (F := Ideal) (m ((c : Thread nD τ).loc main_arg1)) (m ((c : Thread nD τ).loc main_arg2)) (m ((c : Thread nD τ).loc main_arg3)) (m ((c : Thread nD τ).loc main_arg6)) (ix4 n h i j) := by
  refine Eq.trans ?_ (ref_at _ _ _ _ hG n h i j ⟨h.val * 128 + i.val, by omega⟩ rfl ⟨h.val * 256 + j.val, by omega⟩ rfl).symm
  unfold val
  refine congrArg₂ (fun a b : EReal => a + b) (congrArg₂ (fun a b : EReal => a * b) ?_ (congrArg Ideal.exp ?_)) (congrArg₂ (fun a b : EReal => a * b) ?_ ?_)
  all_goals blk_point [iblk, V, idx t]

/-- The state after the run. -/
theorem final (c : Dev nD) (hG : ∀ (n : Fin 128) (i : Fin 512), ∃ a : ℝ, (m ((c : Thread nD τ).loc main_arg3) : FVec Ideal S128x512 .f32) (ix2 n i) = (a : EReal)) :
    (dats m 0 c).arrAt 8 (cfgs 0).N = val_main_v15 (F := Ideal) (m ((c : Thread nD τ).loc main_arg1)) (m ((c : Thread nD τ).loc main_arg2)) (m ((c : Thread nD τ).loc main_arg3)) (m ((c : Thread nD τ).loc main_arg6)) := by
  refine (dats m 0 c).arrAt_eq_of_covers 8 _ (by decide +kernel) fun t hf y => ?_
  have ht : t.val < 16 := lt_of_lt_of_eq t.isLt N_0
  obtain ⟨a, h, i, j, rfl⟩ : ∃ (a : Fin 8) (h : Fin 4) (i : Fin 128) (j : Fin 192), y = ix4 a h i j := ⟨y 0, y 1, y 2, y 3, by blk_ext⟩
  have he : (((cfg0.win 8).blk t).view.emb (ix4 a h i j) : S128x4x128x192.Idx) = ix4 (⟨t.val * 8 + a.val, by omega⟩ : Fin 128) h i j := by
    blk_ext [idx t]
  refine (point m c t a h i j).trans ?_
  refine Eq.trans ?_ (congrArg (val_main_v15 (F := Ideal) (m ((c : Thread nD τ).loc main_arg1)) (m ((c : Thread nD τ).loc main_arg2)) (m ((c : Thread nD τ).loc main_arg3)) (m ((c : Thread nD τ).loc main_arg6))) he).symm
  exact val_eq m c hG t a h i j _ rfl

end Cert.GlaStepIdeal.Sum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_qk
public import proofs.«01_k».proof.Proof.Mla.Cover
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.MemKvReferenceIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.MemAttn
public import proofs.«01_k».proof.Proof.Gen.MemAttn.Frame
public import proofs.«01_k».proof.Proof.Gen.MemAttnIdeal
public import proofs.«01_k».proof.Proof.Gen.MemAttnIdeal.Frame
public import proofs.«01_k».proof.Proof.Gen.MemAttnIdeal.Value
public import proofs.«01_k».proof.Proof.Gen.MemAttnReferenceIdeal
public import proofs.«01_k».proof.Proof.Gen.MemAttnReferenceIdeal.Run
public import proofs.«01_k».proof.Proof.Gen.MemAttnReferenceIdeal.Read
public import proofs.«01_k».proof.Proof.Gen.OddProj
public import proofs.«01_k».proof.Proof.Gen.OddProj.Frame
public import proofs.«01_k».proof.Proof.Gen.OddProjIdeal
public import proofs.«01_k».proof.Proof.Gen.OddProjIdeal.Frame
public import proofs.«01_k».proof.Proof.Gen.OddProjIdeal.Value
public import proofs.«01_k».proof.Proof.Gen.OddProjReferenceIdeal
public import proofs.«01_k».proof.Proof.Gen.OddProjReferenceIdeal.Run
public import proofs.«01_k».proof.Proof.Gen.OddProjReferenceIdeal.Read
public import proofs.«01_k».proof.Proof.Gen.EvenProj.Launch
public import proofs.«01_k».proof.Proof.Gen.EvenProjIdeal
public import proofs.«01_k».proof.Proof.Gen.EvenProjReferenceIdeal
public import proofs.«01_k».proof.Proof.Gen.EvenProjReferenceIdeal.Run
public import proofs.«01_k».proof.Proof.Gen.EvenProjReferenceIdeal.Read
public import proofs.«01_k».proof.Proof.Gen.SampleFfn
public import proofs.«01_k».proof.Proof.Gen.SampleFfn.Frame
public import proofs.«01_k».proof.Proof.Gen.SampleFfnIdeal
public import proofs.«01_k».proof.Proof.Gen.SampleFfnIdeal.Frame
public import proofs.«01_k».proof.Proof.Gen.SampleFfnIdeal.Value
public import proofs.«01_k».proof.Proof.Gen.SampleFfnReferenceIdeal
public import proofs.«01_k».proof.Proof.Gen.SampleFfnReferenceIdeal.Run
public import proofs.«01_k».proof.Proof.Gen.SampleFfnReferenceIdeal.Read
public import proofs.«01_k».proof.Proof.Gen.SampleOdd
public import proofs.«01_k».proof.Proof.Gen.SampleOdd.Frame
public import proofs.«01_k».proof.Proof.Gen.SampleOddIdeal
public import proofs.«01_k».proof.Proof.Gen.SampleOddIdeal.Frame
public import proofs.«01_k».proof.Proof.Gen.SampleOddIdeal.Value
public import proofs.«01_k».proof.Proof.Gen.SampleOddReferenceIdeal
public import proofs.«01_k».proof.Proof.Gen.SampleOddReferenceIdeal.Run
public import proofs.«01_k».proof.Proof.Gen.SampleOddReferenceIdeal.Read
public import proofs.«01_k».proof.Proof.Gen.GlaStep
public import proofs.«01_k».proof.Proof.Gen.GlaStep.Frame
public import proofs.«01_k».proof.Proof.Gen.GlaStepIdeal
public import proofs.«01_k».proof.Proof.Gen.GlaStepIdeal.Frame
public import proofs.«01_k».proof.Proof.Gen.GlaStepIdeal.Value
public import proofs.«01_k».proof.Proof.Gen.GlaStepReferenceIdeal
public import proofs.«01_k».proof.Proof.Gen.GlaStepReferenceIdeal.Run
public import proofs.«01_k».proof.Proof.Gen.GlaStepReferenceIdeal.Read
public import proofs.«01_k».proof.Proof.Ffn.Cover
public import proofs.«01_k».proof.Proof.MemKv.Cover
public import proofs.«01_k».proof.Proof.Mix.Cover
public import proofs.«01_k».proof.Proof.MemAttn.Cover
public import proofs.«01_k».proof.Proof.OddProj.Cover
public import proofs.«01_k».proof.Proof.EvenProj.Cover
public import proofs.«01_k».proof.Proof.SampleFfn.Cover
public import proofs.«01_k».proof.Proof.SampleOdd.Cover
public import proofs.«01_k».proof.Proof.GlaStep.Cover
public import proofs.«01_k».proof.Proof.Gen.Pre_finite_gate
public import proofs.«01_k».proof.Proof.EvenProj.LaunchBits
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Kernel

/-- The attention program and its ideal program have the same kernel … -/
theorem bodies_eq : Cert.Kernel.defs₀ (F := Bits) = Cert.KernelIdeal.defs₀ (F := Bits) := by
  unfold Cert.Kernel.defs₀ Cert.KernelIdeal.defs₀
  refine congrArg Defs.onTc (funext fun l => funext fun s => ?_)
  match l, s with
  | ⟨0, _⟩, (t, s) => rfl

/-- … and so the same body table. -/
theorem defs_eq : Cert.Kernel.defs (F := Bits) = Cert.KernelIdeal.defs (F := Bits) := congrArg (Pipeline.defs _) bodies_eq

/-- The attention kernel runs and leaves its arguments and counters as they were: the run of its ideal program,
    which is written over any floats. -/
theorem frame_kernel : Cert.quiescent_Kernel := fun m ρ _ => by
  rw [defs_eq]
  exact (θ_run Cert.KernelIdeal.defs _ _).mono (fun _ h => h) (Mla.frame (F := Bits) m ρ)

/-- The reference's frame, its counters among it. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- The attention claim: one value that both programs end with. -/
theorem attention : Cert.algebraic_KernelIdeal_ReferenceIdeal_pre_finite_qk := by
  intro m g m' g' hpre hargs
  refine ⟨_, Mla.run_value m g hpre, (θ_run _ _ _).mono (fun _ h c => ⟨(h c).1.trans ?_, (h c).2⟩) (Cert.ReferenceIdeal.Value.run m' g')⟩
  rw [Cert.ReferenceIdeal.Read.val_main_v37_eq, (hargs c).1, (hargs c).2.1, (hargs c).2.2]

/-- The feed-forward reference's frame. -/
theorem ffn_reference (m : (ℓ : Loc Cert.FfnReferenceIdeal.nD Cert.FfnReferenceIdeal.τ Cert.FfnReferenceIdeal.sig) → Buf (Elt Ideal) ℓ) (g : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0) :=
  (θ_run Cert.FfnReferenceIdeal.defs _ _).mono (fun r h => ⟨fun c => (h c).2, sem_eq_zero_of_no_sems (by decide) r.2⟩)
    (Cert.FfnReferenceIdeal.Value.run m g)

/-- The feed-forward claim. -/
theorem ffn : Cert.algebraic_FfnIdeal_FfnReferenceIdeal := by
  intro m g m' g' _ hargs
  refine ⟨_, (θ_run _ _ _).mono (fun _ h c => ⟨(h c).1.trans (Cert.FfnIdeal.Sum.final m c), (h c).2⟩) (Cert.FfnIdeal.Value.run_blocks m g),
    (θ_run _ _ _).mono (fun _ h c => ⟨(h c).1.trans ?_, (h c).2⟩) (Cert.FfnReferenceIdeal.Value.run m' g')⟩
  rw [Cert.FfnReferenceIdeal.Read.val_main_v18_eq, (hargs c).1, (hargs c).2.1, (hargs c).2.2.1, (hargs c).2.2.2]

/-- The frame of the reference of the memory's keys and values. -/
theorem memKv_reference (m : (ℓ : Loc Cert.MemKvReferenceIdeal.nD Cert.MemKvReferenceIdeal.τ Cert.MemKvReferenceIdeal.sig) → Buf (Elt Ideal) ℓ) (g : Dev Cert.MemKvReferenceIdeal.nD → PrngReg) :
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2)
      ∧ r.2.mem ((c.tc : Thread Cert.MemKvReferenceIdeal.nD Cert.MemKvReferenceIdeal.τ).loc Cert.MemKvReferenceIdeal.main_arg3) = m ((c.tc : Thread Cert.MemKvReferenceIdeal.nD Cert.MemKvReferenceIdeal.τ).loc Cert.MemKvReferenceIdeal.main_arg3)
      ∧ r.2.mem ((c.tc : Thread Cert.MemKvReferenceIdeal.nD Cert.MemKvReferenceIdeal.τ).loc Cert.MemKvReferenceIdeal.main_arg4) = m ((c.tc : Thread Cert.MemKvReferenceIdeal.nD Cert.MemKvReferenceIdeal.τ).loc Cert.MemKvReferenceIdeal.main_arg4))
      ∧ r.2.sem = fun _ => 0) :=
  (θ_run Cert.MemKvReferenceIdeal.defs _ _).mono (fun r h => ⟨fun c => (h c).2.2, sem_eq_zero_of_no_sems (by decide) r.2⟩)
    (Cert.MemKvReferenceIdeal.Value.run m g)

/-- The claim of the memory's keys and values. -/
theorem memKv : Cert.algebraic_MemKvIdeal_MemKvReferenceIdeal := by
  intro m g m' g' _ hargs
  refine ⟨_, _, (θ_run _ _ _).mono (fun _ h c => ⟨(h c).1.trans (Cert.MemKvIdeal.Sum.keys m c), (h c).2.1.trans (Cert.MemKvIdeal.Sum.values m c), (h c).2.2⟩) (Cert.MemKvIdeal.Value.run_blocks m g),
    (θ_run _ _ _).mono (fun _ h c => ⟨(h c).1.trans ?_, (h c).2.1.trans ?_, (h c).2.2⟩) (Cert.MemKvReferenceIdeal.Value.run m' g')⟩
  · rw [Cert.MemKvReferenceIdeal.Read.val_main_v28_eq, (hargs c).1, (hargs c).2.1, (hargs c).2.2.1, (hargs c).2.2.2.2]
  · rw [Cert.MemKvReferenceIdeal.Read.val_main_v29_eq, (hargs c).1, (hargs c).2.1, (hargs c).2.2.2.1]

/-- The output projection's reference's frame. -/
theorem mix_reference (m : (ℓ : Loc Cert.MixReferenceIdeal.nD Cert.MixReferenceIdeal.τ Cert.MixReferenceIdeal.sig) → Buf (Elt Ideal) ℓ) (g : Dev Cert.MixReferenceIdeal.nD → PrngReg) :
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3))
      ∧ r.2.sem = fun _ => 0) :=
  (θ_run Cert.MixReferenceIdeal.defs _ _).mono (fun r h => ⟨fun c => (h c).2, sem_eq_zero_of_no_sems (by decide) r.2⟩)
    (Cert.MixReferenceIdeal.Value.run m g)

/-- The output projection's claim. -/
theorem mix : Cert.algebraic_MixIdeal_MixReferenceIdeal := by
  intro m g m' g' _ hargs
  refine ⟨_, (θ_run _ _ _).mono (fun _ h c => ⟨(h c).1.trans (Cert.MixIdeal.Sum.final m c), (h c).2⟩) (Cert.MixIdeal.Value.run_blocks m g),
    (θ_run _ _ _).mono (fun _ h c => ⟨(h c).1.trans ?_, (h c).2⟩) (Cert.MixReferenceIdeal.Value.run m' g')⟩
  rw [Cert.MixReferenceIdeal.Read.val_main_v2_eq, (hargs c).1, (hargs c).2.1, (hargs c).2.2.1, (hargs c).2.2.2]

/-- The frame of the reference of the attention over the memory. -/
theorem memAttn_reference (m : (ℓ : Loc Cert.MemAttnReferenceIdeal.nD Cert.MemAttnReferenceIdeal.τ Cert.MemAttnReferenceIdeal.sig) → Buf (Elt Ideal) ℓ) (g : Dev Cert.MemAttnReferenceIdeal.nD → PrngReg) :
    θ_run (Cert.MemAttnReferenceIdeal.defs (F := Ideal)) (onTc (τ := Cert.MemAttnReferenceIdeal.τ) (Cert.MemAttnReferenceIdeal.main (F := Ideal))) ⟨m, fun _ => 0, g⟩ (fun r => (∀ c : Dev Cert.MemAttnReferenceIdeal.nD,
      r.2.mem ((c.tc : Thread Cert.MemAttnReferenceIdeal.nD Cert.MemAttnReferenceIdeal.τ).loc Cert.MemAttnReferenceIdeal.main_arg0) = m ((c.tc : Thread Cert.MemAttnReferenceIdeal.nD Cert.MemAttnReferenceIdeal.τ).loc Cert.MemAttnReferenceIdeal.main_arg0)
      ∧ r.2.mem ((c.tc : Thread Cert.MemAttnReferenceIdeal.nD Cert.MemAttnReferenceIdeal.τ).loc Cert.MemAttnReferenceIdeal.main_arg1) = m ((c.tc : Thread Cert.MemAttnReferenceIdeal.nD Cert.MemAttnReferenceIdeal.τ).loc Cert.MemAttnReferenceIdeal.main_arg1)
      ∧ r.2.mem ((c.tc : Thread Cert.MemAttnReferenceIdeal.nD Cert.MemAttnReferenceIdeal.τ).loc Cert.MemAttnReferenceIdeal.main_arg2) = m ((c.tc : Thread Cert.MemAttnReferenceIdeal.nD Cert.MemAttnReferenceIdeal.τ).loc Cert.MemAttnReferenceIdeal.main_arg2)
      ∧ r.2.mem ((c.tc : Thread Cert.MemAttnReferenceIdeal.nD Cert.MemAttnReferenceIdeal.τ).loc Cert.MemAttnReferenceIdeal.main_arg3) = m ((c.tc : Thread Cert.MemAttnReferenceIdeal.nD Cert.MemAttnReferenceIdeal.τ).loc Cert.MemAttnReferenceIdeal.main_arg3)
      ∧ r.2.mem ((c.tc : Thread Cert.MemAttnReferenceIdeal.nD Cert.MemAttnReferenceIdeal.τ).loc Cert.MemAttnReferenceIdeal.main_arg4) = m ((c.tc : Thread Cert.MemAttnReferenceIdeal.nD Cert.MemAttnReferenceIdeal.τ).loc Cert.MemAttnReferenceIdeal.main_arg4)
      ∧ r.2.mem ((c.tc : Thread Cert.MemAttnReferenceIdeal.nD Cert.MemAttnReferenceIdeal.τ).loc Cert.MemAttnReferenceIdeal.main_arg5) = m ((c.tc : Thread Cert.MemAttnReferenceIdeal.nD Cert.MemAttnReferenceIdeal.τ).loc Cert.MemAttnReferenceIdeal.main_arg5)
      ∧ r.2.mem ((c.tc : Thread Cert.MemAttnReferenceIdeal.nD Cert.MemAttnReferenceIdeal.τ).loc Cert.MemAttnReferenceIdeal.main_arg6) = m ((c.tc : Thread Cert.MemAttnReferenceIdeal.nD Cert.MemAttnReferenceIdeal.τ).loc Cert.MemAttnReferenceIdeal.main_arg6))
      ∧ r.2.sem = fun _ => 0) :=
  (θ_run Cert.MemAttnReferenceIdeal.defs _ _).mono (fun r h => ⟨fun c => (h c).2, sem_eq_zero_of_no_sems (by decide) r.2⟩)
    (Cert.MemAttnReferenceIdeal.Value.run m g)

/-- The claim of the attention over the memory. -/
theorem memAttn : Cert.algebraic_MemAttnIdeal_MemAttnReferenceIdeal := by
  intro m g m' g' _ hargs
  refine ⟨_, (θ_run _ _ _).mono (fun _ h c => ⟨(h c).1.trans (Cert.MemAttnIdeal.Sum.final m c), (h c).2⟩) (Cert.MemAttnIdeal.Value.run_blocks m g),
    (θ_run _ _ _).mono (fun _ h c => ⟨(h c).1.trans ?_, (h c).2⟩) (Cert.MemAttnReferenceIdeal.Value.run m' g')⟩
  · rw [Cert.MemAttnReferenceIdeal.Read.val_main_v47_eq, (hargs c).1, (hargs c).2.1, (hargs c).2.2.1, (hargs c).2.2.2.1, (hargs c).2.2.2.2.1, (hargs c).2.2.2.2.2.1, (hargs c).2.2.2.2.2.2]

/-- The frame of the reference of the linear attention's projections. -/
theorem oddProj_reference (m : (ℓ : Loc Cert.OddProjReferenceIdeal.nD Cert.OddProjReferenceIdeal.τ Cert.OddProjReferenceIdeal.sig) → Buf (Elt Ideal) ℓ) (g : Dev Cert.OddProjReferenceIdeal.nD → PrngReg) :
    θ_run (Cert.OddProjReferenceIdeal.defs (F := Ideal)) (onTc (τ := Cert.OddProjReferenceIdeal.τ) (Cert.OddProjReferenceIdeal.main (F := Ideal))) ⟨m, fun _ => 0, g⟩ (fun r => (∀ c : Dev Cert.OddProjReferenceIdeal.nD,
      r.2.mem ((c.tc : Thread Cert.OddProjReferenceIdeal.nD Cert.OddProjReferenceIdeal.τ).loc Cert.OddProjReferenceIdeal.main_arg0) = m ((c.tc : Thread Cert.OddProjReferenceIdeal.nD Cert.OddProjReferenceIdeal.τ).loc Cert.OddProjReferenceIdeal.main_arg0)
      ∧ r.2.mem ((c.tc : Thread Cert.OddProjReferenceIdeal.nD Cert.OddProjReferenceIdeal.τ).loc Cert.OddProjReferenceIdeal.main_arg1) = m ((c.tc : Thread Cert.OddProjReferenceIdeal.nD Cert.OddProjReferenceIdeal.τ).loc Cert.OddProjReferenceIdeal.main_arg1)
      ∧ r.2.mem ((c.tc : Thread Cert.OddProjReferenceIdeal.nD Cert.OddProjReferenceIdeal.τ).loc Cert.OddProjReferenceIdeal.main_arg2) = m ((c.tc : Thread Cert.OddProjReferenceIdeal.nD Cert.OddProjReferenceIdeal.τ).loc Cert.OddProjReferenceIdeal.main_arg2)
      ∧ r.2.mem ((c.tc : Thread Cert.OddProjReferenceIdeal.nD Cert.OddProjReferenceIdeal.τ).loc Cert.OddProjReferenceIdeal.main_arg3) = m ((c.tc : Thread Cert.OddProjReferenceIdeal.nD Cert.OddProjReferenceIdeal.τ).loc Cert.OddProjReferenceIdeal.main_arg3)
      ∧ r.2.mem ((c.tc : Thread Cert.OddProjReferenceIdeal.nD Cert.OddProjReferenceIdeal.τ).loc Cert.OddProjReferenceIdeal.main_arg4) = m ((c.tc : Thread Cert.OddProjReferenceIdeal.nD Cert.OddProjReferenceIdeal.τ).loc Cert.OddProjReferenceIdeal.main_arg4))
      ∧ r.2.sem = fun _ => 0) :=
  (θ_run Cert.OddProjReferenceIdeal.defs _ _).mono (fun r h => ⟨fun c => (h c).2.2.2.2.2.2, sem_eq_zero_of_no_sems (by decide) r.2⟩)
    (Cert.OddProjReferenceIdeal.Value.run m g)

/-- The claim of the linear attention's projections. -/
theorem oddProj : Cert.algebraic_OddProjIdeal_OddProjReferenceIdeal := by
  intro m g m' g' _ hargs
  refine ⟨_, _, _, _, _, _, (θ_run _ _ _).mono (fun _ h c => ⟨(h c).1.trans (Cert.OddProjIdeal.Sum.final_q m c), (h c).2.1.trans (Cert.OddProjIdeal.Sum.final_k m c), (h c).2.2.1.trans (Cert.OddProjIdeal.Sum.final_v m c), (h c).2.2.2.1.trans (Cert.OddProjIdeal.Sum.final_r m c), (h c).2.2.2.2.1.trans (Cert.OddProjIdeal.Sum.final_u m c), (h c).2.2.2.2.2.1.trans (Cert.OddProjIdeal.Sum.final_gate m c), (h c).2.2.2.2.2.2⟩) (Cert.OddProjIdeal.Value.run_blocks m g),
    (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.OddProjReferenceIdeal.Value.run m' g')⟩
  · rw [Cert.OddProjReferenceIdeal.Read.val_main_v30_eq, (hargs c).1, (hargs c).2.1, (hargs c).2.2.1]
  · rw [Cert.OddProjReferenceIdeal.Read.val_main_v31_eq, (hargs c).1, (hargs c).2.1, (hargs c).2.2.1]
  · rw [Cert.OddProjReferenceIdeal.Read.val_main_v34_eq, (hargs c).1, (hargs c).2.1, (hargs c).2.2.1]
  · rw [Cert.OddProjReferenceIdeal.Read.val_main_v37_eq, (hargs c).1, (hargs c).2.1, (hargs c).2.2.1]
  · rw [Cert.OddProjReferenceIdeal.Read.val_main_v38_eq, (hargs c).1, (hargs c).2.1, (hargs c).2.2.1]
  · rw [Cert.OddProjReferenceIdeal.Read.val_main_v39_eq, (hargs c).1, (hargs c).2.1, (hargs c).2.2.1, (hargs c).2.2.2.1, (hargs c).2.2.2.2]

/-- The frame of the block attention layer's projection program. -/
theorem evenProj_kernel : Cert.quiescent_EvenProj := fun m ρ _ => Cert.EvenProj.Gen.frame m ρ

/-- The frame of the reference of the block attention layer's projections. -/
theorem evenProj_reference (m : (ℓ : Loc Cert.EvenProjReferenceIdeal.nD Cert.EvenProjReferenceIdeal.τ Cert.EvenProjReferenceIdeal.sig) → Buf (Elt Ideal) ℓ) (g : Dev Cert.EvenProjReferenceIdeal.nD → PrngReg) :
    θ_run (Cert.EvenProjReferenceIdeal.defs (F := Ideal)) (onTc (τ := Cert.EvenProjReferenceIdeal.τ) (Cert.EvenProjReferenceIdeal.main (F := Ideal))) ⟨m, fun _ => 0, g⟩ (fun r => (∀ c : Dev Cert.EvenProjReferenceIdeal.nD,
      r.2.mem ((c.tc : Thread Cert.EvenProjReferenceIdeal.nD Cert.EvenProjReferenceIdeal.τ).loc Cert.EvenProjReferenceIdeal.main_arg0) = m ((c.tc : Thread Cert.EvenProjReferenceIdeal.nD Cert.EvenProjReferenceIdeal.τ).loc Cert.EvenProjReferenceIdeal.main_arg0)
      ∧ r.2.mem ((c.tc : Thread Cert.EvenProjReferenceIdeal.nD Cert.EvenProjReferenceIdeal.τ).loc Cert.EvenProjReferenceIdeal.main_arg1) = m ((c.tc : Thread Cert.EvenProjReferenceIdeal.nD Cert.EvenProjReferenceIdeal.τ).loc Cert.EvenProjReferenceIdeal.main_arg1)
      ∧ r.2.mem ((c.tc : Thread Cert.EvenProjReferenceIdeal.nD Cert.EvenProjReferenceIdeal.τ).loc Cert.EvenProjReferenceIdeal.main_arg2) = m ((c.tc : Thread Cert.EvenProjReferenceIdeal.nD Cert.EvenProjReferenceIdeal.τ).loc Cert.EvenProjReferenceIdeal.main_arg2)
      ∧ r.2.mem ((c.tc : Thread Cert.EvenProjReferenceIdeal.nD Cert.EvenProjReferenceIdeal.τ).loc Cert.EvenProjReferenceIdeal.main_arg3) = m ((c.tc : Thread Cert.EvenProjReferenceIdeal.nD Cert.EvenProjReferenceIdeal.τ).loc Cert.EvenProjReferenceIdeal.main_arg3)
      ∧ r.2.mem ((c.tc : Thread Cert.EvenProjReferenceIdeal.nD Cert.EvenProjReferenceIdeal.τ).loc Cert.EvenProjReferenceIdeal.main_arg4) = m ((c.tc : Thread Cert.EvenProjReferenceIdeal.nD Cert.EvenProjReferenceIdeal.τ).loc Cert.EvenProjReferenceIdeal.main_arg4)
      ∧ r.2.mem ((c.tc : Thread Cert.EvenProjReferenceIdeal.nD Cert.EvenProjReferenceIdeal.τ).loc Cert.EvenProjReferenceIdeal.main_arg5) = m ((c.tc : Thread Cert.EvenProjReferenceIdeal.nD Cert.EvenProjReferenceIdeal.τ).loc Cert.EvenProjReferenceIdeal.main_arg5)
      ∧ r.2.mem ((c.tc : Thread Cert.EvenProjReferenceIdeal.nD Cert.EvenProjReferenceIdeal.τ).loc Cert.EvenProjReferenceIdeal.main_arg6) = m ((c.tc : Thread Cert.EvenProjReferenceIdeal.nD Cert.EvenProjReferenceIdeal.τ).loc Cert.EvenProjReferenceIdeal.main_arg6)
      ∧ r.2.mem ((c.tc : Thread Cert.EvenProjReferenceIdeal.nD Cert.EvenProjReferenceIdeal.τ).loc Cert.EvenProjReferenceIdeal.main_arg7) = m ((c.tc : Thread Cert.EvenProjReferenceIdeal.nD Cert.EvenProjReferenceIdeal.τ).loc Cert.EvenProjReferenceIdeal.main_arg7)
      ∧ r.2.mem ((c.tc : Thread Cert.EvenProjReferenceIdeal.nD Cert.EvenProjReferenceIdeal.τ).loc Cert.EvenProjReferenceIdeal.main_arg8) = m ((c.tc : Thread Cert.EvenProjReferenceIdeal.nD Cert.EvenProjReferenceIdeal.τ).loc Cert.EvenProjReferenceIdeal.main_arg8)
      ∧ r.2.mem ((c.tc : Thread Cert.EvenProjReferenceIdeal.nD Cert.EvenProjReferenceIdeal.τ).loc Cert.EvenProjReferenceIdeal.main_arg9) = m ((c.tc : Thread Cert.EvenProjReferenceIdeal.nD Cert.EvenProjReferenceIdeal.τ).loc Cert.EvenProjReferenceIdeal.main_arg9)
      ∧ r.2.mem ((c.tc : Thread Cert.EvenProjReferenceIdeal.nD Cert.EvenProjReferenceIdeal.τ).loc Cert.EvenProjReferenceIdeal.main_arg10) = m ((c.tc : Thread Cert.EvenProjReferenceIdeal.nD Cert.EvenProjReferenceIdeal.τ).loc Cert.EvenProjReferenceIdeal.main_arg10)
      ∧ r.2.mem ((c.tc : Thread Cert.EvenProjReferenceIdeal.nD Cert.EvenProjReferenceIdeal.τ).loc Cert.EvenProjReferenceIdeal.main_arg11) = m ((c.tc : Thread Cert.EvenProjReferenceIdeal.nD Cert.EvenProjReferenceIdeal.τ).loc Cert.EvenProjReferenceIdeal.main_arg11)
      ∧ r.2.mem ((c.tc : Thread Cert.EvenProjReferenceIdeal.nD Cert.EvenProjReferenceIdeal.τ).loc Cert.EvenProjReferenceIdeal.main_arg12) = m ((c.tc : Thread Cert.EvenProjReferenceIdeal.nD Cert.EvenProjReferenceIdeal.τ).loc Cert.EvenProjReferenceIdeal.main_arg12)
      ∧ r.2.mem ((c.tc : Thread Cert.EvenProjReferenceIdeal.nD Cert.EvenProjReferenceIdeal.τ).loc Cert.EvenProjReferenceIdeal.main_arg13) = m ((c.tc : Thread Cert.EvenProjReferenceIdeal.nD Cert.EvenProjReferenceIdeal.τ).loc Cert.EvenProjReferenceIdeal.main_arg13)
      ∧ r.2.mem ((c.tc : Thread Cert.EvenProjReferenceIdeal.nD Cert.EvenProjReferenceIdeal.τ).loc Cert.EvenProjReferenceIdeal.main_arg14) = m ((c.tc : Thread Cert.EvenProjReferenceIdeal.nD Cert.EvenProjReferenceIdeal.τ).loc Cert.EvenProjReferenceIdeal.main_arg14)
      ∧ r.2.mem ((c.tc : Thread Cert.EvenProjReferenceIdeal.nD Cert.EvenProjReferenceIdeal.τ).loc Cert.EvenProjReferenceIdeal.main_arg15) = m ((c.tc : Thread Cert.EvenProjReferenceIdeal.nD Cert.EvenProjReferenceIdeal.τ).loc Cert.EvenProjReferenceIdeal.main_arg15))
      ∧ r.2.sem = fun _ => 0) :=
  (θ_run Cert.EvenProjReferenceIdeal.defs _ _).mono (fun r h => ⟨fun c => (h c).2.2.2.2, sem_eq_zero_of_no_sems (by decide) r.2⟩)
    (Cert.EvenProjReferenceIdeal.Value.run m g)

/-- The claim of the block attention layer's projections. -/
theorem evenProj : Cert.algebraic_EvenProjIdeal_EvenProjReferenceIdeal := by
  intro m g m' g' _ hargs
  refine ⟨_, _, _, _, (θ_run _ _ _).mono (fun _ h c => ⟨(h c).1.trans (Cert.EvenProjIdeal.Sum.final_latent m c), (h c).2.1.trans (Cert.EvenProjIdeal.Sum.final_turned m c), (h c).2.2.1.trans (Cert.EvenProjIdeal.Sum.final_value m c), (h c).2.2.2.1.trans (Cert.EvenProjIdeal.Sum.final_block m c), (h c).2.2.2.2⟩) (Cert.EvenProjIdeal.Gen.run_four m g),
    (θ_run _ _ _).mono (fun _ h c => ⟨(h c).1.trans ?_, (h c).2.1.trans ?_, (h c).2.2.1.trans ?_, (h c).2.2.2.1.trans ?_, (h c).2.2.2.2⟩) (Cert.EvenProjReferenceIdeal.Value.run m' g')⟩
  · rw [Cert.EvenProjReferenceIdeal.Read.val_main_v32_eq, (hargs c).1, (hargs c).2.1, (hargs c).2.2.1, (hargs c).2.2.2.2.1]
  · rw [Cert.EvenProjReferenceIdeal.Read.val_main_v33_eq, (hargs c).1, (hargs c).2.1, (hargs c).2.2.1]
  · rw [Cert.EvenProjReferenceIdeal.Read.val_main_v34_eq, (hargs c).1, (hargs c).2.1, (hargs c).2.2.1, (hargs c).2.2.2.2.1, (hargs c).2.2.2.2.2.1]
  · rw [Cert.EvenProjReferenceIdeal.Read.val_main_v35_eq, (hargs c).1, (hargs c).2.1, (hargs c).2.2.1]

/-- The feed-forward reference's frame. -/
theorem sampleFfn_reference (m : (ℓ : Loc Cert.SampleFfnReferenceIdeal.nD Cert.SampleFfnReferenceIdeal.τ Cert.SampleFfnReferenceIdeal.sig) → Buf (Elt Ideal) ℓ) (g : Dev Cert.SampleFfnReferenceIdeal.nD → PrngReg) :
    θ_run (Cert.SampleFfnReferenceIdeal.defs (F := Ideal)) (onTc (τ := Cert.SampleFfnReferenceIdeal.τ) (Cert.SampleFfnReferenceIdeal.main (F := Ideal))) ⟨m, fun _ => 0, g⟩ (fun r => (∀ c : Dev Cert.SampleFfnReferenceIdeal.nD,
      r.2.mem ((c.tc : Thread Cert.SampleFfnReferenceIdeal.nD Cert.SampleFfnReferenceIdeal.τ).loc Cert.SampleFfnReferenceIdeal.main_arg0) = m ((c.tc : Thread Cert.SampleFfnReferenceIdeal.nD Cert.SampleFfnReferenceIdeal.τ).loc Cert.SampleFfnReferenceIdeal.main_arg0)
      ∧ r.2.mem ((c.tc : Thread Cert.SampleFfnReferenceIdeal.nD Cert.SampleFfnReferenceIdeal.τ).loc Cert.SampleFfnReferenceIdeal.main_arg1) = m ((c.tc : Thread Cert.SampleFfnReferenceIdeal.nD Cert.SampleFfnReferenceIdeal.τ).loc Cert.SampleFfnReferenceIdeal.main_arg1)
      ∧ r.2.mem ((c.tc : Thread Cert.SampleFfnReferenceIdeal.nD Cert.SampleFfnReferenceIdeal.τ).loc Cert.SampleFfnReferenceIdeal.main_arg2) = m ((c.tc : Thread Cert.SampleFfnReferenceIdeal.nD Cert.SampleFfnReferenceIdeal.τ).loc Cert.SampleFfnReferenceIdeal.main_arg2)
      ∧ r.2.mem ((c.tc : Thread Cert.SampleFfnReferenceIdeal.nD Cert.SampleFfnReferenceIdeal.τ).loc Cert.SampleFfnReferenceIdeal.main_arg3) = m ((c.tc : Thread Cert.SampleFfnReferenceIdeal.nD Cert.SampleFfnReferenceIdeal.τ).loc Cert.SampleFfnReferenceIdeal.main_arg3))
      ∧ r.2.sem = fun _ => 0) :=
  (θ_run Cert.SampleFfnReferenceIdeal.defs _ _).mono (fun r h => ⟨fun c => (h c).2, sem_eq_zero_of_no_sems (by decide) r.2⟩)
    (Cert.SampleFfnReferenceIdeal.Value.run m g)

/-- The feed-forward claim. -/
theorem sampleFfn : Cert.algebraic_SampleFfnIdeal_SampleFfnReferenceIdeal := by
  intro m g m' g' _ hargs
  refine ⟨_, (θ_run _ _ _).mono (fun _ h c => ⟨(h c).1.trans (Cert.SampleFfnIdeal.Sum.final m c), (h c).2⟩) (Cert.SampleFfnIdeal.Value.run_blocks m g),
    (θ_run _ _ _).mono (fun _ h c => ⟨(h c).1.trans ?_, (h c).2⟩) (Cert.SampleFfnReferenceIdeal.Value.run m' g')⟩
  rw [Cert.SampleFfnReferenceIdeal.Read.val_main_v18_eq, (hargs c).1, (hargs c).2.1, (hargs c).2.2.1, (hargs c).2.2.2]

/-- The frame of the reference of the samples' linear attention's projections. -/
theorem sampleOdd_reference (m : (ℓ : Loc Cert.SampleOddReferenceIdeal.nD Cert.SampleOddReferenceIdeal.τ Cert.SampleOddReferenceIdeal.sig) → Buf (Elt Ideal) ℓ) (g : Dev Cert.SampleOddReferenceIdeal.nD → PrngReg) :
    θ_run (Cert.SampleOddReferenceIdeal.defs (F := Ideal)) (onTc (τ := Cert.SampleOddReferenceIdeal.τ) (Cert.SampleOddReferenceIdeal.main (F := Ideal))) ⟨m, fun _ => 0, g⟩ (fun r => (∀ c : Dev Cert.SampleOddReferenceIdeal.nD,
      r.2.mem ((c.tc : Thread Cert.SampleOddReferenceIdeal.nD Cert.SampleOddReferenceIdeal.τ).loc Cert.SampleOddReferenceIdeal.main_arg0) = m ((c.tc : Thread Cert.SampleOddReferenceIdeal.nD Cert.SampleOddReferenceIdeal.τ).loc Cert.SampleOddReferenceIdeal.main_arg0)
      ∧ r.2.mem ((c.tc : Thread Cert.SampleOddReferenceIdeal.nD Cert.SampleOddReferenceIdeal.τ).loc Cert.SampleOddReferenceIdeal.main_arg1) = m ((c.tc : Thread Cert.SampleOddReferenceIdeal.nD Cert.SampleOddReferenceIdeal.τ).loc Cert.SampleOddReferenceIdeal.main_arg1)
      ∧ r.2.mem ((c.tc : Thread Cert.SampleOddReferenceIdeal.nD Cert.SampleOddReferenceIdeal.τ).loc Cert.SampleOddReferenceIdeal.main_arg2) = m ((c.tc : Thread Cert.SampleOddReferenceIdeal.nD Cert.SampleOddReferenceIdeal.τ).loc Cert.SampleOddReferenceIdeal.main_arg2)
      ∧ r.2.mem ((c.tc : Thread Cert.SampleOddReferenceIdeal.nD Cert.SampleOddReferenceIdeal.τ).loc Cert.SampleOddReferenceIdeal.main_arg3) = m ((c.tc : Thread Cert.SampleOddReferenceIdeal.nD Cert.SampleOddReferenceIdeal.τ).loc Cert.SampleOddReferenceIdeal.main_arg3)
      ∧ r.2.mem ((c.tc : Thread Cert.SampleOddReferenceIdeal.nD Cert.SampleOddReferenceIdeal.τ).loc Cert.SampleOddReferenceIdeal.main_arg4) = m ((c.tc : Thread Cert.SampleOddReferenceIdeal.nD Cert.SampleOddReferenceIdeal.τ).loc Cert.SampleOddReferenceIdeal.main_arg4))
      ∧ r.2.sem = fun _ => 0) :=
  (θ_run Cert.SampleOddReferenceIdeal.defs _ _).mono (fun r h => ⟨fun c => (h c).2.2.2.2.2.2, sem_eq_zero_of_no_sems (by decide) r.2⟩)
    (Cert.SampleOddReferenceIdeal.Value.run m g)

/-- The claim of the samples' linear attention's projections. -/
theorem sampleOdd : Cert.algebraic_SampleOddIdeal_SampleOddReferenceIdeal := by
  intro m g m' g' _ hargs
  refine ⟨_, _, _, _, _, _, (θ_run _ _ _).mono (fun _ h c => ⟨(h c).1.trans (Cert.SampleOddIdeal.Sum.final_q m c), (h c).2.1.trans (Cert.SampleOddIdeal.Sum.final_k m c), (h c).2.2.1.trans (Cert.SampleOddIdeal.Sum.final_v m c), (h c).2.2.2.1.trans (Cert.SampleOddIdeal.Sum.final_r m c), (h c).2.2.2.2.1.trans (Cert.SampleOddIdeal.Sum.final_u m c), (h c).2.2.2.2.2.1.trans (Cert.SampleOddIdeal.Sum.final_gate m c), (h c).2.2.2.2.2.2⟩) (Cert.SampleOddIdeal.Value.run_blocks m g),
    (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.SampleOddReferenceIdeal.Value.run m' g')⟩
  · rw [Cert.SampleOddReferenceIdeal.Read.val_main_v30_eq, (hargs c).1, (hargs c).2.1, (hargs c).2.2.1]
  · rw [Cert.SampleOddReferenceIdeal.Read.val_main_v31_eq, (hargs c).1, (hargs c).2.1, (hargs c).2.2.1]
  · rw [Cert.SampleOddReferenceIdeal.Read.val_main_v34_eq, (hargs c).1, (hargs c).2.1, (hargs c).2.2.1]
  · rw [Cert.SampleOddReferenceIdeal.Read.val_main_v37_eq, (hargs c).1, (hargs c).2.1, (hargs c).2.2.1]
  · rw [Cert.SampleOddReferenceIdeal.Read.val_main_v38_eq, (hargs c).1, (hargs c).2.1, (hargs c).2.2.1]
  · rw [Cert.SampleOddReferenceIdeal.Read.val_main_v39_eq, (hargs c).1, (hargs c).2.1, (hargs c).2.2.1, (hargs c).2.2.2.1, (hargs c).2.2.2.2]

/-- The frame of the reference of the linear attention's step. -/
theorem glaStep_reference (m : (ℓ : Loc Cert.GlaStepReferenceIdeal.nD Cert.GlaStepReferenceIdeal.τ Cert.GlaStepReferenceIdeal.sig) → Buf (Elt Ideal) ℓ) (g : Dev Cert.GlaStepReferenceIdeal.nD → PrngReg) :
    θ_run (Cert.GlaStepReferenceIdeal.defs (F := Ideal)) (onTc (τ := Cert.GlaStepReferenceIdeal.τ) (Cert.GlaStepReferenceIdeal.main (F := Ideal))) ⟨m, fun _ => 0, g⟩ (fun r => (∀ c : Dev Cert.GlaStepReferenceIdeal.nD,
      r.2.mem ((c.tc : Thread Cert.GlaStepReferenceIdeal.nD Cert.GlaStepReferenceIdeal.τ).loc Cert.GlaStepReferenceIdeal.main_arg0) = m ((c.tc : Thread Cert.GlaStepReferenceIdeal.nD Cert.GlaStepReferenceIdeal.τ).loc Cert.GlaStepReferenceIdeal.main_arg0)
      ∧ r.2.mem ((c.tc : Thread Cert.GlaStepReferenceIdeal.nD Cert.GlaStepReferenceIdeal.τ).loc Cert.GlaStepReferenceIdeal.main_arg1) = m ((c.tc : Thread Cert.GlaStepReferenceIdeal.nD Cert.GlaStepReferenceIdeal.τ).loc Cert.GlaStepReferenceIdeal.main_arg1)
      ∧ r.2.mem ((c.tc : Thread Cert.GlaStepReferenceIdeal.nD Cert.GlaStepReferenceIdeal.τ).loc Cert.GlaStepReferenceIdeal.main_arg2) = m ((c.tc : Thread Cert.GlaStepReferenceIdeal.nD Cert.GlaStepReferenceIdeal.τ).loc Cert.GlaStepReferenceIdeal.main_arg2)
      ∧ r.2.mem ((c.tc : Thread Cert.GlaStepReferenceIdeal.nD Cert.GlaStepReferenceIdeal.τ).loc Cert.GlaStepReferenceIdeal.main_arg3) = m ((c.tc : Thread Cert.GlaStepReferenceIdeal.nD Cert.GlaStepReferenceIdeal.τ).loc Cert.GlaStepReferenceIdeal.main_arg3)
      ∧ r.2.mem ((c.tc : Thread Cert.GlaStepReferenceIdeal.nD Cert.GlaStepReferenceIdeal.τ).loc Cert.GlaStepReferenceIdeal.main_arg4) = m ((c.tc : Thread Cert.GlaStepReferenceIdeal.nD Cert.GlaStepReferenceIdeal.τ).loc Cert.GlaStepReferenceIdeal.main_arg4)
      ∧ r.2.mem ((c.tc : Thread Cert.GlaStepReferenceIdeal.nD Cert.GlaStepReferenceIdeal.τ).loc Cert.GlaStepReferenceIdeal.main_arg5) = m ((c.tc : Thread Cert.GlaStepReferenceIdeal.nD Cert.GlaStepReferenceIdeal.τ).loc Cert.GlaStepReferenceIdeal.main_arg5)
      ∧ r.2.mem ((c.tc : Thread Cert.GlaStepReferenceIdeal.nD Cert.GlaStepReferenceIdeal.τ).loc Cert.GlaStepReferenceIdeal.main_arg6) = m ((c.tc : Thread Cert.GlaStepReferenceIdeal.nD Cert.GlaStepReferenceIdeal.τ).loc Cert.GlaStepReferenceIdeal.main_arg6))
      ∧ r.2.sem = fun _ => 0) :=
  (θ_run Cert.GlaStepReferenceIdeal.defs _ _).mono (fun r h => ⟨fun c => (h c).2, sem_eq_zero_of_no_sems (by decide) r.2⟩)
    (Cert.GlaStepReferenceIdeal.Value.run m g)

/-- The claim of the linear attention's step. -/
theorem glaStep : Cert.algebraic_GlaStepIdeal_GlaStepReferenceIdeal_pre_finite_gate := by
  intro m g m' g' hpre hargs
  refine ⟨_, (θ_run _ _ _).mono (fun _ h c => ⟨(h c).2.1.trans (Cert.GlaStepIdeal.Sum.final m c (Cert.GlaStepIdeal.Sum.gate_read _ _ _ _ _ _ _ (hpre c))), (h c).2.2⟩) (Cert.GlaStepIdeal.Value.run_blocks m g),
    (θ_run _ _ _).mono (fun _ h c => ⟨(h c).1.trans ?_, (h c).2⟩) (Cert.GlaStepReferenceIdeal.Value.run m' g')⟩
  rw [Cert.GlaStepReferenceIdeal.Read.val_main_v15_eq, (hargs c).2.1, (hargs c).2.2.1, (hargs c).2.2.2.1, (hargs c).2.2.2.2.2.2]

theorem claim : Cert.Claim :=
  ⟨Cert.Kernel.Gen.facts, Cert.KernelIdeal.Gen.facts, Cert.ReferenceIdeal.Gen.facts, Cert.Ffn.Gen.facts, Cert.FfnIdeal.Gen.facts, Cert.FfnReferenceIdeal.Gen.facts, Cert.MemKv.Gen.facts, Cert.MemKvIdeal.Gen.facts, Cert.MemKvReferenceIdeal.Gen.facts, Cert.Mix.Gen.facts, Cert.MixIdeal.Gen.facts, Cert.MixReferenceIdeal.Gen.facts, Cert.MemAttn.Gen.facts, Cert.MemAttnIdeal.Gen.facts, Cert.MemAttnReferenceIdeal.Gen.facts, Cert.OddProj.Gen.facts, Cert.OddProjIdeal.Gen.facts, Cert.OddProjReferenceIdeal.Gen.facts, Cert.EvenProj.Gen.facts, Cert.EvenProjIdeal.Gen.facts, Cert.EvenProjReferenceIdeal.Gen.facts, Cert.SampleFfn.Gen.facts, Cert.SampleFfnIdeal.Gen.facts, Cert.SampleFfnReferenceIdeal.Gen.facts, Cert.SampleOdd.Gen.facts, Cert.SampleOddIdeal.Gen.facts, Cert.SampleOddReferenceIdeal.Gen.facts, Cert.GlaStep.Gen.facts, Cert.GlaStepIdeal.Gen.facts, Cert.GlaStepReferenceIdeal.Gen.facts, Cert.Pre_finite_qk.Gen.facts, Cert.Pre_finite_gate.Gen.facts,
    frame_kernel, fun m g _ => Mla.frame m g, fun m g _ => Mla.frame m g, fun m g _ => frame_reference m g, fun m g _ => frame_reference m g,
    fun m g _ => Cert.Ffn.Gen.frame m g, fun m g _ => Cert.FfnIdeal.Gen.frame m g, fun m g _ => ffn_reference m g,
    fun m g _ => Cert.MemKv.Gen.frame m g, fun m g _ => Cert.MemKvIdeal.Gen.frame m g, fun m g _ => memKv_reference m g,
    fun m g _ => Cert.Mix.Gen.frame m g, fun m g _ => Cert.MixIdeal.Gen.frame m g, fun m g _ => mix_reference m g,
    fun m g _ => Cert.MemAttn.Gen.frame m g, fun m g _ => Cert.MemAttnIdeal.Gen.frame m g, fun m g _ => memAttn_reference m g,
    fun m g _ => Cert.OddProj.Gen.frame m g, fun m g _ => Cert.OddProjIdeal.Gen.frame m g, fun m g _ => oddProj_reference m g,
    evenProj_kernel, fun m g _ => Cert.EvenProjIdeal.Gen.frame m g, fun m g _ => evenProj_reference m g,
    fun m g _ => Cert.SampleFfn.Gen.frame m g, fun m g _ => Cert.SampleFfnIdeal.Gen.frame m g, fun m g _ => sampleFfn_reference m g,
    fun m g _ => Cert.SampleOdd.Gen.frame m g, fun m g _ => Cert.SampleOddIdeal.Gen.frame m g, fun m g _ => sampleOdd_reference m g,
    fun m g _ => Cert.GlaStep.Gen.frame m g, fun m g _ => Cert.GlaStepIdeal.Gen.frame m g, fun m g _ => Cert.GlaStepIdeal.Gen.frame m g, fun m g _ => glaStep_reference m g, fun m g _ => glaStep_reference m g,
    trivial, attention,
    trivial, ffn,
    trivial, memKv,
    trivial, mix,
    IdealRules.named_const.statement Cert.MemAttnIdeal.κ "root128" .f32 0x3DB504F3#32 (((Real.sqrt 128)⁻¹ : ℝ) : EReal) rfl, memAttn,
    IdealRules.named_const.statement Cert.OddProjIdeal.κ "root128" .f32 0x3DB504F3#32 (((Real.sqrt 128)⁻¹ : ℝ) : EReal) rfl, oddProj,
    trivial, evenProj,
    trivial, sampleFfn,
    IdealRules.named_const.statement Cert.SampleOddIdeal.κ "root128" .f32 0x3DB504F3#32 (((Real.sqrt 128)⁻¹ : ℝ) : EReal) rfl, sampleOdd,
    trivial, glaStep⟩

end Cert.Proof

end
